-- ==== Defs.lean ====
def Pre_Kernel [hPre_in_domain : Cert.Pre_in_domain.Facts] (m : (ℓ : Loc Cert.Kernel.nD Cert.Kernel.τ Cert.Kernel.sig) → Buf (Elt Bits) ℓ) : Prop :=
  ∀ c : Dev Cert.Kernel.nD,
    (Cert.Pre_in_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_in_domain : Cert.Pre_in_domain.Facts] (m : (ℓ : Loc Cert.KernelIdeal.nD Cert.KernelIdeal.τ Cert.KernelIdeal.sig) → Buf (Elt Ideal) ℓ) : Prop :=
  ∀ c : Dev Cert.KernelIdeal.nD,
    (Cert.Pre_in_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_KernelIdeal_finite_in_domain [hPre_finite_in_domain : Cert.Pre_finite_in_domain.Facts] (m : (ℓ : Loc Cert.KernelIdeal.nD Cert.KernelIdeal.τ Cert.KernelIdeal.sig) → Buf (Elt Ideal) ℓ) : Prop :=
  ∀ c : Dev Cert.KernelIdeal.nD,
    (Cert.Pre_finite_in_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_in_domain [hPre_finite_in_domain : Cert.Pre_finite_in_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_in_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_in_domain : Cert.Pre_in_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_in_domain : Cert.Pre_in_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_in_domain [hKernelIdeal : Cert.KernelIdeal.Facts] [hPre_finite_in_domain : Cert.Pre_finite_in_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_in_domain m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_in_domain [hReferenceIdeal : Cert.ReferenceIdeal.Facts] [hPre_finite_in_domain : Cert.Pre_finite_in_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_in_domain m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite_in_domain [hKernelIdeal : Cert.KernelIdeal.Facts] [hReferenceIdeal : Cert.ReferenceIdeal.Facts] [hPre_finite_in_domain : Cert.Pre_finite_in_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_in_domain m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_in_domain : Cert.Pre_in_domain.Facts) (hPre_finite_in_domain : Cert.Pre_finite_in_domain.Facts),
    quiescent_Kernel (hKernel := hKernel) (hPre_in_domain := hPre_in_domain)
    ∧ quiescent_KernelIdeal (hKernelIdeal := hKernelIdeal) (hPre_in_domain := hPre_in_domain)
    ∧ quiescent_KernelIdeal_pre_finite_in_domain (hKernelIdeal := hKernelIdeal) (hPre_finite_in_domain := hPre_finite_in_domain)
    ∧ quiescent_ReferenceIdeal (hReferenceIdeal := hReferenceIdeal)
    ∧ quiescent_ReferenceIdeal_pre_finite_in_domain (hReferenceIdeal := hReferenceIdeal) (hPre_finite_in_domain := hPre_finite_in_domain)
    ∧ preserves_Kernel_KernelIdeal
    ∧ algebraic_KernelIdeal_ReferenceIdeal_pre_finite_in_domain (hKernelIdeal := hKernelIdeal) (hReferenceIdeal := hReferenceIdeal) (hPre_finite_in_domain := hPre_finite_in_domain)
-- ==== Pre_finite_in_domain.lean ====
abbrev S400000x32 : Shape := ⟨2, ![400000, 32]⟩
abbrev S27x32x32 : Shape := ⟨3, ![27, 32, 32]⟩
abbrev S32 : Shape := ⟨1, ![32]⟩
abbrev S27x400000 : Shape := ⟨2, ![27, 400000]⟩
abbrev S400000 : Shape := ⟨1, ![400000]⟩
abbrev S_ : Shape := ⟨0, ![]⟩
abbrev S1x400000 : Shape := ⟨2, ![1, 400000]⟩

class Facts : Prop where
  bcast_S_S400000 : S_.BroadcastsInDim S400000 (![] : Fin 0 → Fin S400000.rank)
  natLt_1_32 : 1 < 32
  bcast_S400000_S1x400000_1 : S400000.BroadcastsInDim S1x400000 (![1] : Fin 1 → Fin S1x400000.rank)
  bcast_S1x400000_S27x400000_0_1 : S1x400000.BroadcastsInDim S27x400000 (![0, 1] : Fin 2 → Fin S27x400000.rank)
  bcast_S_S27x400000 : S_.BroadcastsInDim S27x400000 (![] : Fin 0 → Fin S27x400000.rank)
  reducesTo_S27x400000_S_d0_1 : S27x400000.ReducesTo [0, 1] S_
  h_S_ : 0 < S_.numel
  bcast_S_S400000x32 : S_.BroadcastsInDim S400000x32 (![] : Fin 0 → Fin S400000x32.rank)
  reducesTo_S400000x32_S_d0_1 : S400000x32.ReducesTo [0, 1] S_
  bcast_S_S27x32x32 : S_.BroadcastsInDim S27x32x32 (![] : Fin 0 → Fin S27x32x32.rank)
  reducesTo_S27x32x32_S_d0_1_2 : S27x32x32.ReducesTo [0, 1, 2] S_
  bcast_S_S32 : S_.BroadcastsInDim S32 (![] : Fin 0 → Fin S32.rank)
  reducesTo_S32_S_d0 : S32.ReducesTo [0] S_

variable [Facts]

def fn_part1 {F : FTy → Type} [FloatOps F] (main_arg1 : FVec F S27x32x32 .f32) (main_arg2 : FVec F S32 .f32) (main_v17 : IVec S_ 1) (main_v18 : FVec F S400000x32 .f32) : IVec S_ 1 :=
  let main_cst : FVec F S_ .f32 := constant S_ .f32 0x7F800000#32
  let main_v19 : FVec F S400000x32 .f32 := broadcastInDim S400000x32 ![] bcast_S_S400000x32 main_cst
  let main_v20 : IVec S400000x32 1 := cmpf .olt main_v18 main_v19
  let main_c_4 : IVec S_ 1 := constantI S_ 1 1#1
  let main_v21 : IVec S_ 1 := (fun x v => Host.reduce IntOp.andi x v reducesTo_S400000x32_S_d0_1 h_S_) main_v20 main_c_4
  let main_v22 : IVec S_ 1 := andi main_v17 main_v21
  let main_v23 : FVec F S27x32x32 .f32 := Host.absf main_arg1
  let main_cst_5 : FVec F S_ .f32 := constant S_ .f32 0x7F800000#32
  let main_v24 : FVec F S27x32x32 .f32 := broadcastInDim S27x32x32 ![] bcast_S_S27x32x32 main_cst_5
  let main_v25 : IVec S27x32x32 1 := cmpf .olt main_v23 main_v24
  let main_c_6 : IVec S_ 1 := constantI S_ 1 1#1
  let main_v26 : IVec S_ 1 := (fun x v => Host.reduce IntOp.andi x v reducesTo_S27x32x32_S_d0_1_2 h_S_) main_v25 main_c_6
  let main_v27 : IVec S_ 1 := andi main_v22 main_v26
  let main_v28 : FVec F S32 .f32 := Host.absf main_arg2
  let main_cst_7 : FVec F S_ .f32 := constant S_ .f32 0x7F800000#32
  let main_v29 : FVec F S32 .f32 := broadcastInDim S32 ![] bcast_S_S32 main_cst_7
  let main_v30 : IVec S32 1 := cmpf .olt main_v28 main_v29
  let main_c_8 : IVec S_ 1 := constantI S_ 1 1#1
  let main_v31 : IVec S_ 1 := (fun x v => Host.reduce IntOp.andi x v reducesTo_S32_S_d0 h_S_) main_v30 main_c_8
  let main_v32 : IVec S_ 1 := andi main_v27 main_v31
  main_v32

def fn {F : FTy → Type} [FloatOps F] (main_arg0 : FVec F S400000x32 .f32) (main_arg1 : FVec F S27x32x32 .f32) (main_arg2 : FVec F S32 .f32) (main_arg3 : FVec F S32 .f32) (main_arg4 : IVec S27x400000 32) (main_arg5 : IVec S27x400000 1) : IVec S_ 1 :=
  let main_v0 : IVec S400000 32 := iotaInDim S400000 32 0
  let main_c : IVec S_ 32 := constantI S_ 32 200000#32
  let main_v1 : IVec S400000 32 := broadcastInDim S400000 ![] bcast_S_S400000 main_c
  let main_v2 : IVec S400000 1 := cmpi .sge main_v0 main_v1
  let main_v3 : IVec S400000 32 := (extui 32 · natLt_1_32) main_v2
  let main_c_0 : IVec S_ 32 := constantI S_ 32 200000#32
  let main_v4 : IVec S400000 32 := broadcastInDim S400000 ![] bcast_S_S400000 main_c_0
  let main_v5 : IVec S400000 32 := muli main_v3 main_v4
  let main_v6 : IVec S1x400000 32 := broadcastInDim S1x400000 ![1] bcast_S400000_S1x400000_1 main_v5
  let main_v7 : IVec S1x400000 32 := id main_v6
  let main_v8 : IVec S27x400000 32 := broadcastInDim S27x400000 ![0, 1] bcast_S1x400000_S27x400000_0_1 main_v7
  let main_v9 : IVec S27x400000 32 := subi main_arg4 main_v8
  let main_v10 : IVec S27x400000 1 := noti main_arg5
  let main_c_1 : IVec S_ 32 := constantI S_ 32 0#32
  let main_v11 : IVec S27x400000 32 := broadcastInDim S27x400000 ![] bcast_S_S27x400000 main_c_1
  let main_v12 : IVec S27x400000 1 := cmpi .sge main_v9 main_v11
  let main_c_2 : IVec S_ 32 := constantI S_ 32 200000#32
  let main_v13 : IVec S27x400000 32 := broadcastInDim S27x400000 ![] bcast_S_S27x400000 main_c_2
  let main_v14 : IVec S27x400000 1 := cmpi .slt main_v9 main_v13
  let main_v15 : IVec S27x400000 1 := andi main_v12 main_v14
  let main_v16 : IVec S27x400000 1 := ori main_v10 main_v15
  let main_c_3 : IVec S_ 1 := constantI S_ 1 1#1
  let main_v17 : IVec S_ 1 := (fun x v => Host.reduce IntOp.andi x v reducesTo_S27x400000_S_d0_1 h_S_) main_v16 main_c_3
  let main_v18 : FVec F S400000x32 .f32 := Host.absf main_arg0
  fn_part1 (F := F) main_arg1 main_arg2 main_v17 main_v18
-- ==== Pre_in_domain.lean ====
abbrev S400000x32 : Shape := ⟨2, ![400000, 32]⟩
abbrev S27x32x32 : Shape := ⟨3, ![27, 32, 32]⟩
abbrev S32 : Shape := ⟨1, ![32]⟩
abbrev S27x400000 : Shape := ⟨2, ![27, 400000]⟩
abbrev S400000 : Shape := ⟨1, ![400000]⟩
abbrev S_ : Shape := ⟨0, ![]⟩
abbrev S1x400000 : Shape := ⟨2, ![1, 400000]⟩

class Facts : Prop where
  bcast_S_S400000 : S_.BroadcastsInDim S400000 (![] : Fin 0 → Fin S400000.rank)
  natLt_1_32 : 1 < 32
  bcast_S400000_S1x400000_1 : S400000.BroadcastsInDim S1x400000 (![1] : Fin 1 → Fin S1x400000.rank)
  bcast_S1x400000_S27x400000_0_1 : S1x400000.BroadcastsInDim S27x400000 (![0, 1] : Fin 2 → Fin S27x400000.rank)
  bcast_S_S27x400000 : S_.BroadcastsInDim S27x400000 (![] : Fin 0 → Fin S27x400000.rank)

variable [Facts]

def fn {F : FTy → Type} [FloatOps F] (main_arg0 : FVec F S400000x32 .f32) (main_arg1 : FVec F S27x32x32 .f32) (main_arg2 : FVec F S32 .f32) (main_arg3 : FVec F S32 .f32) (main_arg4 : IVec S27x400000 32) (main_arg5 : IVec S27x400000 1) : IVec S27x400000 1 :=
  let main_v0 : IVec S400000 32 := iotaInDim S400000 32 0
  let main_c : IVec S_ 32 := constantI S_ 32 200000#32
  let main_v1 : IVec S400000 32 := broadcastInDim S400000 ![] bcast_S_S400000 main_c
  let main_v2 : IVec S400000 1 := cmpi .sge main_v0 main_v1
  let main_v3 : IVec S400000 32 := (extui 32 · natLt_1_32) main_v2
  let main_c_0 : IVec S_ 32 := constantI S_ 32 200000#32
  let main_v4 : IVec S400000 32 := broadcastInDim S400000 ![] bcast_S_S400000 main_c_0
  let main_v5 : IVec S400000 32 := muli main_v3 main_v4
  let main_v6 : IVec S1x400000 32 := broadcastInDim S1x400000 ![1] bcast_S400000_S1x400000_1 main_v5
  let main_v7 : IVec S1x400000 32 := id main_v6
  let main_v8 : IVec S27x400000 32 := broadcastInDim S27x400000 ![0, 1] bcast_S1x400000_S27x400000_0_1 main_v7
  let main_v9 : IVec S27x400000 32 := subi main_arg4 main_v8
  let main_v10 : IVec S27x400000 1 := noti main_arg5
  let main_c_1 : IVec S_ 32 := constantI S_ 32 0#32
  let main_v11 : IVec S27x400000 32 := broadcastInDim S27x400000 ![] bcast_S_S27x400000 main_c_1
  let main_v12 : IVec S27x400000 1 := cmpi .sge main_v9 main_v11
  let main_c_2 : IVec S_ 32 := constantI S_ 32 200000#32
  let main_v13 : IVec S27x400000 32 := broadcastInDim S27x400000 ![] bcast_S_S27x400000 main_c_2
  let main_v14 : IVec S27x400000 1 := cmpi .slt main_v9 main_v13
  let main_v15 : IVec S27x400000 1 := andi main_v12 main_v14
  let main_v16 : IVec S27x400000 1 := ori main_v10 main_v15
  main_v16
-- ==== Kernel.lean ====
abbrev S400000x32 : Shape := ⟨2, ![400000, 32]⟩
abbrev S27x32x32 : Shape := ⟨3, ![27, 32, 32]⟩
abbrev S32 : Shape := ⟨1, ![32]⟩
abbrev S27x400000 : Shape := ⟨2, ![27, 400000]⟩
abbrev S2x50000x128 : Shape := ⟨3, ![2, 50000, 128]⟩
abbrev S_ : Shape := ⟨0, ![]⟩
abbrev S2x50008x128 : Shape := ⟨3, ![2, 50008, 128]⟩
abbrev S100016x1x128 : Shape := ⟨3, ![100016, 1, 128]⟩
abbrev S400000 : Shape := ⟨1, ![400000]⟩
abbrev S1x400000 : Shape := ⟨2, ![1, 400000]⟩
abbrev S27x2x200000 : Shape := ⟨3, ![27, 2, 200000]⟩
abbrev S27x2x200192 : Shape := ⟨3, ![27, 2, 200192]⟩
abbrev S27x2x391x512 : Shape := ⟨4, ![27, 2, 391, 512]⟩
abbrev S2x391x27x512 : Shape := ⟨4, ![2, 391, 27, 512]⟩
abbrev S782x13824 : Shape := ⟨2, ![782, 13824]⟩
abbrev S782x27648 : Shape := ⟨2, ![782, 27648]⟩
abbrev S1x27x1x32x1x32 : Shape := ⟨6, ![1, 27, 1, 32, 1, 32]⟩
abbrev S1x27x4x32x1x32 : Shape := ⟨6, ![1, 27, 4, 32, 1, 32]⟩
abbrev S27x128x32 : Shape := ⟨3, ![27, 128, 32]⟩
abbrev S3456x32 : Shape := ⟨2, ![3456, 32]⟩
abbrev S2x200192x32 : Shape := ⟨3, ![2, 200192, 32]⟩
abbrev S2x8x32 : Shape := ⟨3, ![2, 8, 32]⟩
abbrev S50008x1x128 : Shape := ⟨3, ![50008, 1, 128]⟩
abbrev S512x128 : Shape := ⟨2, ![512, 128]⟩
abbrev S2x512x32 : Shape := ⟨3, ![2, 512, 32]⟩
abbrev S8x32 : Shape := ⟨2, ![8, 32]⟩
abbrev S55296 : Shape := ⟨1, ![55296]⟩
abbrev S2 : Shape := ⟨1, ![2]⟩
abbrev S1 : Shape := ⟨1, ![1]⟩
abbrev S27648 : Shape := ⟨1, ![27648]⟩
abbrev S1x27648 : Shape := ⟨2, ![1, 27648]⟩
abbrev S1x512x32 : Shape := ⟨3, ![1, 512, 32]⟩
abbrev S512x32 : Shape := ⟨2, ![512, 32]⟩
abbrev S1x128 : Shape := ⟨2, ![1, 128]⟩
abbrev S128x32 : Shape := ⟨2, ![128, 32]⟩
abbrev S512 : Shape := ⟨1, ![512]⟩
abbrev S1x1x128 : Shape := ⟨3, ![1, 1, 128]⟩
abbrev S1x32 : Shape := ⟨2, ![1, 32]⟩
abbrev S1x8x32 : Shape := ⟨3, ![1, 8, 32]⟩
abbrev S2x200000x32 : Shape := ⟨3, ![2, 200000, 32]⟩
abbrev S1x2000x32 : Shape := ⟨3, ![1, 2000, 32]⟩
abbrev S1x1x32 : Shape := ⟨3, ![1, 1, 32]⟩

abbrev nBuf : Space → Nat
  | .hbm => 58
  | .vmem => 12
  | .smem => 1
  | _ => 0

abbrev bufTy : (tb : Table) → Fin (tcTables nBuf tb) → BufTy
  | .hbm, ⟨0, _⟩ => ⟨S400000x32, .f32⟩
  | .hbm, ⟨1, _⟩ => ⟨S27x32x32, .f32⟩
  | .hbm, ⟨2, _⟩ => ⟨S32, .f32⟩
  | .hbm, ⟨3, _⟩ => ⟨S32, .f32⟩
  | .hbm, ⟨4, _⟩ => ⟨S27x400000, .i32⟩
  | .hbm, ⟨5, _⟩ => ⟨S27x400000, .i1⟩
  | .hbm, ⟨6, _⟩ => ⟨S2x50000x128, .f32⟩
  | .hbm, ⟨7, _⟩ => ⟨S_, .i32⟩
  | .hbm, ⟨8, _⟩ => ⟨S_, .f32⟩
  | .hbm, ⟨9, _⟩ => ⟨S2x50008x128, .f32⟩
  | .hbm, ⟨10, _⟩ => ⟨S100016x1x128, .f32⟩
  | .hbm, ⟨11, _⟩ => ⟨S400000, .i32⟩
  | .hbm, ⟨12, _⟩ => ⟨S_, .i32⟩
  | .hbm, ⟨13, _⟩ => ⟨S400000, .i32⟩
  | .hbm, ⟨14, _⟩ => ⟨S400000, .i1⟩
  | .hbm, ⟨15, _⟩ => ⟨S400000, .i32⟩
  | .hbm, ⟨16, _⟩ => ⟨S_, .i32⟩
  | .hbm, ⟨17, _⟩ => ⟨S400000, .i32⟩
  | .hbm, ⟨18, _⟩ => ⟨S400000, .i32⟩
  | .hbm, ⟨19, _⟩ => ⟨S1x400000, .i32⟩
  | .hbm, ⟨20, _⟩ => ⟨S1x400000, .i32⟩
  | .hbm, ⟨21, _⟩ => ⟨S27x400000, .i32⟩
  | .hbm, ⟨22, _⟩ => ⟨S27x400000, .i32⟩
  | .hbm, ⟨23, _⟩ => ⟨S_, .i32⟩
  | .hbm, ⟨24, _⟩ => ⟨S_, .i32⟩
  | .hbm, ⟨25, _⟩ => ⟨S27x400000, .i32⟩
  | .hbm, ⟨26, _⟩ => ⟨S27x400000, .i32⟩
  | .hbm, ⟨27, _⟩ => ⟨S_, .i32⟩
  | .hbm, ⟨28, _⟩ => ⟨S27x400000, .i32⟩
  | .hbm, ⟨29, _⟩ => ⟨S27x400000, .i32⟩
  | .hbm, ⟨30, _⟩ => ⟨S27x2x200000, .i32⟩
  | .hbm, ⟨31, _⟩ => ⟨S_, .i32⟩
  | .hbm, ⟨32, _⟩ => ⟨S_, .i32⟩
  | .hbm, ⟨33, _⟩ => ⟨S27x2x200192, .i32⟩
  | .hbm, ⟨34, _⟩ => ⟨S_, .i32⟩
  | .hbm, ⟨35, _⟩ => ⟨S27x400000, .i32⟩
  | .hbm, ⟨36, _⟩ => ⟨S27x400000, .i32⟩
  | .hbm, ⟨37, _⟩ => ⟨S27x2x200000, .i32⟩
  | .hbm, ⟨38, _⟩ => ⟨S_, .i32⟩
  | .hbm, ⟨39, _⟩ => ⟨S_, .i32⟩
  | .hbm, ⟨40, _⟩ => ⟨S27x2x200192, .i32⟩
  | .hbm, ⟨41, _⟩ => ⟨S27x2x391x512, .i32⟩
  | .hbm, ⟨42, _⟩ => ⟨S2x391x27x512, .i32⟩
  | .hbm, ⟨43, _⟩ => ⟨S782x13824, .i32⟩
  | .hbm, ⟨44, _⟩ => ⟨S27x2x391x512, .i32⟩
  | .hbm, ⟨45, _⟩ => ⟨S2x391x27x512, .i32⟩
  | .hbm, ⟨46, _⟩ => ⟨S782x13824, .i32⟩
  | .hbm, ⟨47, _⟩ => ⟨S782x27648, .i32⟩
  | .hbm, ⟨48, _⟩ => ⟨S1x27x1x32x1x32, .f32⟩
  | .hbm, ⟨49, _⟩ => ⟨S1x27x4x32x1x32, .f32⟩
  | .hbm, ⟨50, _⟩ => ⟨S27x128x32, .f32⟩
  | .hbm, ⟨51, _⟩ => ⟨S3456x32, .f32⟩
  | .hbm, ⟨52, _⟩ => ⟨S2x200192x32, .f32⟩
  | .hbm, ⟨53, _⟩ => ⟨S2x8x32, .f32⟩
  | .hbm, ⟨54, _⟩ => ⟨S1x32, .f32⟩
  | .hbm, ⟨55, _⟩ => ⟨S1x32, .f32⟩
  | .hbm, ⟨56, _⟩ => ⟨S2x200000x32, .f32⟩
  | .hbm, ⟨57, _⟩ => ⟨S400000x32, .f32⟩
  | .local _ .vmem, ⟨0, _⟩ => ⟨S3456x32, .f32⟩
  | .local _ .vmem, ⟨1, _⟩ => ⟨S50008x1x128, .f32⟩
  | .local _ .vmem, ⟨2, _⟩ => ⟨S512x128, .f32⟩
  | .local _ .vmem, ⟨3, _⟩ => ⟨S2x512x32, .f32⟩
  | .local _ .vmem, ⟨4, _⟩ => ⟨S8x32, .f32⟩
  | .local _ .vmem, ⟨5, _⟩ => ⟨S1x2000x32, .f32⟩
  | .local _ .vmem, ⟨6, _⟩ => ⟨S1x2000x32, .f32⟩
  | .local _ .vmem, ⟨7, _⟩ => ⟨S2x8x32, .f32⟩
  | .local _ .vmem, ⟨8, _⟩ => ⟨S1x32, .f32⟩
  | .local _ .vmem, ⟨9, _⟩ => ⟨S1x32, .f32⟩
  | .local _ .vmem, ⟨10, _⟩ => ⟨S1x2000x32, .f32⟩
  | .local _ .vmem, ⟨11, _⟩ => ⟨S1x2000x32, .f32⟩
  | .local _ .smem, ⟨0, _⟩ => ⟨S55296, .i32⟩
  | _, _ => ⟨S400000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_call1_v0 : Ref sig .tc := ⟨.hbm, 24, rfl⟩
abbrev main_call1_v1 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c_4 : Ref sig .tc := ⟨.hbm, 31, rfl⟩
abbrev main_call2_v0 : Ref sig .tc := ⟨.hbm, 32, rfl⟩
abbrev main_v17 : Ref sig .tc := ⟨.hbm, 33, rfl⟩
abbrev main_c_5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_6 : Ref sig .tc := ⟨.hbm, 38, rfl⟩
abbrev main_call3_v0 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33_0 : Ref sig .tc := ⟨.hbm, 52, rfl⟩
abbrev main_v33_1 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc0_scratch4 : Ref sig .tc := ⟨.smem, 0, rfl⟩
abbrev cc0_sem0_0 : DmaSem sig := 0
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![2], ![false]⟩

def k0_off1 (i : grid0.Coords) : Fin 3 → Nat :=
  let arg0 : BitVec 32 := BitVec.ofNat 32 (i 0).val
  let c50008_i32 : BitVec 32 := 50008#32
  let v0 : BitVec 32 := Scalar.muli arg0 c50008_i32
  let c0_i32 : BitVec 32 := 0#32
  let c0_i32_0 : BitVec 32 := 0#32
  ![v0.toNat, 0, 0]
def k0_off2 (i : grid0.Coords) : Fin 2 → Nat :=
  let arg0 : BitVec 32 := BitVec.ofNat 32 (i 0).val
  let c391_i32 : BitVec 32 := 391#32
  let v2 : BitVec 32 := Scalar.muli arg0 c391_i32
  let c0_i32_3 : BitVec 32 := 0#32
  ![v2.toNat, 0]
@[reducible] def k0_t1_loop : Scf.Loop 32 :=
  let c0_i32_6 : BitVec 32 := 0#32
  let c391_i32_7 : BitVec 32 := 391#32
  let v9 : BitVec 32 := Scalar.addi c0_i32_6 c391_i32_7
  let c1_i32 : BitVec 32 := 1#32
  ⟨c0_i32_6, v9, c1_i32⟩
def k0_off3 (k0_t1 : Fin k0_t1_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  ![v26.toNat]
def k0_off4 (k0_t1 : Fin k0_t1_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32 : BitVec 32 := 27648#32
  let v33 : BitVec 32 := Scalar.muli v26 c27648_i32
  ![v33.toNat]
def k0_off5 (i : grid0.Coords) (k0_t1 : Fin k0_t1_loop.trips) : Fin 2 → Nat :=
  let arg0 : BitVec 32 := BitVec.ofNat 32 (i 0).val
  let c391_i32_28 : BitVec 32 := 391#32
  let v31 : BitVec 32 := Scalar.muli arg0 c391_i32_28
  let c0_i32_6 : BitVec 32 := 0#32
  let c1_i32 : BitVec 32 := 1#32
  let arg15 : BitVec 32 := Scf.iv c0_i32_6 c1_i32 k0_t1
  let v32 : BitVec 32 := Scalar.addi v31 arg15
  let c0_i32_29 : BitVec 32 := 0#32
  ![v32.toNat, 0]
def k0_cond2 (k0_t1 : Fin k0_t1_loop.trips) : BitVec 1 :=
  let c0_i32_6 : BitVec 32 := 0#32
  let c1_i32 : BitVec 32 := 1#32
  let arg15 : BitVec 32 := Scf.iv c0_i32_6 c1_i32 k0_t1
  let c1_i32_30 : BitVec 32 := 1#32
  let v39 : BitVec 32 := Scalar.addi arg15 c1_i32_30
  let c391_i32_31 : BitVec 32 := 391#32
  let v40 : BitVec 1 := Scalar.cmpi .slt v39 c391_i32_31
  let v41 : BitVec 32 := Scalar.extui v40
  let c0_i32_32 : BitVec 32 := 0#32
  let v42 : BitVec 1 := Scalar.cmpi .ne v41 c0_i32_32
  v42

def k0_off6 (k0_t1 : Fin k0_t1_loop.trips) : Fin 1 → Nat :=
  let c1_i32_25 : BitVec 32 := 1#32
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let v27 : BitVec 32 := Scalar.subi c1_i32_25 v26
  ![v27.toNat]
def k0_off7 (k0_t1 : Fin k0_t1_loop.trips) : Fin 1 → Nat :=
  let c1_i32_25 : BitVec 32 := 1#32
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let v27 : BitVec 32 := Scalar.subi c1_i32_25 v26
  let c27648_i32_55 : BitVec 32 := 27648#32
  let v83 : BitVec 32 := Scalar.muli v27 c27648_i32_55
  ![v83.toNat]
def k0_off8 (i : grid0.Coords) (k0_t1 : Fin k0_t1_loop.trips) : Fin 2 → Nat :=
  let arg0 : BitVec 32 := BitVec.ofNat 32 (i 0).val
  let c391_i32_53 : BitVec 32 := 391#32
  let v80 : BitVec 32 := Scalar.muli arg0 c391_i32_53
  let c0_i32_6 : BitVec 32 := 0#32
  let c1_i32 : BitVec 32 := 1#32
  let arg15 : BitVec 32 := Scf.iv c0_i32_6 c1_i32 k0_t1
  let v81 : BitVec 32 := Scalar.addi v80 arg15
  let c1_i32_54 : BitVec 32 := 1#32
  let v82 : BitVec 32 := Scalar.addi v81 c1_i32_54
  let c0_i32_56 : BitVec 32 := 0#32
  ![v82.toNat, 0]
def k0_cond3 (k0_t1 : Fin k0_t1_loop.trips) : BitVec 1 :=
  let c0_i32_6 : BitVec 32 := 0#32
  let c1_i32 : BitVec 32 := 1#32
  let arg15 : BitVec 32 := Scf.iv c0_i32_6 c1_i32 k0_t1
  let c2_i32_33 : BitVec 32 := 2#32
  let v43 : BitVec 1 := Scalar.cmpi .sge arg15 c2_i32_33
  let v44 : BitVec 32 := Scalar.extui v43
  let c0_i32_34 : BitVec 32 := 0#32
  let v45 : BitVec 1 := Scalar.cmpi .ne v44 c0_i32_34
  v45

def k0_off9 (k0_t1 : Fin k0_t1_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  ![v26.toNat]
def k0_off10 (i : grid0.Coords) : Fin 3 → Nat :=
  let arg0 : BitVec 32 := BitVec.ofNat 32 (i 0).val
  let c0_i32_53 : BitVec 32 := 0#32
  let c0_i32_54 : BitVec 32 := 0#32
  ![arg0.toNat, 0, 0]
def k0_off11 (k0_t1 : Fin k0_t1_loop.trips) : Fin 3 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c0_i32_55 : BitVec 32 := 0#32
  let c0_i32_56 : BitVec 32 := 0#32
  ![v26.toNat, 0, 0]
def k0_off12 (k0_t1 : Fin k0_t1_loop.trips) : Fin 3 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let v47 : Index := Scalar.indexCast v26
  let c0 : Index := 0#32
  let c0_35 : Index := 0#32
  ![v47.toNat, 0, 0]
@[reducible] def k0_t2_loop : Scf.Loop 32 :=
  let c0_i32_36 : BitVec 32 := 0#32
  let c27_i32 : BitVec 32 := 27#32
  let v54 : BitVec 32 := Scalar.addi c0_i32_36 c27_i32
  let c1_i32_37 : BitVec 32 := 1#32
  ⟨c0_i32_36, v54, c1_i32_37⟩
def k0_off13 (k0_t2 : Fin k0_t2_loop.trips) : Fin 2 → Nat :=
  let c0_i32_36 : BitVec 32 := 0#32
  let c1_i32_37 : BitVec 32 := 1#32
  let arg16 : BitVec 32 := Scf.iv c0_i32_36 c1_i32_37 k0_t2
  let c128_i32 : BitVec 32 := 128#32
  let v80 : BitVec 32 := Scalar.muli arg16 c128_i32
  let v81 : Index := Scalar.indexCast v80
  let c0_53 : Index := 0#32
  ![v81.toNat, 0]
def k0_mult1 (k0_t1 : Fin k0_t1_loop.trips) (k0_t2 : Fin k0_t2_loop.trips) : BitVec 32 :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  v86
def k0_off14 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off15 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off16 (v90 : BitVec 32) : Fin 3 → Nat :=
  let v93 : Index := Scalar.indexCast v90
  let c0_58 : Index := 0#32
  let c0_59 : Index := 0#32
  ![v93.toNat, 0, 0]

def k0_chk1 (v90 : BitVec 32) : Prop :=
  (∀ a, (k0_off16 v90) a + S1x1x128.size a ≤ S50008x1x128.size a)
theorem k0_off16_inb : ∀ (v90 : BitVec 32) (k0_hw1 : k0_chk1 v90), ∀ a, (k0_off16 v90) a + S1x1x128.size a ≤ S50008x1x128.size a := fun v90 k0_hw1 => k0_hw1

def k0_off17 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off18 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off19 (v104 : BitVec 32) : Fin 3 → Nat :=
  let v107 : Index := Scalar.indexCast v104
  let c0_65 : Index := 0#32
  let c0_66 : Index := 0#32
  ![v107.toNat, 0, 0]

def k0_chk2 (v104 : BitVec 32) : Prop :=
  (∀ a, (k0_off19 v104) a + S1x1x128.size a ≤ S50008x1x128.size a)
theorem k0_off19_inb : ∀ (v104 : BitVec 32) (k0_hw2 : k0_chk2 v104), ∀ a, (k0_off19 v104) a + S1x1x128.size a ≤ S50008x1x128.size a := fun v104 k0_hw2 => k0_hw2

def k0_off20 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off21 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off22 (v118 : BitVec 32) : Fin 3 → Nat :=
  let v121 : Index := Scalar.indexCast v118
  let c0_71 : Index := 0#32
  let c0_72 : Index := 0#32
  ![v121.toNat, 0, 0]

def k0_chk3 (v118 : BitVec 32) : Prop :=
  (∀ a, (k0_off22 v118) a + S1x1x128.size a ≤ S50008x1x128.size a)
theorem k0_off22_inb : ∀ (v118 : BitVec 32) (k0_hw3 : k0_chk3 v118), ∀ a, (k0_off22 v118) a + S1x1x128.size a ≤ S50008x1x128.size a := fun v118 k0_hw3 => k0_hw3

def k0_off23 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off24 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off25 (v132 : BitVec 32) : Fin 3 → Nat :=
  let v135 : Index := Scalar.indexCast v132
  let c0_77 : Index := 0#32
  let c0_78 : Index := 0#32
  ![v135.toNat, 0, 0]

def k0_chk4 (v132 : BitVec 32) : Prop :=
  (∀ a, (k0_off25 v132) a + S1x1x128.size a ≤ S50008x1x128.size a)
theorem k0_off25_inb : ∀ (v132 : BitVec 32) (k0_hw4 : k0_chk4 v132), ∀ a, (k0_off25 v132) a + S1x1x128.size a ≤ S50008x1x128.size a := fun v132 k0_hw4 => k0_hw4

def k0_off26 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off27 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off28 (v146 : BitVec 32) : Fin 3 → Nat :=
  let v149 : Index := Scalar.indexCast v146
  let c0_83 : Index := 0#32
  let c0_84 : Index := 0#32
  ![v149.toNat, 0, 0]

def k0_chk5 (v146 : BitVec 32) : Prop :=
  (∀ a, (k0_off28 v146) a + S1x1x128.size a ≤ S50008x1x128.size a)
theorem k0_off28_inb : ∀ (v146 : BitVec 32) (k0_hw5 : k0_chk5 v146), ∀ a, (k0_off28 v146) a + S1x1x128.size a ≤ S50008x1x128.size a := fun v146 k0_hw5 => k0_hw5

def k0_off29 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off30 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off31 (v160 : BitVec 32) : Fin 3 → Nat :=
  let v163 : Index := Scalar.indexCast v160
  let c0_89 : Index := 0#32
  let c0_90 : Index := 0#32
  ![v163.toNat, 0, 0]

def k0_chk6 (v160 : BitVec 32) : Prop :=
  (∀ a, (k0_off31 v160) a + S1x1x128.size a ≤ S50008x1x128.size a)
theorem k0_off31_inb : ∀ (v160 : BitVec 32) (k0_hw6 : k0_chk6 v160), ∀ a, (k0_off31 v160) a + S1x1x128.size a ≤ S50008x1x128.size a := fun v160 k0_hw6 => k0_hw6

def k0_off32 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off33 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off34 (v174 : BitVec 32) : Fin 3 → Nat :=
  let v177 : Index := Scalar.indexCast v174
  let c0_95 : Index := 0#32
  let c0_96 : Index := 0#32
  ![v177.toNat, 0, 0]

def k0_chk7 (v174 : BitVec 32) : Prop :=
  (∀ a, (k0_off34 v174) a + S1x1x128.size a ≤ S50008x1x128.size a)
theorem k0_off34_inb : ∀ (v174 : BitVec 32) (k0_hw7 : k0_chk7 v174), ∀ a, (k0_off34 v174) a + S1x1x128.size a ≤ S50008x1x128.size a := fun v174 k0_hw7 => k0_hw7

def k0_off35 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off36 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off37 (v188 : BitVec 32) : Fin 3 → Nat :=
  let v191 : Index := Scalar.indexCast v188
  let c0_101 : Index := 0#32
  let c0_102 : Index := 0#32
  ![v191.toNat, 0, 0]

def k0_chk8 (v188 : BitVec 32) : Prop :=
  (∀ a, (k0_off37 v188) a + S1x1x128.size a ≤ S50008x1x128.size a)
theorem k0_off37_inb : ∀ (v188 : BitVec 32) (k0_hw8 : k0_chk8 v188), ∀ a, (k0_off37 v188) a + S1x1x128.size a ≤ S50008x1x128.size a := fun v188 k0_hw8 => k0_hw8

def k0_off38 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off39 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off40 (v202 : BitVec 32) : Fin 3 → Nat :=
  let v205 : Index := Scalar.indexCast v202
  let c0_107 : Index := 0#32
  let c0_108 : Index := 0#32
  ![v205.toNat, 0, 0]

def k0_chk9 (v202 : BitVec 32) : Prop :=
  (∀ a, (k0_off40 v202) a + S1x1x128.size a ≤ S50008x1x128.size a)
theorem k0_off40_inb : ∀ (v202 : BitVec 32) (k0_hw9 : k0_chk9 v202), ∀ a, (k0_off40 v202) a + S1x1x128.size a ≤ S50008x1x128.size a := fun v202 k0_hw9 => k0_hw9

def k0_off41 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off42 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off43 (v216 : BitVec 32) : Fin 3 → Nat :=
  let v219 : Index := Scalar.indexCast v216
  let c0_113 : Index := 0#32
  let c0_114 : Index := 0#32
  ![v219.toNat, 0, 0]

def k0_chk10 (v216 : BitVec 32) : Prop :=
  (∀ a, (k0_off43 v216) a + S1x1x128.size a ≤ S50008x1x128.size a)
theorem k0_off43_inb : ∀ (v216 : BitVec 32) (k0_hw10 : k0_chk10 v216), ∀ a, (k0_off43 v216) a + S1x1x128.size a ≤ S50008x1x128.size a := fun v216 k0_hw10 => k0_hw10

def k0_off44 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off45 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off46 (v230 : BitVec 32) : Fin 3 → Nat :=
  let v233 : Index := Scalar.indexCast v230
  let c0_119 : Index := 0#32
  let c0_120 : Index := 0#32
  ![v233.toNat, 0, 0]

def k0_chk11 (v230 : BitVec 32) : Prop :=
  (∀ a, (k0_off46 v230) a + S1x1x128.size a ≤ S50008x1x128.size a)
theorem k0_off46_inb : ∀ (v230 : BitVec 32) (k0_hw11 : k0_chk11 v230), ∀ a, (k0_off46 v230) a + S1x1x128.size a ≤ S50008x1x128.size a := fun v230 k0_hw11 => k0_hw11

def k0_off47 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off48 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off49 (v244 : BitVec 32) : Fin 3 → Nat :=
  let v247 : Index := Scalar.indexCast v244
  let c0_125 : Index := 0#32
  let c0_126 : Index := 0#32
  ![v247.toNat, 0, 0]

def k0_chk12 (v244 : BitVec 32) : Prop :=
  (∀ a, (k0_off49 v244) a + S1x1x128.size a ≤ S50008x1x128.size a)
theorem k0_off49_inb : ∀ (v244 : BitVec 32) (k0_hw12 : k0_chk12 v244), ∀ a, (k0_off49 v244) a + S1x1x128.size a ≤ S50008x1x128.size a := fun v244 k0_hw12 => k0_hw12

def k0_off50 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off51 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off52 (v258 : BitVec 32) : Fin 3 → Nat :=
  let v261 : Index := Scalar.indexCast v258
  let c0_131 : Index := 0#32
  let c0_132 : Index := 0#32
  ![v261.toNat, 0, 0]

def k0_chk13 (v258 : BitVec 32) : Prop :=
  (∀ a, (k0_off52 v258) a + S1x1x128.size a ≤ S50008x1x128.size a)
theorem k0_off52_inb : ∀ (v258 : BitVec 32) (k0_hw13 : k0_chk13 v258), ∀ a, (k0_off52 v258) a + S1x1x128.size a ≤ S50008x1x128.size a := fun v258 k0_hw13 => k0_hw13

def k0_off53 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off54 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off55 (v272 : BitVec 32) : Fin 3 → Nat :=
  let v275 : Index := Scalar.indexCast v272
  let c0_137 : Index := 0#32
  let c0_138 : Index := 0#32
  ![v275.toNat, 0, 0]

def k0_chk14 (v272 : BitVec 32) : Prop :=
  (∀ a, (k0_off55 v272) a + S1x1x128.size a ≤ S50008x1x128.size a)
theorem k0_off55_inb : ∀ (v272 : BitVec 32) (k0_hw14 : k0_chk14 v272), ∀ a, (k0_off55 v272) a + S1x1x128.size a ≤ S50008x1x128.size a := fun v272 k0_hw14 => k0_hw14

def k0_off56 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off57 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off58 (v286 : BitVec 32) : Fin 3 → Nat :=
  let v289 : Index := Scalar.indexCast v286
  let c0_143 : Index := 0#32
  let c0_144 : Index := 0#32
  ![v289.toNat, 0, 0]

def k0_chk15 (v286 : BitVec 32) : Prop :=
  (∀ a, (k0_off58 v286) a + S1x1x128.size a ≤ S50008x1x128.size a)
theorem k0_off58_inb : ∀ (v286 : BitVec 32) (k0_hw15 : k0_chk15 v286), ∀ a, (k0_off58 v286) a + S1x1x128.size a ≤ S50008x1x128.size a := fun v286 k0_hw15 => k0_hw15

def k0_off59 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off60 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off61 (v300 : BitVec 32) : Fin 3 → Nat :=
  let v303 : Index := Scalar.indexCast v300
  let c0_149 : Index := 0#32
  let c0_150 : Index := 0#32
  ![v303.toNat, 0, 0]

def k0_chk16 (v300 : BitVec 32) : Prop :=
  (∀ a, (k0_off61 v300) a + S1x1x128.size a ≤ S50008x1x128.size a)
theorem k0_off61_inb : ∀ (v300 : BitVec 32) (k0_hw16 : k0_chk16 v300), ∀ a, (k0_off61 v300) a + S1x1x128.size a ≤ S50008x1x128.size a := fun v300 k0_hw16 => k0_hw16

def k0_off62 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off63 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off64 (v314 : BitVec 32) : Fin 3 → Nat :=
  let v317 : Index := Scalar.indexCast v314
  let c0_155 : Index := 0#32
  let c0_156 : Index := 0#32
  ![v317.toNat, 0, 0]

def k0_chk17 (v314 : BitVec 32) : Prop :=
  (∀ a, (k0_off64 v314) a + S1x1x128.size a ≤ S50008x1x128.size a)
theorem k0_off64_inb : ∀ (v314 : BitVec 32) (k0_hw17 : k0_chk17 v314), ∀ a, (k0_off64 v314) a + S1x1x128.size a ≤ S50008x1x128.size a := fun v314 k0_hw17 => k0_hw17

def k0_off65 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off66 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off67 (v328 : BitVec 32) : Fin 3 → Nat :=
  let v331 : Index := Scalar.indexCast v328
  let c0_161 : Index := 0#32
  let c0_162 : Index := 0#32
  ![v331.toNat, 0, 0]

def k0_chk18 (v328 : BitVec 32) : Prop :=
  (∀ a, (k0_off67 v328) a + S1x1x128.size a ≤ S50008x1x128.size a)
theorem k0_off67_inb : ∀ (v328 : BitVec 32) (k0_hw18 : k0_chk18 v328), ∀ a, (k0_off67 v328) a + S1x1x128.size a ≤ S50008x1x128.size a := fun v328 k0_hw18 => k0_hw18

def k0_off68 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off69 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off70 (v342 : BitVec 32) : Fin 3 → Nat :=
  let v345 : Index := Scalar.indexCast v342
  let c0_167 : Index := 0#32
  let c0_168 : Index := 0#32
  ![v345.toNat, 0, 0]

def k0_chk19 (v342 : BitVec 32) : Prop :=
  (∀ a, (k0_off70 v342) a + S1x1x128.size a ≤ S50008x1x128.size a)
theorem k0_off70_inb : ∀ (v342 : BitVec 32) (k0_hw19 : k0_chk19 v342), ∀ a, (k0_off70 v342) a + S1x1x128.size a ≤ S50008x1x128.size a := fun v342 k0_hw19 => k0_hw19

def k0_off71 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off72 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off73 (v356 : BitVec 32) : Fin 3 → Nat :=
  let v359 : Index := Scalar.indexCast v356
  let c0_173 : Index := 0#32
  let c0_174 : Index := 0#32
  ![v359.toNat, 0, 0]

def k0_chk20 (v356 : BitVec 32) : Prop :=
  (∀ a, (k0_off73 v356) a + S1x1x128.size a ≤ S50008x1x128.size a)
theorem k0_off73_inb : ∀ (v356 : BitVec 32) (k0_hw20 : k0_chk20 v356), ∀ a, (k0_off73 v356) a + S1x1x128.size a ≤ S50008x1x128.size a := fun v356 k0_hw20 => k0_hw20

def k0_off74 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off75 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off76 (v370 : BitVec 32) : Fin 3 → Nat :=
  let v373 : Index := Scalar.indexCast v370
  let c0_179 : Index := 0#32
  let c0_180 : Index := 0#32
  ![v373.toNat, 0, 0]

def k0_chk21 (v370 : BitVec 32) : Prop :=
  (∀ a, (k0_off76 v370) a + S1x1x128.size a ≤ S50008x1x128.size a)
theorem k0_off76_inb : ∀ (v370 : BitVec 32) (k0_hw21 : k0_chk21 v370), ∀ a, (k0_off76 v370) a + S1x1x128.size a ≤ S50008x1x128.size a := fun v370 k0_hw21 => k0_hw21

def k0_off77 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off78 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off79 (v384 : BitVec 32) : Fin 3 → Nat :=
  let v387 : Index := Scalar.indexCast v384
  let c0_185 : Index := 0#32
  let c0_186 : Index := 0#32
  ![v387.toNat, 0, 0]

def k0_chk22 (v384 : BitVec 32) : Prop :=
  (∀ a, (k0_off79 v384) a + S1x1x128.size a ≤ S50008x1x128.size a)
theorem k0_off79_inb : ∀ (v384 : BitVec 32) (k0_hw22 : k0_chk22 v384), ∀ a, (k0_off79 v384) a + S1x1x128.size a ≤ S50008x1x128.size a := fun v384 k0_hw22 => k0_hw22

def k0_off80 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off81 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off82 (v398 : BitVec 32) : Fin 3 → Nat :=
  let v401 : Index := Scalar.indexCast v398
  let c0_191 : Index := 0#32
  let c0_192 : Index := 0#32
  ![v401.toNat, 0, 0]

def k0_chk23 (v398 : BitVec 32) : Prop :=
  (∀ a, (k0_off82 v398) a + S1x1x128.size a ≤ S50008x1x128.size a)
theorem k0_off82_inb : ∀ (v398 : BitVec 32) (k0_hw23 : k0_chk23 v398), ∀ a, (k0_off82 v398) a + S1x1x128.size a ≤ S50008x1x128.size a := fun v398 k0_hw23 => k0_hw23

def k0_off83 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off84 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off85 (v412 : BitVec 32) : Fin 3 → Nat :=
  let v415 : Index := Scalar.indexCast v412
  let c0_197 : Index := 0#32
  let c0_198 : Index := 0#32
  ![v415.toNat, 0, 0]

def k0_chk24 (v412 : BitVec 32) : Prop :=
  (∀ a, (k0_off85 v412) a + S1x1x128.size a ≤ S50008x1x128.size a)
theorem k0_off85_inb : ∀ (v412 : BitVec 32) (k0_hw24 : k0_chk24 v412), ∀ a, (k0_off85 v412) a + S1x1x128.size a ≤ S50008x1x128.size a := fun v412 k0_hw24 => k0_hw24

def k0_off86 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off87 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off88 (v426 : BitVec 32) : Fin 3 → Nat :=
  let v429 : Index := Scalar.indexCast v426
  let c0_203 : Index := 0#32
  let c0_204 : Index := 0#32
  ![v429.toNat, 0, 0]

def k0_chk25 (v426 : BitVec 32) : Prop :=
  (∀ a, (k0_off88 v426) a + S1x1x128.size a ≤ S50008x1x128.size a)
theorem k0_off88_inb : ∀ (v426 : BitVec 32) (k0_hw25 : k0_chk25 v426), ∀ a, (k0_off88 v426) a + S1x1x128.size a ≤ S50008x1x128.size a := fun v426 k0_hw25 => k0_hw25

def k0_off89 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off90 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off91 (v440 : BitVec 32) : Fin 3 → Nat :=
  let v443 : Index := Scalar.indexCast v440
  let c0_209 : Index := 0#32
  let c0_210 : Index := 0#32
  ![v443.toNat, 0, 0]

def k0_chk26 (v440 : BitVec 32) : Prop :=
  (∀ a, (k0_off91 v440) a + S1x1x128.size a ≤ S50008x1x128.size a)
theorem k0_off91_inb : ∀ (v440 : BitVec 32) (k0_hw26 : k0_chk26 v440), ∀ a, (k0_off91 v440) a + S1x1x128.size a ≤ S50008x1x128.size a := fun v440 k0_hw26 => k0_hw26

def k0_off92 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off93 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off94 (v454 : BitVec 32) : Fin 3 → Nat :=
  let v457 : Index := Scalar.indexCast v454
  let c0_215 : Index := 0#32
  let c0_216 : Index := 0#32
  ![v457.toNat, 0, 0]

def k0_chk27 (v454 : BitVec 32) : Prop :=
  (∀ a, (k0_off94 v454) a + S1x1x128.size a ≤ S50008x1x128.size a)
theorem k0_off94_inb : ∀ (v454 : BitVec 32) (k0_hw27 : k0_chk27 v454), ∀ a, (k0_off94 v454) a + S1x1x128.size a ≤ S50008x1x128.size a := fun v454 k0_hw27 => k0_hw27

def k0_off95 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off96 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off97 (v468 : BitVec 32) : Fin 3 → Nat :=
  let v471 : Index := Scalar.indexCast v468
  let c0_221 : Index := 0#32
  let c0_222 : Index := 0#32
  ![v471.toNat, 0, 0]

def k0_chk28 (v468 : BitVec 32) : Prop :=
  (∀ a, (k0_off97 v468) a + S1x1x128.size a ≤ S50008x1x128.size a)
theorem k0_off97_inb : ∀ (v468 : BitVec 32) (k0_hw28 : k0_chk28 v468), ∀ a, (k0_off97 v468) a + S1x1x128.size a ≤ S50008x1x128.size a := fun v468 k0_hw28 => k0_hw28

def k0_off98 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off99 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off100 (v482 : BitVec 32) : Fin 3 → Nat :=
  let v485 : Index := Scalar.indexCast v482
  let c0_227 : Index := 0#32
  let c0_228 : Index := 0#32
  ![v485.toNat, 0, 0]

def k0_chk29 (v482 : BitVec 32) : Prop :=
  (∀ a, (k0_off100 v482) a + S1x1x128.size a ≤ S50008x1x128.size a)
theorem k0_off100_inb : ∀ (v482 : BitVec 32) (k0_hw29 : k0_chk29 v482), ∀ a, (k0_off100 v482) a + S1x1x128.size a ≤ S50008x1x128.size a := fun v482 k0_hw29 => k0_hw29

def k0_off101 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off102 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off103 (v496 : BitVec 32) : Fin 3 → Nat :=
  let v499 : Index := Scalar.indexCast v496
  let c0_233 : Index := 0#32
  let c0_234 : Index := 0#32
  ![v499.toNat, 0, 0]

def k0_chk30 (v496 : BitVec 32) : Prop :=
  (∀ a, (k0_off103 v496) a + S1x1x128.size a ≤ S50008x1x128.size a)
theorem k0_off103_inb : ∀ (v496 : BitVec 32) (k0_hw30 : k0_chk30 v496), ∀ a, (k0_off103 v496) a + S1x1x128.size a ≤ S50008x1x128.size a := fun v496 k0_hw30 => k0_hw30

def k0_off104 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off105 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off106 (v510 : BitVec 32) : Fin 3 → Nat :=
  let v513 : Index := Scalar.indexCast v510
  let c0_239 : Index := 0#32
  let c0_240 : Index := 0#32
  ![v513.toNat, 0, 0]

def k0_chk31 (v510 : BitVec 32) : Prop :=
  (∀ a, (k0_off106 v510) a + S1x1x128.size a ≤ S50008x1x128.size a)
theorem k0_off106_inb : ∀ (v510 : BitVec 32) (k0_hw31 : k0_chk31 v510), ∀ a, (k0_off106 v510) a + S1x1x128.size a ≤ S50008x1x128.size a := fun v510 k0_hw31 => k0_hw31

def k0_off107 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off108 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off109 (v524 : BitVec 32) : Fin 3 → Nat :=
  let v527 : Index := Scalar.indexCast v524
  let c0_245 : Index := 0#32
  let c0_246 : Index := 0#32
  ![v527.toNat, 0, 0]

def k0_chk32 (v524 : BitVec 32) : Prop :=
  (∀ a, (k0_off109 v524) a + S1x1x128.size a ≤ S50008x1x128.size a)
theorem k0_off109_inb : ∀ (v524 : BitVec 32) (k0_hw32 : k0_chk32 v524), ∀ a, (k0_off109 v524) a + S1x1x128.size a ≤ S50008x1x128.size a := fun v524 k0_hw32 => k0_hw32

def k0_off110 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off111 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off112 (v538 : BitVec 32) : Fin 3 → Nat :=
  let v541 : Index := Scalar.indexCast v538
  let c0_251 : Index := 0#32
  let c0_252 : Index := 0#32
  ![v541.toNat, 0, 0]

def k0_chk33 (v538 : BitVec 32) : Prop :=
  (∀ a, (k0_off112 v538) a + S1x1x128.size a ≤ S50008x1x128.size a)
theorem k0_off112_inb : ∀ (v538 : BitVec 32) (k0_hw33 : k0_chk33 v538), ∀ a, (k0_off112 v538) a + S1x1x128.size a ≤ S50008x1x128.size a := fun v538 k0_hw33 => k0_hw33

def k0_off113 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off114 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off115 (v552 : BitVec 32) : Fin 3 → Nat :=
  let v555 : Index := Scalar.indexCast v552
  let c0_257 : Index := 0#32
  let c0_258 : Index := 0#32
  ![v555.toNat, 0, 0]

def k0_chk34 (v552 : BitVec 32) : Prop :=
  (∀ a, (k0_off115 v552) a + S1x1x128.size a ≤ S50008x1x128.size a)
theorem k0_off115_inb : ∀ (v552 : BitVec 32) (k0_hw34 : k0_chk34 v552), ∀ a, (k0_off115 v552) a + S1x1x128.size a ≤ S50008x1x128.size a := fun v552 k0_hw34 => k0_hw34

def k0_off116 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off117 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off118 (v566 : BitVec 32) : Fin 3 → Nat :=
  let v569 : Index := Scalar.indexCast v566
  let c0_263 : Index := 0#32
  let c0_264 : Index := 0#32
  ![v569.toNat, 0, 0]

def k0_chk35 (v566 : BitVec 32) : Prop :=
  (∀ a, (k0_off118 v566) a + S1x1x128.size a ≤ S50008x1x128.size a)
theorem k0_off118_inb : ∀ (v566 : BitVec 32) (k0_hw35 : k0_chk35 v566), ∀ a, (k0_off118 v566) a + S1x1x128.size a ≤ S50008x1x128.size a := fun v566 k0_hw35 => k0_hw35

def k0_off119 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off120 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off121 (v580 : BitVec 32) : Fin 3 → Nat :=
  let v583 : Index := Scalar.indexCast v580
  let c0_269 : Index := 0#32
  let c0_270 : Index := 0#32
  ![v583.toNat, 0, 0]

def k0_chk36 (v580 : BitVec 32) : Prop :=
  (∀ a, (k0_off121 v580) a + S1x1x128.size a ≤ S50008x1x128.size a)
theorem k0_off121_inb : ∀ (v580 : BitVec 32) (k0_hw36 : k0_chk36 v580), ∀ a, (k0_off121 v580) a + S1x1x128.size a ≤ S50008x1x128.size a := fun v580 k0_hw36 => k0_hw36

def k0_off122 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off123 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off124 (v594 : BitVec 32) : Fin 3 → Nat :=
  let v597 : Index := Scalar.indexCast v594
  let c0_275 : Index := 0#32
  let c0_276 : Index := 0#32
  ![v597.toNat, 0, 0]

def k0_chk37 (v594 : BitVec 32) : Prop :=
  (∀ a, (k0_off124 v594) a + S1x1x128.size a ≤ S50008x1x128.size a)
theorem k0_off124_inb : ∀ (v594 : BitVec 32) (k0_hw37 : k0_chk37 v594), ∀ a, (k0_off124 v594) a + S1x1x128.size a ≤ S50008x1x128.size a := fun v594 k0_hw37 => k0_hw37

def k0_off125 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off126 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off127 (v608 : BitVec 32) : Fin 3 → Nat :=
  let v611 : Index := Scalar.indexCast v608
  let c0_281 : Index := 0#32
  let c0_282 : Index := 0#32
  ![v611.toNat, 0, 0]

def k0_chk38 (v608 : BitVec 32) : Prop :=
  (∀ a, (k0_off127 v608) a + S1x1x128.size a ≤ S50008x1x128.size a)
theorem k0_off127_inb : ∀ (v608 : BitVec 32) (k0_hw38 : k0_chk38 v608), ∀ a, (k0_off127 v608) a + S1x1x128.size a ≤ S50008x1x128.size a := fun v608 k0_hw38 => k0_hw38

def k0_off128 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off129 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off130 (v622 : BitVec 32) : Fin 3 → Nat :=
  let v625 : Index := Scalar.indexCast v622
  let c0_287 : Index := 0#32
  let c0_288 : Index := 0#32
  ![v625.toNat, 0, 0]

def k0_chk39 (v622 : BitVec 32) : Prop :=
  (∀ a, (k0_off130 v622) a + S1x1x128.size a ≤ S50008x1x128.size a)
theorem k0_off130_inb : ∀ (v622 : BitVec 32) (k0_hw39 : k0_chk39 v622), ∀ a, (k0_off130 v622) a + S1x1x128.size a ≤ S50008x1x128.size a := fun v622 k0_hw39 => k0_hw39

def k0_off131 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off132 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off133 (v636 : BitVec 32) : Fin 3 → Nat :=
  let v639 : Index := Scalar.indexCast v636
  let c0_293 : Index := 0#32
  let c0_294 : Index := 0#32
  ![v639.toNat, 0, 0]

def k0_chk40 (v636 : BitVec 32) : Prop :=
  (∀ a, (k0_off133 v636) a + S1x1x128.size a ≤ S50008x1x128.size a)
theorem k0_off133_inb : ∀ (v636 : BitVec 32) (k0_hw40 : k0_chk40 v636), ∀ a, (k0_off133 v636) a + S1x1x128.size a ≤ S50008x1x128.size a := fun v636 k0_hw40 => k0_hw40

def k0_off134 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off135 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off136 (v650 : BitVec 32) : Fin 3 → Nat :=
  let v653 : Index := Scalar.indexCast v650
  let c0_299 : Index := 0#32
  let c0_300 : Index := 0#32
  ![v653.toNat, 0, 0]

def k0_chk41 (v650 : BitVec 32) : Prop :=
  (∀ a, (k0_off136 v650) a + S1x1x128.size a ≤ S50008x1x128.size a)
theorem k0_off136_inb : ∀ (v650 : BitVec 32) (k0_hw41 : k0_chk41 v650), ∀ a, (k0_off136 v650) a + S1x1x128.size a ≤ S50008x1x128.size a := fun v650 k0_hw41 => k0_hw41

def k0_off137 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off138 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off139 (v664 : BitVec 32) : Fin 3 → Nat :=
  let v667 : Index := Scalar.indexCast v664
  let c0_305 : Index := 0#32
  let c0_306 : Index := 0#32
  ![v667.toNat, 0, 0]

def k0_chk42 (v664 : BitVec 32) : Prop :=
  (∀ a, (k0_off139 v664) a + S1x1x128.size a ≤ S50008x1x128.size a)
theorem k0_off139_inb : ∀ (v664 : BitVec 32) (k0_hw42 : k0_chk42 v664), ∀ a, (k0_off139 v664) a + S1x1x128.size a ≤ S50008x1x128.size a := fun v664 k0_hw42 => k0_hw42

def k0_off140 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off141 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off142 (v678 : BitVec 32) : Fin 3 → Nat :=
  let v681 : Index := Scalar.indexCast v678
  let c0_311 : Index := 0#32
  let c0_312 : Index := 0#32
  ![v681.toNat, 0, 0]

def k0_chk43 (v678 : BitVec 32) : Prop :=
  (∀ a, (k0_off142 v678) a + S1x1x128.size a ≤ S50008x1x128.size a)
theorem k0_off142_inb : ∀ (v678 : BitVec 32) (k0_hw43 : k0_chk43 v678), ∀ a, (k0_off142 v678) a + S1x1x128.size a ≤ S50008x1x128.size a := fun v678 k0_hw43 => k0_hw43

def k0_off143 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off144 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off145 (v692 : BitVec 32) : Fin 3 → Nat :=
  let v695 : Index := Scalar.indexCast v692
  let c0_317 : Index := 0#32
  let c0_318 : Index := 0#32
  ![v695.toNat, 0, 0]

def k0_chk44 (v692 : BitVec 32) : Prop :=
  (∀ a, (k0_off145 v692) a + S1x1x128.size a ≤ S50008x1x128.size a)
theorem k0_off145_inb : ∀ (v692 : BitVec 32) (k0_hw44 : k0_chk44 v692), ∀ a, (k0_off145 v692) a + S1x1x128.size a ≤ S50008x1x128.size a := fun v692 k0_hw44 => k0_hw44

def k0_off146 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off147 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off148 (v706 : BitVec 32) : Fin 3 → Nat :=
  let v709 : Index := Scalar.indexCast v706
  let c0_323 : Index := 0#32
  let c0_324 : Index := 0#32
  ![v709.toNat, 0, 0]

def k0_chk45 (v706 : BitVec 32) : Prop :=
  (∀ a, (k0_off148 v706) a + S1x1x128.size a ≤ S50008x1x128.size a)
theorem k0_off148_inb : ∀ (v706 : BitVec 32) (k0_hw45 : k0_chk45 v706), ∀ a, (k0_off148 v706) a + S1x1x128.size a ≤ S50008x1x128.size a := fun v706 k0_hw45 => k0_hw45

def k0_off149 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off150 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off151 (v720 : BitVec 32) : Fin 3 → Nat :=
  let v723 : Index := Scalar.indexCast v720
  let c0_329 : Index := 0#32
  let c0_330 : Index := 0#32
  ![v723.toNat, 0, 0]

def k0_chk46 (v720 : BitVec 32) : Prop :=
  (∀ a, (k0_off151 v720) a + S1x1x128.size a ≤ S50008x1x128.size a)
theorem k0_off151_inb : ∀ (v720 : BitVec 32) (k0_hw46 : k0_chk46 v720), ∀ a, (k0_off151 v720) a + S1x1x128.size a ≤ S50008x1x128.size a := fun v720 k0_hw46 => k0_hw46

def k0_off152 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off153 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off154 (v734 : BitVec 32) : Fin 3 → Nat :=
  let v737 : Index := Scalar.indexCast v734
  let c0_335 : Index := 0#32
  let c0_336 : Index := 0#32
  ![v737.toNat, 0, 0]

def k0_chk47 (v734 : BitVec 32) : Prop :=
  (∀ a, (k0_off154 v734) a + S1x1x128.size a ≤ S50008x1x128.size a)
theorem k0_off154_inb : ∀ (v734 : BitVec 32) (k0_hw47 : k0_chk47 v734), ∀ a, (k0_off154 v734) a + S1x1x128.size a ≤ S50008x1x128.size a := fun v734 k0_hw47 => k0_hw47

def k0_off155 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off156 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off157 (v748 : BitVec 32) : Fin 3 → Nat :=
  let v751 : Index := Scalar.indexCast v748
  let c0_341 : Index := 0#32
  let c0_342 : Index := 0#32
  ![v751.toNat, 0, 0]

def k0_chk48 (v748 : BitVec 32) : Prop :=
  (∀ a, (k0_off157 v748) a + S1x1x128.size a ≤ S50008x1x128.size a)
theorem k0_off157_inb : ∀ (v748 : BitVec 32) (k0_hw48 : k0_chk48 v748), ∀ a, (k0_off157 v748) a + S1x1x128.size a ≤ S50008x1x128.size a := fun v748 k0_hw48 => k0_hw48

def k0_off158 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off159 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off160 (v762 : BitVec 32) : Fin 3 → Nat :=
  let v765 : Index := Scalar.indexCast v762
  let c0_347 : Index := 0#32
  let c0_348 : Index := 0#32
  ![v765.toNat, 0, 0]

def k0_chk49 (v762 : BitVec 32) : Prop :=
  (∀ a, (k0_off160 v762) a + S1x1x128.size a ≤ S50008x1x128.size a)
theorem k0_off160_inb : ∀ (v762 : BitVec 32) (k0_hw49 : k0_chk49 v762), ∀ a, (k0_off160 v762) a + S1x1x128.size a ≤ S50008x1x128.size a := fun v762 k0_hw49 => k0_hw49

def k0_off161 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off162 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off163 (v776 : BitVec 32) : Fin 3 → Nat :=
  let v779 : Index := Scalar.indexCast v776
  let c0_353 : Index := 0#32
  let c0_354 : Index := 0#32
  ![v779.toNat, 0, 0]

def k0_chk50 (v776 : BitVec 32) : Prop :=
  (∀ a, (k0_off163 v776) a + S1x1x128.size a ≤ S50008x1x128.size a)
theorem k0_off163_inb : ∀ (v776 : BitVec 32) (k0_hw50 : k0_chk50 v776), ∀ a, (k0_off163 v776) a + S1x1x128.size a ≤ S50008x1x128.size a := fun v776 k0_hw50 => k0_hw50

def k0_off164 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off165 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off166 (v790 : BitVec 32) : Fin 3 → Nat :=
  let v793 : Index := Scalar.indexCast v790
  let c0_359 : Index := 0#32
  let c0_360 : Index := 0#32
  ![v793.toNat, 0, 0]

def k0_chk51 (v790 : BitVec 32) : Prop :=
  (∀ a, (k0_off166 v790) a + S1x1x128.size a ≤ S50008x1x128.size a)
theorem k0_off166_inb : ∀ (v790 : BitVec 32) (k0_hw51 : k0_chk51 v790), ∀ a, (k0_off166 v790) a + S1x1x128.size a ≤ S50008x1x128.size a := fun v790 k0_hw51 => k0_hw51

def k0_off167 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off168 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off169 (v804 : BitVec 32) : Fin 3 → Nat :=
  let v807 : Index := Scalar.indexCast v804
  let c0_365 : Index := 0#32
  let c0_366 : Index := 0#32
  ![v807.toNat, 0, 0]

def k0_chk52 (v804 : BitVec 32) : Prop :=
  (∀ a, (k0_off169 v804) a + S1x1x128.size a ≤ S50008x1x128.size a)
theorem k0_off169_inb : ∀ (v804 : BitVec 32) (k0_hw52 : k0_chk52 v804), ∀ a, (k0_off169 v804) a + S1x1x128.size a ≤ S50008x1x128.size a := fun v804 k0_hw52 => k0_hw52

def k0_off170 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off171 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off172 (v818 : BitVec 32) : Fin 3 → Nat :=
  let v821 : Index := Scalar.indexCast v818
  let c0_371 : Index := 0#32
  let c0_372 : Index := 0#32
  ![v821.toNat, 0, 0]

def k0_chk53 (v818 : BitVec 32) : Prop :=
  (∀ a, (k0_off172 v818) a + S1x1x128.size a ≤ S50008x1x128.size a)
theorem k0_off172_inb : ∀ (v818 : BitVec 32) (k0_hw53 : k0_chk53 v818), ∀ a, (k0_off172 v818) a + S1x1x128.size a ≤ S50008x1x128.size a := fun v818 k0_hw53 => k0_hw53

def k0_off173 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off174 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off175 (v832 : BitVec 32) : Fin 3 → Nat :=
  let v835 : Index := Scalar.indexCast v832
  let c0_377 : Index := 0#32
  let c0_378 : Index := 0#32
  ![v835.toNat, 0, 0]

def k0_chk54 (v832 : BitVec 32) : Prop :=
  (∀ a, (k0_off175 v832) a + S1x1x128.size a ≤ S50008x1x128.size a)
theorem k0_off175_inb : ∀ (v832 : BitVec 32) (k0_hw54 : k0_chk54 v832), ∀ a, (k0_off175 v832) a + S1x1x128.size a ≤ S50008x1x128.size a := fun v832 k0_hw54 => k0_hw54

def k0_off176 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off177 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off178 (v846 : BitVec 32) : Fin 3 → Nat :=
  let v849 : Index := Scalar.indexCast v846
  let c0_383 : Index := 0#32
  let c0_384 : Index := 0#32
  ![v849.toNat, 0, 0]

def k0_chk55 (v846 : BitVec 32) : Prop :=
  (∀ a, (k0_off178 v846) a + S1x1x128.size a ≤ S50008x1x128.size a)
theorem k0_off178_inb : ∀ (v846 : BitVec 32) (k0_hw55 : k0_chk55 v846), ∀ a, (k0_off178 v846) a + S1x1x128.size a ≤ S50008x1x128.size a := fun v846 k0_hw55 => k0_hw55

def k0_off179 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off180 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off181 (v860 : BitVec 32) : Fin 3 → Nat :=
  let v863 : Index := Scalar.indexCast v860
  let c0_389 : Index := 0#32
  let c0_390 : Index := 0#32
  ![v863.toNat, 0, 0]

def k0_chk56 (v860 : BitVec 32) : Prop :=
  (∀ a, (k0_off181 v860) a + S1x1x128.size a ≤ S50008x1x128.size a)
theorem k0_off181_inb : ∀ (v860 : BitVec 32) (k0_hw56 : k0_chk56 v860), ∀ a, (k0_off181 v860) a + S1x1x128.size a ≤ S50008x1x128.size a := fun v860 k0_hw56 => k0_hw56

def k0_off182 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off183 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off184 (v874 : BitVec 32) : Fin 3 → Nat :=
  let v877 : Index := Scalar.indexCast v874
  let c0_395 : Index := 0#32
  let c0_396 : Index := 0#32
  ![v877.toNat, 0, 0]

def k0_chk57 (v874 : BitVec 32) : Prop :=
  (∀ a, (k0_off184 v874) a + S1x1x128.size a ≤ S50008x1x128.size a)
theorem k0_off184_inb : ∀ (v874 : BitVec 32) (k0_hw57 : k0_chk57 v874), ∀ a, (k0_off184 v874) a + S1x1x128.size a ≤ S50008x1x128.size a := fun v874 k0_hw57 => k0_hw57

def k0_off185 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off186 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off187 (v888 : BitVec 32) : Fin 3 → Nat :=
  let v891 : Index := Scalar.indexCast v888
  let c0_401 : Index := 0#32
  let c0_402 : Index := 0#32
  ![v891.toNat, 0, 0]

def k0_chk58 (v888 : BitVec 32) : Prop :=
  (∀ a, (k0_off187 v888) a + S1x1x128.size a ≤ S50008x1x128.size a)
theorem k0_off187_inb : ∀ (v888 : BitVec 32) (k0_hw58 : k0_chk58 v888), ∀ a, (k0_off187 v888) a + S1x1x128.size a ≤ S50008x1x128.size a := fun v888 k0_hw58 => k0_hw58

def k0_off188 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off189 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off190 (v902 : BitVec 32) : Fin 3 → Nat :=
  let v905 : Index := Scalar.indexCast v902
  let c0_407 : Index := 0#32
  let c0_408 : Index := 0#32
  ![v905.toNat, 0, 0]

def k0_chk59 (v902 : BitVec 32) : Prop :=
  (∀ a, (k0_off190 v902) a + S1x1x128.size a ≤ S50008x1x128.size a)
theorem k0_off190_inb : ∀ (v902 : BitVec 32) (k0_hw59 : k0_chk59 v902), ∀ a, (k0_off190 v902) a + S1x1x128.size a ≤ S50008x1x128.size a := fun v902 k0_hw59 => k0_hw59

def k0_off191 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off192 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off193 (v916 : BitVec 32) : Fin 3 → Nat :=
  let v919 : Index := Scalar.indexCast v916
  let c0_413 : Index := 0#32
  let c0_414 : Index := 0#32
  ![v919.toNat, 0, 0]

def k0_chk60 (v916 : BitVec 32) : Prop :=
  (∀ a, (k0_off193 v916) a + S1x1x128.size a ≤ S50008x1x128.size a)
theorem k0_off193_inb : ∀ (v916 : BitVec 32) (k0_hw60 : k0_chk60 v916), ∀ a, (k0_off193 v916) a + S1x1x128.size a ≤ S50008x1x128.size a := fun v916 k0_hw60 => k0_hw60

def k0_off194 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off195 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off196 (v930 : BitVec 32) : Fin 3 → Nat :=
  let v933 : Index := Scalar.indexCast v930
  let c0_419 : Index := 0#32
  let c0_420 : Index := 0#32
  ![v933.toNat, 0, 0]

def k0_chk61 (v930 : BitVec 32) : Prop :=
  (∀ a, (k0_off196 v930) a + S1x1x128.size a ≤ S50008x1x128.size a)
theorem k0_off196_inb : ∀ (v930 : BitVec 32) (k0_hw61 : k0_chk61 v930), ∀ a, (k0_off196 v930) a + S1x1x128.size a ≤ S50008x1x128.size a := fun v930 k0_hw61 => k0_hw61

def k0_off197 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off198 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off199 (v944 : BitVec 32) : Fin 3 → Nat :=
  let v947 : Index := Scalar.indexCast v944
  let c0_425 : Index := 0#32
  let c0_426 : Index := 0#32
  ![v947.toNat, 0, 0]

def k0_chk62 (v944 : BitVec 32) : Prop :=
  (∀ a, (k0_off199 v944) a + S1x1x128.size a ≤ S50008x1x128.size a)
theorem k0_off199_inb : ∀ (v944 : BitVec 32) (k0_hw62 : k0_chk62 v944), ∀ a, (k0_off199 v944) a + S1x1x128.size a ≤ S50008x1x128.size a := fun v944 k0_hw62 => k0_hw62

def k0_off200 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off201 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off202 (v958 : BitVec 32) : Fin 3 → Nat :=
  let v961 : Index := Scalar.indexCast v958
  let c0_431 : Index := 0#32
  let c0_432 : Index := 0#32
  ![v961.toNat, 0, 0]

def k0_chk63 (v958 : BitVec 32) : Prop :=
  (∀ a, (k0_off202 v958) a + S1x1x128.size a ≤ S50008x1x128.size a)
theorem k0_off202_inb : ∀ (v958 : BitVec 32) (k0_hw63 : k0_chk63 v958), ∀ a, (k0_off202 v958) a + S1x1x128.size a ≤ S50008x1x128.size a := fun v958 k0_hw63 => k0_hw63

def k0_off203 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off204 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off205 (v972 : BitVec 32) : Fin 3 → Nat :=
  let v975 : Index := Scalar.indexCast v972
  let c0_437 : Index := 0#32
  let c0_438 : Index := 0#32
  ![v975.toNat, 0, 0]

def k0_chk64 (v972 : BitVec 32) : Prop :=
  (∀ a, (k0_off205 v972) a + S1x1x128.size a ≤ S50008x1x128.size a)
theorem k0_off205_inb : ∀ (v972 : BitVec 32) (k0_hw64 : k0_chk64 v972), ∀ a, (k0_off205 v972) a + S1x1x128.size a ≤ S50008x1x128.size a := fun v972 k0_hw64 => k0_hw64

def k0_off206 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off207 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off208 (v986 : BitVec 32) : Fin 3 → Nat :=
  let v989 : Index := Scalar.indexCast v986
  let c0_443 : Index := 0#32
  let c0_444 : Index := 0#32
  ![v989.toNat, 0, 0]

def k0_chk65 (v986 : BitVec 32) : Prop :=
  (∀ a, (k0_off208 v986) a + S1x1x128.size a ≤ S50008x1x128.size a)
theorem k0_off208_inb : ∀ (v986 : BitVec 32) (k0_hw65 : k0_chk65 v986), ∀ a, (k0_off208 v986) a + S1x1x128.size a ≤ S50008x1x128.size a := fun v986 k0_hw65 => k0_hw65

def k0_off209 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off210 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off211 (v1000 : BitVec 32) : Fin 3 → Nat :=
  let v1003 : Index := Scalar.indexCast v1000
  let c0_449 : Index := 0#32
  let c0_450 : Index := 0#32
  ![v1003.toNat, 0, 0]

def k0_chk66 (v1000 : BitVec 32) : Prop :=
  (∀ a, (k0_off211 v1000) a + S1x1x128.size a ≤ S50008x1x128.size a)
theorem k0_off211_inb : ∀ (v1000 : BitVec 32) (k0_hw66 : k0_chk66 v1000), ∀ a, (k0_off211 v1000) a + S1x1x128.size a ≤ S50008x1x128.size a := fun v1000 k0_hw66 => k0_hw66

def k0_off212 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off213 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off214 (v1014 : BitVec 32) : Fin 3 → Nat :=
  let v1017 : Index := Scalar.indexCast v1014
  let c0_455 : Index := 0#32
  let c0_456 : Index := 0#32
  ![v1017.toNat, 0, 0]

def k0_chk67 (v1014 : BitVec 32) : Prop :=
  (∀ a, (k0_off214 v1014) a + S1x1x128.size a ≤ S50008x1x128.size a)
theorem k0_off214_inb : ∀ (v1014 : BitVec 32) (k0_hw67 : k0_chk67 v1014), ∀ a, (k0_off214 v1014) a + S1x1x128.size a ≤ S50008x1x128.size a := fun v1014 k0_hw67 => k0_hw67

def k0_off215 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off216 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off217 (v1028 : BitVec 32) : Fin 3 → Nat :=
  let v1031 : Index := Scalar.indexCast v1028
  let c0_461 : Index := 0#32
  let c0_462 : Index := 0#32
  ![v1031.toNat, 0, 0]

def k0_chk68 (v1028 : BitVec 32) : Prop :=
  (∀ a, (k0_off217 v1028) a + S1x1x128.size a ≤ S50008x1x128.size a)
theorem k0_off217_inb : ∀ (v1028 : BitVec 32) (k0_hw68 : k0_chk68 v1028), ∀ a, (k0_off217 v1028) a + S1x1x128.size a ≤ S50008x1x128.size a := fun v1028 k0_hw68 => k0_hw68

def k0_off218 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off219 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off220 (v1042 : BitVec 32) : Fin 3 → Nat :=
  let v1045 : Index := Scalar.indexCast v1042
  let c0_467 : Index := 0#32
  let c0_468 : Index := 0#32
  ![v1045.toNat, 0, 0]

def k0_chk69 (v1042 : BitVec 32) : Prop :=
  (∀ a, (k0_off220 v1042) a + S1x1x128.size a ≤ S50008x1x128.size a)
theorem k0_off220_inb : ∀ (v1042 : BitVec 32) (k0_hw69 : k0_chk69 v1042), ∀ a, (k0_off220 v1042) a + S1x1x128.size a ≤ S50008x1x128.size a := fun v1042 k0_hw69 => k0_hw69

def k0_off221 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off222 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off223 (v1056 : BitVec 32) : Fin 3 → Nat :=
  let v1059 : Index := Scalar.indexCast v1056
  let c0_473 : Index := 0#32
  let c0_474 : Index := 0#32
  ![v1059.toNat, 0, 0]

def k0_chk70 (v1056 : BitVec 32) : Prop :=
  (∀ a, (k0_off223 v1056) a + S1x1x128.size a ≤ S50008x1x128.size a)
theorem k0_off223_inb : ∀ (v1056 : BitVec 32) (k0_hw70 : k0_chk70 v1056), ∀ a, (k0_off223 v1056) a + S1x1x128.size a ≤ S50008x1x128.size a := fun v1056 k0_hw70 => k0_hw70

def k0_off224 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off225 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off226 (v1070 : BitVec 32) : Fin 3 → Nat :=
  let v1073 : Index := Scalar.indexCast v1070
  let c0_479 : Index := 0#32
  let c0_480 : Index := 0#32
  ![v1073.toNat, 0, 0]

def k0_chk71 (v1070 : BitVec 32) : Prop :=
  (∀ a, (k0_off226 v1070) a + S1x1x128.size a ≤ S50008x1x128.size a)
theorem k0_off226_inb : ∀ (v1070 : BitVec 32) (k0_hw71 : k0_chk71 v1070), ∀ a, (k0_off226 v1070) a + S1x1x128.size a ≤ S50008x1x128.size a := fun v1070 k0_hw71 => k0_hw71

def k0_off227 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off228 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off229 (v1084 : BitVec 32) : Fin 3 → Nat :=
  let v1087 : Index := Scalar.indexCast v1084
  let c0_485 : Index := 0#32
  let c0_486 : Index := 0#32
  ![v1087.toNat, 0, 0]

def k0_chk72 (v1084 : BitVec 32) : Prop :=
  (∀ a, (k0_off229 v1084) a + S1x1x128.size a ≤ S50008x1x128.size a)
theorem k0_off229_inb : ∀ (v1084 : BitVec 32) (k0_hw72 : k0_chk72 v1084), ∀ a, (k0_off229 v1084) a + S1x1x128.size a ≤ S50008x1x128.size a := fun v1084 k0_hw72 => k0_hw72

def k0_off230 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off231 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off232 (v1098 : BitVec 32) : Fin 3 → Nat :=
  let v1101 : Index := Scalar.indexCast v1098
  let c0_491 : Index := 0#32
  let c0_492 : Index := 0#32
  ![v1101.toNat, 0, 0]

def k0_chk73 (v1098 : BitVec 32) : Prop :=
  (∀ a, (k0_off232 v1098) a + S1x1x128.size a ≤ S50008x1x128.size a)
theorem k0_off232_inb : ∀ (v1098 : BitVec 32) (k0_hw73 : k0_chk73 v1098), ∀ a, (k0_off232 v1098) a + S1x1x128.size a ≤ S50008x1x128.size a := fun v1098 k0_hw73 => k0_hw73

def k0_off233 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off234 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off235 (v1112 : BitVec 32) : Fin 3 → Nat :=
  let v1115 : Index := Scalar.indexCast v1112
  let c0_497 : Index := 0#32
  let c0_498 : Index := 0#32
  ![v1115.toNat, 0, 0]

def k0_chk74 (v1112 : BitVec 32) : Prop :=
  (∀ a, (k0_off235 v1112) a + S1x1x128.size a ≤ S50008x1x128.size a)
theorem k0_off235_inb : ∀ (v1112 : BitVec 32) (k0_hw74 : k0_chk74 v1112), ∀ a, (k0_off235 v1112) a + S1x1x128.size a ≤ S50008x1x128.size a := fun v1112 k0_hw74 => k0_hw74

def k0_off236 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off237 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off238 (v1126 : BitVec 32) : Fin 3 → Nat :=
  let v1129 : Index := Scalar.indexCast v1126
  let c0_503 : Index := 0#32
  let c0_504 : Index := 0#32
  ![v1129.toNat, 0, 0]

def k0_chk75 (v1126 : BitVec 32) : Prop :=
  (∀ a, (k0_off238 v1126) a + S1x1x128.size a ≤ S50008x1x128.size a)
theorem k0_off238_inb : ∀ (v1126 : BitVec 32) (k0_hw75 : k0_chk75 v1126), ∀ a, (k0_off238 v1126) a + S1x1x128.size a ≤ S50008x1x128.size a := fun v1126 k0_hw75 => k0_hw75

def k0_off239 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off240 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off241 (v1140 : BitVec 32) : Fin 3 → Nat :=
  let v1143 : Index := Scalar.indexCast v1140
  let c0_509 : Index := 0#32
  let c0_510 : Index := 0#32
  ![v1143.toNat, 0, 0]

def k0_chk76 (v1140 : BitVec 32) : Prop :=
  (∀ a, (k0_off241 v1140) a + S1x1x128.size a ≤ S50008x1x128.size a)
theorem k0_off241_inb : ∀ (v1140 : BitVec 32) (k0_hw76 : k0_chk76 v1140), ∀ a, (k0_off241 v1140) a + S1x1x128.size a ≤ S50008x1x128.size a := fun v1140 k0_hw76 => k0_hw76

def k0_off242 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off243 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off244 (v1154 : BitVec 32) : Fin 3 → Nat :=
  let v1157 : Index := Scalar.indexCast v1154
  let c0_515 : Index := 0#32
  let c0_516 : Index := 0#32
  ![v1157.toNat, 0, 0]

def k0_chk77 (v1154 : BitVec 32) : Prop :=
  (∀ a, (k0_off244 v1154) a + S1x1x128.size a ≤ S50008x1x128.size a)
theorem k0_off244_inb : ∀ (v1154 : BitVec 32) (k0_hw77 : k0_chk77 v1154), ∀ a, (k0_off244 v1154) a + S1x1x128.size a ≤ S50008x1x128.size a := fun v1154 k0_hw77 => k0_hw77

def k0_off245 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off246 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off247 (v1168 : BitVec 32) : Fin 3 → Nat :=
  let v1171 : Index := Scalar.indexCast v1168
  let c0_521 : Index := 0#32
  let c0_522 : Index := 0#32
  ![v1171.toNat, 0, 0]

def k0_chk78 (v1168 : BitVec 32) : Prop :=
  (∀ a, (k0_off247 v1168) a + S1x1x128.size a ≤ S50008x1x128.size a)
theorem k0_off247_inb : ∀ (v1168 : BitVec 32) (k0_hw78 : k0_chk78 v1168), ∀ a, (k0_off247 v1168) a + S1x1x128.size a ≤ S50008x1x128.size a := fun v1168 k0_hw78 => k0_hw78

def k0_off248 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off249 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off250 (v1182 : BitVec 32) : Fin 3 → Nat :=
  let v1185 : Index := Scalar.indexCast v1182
  let c0_527 : Index := 0#32
  let c0_528 : Index := 0#32
  ![v1185.toNat, 0, 0]

def k0_chk79 (v1182 : BitVec 32) : Prop :=
  (∀ a, (k0_off250 v1182) a + S1x1x128.size a ≤ S50008x1x128.size a)
theorem k0_off250_inb : ∀ (v1182 : BitVec 32) (k0_hw79 : k0_chk79 v1182), ∀ a, (k0_off250 v1182) a + S1x1x128.size a ≤ S50008x1x128.size a := fun v1182 k0_hw79 => k0_hw79

def k0_off251 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off252 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off253 (v1196 : BitVec 32) : Fin 3 → Nat :=
  let v1199 : Index := Scalar.indexCast v1196
  let c0_533 : Index := 0#32
  let c0_534 : Index := 0#32
  ![v1199.toNat, 0, 0]

def k0_chk80 (v1196 : BitVec 32) : Prop :=
  (∀ a, (k0_off253 v1196) a + S1x1x128.size a ≤ S50008x1x128.size a)
theorem k0_off253_inb : ∀ (v1196 : BitVec 32) (k0_hw80 : k0_chk80 v1196), ∀ a, (k0_off253 v1196) a + S1x1x128.size a ≤ S50008x1x128.size a := fun v1196 k0_hw80 => k0_hw80

def k0_off254 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off255 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off256 (v1210 : BitVec 32) : Fin 3 → Nat :=
  let v1213 : Index := Scalar.indexCast v1210
  let c0_539 : Index := 0#32
  let c0_540 : Index := 0#32
  ![v1213.toNat, 0, 0]

def k0_chk81 (v1210 : BitVec 32) : Prop :=
  (∀ a, (k0_off256 v1210) a + S1x1x128.size a ≤ S50008x1x128.size a)
theorem k0_off256_inb : ∀ (v1210 : BitVec 32) (k0_hw81 : k0_chk81 v1210), ∀ a, (k0_off256 v1210) a + S1x1x128.size a ≤ S50008x1x128.size a := fun v1210 k0_hw81 => k0_hw81

def k0_off257 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off258 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off259 (v1224 : BitVec 32) : Fin 3 → Nat :=
  let v1227 : Index := Scalar.indexCast v1224
  let c0_545 : Index := 0#32
  let c0_546 : Index := 0#32
  ![v1227.toNat, 0, 0]

def k0_chk82 (v1224 : BitVec 32) : Prop :=
  (∀ a, (k0_off259 v1224) a + S1x1x128.size a ≤ S50008x1x128.size a)
theorem k0_off259_inb : ∀ (v1224 : BitVec 32) (k0_hw82 : k0_chk82 v1224), ∀ a, (k0_off259 v1224) a + S1x1x128.size a ≤ S50008x1x128.size a := fun v1224 k0_hw82 => k0_hw82

def k0_off260 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off261 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off262 (v1238 : BitVec 32) : Fin 3 → Nat :=
  let v1241 : Index := Scalar.indexCast v1238
  let c0_551 : Index := 0#32
  let c0_552 : Index := 0#32
  ![v1241.toNat, 0, 0]

def k0_chk83 (v1238 : BitVec 32) : Prop :=
  (∀ a, (k0_off262 v1238) a + S1x1x128.size a ≤ S50008x1x128.size a)
theorem k0_off262_inb : ∀ (v1238 : BitVec 32) (k0_hw83 : k0_chk83 v1238), ∀ a, (k0_off262 v1238) a + S1x1x128.size a ≤ S50008x1x128.size a := fun v1238 k0_hw83 => k0_hw83

def k0_off263 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off264 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off265 (v1252 : BitVec 32) : Fin 3 → Nat :=
  let v1255 : Index := Scalar.indexCast v1252
  let c0_557 : Index := 0#32
  let c0_558 : Index := 0#32
  ![v1255.toNat, 0, 0]

def k0_chk84 (v1252 : BitVec 32) : Prop :=
  (∀ a, (k0_off265 v1252) a + S1x1x128.size a ≤ S50008x1x128.size a)
theorem k0_off265_inb : ∀ (v1252 : BitVec 32) (k0_hw84 : k0_chk84 v1252), ∀ a, (k0_off265 v1252) a + S1x1x128.size a ≤ S50008x1x128.size a := fun v1252 k0_hw84 => k0_hw84

def k0_off266 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off267 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off268 (v1266 : BitVec 32) : Fin 3 → Nat :=
  let v1269 : Index := Scalar.indexCast v1266
  let c0_563 : Index := 0#32
  let c0_564 : Index := 0#32
  ![v1269.toNat, 0, 0]

def k0_chk85 (v1266 : BitVec 32) : Prop :=
  (∀ a, (k0_off268 v1266) a + S1x1x128.size a ≤ S50008x1x128.size a)
theorem k0_off268_inb : ∀ (v1266 : BitVec 32) (k0_hw85 : k0_chk85 v1266), ∀ a, (k0_off268 v1266) a + S1x1x128.size a ≤ S50008x1x128.size a := fun v1266 k0_hw85 => k0_hw85

def k0_off269 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off270 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off271 (v1280 : BitVec 32) : Fin 3 → Nat :=
  let v1283 : Index := Scalar.indexCast v1280
  let c0_569 : Index := 0#32
  let c0_570 : Index := 0#32
  ![v1283.toNat, 0, 0]

def k0_chk86 (v1280 : BitVec 32) : Prop :=
  (∀ a, (k0_off271 v1280) a + S1x1x128.size a ≤ S50008x1x128.size a)
theorem k0_off271_inb : ∀ (v1280 : BitVec 32) (k0_hw86 : k0_chk86 v1280), ∀ a, (k0_off271 v1280) a + S1x1x128.size a ≤ S50008x1x128.size a := fun v1280 k0_hw86 => k0_hw86

def k0_off272 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off273 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off274 (v1294 : BitVec 32) : Fin 3 → Nat :=
  let v1297 : Index := Scalar.indexCast v1294
  let c0_575 : Index := 0#32
  let c0_576 : Index := 0#32
  ![v1297.toNat, 0, 0]

def k0_chk87 (v1294 : BitVec 32) : Prop :=
  (∀ a, (k0_off274 v1294) a + S1x1x128.size a ≤ S50008x1x128.size a)
theorem k0_off274_inb : ∀ (v1294 : BitVec 32) (k0_hw87 : k0_chk87 v1294), ∀ a, (k0_off274 v1294) a + S1x1x128.size a ≤ S50008x1x128.size a := fun v1294 k0_hw87 => k0_hw87

def k0_off275 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off276 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off277 (v1308 : BitVec 32) : Fin 3 → Nat :=
  let v1311 : Index := Scalar.indexCast v1308
  let c0_581 : Index := 0#32
  let c0_582 : Index := 0#32
  ![v1311.toNat, 0, 0]

def k0_chk88 (v1308 : BitVec 32) : Prop :=
  (∀ a, (k0_off277 v1308) a + S1x1x128.size a ≤ S50008x1x128.size a)
theorem k0_off277_inb : ∀ (v1308 : BitVec 32) (k0_hw88 : k0_chk88 v1308), ∀ a, (k0_off277 v1308) a + S1x1x128.size a ≤ S50008x1x128.size a := fun v1308 k0_hw88 => k0_hw88

def k0_off278 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off279 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off280 (v1322 : BitVec 32) : Fin 3 → Nat :=
  let v1325 : Index := Scalar.indexCast v1322
  let c0_587 : Index := 0#32
  let c0_588 : Index := 0#32
  ![v1325.toNat, 0, 0]

def k0_chk89 (v1322 : BitVec 32) : Prop :=
  (∀ a, (k0_off280 v1322) a + S1x1x128.size a ≤ S50008x1x128.size a)
theorem k0_off280_inb : ∀ (v1322 : BitVec 32) (k0_hw89 : k0_chk89 v1322), ∀ a, (k0_off280 v1322) a + S1x1x128.size a ≤ S50008x1x128.size a := fun v1322 k0_hw89 => k0_hw89

def k0_off281 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off282 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off283 (v1336 : BitVec 32) : Fin 3 → Nat :=
  let v1339 : Index := Scalar.indexCast v1336
  let c0_593 : Index := 0#32
  let c0_594 : Index := 0#32
  ![v1339.toNat, 0, 0]

def k0_chk90 (v1336 : BitVec 32) : Prop :=
  (∀ a, (k0_off283 v1336) a + S1x1x128.size a ≤ S50008x1x128.size a)
theorem k0_off283_inb : ∀ (v1336 : BitVec 32) (k0_hw90 : k0_chk90 v1336), ∀ a, (k0_off283 v1336) a + S1x1x128.size a ≤ S50008x1x128.size a := fun v1336 k0_hw90 => k0_hw90

def k0_off284 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off285 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off286 (v1350 : BitVec 32) : Fin 3 → Nat :=
  let v1353 : Index := Scalar.indexCast v1350
  let c0_599 : Index := 0#32
  let c0_600 : Index := 0#32
  ![v1353.toNat, 0, 0]

def k0_chk91 (v1350 : BitVec 32) : Prop :=
  (∀ a, (k0_off286 v1350) a + S1x1x128.size a ≤ S50008x1x128.size a)
theorem k0_off286_inb : ∀ (v1350 : BitVec 32) (k0_hw91 : k0_chk91 v1350), ∀ a, (k0_off286 v1350) a + S1x1x128.size a ≤ S50008x1x128.size a := fun v1350 k0_hw91 => k0_hw91

def k0_off287 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off288 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off289 (v1364 : BitVec 32) : Fin 3 → Nat :=
  let v1367 : Index := Scalar.indexCast v1364
  let c0_605 : Index := 0#32
  let c0_606 : Index := 0#32
  ![v1367.toNat, 0, 0]

def k0_chk92 (v1364 : BitVec 32) : Prop :=
  (∀ a, (k0_off289 v1364) a + S1x1x128.size a ≤ S50008x1x128.size a)
theorem k0_off289_inb : ∀ (v1364 : BitVec 32) (k0_hw92 : k0_chk92 v1364), ∀ a, (k0_off289 v1364) a + S1x1x128.size a ≤ S50008x1x128.size a := fun v1364 k0_hw92 => k0_hw92

def k0_off290 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off291 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off292 (v1378 : BitVec 32) : Fin 3 → Nat :=
  let v1381 : Index := Scalar.indexCast v1378
  let c0_611 : Index := 0#32
  let c0_612 : Index := 0#32
  ![v1381.toNat, 0, 0]

def k0_chk93 (v1378 : BitVec 32) : Prop :=
  (∀ a, (k0_off292 v1378) a + S1x1x128.size a ≤ S50008x1x128.size a)
theorem k0_off292_inb : ∀ (v1378 : BitVec 32) (k0_hw93 : k0_chk93 v1378), ∀ a, (k0_off292 v1378) a + S1x1x128.size a ≤ S50008x1x128.size a := fun v1378 k0_hw93 => k0_hw93

def k0_off293 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off294 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off295 (v1392 : BitVec 32) : Fin 3 → Nat :=
  let v1395 : Index := Scalar.indexCast v1392
  let c0_617 : Index := 0#32
  let c0_618 : Index := 0#32
  ![v1395.toNat, 0, 0]

def k0_chk94 (v1392 : BitVec 32) : Prop :=
  (∀ a, (k0_off295 v1392) a + S1x1x128.size a ≤ S50008x1x128.size a)
theorem k0_off295_inb : ∀ (v1392 : BitVec 32) (k0_hw94 : k0_chk94 v1392), ∀ a, (k0_off295 v1392) a + S1x1x128.size a ≤ S50008x1x128.size a := fun v1392 k0_hw94 => k0_hw94

def k0_off296 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off297 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off298 (v1406 : BitVec 32) : Fin 3 → Nat :=
  let v1409 : Index := Scalar.indexCast v1406
  let c0_623 : Index := 0#32
  let c0_624 : Index := 0#32
  ![v1409.toNat, 0, 0]

def k0_chk95 (v1406 : BitVec 32) : Prop :=
  (∀ a, (k0_off298 v1406) a + S1x1x128.size a ≤ S50008x1x128.size a)
theorem k0_off298_inb : ∀ (v1406 : BitVec 32) (k0_hw95 : k0_chk95 v1406), ∀ a, (k0_off298 v1406) a + S1x1x128.size a ≤ S50008x1x128.size a := fun v1406 k0_hw95 => k0_hw95

def k0_off299 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off300 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off301 (v1420 : BitVec 32) : Fin 3 → Nat :=
  let v1423 : Index := Scalar.indexCast v1420
  let c0_629 : Index := 0#32
  let c0_630 : Index := 0#32
  ![v1423.toNat, 0, 0]

def k0_chk96 (v1420 : BitVec 32) : Prop :=
  (∀ a, (k0_off301 v1420) a + S1x1x128.size a ≤ S50008x1x128.size a)
theorem k0_off301_inb : ∀ (v1420 : BitVec 32) (k0_hw96 : k0_chk96 v1420), ∀ a, (k0_off301 v1420) a + S1x1x128.size a ≤ S50008x1x128.size a := fun v1420 k0_hw96 => k0_hw96

def k0_off302 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off303 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off304 (v1434 : BitVec 32) : Fin 3 → Nat :=
  let v1437 : Index := Scalar.indexCast v1434
  let c0_635 : Index := 0#32
  let c0_636 : Index := 0#32
  ![v1437.toNat, 0, 0]

def k0_chk97 (v1434 : BitVec 32) : Prop :=
  (∀ a, (k0_off304 v1434) a + S1x1x128.size a ≤ S50008x1x128.size a)
theorem k0_off304_inb : ∀ (v1434 : BitVec 32) (k0_hw97 : k0_chk97 v1434), ∀ a, (k0_off304 v1434) a + S1x1x128.size a ≤ S50008x1x128.size a := fun v1434 k0_hw97 => k0_hw97

def k0_off305 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off306 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off307 (v1448 : BitVec 32) : Fin 3 → Nat :=
  let v1451 : Index := Scalar.indexCast v1448
  let c0_641 : Index := 0#32
  let c0_642 : Index := 0#32
  ![v1451.toNat, 0, 0]

def k0_chk98 (v1448 : BitVec 32) : Prop :=
  (∀ a, (k0_off307 v1448) a + S1x1x128.size a ≤ S50008x1x128.size a)
theorem k0_off307_inb : ∀ (v1448 : BitVec 32) (k0_hw98 : k0_chk98 v1448), ∀ a, (k0_off307 v1448) a + S1x1x128.size a ≤ S50008x1x128.size a := fun v1448 k0_hw98 => k0_hw98

def k0_off308 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off309 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off310 (v1462 : BitVec 32) : Fin 3 → Nat :=
  let v1465 : Index := Scalar.indexCast v1462
  let c0_647 : Index := 0#32
  let c0_648 : Index := 0#32
  ![v1465.toNat, 0, 0]

def k0_chk99 (v1462 : BitVec 32) : Prop :=
  (∀ a, (k0_off310 v1462) a + S1x1x128.size a ≤ S50008x1x128.size a)
theorem k0_off310_inb : ∀ (v1462 : BitVec 32) (k0_hw99 : k0_chk99 v1462), ∀ a, (k0_off310 v1462) a + S1x1x128.size a ≤ S50008x1x128.size a := fun v1462 k0_hw99 => k0_hw99

def k0_off311 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off312 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off313 (v1476 : BitVec 32) : Fin 3 → Nat :=
  let v1479 : Index := Scalar.indexCast v1476
  let c0_653 : Index := 0#32
  let c0_654 : Index := 0#32
  ![v1479.toNat, 0, 0]

def k0_chk100 (v1476 : BitVec 32) : Prop :=
  (∀ a, (k0_off313 v1476) a + S1x1x128.size a ≤ S50008x1x128.size a)
theorem k0_off313_inb : ∀ (v1476 : BitVec 32) (k0_hw100 : k0_chk100 v1476), ∀ a, (k0_off313 v1476) a + S1x1x128.size a ≤ S50008x1x128.size a := fun v1476 k0_hw100 => k0_hw100

def k0_off314 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off315 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off316 (v1490 : BitVec 32) : Fin 3 → Nat :=
  let v1493 : Index := Scalar.indexCast v1490
  let c0_659 : Index := 0#32
  let c0_660 : Index := 0#32
  ![v1493.toNat, 0, 0]

def k0_chk101 (v1490 : BitVec 32) : Prop :=
  (∀ a, (k0_off316 v1490) a + S1x1x128.size a ≤ S50008x1x128.size a)
theorem k0_off316_inb : ∀ (v1490 : BitVec 32) (k0_hw101 : k0_chk101 v1490), ∀ a, (k0_off316 v1490) a + S1x1x128.size a ≤ S50008x1x128.size a := fun v1490 k0_hw101 => k0_hw101

def k0_off317 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off318 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off319 (v1504 : BitVec 32) : Fin 3 → Nat :=
  let v1507 : Index := Scalar.indexCast v1504
  let c0_665 : Index := 0#32
  let c0_666 : Index := 0#32
  ![v1507.toNat, 0, 0]

def k0_chk102 (v1504 : BitVec 32) : Prop :=
  (∀ a, (k0_off319 v1504) a + S1x1x128.size a ≤ S50008x1x128.size a)
theorem k0_off319_inb : ∀ (v1504 : BitVec 32) (k0_hw102 : k0_chk102 v1504), ∀ a, (k0_off319 v1504) a + S1x1x128.size a ≤ S50008x1x128.size a := fun v1504 k0_hw102 => k0_hw102

def k0_off320 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off321 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off322 (v1518 : BitVec 32) : Fin 3 → Nat :=
  let v1521 : Index := Scalar.indexCast v1518
  let c0_671 : Index := 0#32
  let c0_672 : Index := 0#32
  ![v1521.toNat, 0, 0]

def k0_chk103 (v1518 : BitVec 32) : Prop :=
  (∀ a, (k0_off322 v1518) a + S1x1x128.size a ≤ S50008x1x128.size a)
theorem k0_off322_inb : ∀ (v1518 : BitVec 32) (k0_hw103 : k0_chk103 v1518), ∀ a, (k0_off322 v1518) a + S1x1x128.size a ≤ S50008x1x128.size a := fun v1518 k0_hw103 => k0_hw103

def k0_off323 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off324 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off325 (v1532 : BitVec 32) : Fin 3 → Nat :=
  let v1535 : Index := Scalar.indexCast v1532
  let c0_677 : Index := 0#32
  let c0_678 : Index := 0#32
  ![v1535.toNat, 0, 0]

def k0_chk104 (v1532 : BitVec 32) : Prop :=
  (∀ a, (k0_off325 v1532) a + S1x1x128.size a ≤ S50008x1x128.size a)
theorem k0_off325_inb : ∀ (v1532 : BitVec 32) (k0_hw104 : k0_chk104 v1532), ∀ a, (k0_off325 v1532) a + S1x1x128.size a ≤ S50008x1x128.size a := fun v1532 k0_hw104 => k0_hw104

def k0_off326 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off327 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off328 (v1546 : BitVec 32) : Fin 3 → Nat :=
  let v1549 : Index := Scalar.indexCast v1546
  let c0_683 : Index := 0#32
  let c0_684 : Index := 0#32
  ![v1549.toNat, 0, 0]

def k0_chk105 (v1546 : BitVec 32) : Prop :=
  (∀ a, (k0_off328 v1546) a + S1x1x128.size a ≤ S50008x1x128.size a)
theorem k0_off328_inb : ∀ (v1546 : BitVec 32) (k0_hw105 : k0_chk105 v1546), ∀ a, (k0_off328 v1546) a + S1x1x128.size a ≤ S50008x1x128.size a := fun v1546 k0_hw105 => k0_hw105

def k0_off329 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off330 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off331 (v1560 : BitVec 32) : Fin 3 → Nat :=
  let v1563 : Index := Scalar.indexCast v1560
  let c0_689 : Index := 0#32
  let c0_690 : Index := 0#32
  ![v1563.toNat, 0, 0]

def k0_chk106 (v1560 : BitVec 32) : Prop :=
  (∀ a, (k0_off331 v1560) a + S1x1x128.size a ≤ S50008x1x128.size a)
theorem k0_off331_inb : ∀ (v1560 : BitVec 32) (k0_hw106 : k0_chk106 v1560), ∀ a, (k0_off331 v1560) a + S1x1x128.size a ≤ S50008x1x128.size a := fun v1560 k0_hw106 => k0_hw106

def k0_off332 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off333 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off334 (v1574 : BitVec 32) : Fin 3 → Nat :=
  let v1577 : Index := Scalar.indexCast v1574
  let c0_695 : Index := 0#32
  let c0_696 : Index := 0#32
  ![v1577.toNat, 0, 0]

def k0_chk107 (v1574 : BitVec 32) : Prop :=
  (∀ a, (k0_off334 v1574) a + S1x1x128.size a ≤ S50008x1x128.size a)
theorem k0_off334_inb : ∀ (v1574 : BitVec 32) (k0_hw107 : k0_chk107 v1574), ∀ a, (k0_off334 v1574) a + S1x1x128.size a ≤ S50008x1x128.size a := fun v1574 k0_hw107 => k0_hw107

def k0_off335 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off336 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off337 (v1588 : BitVec 32) : Fin 3 → Nat :=
  let v1591 : Index := Scalar.indexCast v1588
  let c0_701 : Index := 0#32
  let c0_702 : Index := 0#32
  ![v1591.toNat, 0, 0]

def k0_chk108 (v1588 : BitVec 32) : Prop :=
  (∀ a, (k0_off337 v1588) a + S1x1x128.size a ≤ S50008x1x128.size a)
theorem k0_off337_inb : ∀ (v1588 : BitVec 32) (k0_hw108 : k0_chk108 v1588), ∀ a, (k0_off337 v1588) a + S1x1x128.size a ≤ S50008x1x128.size a := fun v1588 k0_hw108 => k0_hw108

def k0_off338 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off339 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off340 (v1602 : BitVec 32) : Fin 3 → Nat :=
  let v1605 : Index := Scalar.indexCast v1602
  let c0_707 : Index := 0#32
  let c0_708 : Index := 0#32
  ![v1605.toNat, 0, 0]

def k0_chk109 (v1602 : BitVec 32) : Prop :=
  (∀ a, (k0_off340 v1602) a + S1x1x128.size a ≤ S50008x1x128.size a)
theorem k0_off340_inb : ∀ (v1602 : BitVec 32) (k0_hw109 : k0_chk109 v1602), ∀ a, (k0_off340 v1602) a + S1x1x128.size a ≤ S50008x1x128.size a := fun v1602 k0_hw109 => k0_hw109

def k0_off341 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off342 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off343 (v1616 : BitVec 32) : Fin 3 → Nat :=
  let v1619 : Index := Scalar.indexCast v1616
  let c0_713 : Index := 0#32
  let c0_714 : Index := 0#32
  ![v1619.toNat, 0, 0]

def k0_chk110 (v1616 : BitVec 32) : Prop :=
  (∀ a, (k0_off343 v1616) a + S1x1x128.size a ≤ S50008x1x128.size a)
theorem k0_off343_inb : ∀ (v1616 : BitVec 32) (k0_hw110 : k0_chk110 v1616), ∀ a, (k0_off343 v1616) a + S1x1x128.size a ≤ S50008x1x128.size a := fun v1616 k0_hw110 => k0_hw110

def k0_off344 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off345 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off346 (v1630 : BitVec 32) : Fin 3 → Nat :=
  let v1633 : Index := Scalar.indexCast v1630
  let c0_719 : Index := 0#32
  let c0_720 : Index := 0#32
  ![v1633.toNat, 0, 0]

def k0_chk111 (v1630 : BitVec 32) : Prop :=
  (∀ a, (k0_off346 v1630) a + S1x1x128.size a ≤ S50008x1x128.size a)
theorem k0_off346_inb : ∀ (v1630 : BitVec 32) (k0_hw111 : k0_chk111 v1630), ∀ a, (k0_off346 v1630) a + S1x1x128.size a ≤ S50008x1x128.size a := fun v1630 k0_hw111 => k0_hw111

def k0_off347 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off348 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off349 (v1644 : BitVec 32) : Fin 3 → Nat :=
  let v1647 : Index := Scalar.indexCast v1644
  let c0_725 : Index := 0#32
  let c0_726 : Index := 0#32
  ![v1647.toNat, 0, 0]

def k0_chk112 (v1644 : BitVec 32) : Prop :=
  (∀ a, (k0_off349 v1644) a + S1x1x128.size a ≤ S50008x1x128.size a)
theorem k0_off349_inb : ∀ (v1644 : BitVec 32) (k0_hw112 : k0_chk112 v1644), ∀ a, (k0_off349 v1644) a + S1x1x128.size a ≤ S50008x1x128.size a := fun v1644 k0_hw112 => k0_hw112

def k0_off350 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off351 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off352 (v1658 : BitVec 32) : Fin 3 → Nat :=
  let v1661 : Index := Scalar.indexCast v1658
  let c0_731 : Index := 0#32
  let c0_732 : Index := 0#32
  ![v1661.toNat, 0, 0]

def k0_chk113 (v1658 : BitVec 32) : Prop :=
  (∀ a, (k0_off352 v1658) a + S1x1x128.size a ≤ S50008x1x128.size a)
theorem k0_off352_inb : ∀ (v1658 : BitVec 32) (k0_hw113 : k0_chk113 v1658), ∀ a, (k0_off352 v1658) a + S1x1x128.size a ≤ S50008x1x128.size a := fun v1658 k0_hw113 => k0_hw113

def k0_off353 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off354 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off355 (v1672 : BitVec 32) : Fin 3 → Nat :=
  let v1675 : Index := Scalar.indexCast v1672
  let c0_737 : Index := 0#32
  let c0_738 : Index := 0#32
  ![v1675.toNat, 0, 0]

def k0_chk114 (v1672 : BitVec 32) : Prop :=
  (∀ a, (k0_off355 v1672) a + S1x1x128.size a ≤ S50008x1x128.size a)
theorem k0_off355_inb : ∀ (v1672 : BitVec 32) (k0_hw114 : k0_chk114 v1672), ∀ a, (k0_off355 v1672) a + S1x1x128.size a ≤ S50008x1x128.size a := fun v1672 k0_hw114 => k0_hw114

def k0_off356 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off357 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off358 (v1686 : BitVec 32) : Fin 3 → Nat :=
  let v1689 : Index := Scalar.indexCast v1686
  let c0_743 : Index := 0#32
  let c0_744 : Index := 0#32
  ![v1689.toNat, 0, 0]

def k0_chk115 (v1686 : BitVec 32) : Prop :=
  (∀ a, (k0_off358 v1686) a + S1x1x128.size a ≤ S50008x1x128.size a)
theorem k0_off358_inb : ∀ (v1686 : BitVec 32) (k0_hw115 : k0_chk115 v1686), ∀ a, (k0_off358 v1686) a + S1x1x128.size a ≤ S50008x1x128.size a := fun v1686 k0_hw115 => k0_hw115

def k0_off359 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off360 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off361 (v1700 : BitVec 32) : Fin 3 → Nat :=
  let v1703 : Index := Scalar.indexCast v1700
  let c0_749 : Index := 0#32
  let c0_750 : Index := 0#32
  ![v1703.toNat, 0, 0]

def k0_chk116 (v1700 : BitVec 32) : Prop :=
  (∀ a, (k0_off361 v1700) a + S1x1x128.size a ≤ S50008x1x128.size a)
theorem k0_off361_inb : ∀ (v1700 : BitVec 32) (k0_hw116 : k0_chk116 v1700), ∀ a, (k0_off361 v1700) a + S1x1x128.size a ≤ S50008x1x128.size a := fun v1700 k0_hw116 => k0_hw116

def k0_off362 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off363 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off364 (v1714 : BitVec 32) : Fin 3 → Nat :=
  let v1717 : Index := Scalar.indexCast v1714
  let c0_755 : Index := 0#32
  let c0_756 : Index := 0#32
  ![v1717.toNat, 0, 0]

def k0_chk117 (v1714 : BitVec 32) : Prop :=
  (∀ a, (k0_off364 v1714) a + S1x1x128.size a ≤ S50008x1x128.size a)
theorem k0_off364_inb : ∀ (v1714 : BitVec 32) (k0_hw117 : k0_chk117 v1714), ∀ a, (k0_off364 v1714) a + S1x1x128.size a ≤ S50008x1x128.size a := fun v1714 k0_hw117 => k0_hw117

def k0_off365 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off366 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off367 (v1728 : BitVec 32) : Fin 3 → Nat :=
  let v1731 : Index := Scalar.indexCast v1728
  let c0_761 : Index := 0#32
  let c0_762 : Index := 0#32
  ![v1731.toNat, 0, 0]

def k0_chk118 (v1728 : BitVec 32) : Prop :=
  (∀ a, (k0_off367 v1728) a + S1x1x128.size a ≤ S50008x1x128.size a)
theorem k0_off367_inb : ∀ (v1728 : BitVec 32) (k0_hw118 : k0_chk118 v1728), ∀ a, (k0_off367 v1728) a + S1x1x128.size a ≤ S50008x1x128.size a := fun v1728 k0_hw118 => k0_hw118

def k0_off368 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off369 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off370 (v1742 : BitVec 32) : Fin 3 → Nat :=
  let v1745 : Index := Scalar.indexCast v1742
  let c0_767 : Index := 0#32
  let c0_768 : Index := 0#32
  ![v1745.toNat, 0, 0]

def k0_chk119 (v1742 : BitVec 32) : Prop :=
  (∀ a, (k0_off370 v1742) a + S1x1x128.size a ≤ S50008x1x128.size a)
theorem k0_off370_inb : ∀ (v1742 : BitVec 32) (k0_hw119 : k0_chk119 v1742), ∀ a, (k0_off370 v1742) a + S1x1x128.size a ≤ S50008x1x128.size a := fun v1742 k0_hw119 => k0_hw119

def k0_off371 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off372 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off373 (v1756 : BitVec 32) : Fin 3 → Nat :=
  let v1759 : Index := Scalar.indexCast v1756
  let c0_773 : Index := 0#32
  let c0_774 : Index := 0#32
  ![v1759.toNat, 0, 0]

def k0_chk120 (v1756 : BitVec 32) : Prop :=
  (∀ a, (k0_off373 v1756) a + S1x1x128.size a ≤ S50008x1x128.size a)
theorem k0_off373_inb : ∀ (v1756 : BitVec 32) (k0_hw120 : k0_chk120 v1756), ∀ a, (k0_off373 v1756) a + S1x1x128.size a ≤ S50008x1x128.size a := fun v1756 k0_hw120 => k0_hw120

def k0_off374 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off375 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off376 (v1770 : BitVec 32) : Fin 3 → Nat :=
  let v1773 : Index := Scalar.indexCast v1770
  let c0_779 : Index := 0#32
  let c0_780 : Index := 0#32
  ![v1773.toNat, 0, 0]

def k0_chk121 (v1770 : BitVec 32) : Prop :=
  (∀ a, (k0_off376 v1770) a + S1x1x128.size a ≤ S50008x1x128.size a)
theorem k0_off376_inb : ∀ (v1770 : BitVec 32) (k0_hw121 : k0_chk121 v1770), ∀ a, (k0_off376 v1770) a + S1x1x128.size a ≤ S50008x1x128.size a := fun v1770 k0_hw121 => k0_hw121

def k0_off377 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off378 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off379 (v1784 : BitVec 32) : Fin 3 → Nat :=
  let v1787 : Index := Scalar.indexCast v1784
  let c0_785 : Index := 0#32
  let c0_786 : Index := 0#32
  ![v1787.toNat, 0, 0]

def k0_chk122 (v1784 : BitVec 32) : Prop :=
  (∀ a, (k0_off379 v1784) a + S1x1x128.size a ≤ S50008x1x128.size a)
theorem k0_off379_inb : ∀ (v1784 : BitVec 32) (k0_hw122 : k0_chk122 v1784), ∀ a, (k0_off379 v1784) a + S1x1x128.size a ≤ S50008x1x128.size a := fun v1784 k0_hw122 => k0_hw122

def k0_off380 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off381 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off382 (v1798 : BitVec 32) : Fin 3 → Nat :=
  let v1801 : Index := Scalar.indexCast v1798
  let c0_791 : Index := 0#32
  let c0_792 : Index := 0#32
  ![v1801.toNat, 0, 0]

def k0_chk123 (v1798 : BitVec 32) : Prop :=
  (∀ a, (k0_off382 v1798) a + S1x1x128.size a ≤ S50008x1x128.size a)
theorem k0_off382_inb : ∀ (v1798 : BitVec 32) (k0_hw123 : k0_chk123 v1798), ∀ a, (k0_off382 v1798) a + S1x1x128.size a ≤ S50008x1x128.size a := fun v1798 k0_hw123 => k0_hw123

def k0_off383 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off384 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off385 (v1812 : BitVec 32) : Fin 3 → Nat :=
  let v1815 : Index := Scalar.indexCast v1812
  let c0_797 : Index := 0#32
  let c0_798 : Index := 0#32
  ![v1815.toNat, 0, 0]

def k0_chk124 (v1812 : BitVec 32) : Prop :=
  (∀ a, (k0_off385 v1812) a + S1x1x128.size a ≤ S50008x1x128.size a)
theorem k0_off385_inb : ∀ (v1812 : BitVec 32) (k0_hw124 : k0_chk124 v1812), ∀ a, (k0_off385 v1812) a + S1x1x128.size a ≤ S50008x1x128.size a := fun v1812 k0_hw124 => k0_hw124

def k0_off386 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off387 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off388 (v1826 : BitVec 32) : Fin 3 → Nat :=
  let v1829 : Index := Scalar.indexCast v1826
  let c0_803 : Index := 0#32
  let c0_804 : Index := 0#32
  ![v1829.toNat, 0, 0]

def k0_chk125 (v1826 : BitVec 32) : Prop :=
  (∀ a, (k0_off388 v1826) a + S1x1x128.size a ≤ S50008x1x128.size a)
theorem k0_off388_inb : ∀ (v1826 : BitVec 32) (k0_hw125 : k0_chk125 v1826), ∀ a, (k0_off388 v1826) a + S1x1x128.size a ≤ S50008x1x128.size a := fun v1826 k0_hw125 => k0_hw125

def k0_off389 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off390 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off391 (v1840 : BitVec 32) : Fin 3 → Nat :=
  let v1843 : Index := Scalar.indexCast v1840
  let c0_809 : Index := 0#32
  let c0_810 : Index := 0#32
  ![v1843.toNat, 0, 0]

def k0_chk126 (v1840 : BitVec 32) : Prop :=
  (∀ a, (k0_off391 v1840) a + S1x1x128.size a ≤ S50008x1x128.size a)
theorem k0_off391_inb : ∀ (v1840 : BitVec 32) (k0_hw126 : k0_chk126 v1840), ∀ a, (k0_off391 v1840) a + S1x1x128.size a ≤ S50008x1x128.size a := fun v1840 k0_hw126 => k0_hw126

def k0_off392 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off393 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off394 (v1854 : BitVec 32) : Fin 3 → Nat :=
  let v1857 : Index := Scalar.indexCast v1854
  let c0_815 : Index := 0#32
  let c0_816 : Index := 0#32
  ![v1857.toNat, 0, 0]

def k0_chk127 (v1854 : BitVec 32) : Prop :=
  (∀ a, (k0_off394 v1854) a + S1x1x128.size a ≤ S50008x1x128.size a)
theorem k0_off394_inb : ∀ (v1854 : BitVec 32) (k0_hw127 : k0_chk127 v1854), ∀ a, (k0_off394 v1854) a + S1x1x128.size a ≤ S50008x1x128.size a := fun v1854 k0_hw127 => k0_hw127

def k0_off395 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off396 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off397 (v1868 : BitVec 32) : Fin 3 → Nat :=
  let v1871 : Index := Scalar.indexCast v1868
  let c0_821 : Index := 0#32
  let c0_822 : Index := 0#32
  ![v1871.toNat, 0, 0]

def k0_chk128 (v1868 : BitVec 32) : Prop :=
  (∀ a, (k0_off397 v1868) a + S1x1x128.size a ≤ S50008x1x128.size a)
theorem k0_off397_inb : ∀ (v1868 : BitVec 32) (k0_hw128 : k0_chk128 v1868), ∀ a, (k0_off397 v1868) a + S1x1x128.size a ≤ S50008x1x128.size a := fun v1868 k0_hw128 => k0_hw128

def k0_off398 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off399 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off400 (v1882 : BitVec 32) : Fin 3 → Nat :=
  let v1885 : Index := Scalar.indexCast v1882
  let c0_827 : Index := 0#32
  let c0_828 : Index := 0#32
  ![v1885.toNat, 0, 0]

def k0_chk129 (v1882 : BitVec 32) : Prop :=
  (∀ a, (k0_off400 v1882) a + S1x1x128.size a ≤ S50008x1x128.size a)
theorem k0_off400_inb : ∀ (v1882 : BitVec 32) (k0_hw129 : k0_chk129 v1882), ∀ a, (k0_off400 v1882) a + S1x1x128.size a ≤ S50008x1x128.size a := fun v1882 k0_hw129 => k0_hw129

def k0_off401 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off402 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off403 (v1896 : BitVec 32) : Fin 3 → Nat :=
  let v1899 : Index := Scalar.indexCast v1896
  let c0_833 : Index := 0#32
  let c0_834 : Index := 0#32
  ![v1899.toNat, 0, 0]

def k0_chk130 (v1896 : BitVec 32) : Prop :=
  (∀ a, (k0_off403 v1896) a + S1x1x128.size a ≤ S50008x1x128.size a)
theorem k0_off403_inb : ∀ (v1896 : BitVec 32) (k0_hw130 : k0_chk130 v1896), ∀ a, (k0_off403 v1896) a + S1x1x128.size a ≤ S50008x1x128.size a := fun v1896 k0_hw130 => k0_hw130

def k0_off404 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off405 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off406 (v1910 : BitVec 32) : Fin 3 → Nat :=
  let v1913 : Index := Scalar.indexCast v1910
  let c0_839 : Index := 0#32
  let c0_840 : Index := 0#32
  ![v1913.toNat, 0, 0]

def k0_chk131 (v1910 : BitVec 32) : Prop :=
  (∀ a, (k0_off406 v1910) a + S1x1x128.size a ≤ S50008x1x128.size a)
theorem k0_off406_inb : ∀ (v1910 : BitVec 32) (k0_hw131 : k0_chk131 v1910), ∀ a, (k0_off406 v1910) a + S1x1x128.size a ≤ S50008x1x128.size a := fun v1910 k0_hw131 => k0_hw131

def k0_off407 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off408 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off409 (v1924 : BitVec 32) : Fin 3 → Nat :=
  let v1927 : Index := Scalar.indexCast v1924
  let c0_845 : Index := 0#32
  let c0_846 : Index := 0#32
  ![v1927.toNat, 0, 0]

def k0_chk132 (v1924 : BitVec 32) : Prop :=
  (∀ a, (k0_off409 v1924) a + S1x1x128.size a ≤ S50008x1x128.size a)
theorem k0_off409_inb : ∀ (v1924 : BitVec 32) (k0_hw132 : k0_chk132 v1924), ∀ a, (k0_off409 v1924) a + S1x1x128.size a ≤ S50008x1x128.size a := fun v1924 k0_hw132 => k0_hw132

def k0_off410 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off411 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off412 (v1938 : BitVec 32) : Fin 3 → Nat :=
  let v1941 : Index := Scalar.indexCast v1938
  let c0_851 : Index := 0#32
  let c0_852 : Index := 0#32
  ![v1941.toNat, 0, 0]

def k0_chk133 (v1938 : BitVec 32) : Prop :=
  (∀ a, (k0_off412 v1938) a + S1x1x128.size a ≤ S50008x1x128.size a)
theorem k0_off412_inb : ∀ (v1938 : BitVec 32) (k0_hw133 : k0_chk133 v1938), ∀ a, (k0_off412 v1938) a + S1x1x128.size a ≤ S50008x1x128.size a := fun v1938 k0_hw133 => k0_hw133

def k0_off413 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off414 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off415 (v1952 : BitVec 32) : Fin 3 → Nat :=
  let v1955 : Index := Scalar.indexCast v1952
  let c0_857 : Index := 0#32
  let c0_858 : Index := 0#32
  ![v1955.toNat, 0, 0]

def k0_chk134 (v1952 : BitVec 32) : Prop :=
  (∀ a, (k0_off415 v1952) a + S1x1x128.size a ≤ S50008x1x128.size a)
theorem k0_off415_inb : ∀ (v1952 : BitVec 32) (k0_hw134 : k0_chk134 v1952), ∀ a, (k0_off415 v1952) a + S1x1x128.size a ≤ S50008x1x128.size a := fun v1952 k0_hw134 => k0_hw134

def k0_off416 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off417 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off418 (v1966 : BitVec 32) : Fin 3 → Nat :=
  let v1969 : Index := Scalar.indexCast v1966
  let c0_863 : Index := 0#32
  let c0_864 : Index := 0#32
  ![v1969.toNat, 0, 0]

def k0_chk135 (v1966 : BitVec 32) : Prop :=
  (∀ a, (k0_off418 v1966) a + S1x1x128.size a ≤ S50008x1x128.size a)
theorem k0_off418_inb : ∀ (v1966 : BitVec 32) (k0_hw135 : k0_chk135 v1966), ∀ a, (k0_off418 v1966) a + S1x1x128.size a ≤ S50008x1x128.size a := fun v1966 k0_hw135 => k0_hw135

def k0_off419 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off420 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off421 (v1980 : BitVec 32) : Fin 3 → Nat :=
  let v1983 : Index := Scalar.indexCast v1980
  let c0_869 : Index := 0#32
  let c0_870 : Index := 0#32
  ![v1983.toNat, 0, 0]

def k0_chk136 (v1980 : BitVec 32) : Prop :=
  (∀ a, (k0_off421 v1980) a + S1x1x128.size a ≤ S50008x1x128.size a)
theorem k0_off421_inb : ∀ (v1980 : BitVec 32) (k0_hw136 : k0_chk136 v1980), ∀ a, (k0_off421 v1980) a + S1x1x128.size a ≤ S50008x1x128.size a := fun v1980 k0_hw136 => k0_hw136

def k0_off422 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off423 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off424 (v1994 : BitVec 32) : Fin 3 → Nat :=
  let v1997 : Index := Scalar.indexCast v1994
  let c0_875 : Index := 0#32
  let c0_876 : Index := 0#32
  ![v1997.toNat, 0, 0]

def k0_chk137 (v1994 : BitVec 32) : Prop :=
  (∀ a, (k0_off424 v1994) a + S1x1x128.size a ≤ S50008x1x128.size a)
theorem k0_off424_inb : ∀ (v1994 : BitVec 32) (k0_hw137 : k0_chk137 v1994), ∀ a, (k0_off424 v1994) a + S1x1x128.size a ≤ S50008x1x128.size a := fun v1994 k0_hw137 => k0_hw137

def k0_off425 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off426 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off427 (v2008 : BitVec 32) : Fin 3 → Nat :=
  let v2011 : Index := Scalar.indexCast v2008
  let c0_881 : Index := 0#32
  let c0_882 : Index := 0#32
  ![v2011.toNat, 0, 0]

def k0_chk138 (v2008 : BitVec 32) : Prop :=
  (∀ a, (k0_off427 v2008) a + S1x1x128.size a ≤ S50008x1x128.size a)
theorem k0_off427_inb : ∀ (v2008 : BitVec 32) (k0_hw138 : k0_chk138 v2008), ∀ a, (k0_off427 v2008) a + S1x1x128.size a ≤ S50008x1x128.size a := fun v2008 k0_hw138 => k0_hw138

def k0_off428 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off429 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off430 (v2022 : BitVec 32) : Fin 3 → Nat :=
  let v2025 : Index := Scalar.indexCast v2022
  let c0_887 : Index := 0#32
  let c0_888 : Index := 0#32
  ![v2025.toNat, 0, 0]

def k0_chk139 (v2022 : BitVec 32) : Prop :=
  (∀ a, (k0_off430 v2022) a + S1x1x128.size a ≤ S50008x1x128.size a)
theorem k0_off430_inb : ∀ (v2022 : BitVec 32) (k0_hw139 : k0_chk139 v2022), ∀ a, (k0_off430 v2022) a + S1x1x128.size a ≤ S50008x1x128.size a := fun v2022 k0_hw139 => k0_hw139

def k0_off431 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off432 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off433 (v2036 : BitVec 32) : Fin 3 → Nat :=
  let v2039 : Index := Scalar.indexCast v2036
  let c0_893 : Index := 0#32
  let c0_894 : Index := 0#32
  ![v2039.toNat, 0, 0]

def k0_chk140 (v2036 : BitVec 32) : Prop :=
  (∀ a, (k0_off433 v2036) a + S1x1x128.size a ≤ S50008x1x128.size a)
theorem k0_off433_inb : ∀ (v2036 : BitVec 32) (k0_hw140 : k0_chk140 v2036), ∀ a, (k0_off433 v2036) a + S1x1x128.size a ≤ S50008x1x128.size a := fun v2036 k0_hw140 => k0_hw140

def k0_off434 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off435 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off436 (v2050 : BitVec 32) : Fin 3 → Nat :=
  let v2053 : Index := Scalar.indexCast v2050
  let c0_899 : Index := 0#32
  let c0_900 : Index := 0#32
  ![v2053.toNat, 0, 0]

def k0_chk141 (v2050 : BitVec 32) : Prop :=
  (∀ a, (k0_off436 v2050) a + S1x1x128.size a ≤ S50008x1x128.size a)
theorem k0_off436_inb : ∀ (v2050 : BitVec 32) (k0_hw141 : k0_chk141 v2050), ∀ a, (k0_off436 v2050) a + S1x1x128.size a ≤ S50008x1x128.size a := fun v2050 k0_hw141 => k0_hw141

def k0_off437 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off438 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off439 (v2064 : BitVec 32) : Fin 3 → Nat :=
  let v2067 : Index := Scalar.indexCast v2064
  let c0_905 : Index := 0#32
  let c0_906 : Index := 0#32
  ![v2067.toNat, 0, 0]

def k0_chk142 (v2064 : BitVec 32) : Prop :=
  (∀ a, (k0_off439 v2064) a + S1x1x128.size a ≤ S50008x1x128.size a)
theorem k0_off439_inb : ∀ (v2064 : BitVec 32) (k0_hw142 : k0_chk142 v2064), ∀ a, (k0_off439 v2064) a + S1x1x128.size a ≤ S50008x1x128.size a := fun v2064 k0_hw142 => k0_hw142

def k0_off440 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off441 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off442 (v2078 : BitVec 32) : Fin 3 → Nat :=
  let v2081 : Index := Scalar.indexCast v2078
  let c0_911 : Index := 0#32
  let c0_912 : Index := 0#32
  ![v2081.toNat, 0, 0]

def k0_chk143 (v2078 : BitVec 32) : Prop :=
  (∀ a, (k0_off442 v2078) a + S1x1x128.size a ≤ S50008x1x128.size a)
theorem k0_off442_inb : ∀ (v2078 : BitVec 32) (k0_hw143 : k0_chk143 v2078), ∀ a, (k0_off442 v2078) a + S1x1x128.size a ≤ S50008x1x128.size a := fun v2078 k0_hw143 => k0_hw143

def k0_off443 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off444 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off445 (v2092 : BitVec 32) : Fin 3 → Nat :=
  let v2095 : Index := Scalar.indexCast v2092
  let c0_917 : Index := 0#32
  let c0_918 : Index := 0#32
  ![v2095.toNat, 0, 0]

def k0_chk144 (v2092 : BitVec 32) : Prop :=
  (∀ a, (k0_off445 v2092) a + S1x1x128.size a ≤ S50008x1x128.size a)
theorem k0_off445_inb : ∀ (v2092 : BitVec 32) (k0_hw144 : k0_chk144 v2092), ∀ a, (k0_off445 v2092) a + S1x1x128.size a ≤ S50008x1x128.size a := fun v2092 k0_hw144 => k0_hw144

def k0_off446 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off447 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off448 (v2106 : BitVec 32) : Fin 3 → Nat :=
  let v2109 : Index := Scalar.indexCast v2106
  let c0_923 : Index := 0#32
  let c0_924 : Index := 0#32
  ![v2109.toNat, 0, 0]

def k0_chk145 (v2106 : BitVec 32) : Prop :=
  (∀ a, (k0_off448 v2106) a + S1x1x128.size a ≤ S50008x1x128.size a)
theorem k0_off448_inb : ∀ (v2106 : BitVec 32) (k0_hw145 : k0_chk145 v2106), ∀ a, (k0_off448 v2106) a + S1x1x128.size a ≤ S50008x1x128.size a := fun v2106 k0_hw145 => k0_hw145

def k0_off449 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off450 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off451 (v2120 : BitVec 32) : Fin 3 → Nat :=
  let v2123 : Index := Scalar.indexCast v2120
  let c0_929 : Index := 0#32
  let c0_930 : Index := 0#32
  ![v2123.toNat, 0, 0]

def k0_chk146 (v2120 : BitVec 32) : Prop :=
  (∀ a, (k0_off451 v2120) a + S1x1x128.size a ≤ S50008x1x128.size a)
theorem k0_off451_inb : ∀ (v2120 : BitVec 32) (k0_hw146 : k0_chk146 v2120), ∀ a, (k0_off451 v2120) a + S1x1x128.size a ≤ S50008x1x128.size a := fun v2120 k0_hw146 => k0_hw146

def k0_off452 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off453 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off454 (v2134 : BitVec 32) : Fin 3 → Nat :=
  let v2137 : Index := Scalar.indexCast v2134
  let c0_935 : Index := 0#32
  let c0_936 : Index := 0#32
  ![v2137.toNat, 0, 0]

def k0_chk147 (v2134 : BitVec 32) : Prop :=
  (∀ a, (k0_off454 v2134) a + S1x1x128.size a ≤ S50008x1x128.size a)
theorem k0_off454_inb : ∀ (v2134 : BitVec 32) (k0_hw147 : k0_chk147 v2134), ∀ a, (k0_off454 v2134) a + S1x1x128.size a ≤ S50008x1x128.size a := fun v2134 k0_hw147 => k0_hw147

def k0_off455 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off456 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off457 (v2148 : BitVec 32) : Fin 3 → Nat :=
  let v2151 : Index := Scalar.indexCast v2148
  let c0_941 : Index := 0#32
  let c0_942 : Index := 0#32
  ![v2151.toNat, 0, 0]

def k0_chk148 (v2148 : BitVec 32) : Prop :=
  (∀ a, (k0_off457 v2148) a + S1x1x128.size a ≤ S50008x1x128.size a)
theorem k0_off457_inb : ∀ (v2148 : BitVec 32) (k0_hw148 : k0_chk148 v2148), ∀ a, (k0_off457 v2148) a + S1x1x128.size a ≤ S50008x1x128.size a := fun v2148 k0_hw148 => k0_hw148

def k0_off458 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off459 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off460 (v2162 : BitVec 32) : Fin 3 → Nat :=
  let v2165 : Index := Scalar.indexCast v2162
  let c0_947 : Index := 0#32
  let c0_948 : Index := 0#32
  ![v2165.toNat, 0, 0]

def k0_chk149 (v2162 : BitVec 32) : Prop :=
  (∀ a, (k0_off460 v2162) a + S1x1x128.size a ≤ S50008x1x128.size a)
theorem k0_off460_inb : ∀ (v2162 : BitVec 32) (k0_hw149 : k0_chk149 v2162), ∀ a, (k0_off460 v2162) a + S1x1x128.size a ≤ S50008x1x128.size a := fun v2162 k0_hw149 => k0_hw149

def k0_off461 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off462 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off463 (v2176 : BitVec 32) : Fin 3 → Nat :=
  let v2179 : Index := Scalar.indexCast v2176
  let c0_953 : Index := 0#32
  let c0_954 : Index := 0#32
  ![v2179.toNat, 0, 0]

def k0_chk150 (v2176 : BitVec 32) : Prop :=
  (∀ a, (k0_off463 v2176) a + S1x1x128.size a ≤ S50008x1x128.size a)
theorem k0_off463_inb : ∀ (v2176 : BitVec 32) (k0_hw150 : k0_chk150 v2176), ∀ a, (k0_off463 v2176) a + S1x1x128.size a ≤ S50008x1x128.size a := fun v2176 k0_hw150 => k0_hw150

def k0_off464 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off465 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off466 (v2190 : BitVec 32) : Fin 3 → Nat :=
  let v2193 : Index := Scalar.indexCast v2190
  let c0_959 : Index := 0#32
  let c0_960 : Index := 0#32
  ![v2193.toNat, 0, 0]

def k0_chk151 (v2190 : BitVec 32) : Prop :=
  (∀ a, (k0_off466 v2190) a + S1x1x128.size a ≤ S50008x1x128.size a)
theorem k0_off466_inb : ∀ (v2190 : BitVec 32) (k0_hw151 : k0_chk151 v2190), ∀ a, (k0_off466 v2190) a + S1x1x128.size a ≤ S50008x1x128.size a := fun v2190 k0_hw151 => k0_hw151

def k0_off467 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off468 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off469 (v2204 : BitVec 32) : Fin 3 → Nat :=
  let v2207 : Index := Scalar.indexCast v2204
  let c0_965 : Index := 0#32
  let c0_966 : Index := 0#32
  ![v2207.toNat, 0, 0]

def k0_chk152 (v2204 : BitVec 32) : Prop :=
  (∀ a, (k0_off469 v2204) a + S1x1x128.size a ≤ S50008x1x128.size a)
theorem k0_off469_inb : ∀ (v2204 : BitVec 32) (k0_hw152 : k0_chk152 v2204), ∀ a, (k0_off469 v2204) a + S1x1x128.size a ≤ S50008x1x128.size a := fun v2204 k0_hw152 => k0_hw152

def k0_off470 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off471 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off472 (v2218 : BitVec 32) : Fin 3 → Nat :=
  let v2221 : Index := Scalar.indexCast v2218
  let c0_971 : Index := 0#32
  let c0_972 : Index := 0#32
  ![v2221.toNat, 0, 0]

def k0_chk153 (v2218 : BitVec 32) : Prop :=
  (∀ a, (k0_off472 v2218) a + S1x1x128.size a ≤ S50008x1x128.size a)
theorem k0_off472_inb : ∀ (v2218 : BitVec 32) (k0_hw153 : k0_chk153 v2218), ∀ a, (k0_off472 v2218) a + S1x1x128.size a ≤ S50008x1x128.size a := fun v2218 k0_hw153 => k0_hw153

def k0_off473 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off474 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off475 (v2232 : BitVec 32) : Fin 3 → Nat :=
  let v2235 : Index := Scalar.indexCast v2232
  let c0_977 : Index := 0#32
  let c0_978 : Index := 0#32
  ![v2235.toNat, 0, 0]

def k0_chk154 (v2232 : BitVec 32) : Prop :=
  (∀ a, (k0_off475 v2232) a + S1x1x128.size a ≤ S50008x1x128.size a)
theorem k0_off475_inb : ∀ (v2232 : BitVec 32) (k0_hw154 : k0_chk154 v2232), ∀ a, (k0_off475 v2232) a + S1x1x128.size a ≤ S50008x1x128.size a := fun v2232 k0_hw154 => k0_hw154

def k0_off476 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off477 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off478 (v2246 : BitVec 32) : Fin 3 → Nat :=
  let v2249 : Index := Scalar.indexCast v2246
  let c0_983 : Index := 0#32
  let c0_984 : Index := 0#32
  ![v2249.toNat, 0, 0]

def k0_chk155 (v2246 : BitVec 32) : Prop :=
  (∀ a, (k0_off478 v2246) a + S1x1x128.size a ≤ S50008x1x128.size a)
theorem k0_off478_inb : ∀ (v2246 : BitVec 32) (k0_hw155 : k0_chk155 v2246), ∀ a, (k0_off478 v2246) a + S1x1x128.size a ≤ S50008x1x128.size a := fun v2246 k0_hw155 => k0_hw155

def k0_off479 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off480 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off481 (v2260 : BitVec 32) : Fin 3 → Nat :=
  let v2263 : Index := Scalar.indexCast v2260
  let c0_989 : Index := 0#32
  let c0_990 : Index := 0#32
  ![v2263.toNat, 0, 0]

def k0_chk156 (v2260 : BitVec 32) : Prop :=
  (∀ a, (k0_off481 v2260) a + S1x1x128.size a ≤ S50008x1x128.size a)
theorem k0_off481_inb : ∀ (v2260 : BitVec 32) (k0_hw156 : k0_chk156 v2260), ∀ a, (k0_off481 v2260) a + S1x1x128.size a ≤ S50008x1x128.size a := fun v2260 k0_hw156 => k0_hw156

def k0_off482 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off483 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off484 (v2274 : BitVec 32) : Fin 3 → Nat :=
  let v2277 : Index := Scalar.indexCast v2274
  let c0_995 : Index := 0#32
  let c0_996 : Index := 0#32
  ![v2277.toNat, 0, 0]

def k0_chk157 (v2274 : BitVec 32) : Prop :=
  (∀ a, (k0_off484 v2274) a + S1x1x128.size a ≤ S50008x1x128.size a)
theorem k0_off484_inb : ∀ (v2274 : BitVec 32) (k0_hw157 : k0_chk157 v2274), ∀ a, (k0_off484 v2274) a + S1x1x128.size a ≤ S50008x1x128.size a := fun v2274 k0_hw157 => k0_hw157

def k0_off485 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off486 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off487 (v2288 : BitVec 32) : Fin 3 → Nat :=
  let v2291 : Index := Scalar.indexCast v2288
  let c0_1001 : Index := 0#32
  let c0_1002 : Index := 0#32
  ![v2291.toNat, 0, 0]

def k0_chk158 (v2288 : BitVec 32) : Prop :=
  (∀ a, (k0_off487 v2288) a + S1x1x128.size a ≤ S50008x1x128.size a)
theorem k0_off487_inb : ∀ (v2288 : BitVec 32) (k0_hw158 : k0_chk158 v2288), ∀ a, (k0_off487 v2288) a + S1x1x128.size a ≤ S50008x1x128.size a := fun v2288 k0_hw158 => k0_hw158

def k0_off488 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off489 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off490 (v2302 : BitVec 32) : Fin 3 → Nat :=
  let v2305 : Index := Scalar.indexCast v2302
  let c0_1007 : Index := 0#32
  let c0_1008 : Index := 0#32
  ![v2305.toNat, 0, 0]

def k0_chk159 (v2302 : BitVec 32) : Prop :=
  (∀ a, (k0_off490 v2302) a + S1x1x128.size a ≤ S50008x1x128.size a)
theorem k0_off490_inb : ∀ (v2302 : BitVec 32) (k0_hw159 : k0_chk159 v2302), ∀ a, (k0_off490 v2302) a + S1x1x128.size a ≤ S50008x1x128.size a := fun v2302 k0_hw159 => k0_hw159

def k0_off491 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off492 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off493 (v2316 : BitVec 32) : Fin 3 → Nat :=
  let v2319 : Index := Scalar.indexCast v2316
  let c0_1013 : Index := 0#32
  let c0_1014 : Index := 0#32
  ![v2319.toNat, 0, 0]

def k0_chk160 (v2316 : BitVec 32) : Prop :=
  (∀ a, (k0_off493 v2316) a + S1x1x128.size a ≤ S50008x1x128.size a)
theorem k0_off493_inb : ∀ (v2316 : BitVec 32) (k0_hw160 : k0_chk160 v2316), ∀ a, (k0_off493 v2316) a + S1x1x128.size a ≤ S50008x1x128.size a := fun v2316 k0_hw160 => k0_hw160

def k0_off494 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off495 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off496 (v2330 : BitVec 32) : Fin 3 → Nat :=
  let v2333 : Index := Scalar.indexCast v2330
  let c0_1019 : Index := 0#32
  let c0_1020 : Index := 0#32
  ![v2333.toNat, 0, 0]

def k0_chk161 (v2330 : BitVec 32) : Prop :=
  (∀ a, (k0_off496 v2330) a + S1x1x128.size a ≤ S50008x1x128.size a)
theorem k0_off496_inb : ∀ (v2330 : BitVec 32) (k0_hw161 : k0_chk161 v2330), ∀ a, (k0_off496 v2330) a + S1x1x128.size a ≤ S50008x1x128.size a := fun v2330 k0_hw161 => k0_hw161

def k0_off497 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off498 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off499 (v2344 : BitVec 32) : Fin 3 → Nat :=
  let v2347 : Index := Scalar.indexCast v2344
  let c0_1025 : Index := 0#32
  let c0_1026 : Index := 0#32
  ![v2347.toNat, 0, 0]

def k0_chk162 (v2344 : BitVec 32) : Prop :=
  (∀ a, (k0_off499 v2344) a + S1x1x128.size a ≤ S50008x1x128.size a)
theorem k0_off499_inb : ∀ (v2344 : BitVec 32) (k0_hw162 : k0_chk162 v2344), ∀ a, (k0_off499 v2344) a + S1x1x128.size a ≤ S50008x1x128.size a := fun v2344 k0_hw162 => k0_hw162

def k0_off500 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off501 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off502 (v2358 : BitVec 32) : Fin 3 → Nat :=
  let v2361 : Index := Scalar.indexCast v2358
  let c0_1031 : Index := 0#32
  let c0_1032 : Index := 0#32
  ![v2361.toNat, 0, 0]

def k0_chk163 (v2358 : BitVec 32) : Prop :=
  (∀ a, (k0_off502 v2358) a + S1x1x128.size a ≤ S50008x1x128.size a)
theorem k0_off502_inb : ∀ (v2358 : BitVec 32) (k0_hw163 : k0_chk163 v2358), ∀ a, (k0_off502 v2358) a + S1x1x128.size a ≤ S50008x1x128.size a := fun v2358 k0_hw163 => k0_hw163

def k0_off503 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off504 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off505 (v2372 : BitVec 32) : Fin 3 → Nat :=
  let v2375 : Index := Scalar.indexCast v2372
  let c0_1037 : Index := 0#32
  let c0_1038 : Index := 0#32
  ![v2375.toNat, 0, 0]

def k0_chk164 (v2372 : BitVec 32) : Prop :=
  (∀ a, (k0_off505 v2372) a + S1x1x128.size a ≤ S50008x1x128.size a)
theorem k0_off505_inb : ∀ (v2372 : BitVec 32) (k0_hw164 : k0_chk164 v2372), ∀ a, (k0_off505 v2372) a + S1x1x128.size a ≤ S50008x1x128.size a := fun v2372 k0_hw164 => k0_hw164

def k0_off506 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off507 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off508 (v2386 : BitVec 32) : Fin 3 → Nat :=
  let v2389 : Index := Scalar.indexCast v2386
  let c0_1043 : Index := 0#32
  let c0_1044 : Index := 0#32
  ![v2389.toNat, 0, 0]

def k0_chk165 (v2386 : BitVec 32) : Prop :=
  (∀ a, (k0_off508 v2386) a + S1x1x128.size a ≤ S50008x1x128.size a)
theorem k0_off508_inb : ∀ (v2386 : BitVec 32) (k0_hw165 : k0_chk165 v2386), ∀ a, (k0_off508 v2386) a + S1x1x128.size a ≤ S50008x1x128.size a := fun v2386 k0_hw165 => k0_hw165

def k0_off509 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off510 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off511 (v2400 : BitVec 32) : Fin 3 → Nat :=
  let v2403 : Index := Scalar.indexCast v2400
  let c0_1049 : Index := 0#32
  let c0_1050 : Index := 0#32
  ![v2403.toNat, 0, 0]

def k0_chk166 (v2400 : BitVec 32) : Prop :=
  (∀ a, (k0_off511 v2400) a + S1x1x128.size a ≤ S50008x1x128.size a)
theorem k0_off511_inb : ∀ (v2400 : BitVec 32) (k0_hw166 : k0_chk166 v2400), ∀ a, (k0_off511 v2400) a + S1x1x128.size a ≤ S50008x1x128.size a := fun v2400 k0_hw166 => k0_hw166

def k0_off512 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off513 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off514 (v2414 : BitVec 32) : Fin 3 → Nat :=
  let v2417 : Index := Scalar.indexCast v2414
  let c0_1055 : Index := 0#32
  let c0_1056 : Index := 0#32
  ![v2417.toNat, 0, 0]

def k0_chk167 (v2414 : BitVec 32) : Prop :=
  (∀ a, (k0_off514 v2414) a + S1x1x128.size a ≤ S50008x1x128.size a)
theorem k0_off514_inb : ∀ (v2414 : BitVec 32) (k0_hw167 : k0_chk167 v2414), ∀ a, (k0_off514 v2414) a + S1x1x128.size a ≤ S50008x1x128.size a := fun v2414 k0_hw167 => k0_hw167

def k0_off515 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off516 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off517 (v2428 : BitVec 32) : Fin 3 → Nat :=
  let v2431 : Index := Scalar.indexCast v2428
  let c0_1061 : Index := 0#32
  let c0_1062 : Index := 0#32
  ![v2431.toNat, 0, 0]

def k0_chk168 (v2428 : BitVec 32) : Prop :=
  (∀ a, (k0_off517 v2428) a + S1x1x128.size a ≤ S50008x1x128.size a)
theorem k0_off517_inb : ∀ (v2428 : BitVec 32) (k0_hw168 : k0_chk168 v2428), ∀ a, (k0_off517 v2428) a + S1x1x128.size a ≤ S50008x1x128.size a := fun v2428 k0_hw168 => k0_hw168

def k0_off518 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off519 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off520 (v2442 : BitVec 32) : Fin 3 → Nat :=
  let v2445 : Index := Scalar.indexCast v2442
  let c0_1067 : Index := 0#32
  let c0_1068 : Index := 0#32
  ![v2445.toNat, 0, 0]

def k0_chk169 (v2442 : BitVec 32) : Prop :=
  (∀ a, (k0_off520 v2442) a + S1x1x128.size a ≤ S50008x1x128.size a)
theorem k0_off520_inb : ∀ (v2442 : BitVec 32) (k0_hw169 : k0_chk169 v2442), ∀ a, (k0_off520 v2442) a + S1x1x128.size a ≤ S50008x1x128.size a := fun v2442 k0_hw169 => k0_hw169

def k0_off521 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off522 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off523 (v2456 : BitVec 32) : Fin 3 → Nat :=
  let v2459 : Index := Scalar.indexCast v2456
  let c0_1073 : Index := 0#32
  let c0_1074 : Index := 0#32
  ![v2459.toNat, 0, 0]

def k0_chk170 (v2456 : BitVec 32) : Prop :=
  (∀ a, (k0_off523 v2456) a + S1x1x128.size a ≤ S50008x1x128.size a)
theorem k0_off523_inb : ∀ (v2456 : BitVec 32) (k0_hw170 : k0_chk170 v2456), ∀ a, (k0_off523 v2456) a + S1x1x128.size a ≤ S50008x1x128.size a := fun v2456 k0_hw170 => k0_hw170

def k0_off524 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off525 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off526 (v2470 : BitVec 32) : Fin 3 → Nat :=
  let v2473 : Index := Scalar.indexCast v2470
  let c0_1079 : Index := 0#32
  let c0_1080 : Index := 0#32
  ![v2473.toNat, 0, 0]

def k0_chk171 (v2470 : BitVec 32) : Prop :=
  (∀ a, (k0_off526 v2470) a + S1x1x128.size a ≤ S50008x1x128.size a)
theorem k0_off526_inb : ∀ (v2470 : BitVec 32) (k0_hw171 : k0_chk171 v2470), ∀ a, (k0_off526 v2470) a + S1x1x128.size a ≤ S50008x1x128.size a := fun v2470 k0_hw171 => k0_hw171

def k0_off527 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off528 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off529 (v2484 : BitVec 32) : Fin 3 → Nat :=
  let v2487 : Index := Scalar.indexCast v2484
  let c0_1085 : Index := 0#32
  let c0_1086 : Index := 0#32
  ![v2487.toNat, 0, 0]

def k0_chk172 (v2484 : BitVec 32) : Prop :=
  (∀ a, (k0_off529 v2484) a + S1x1x128.size a ≤ S50008x1x128.size a)
theorem k0_off529_inb : ∀ (v2484 : BitVec 32) (k0_hw172 : k0_chk172 v2484), ∀ a, (k0_off529 v2484) a + S1x1x128.size a ≤ S50008x1x128.size a := fun v2484 k0_hw172 => k0_hw172

def k0_off530 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off531 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off532 (v2498 : BitVec 32) : Fin 3 → Nat :=
  let v2501 : Index := Scalar.indexCast v2498
  let c0_1091 : Index := 0#32
  let c0_1092 : Index := 0#32
  ![v2501.toNat, 0, 0]

def k0_chk173 (v2498 : BitVec 32) : Prop :=
  (∀ a, (k0_off532 v2498) a + S1x1x128.size a ≤ S50008x1x128.size a)
theorem k0_off532_inb : ∀ (v2498 : BitVec 32) (k0_hw173 : k0_chk173 v2498), ∀ a, (k0_off532 v2498) a + S1x1x128.size a ≤ S50008x1x128.size a := fun v2498 k0_hw173 => k0_hw173

def k0_off533 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off534 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off535 (v2512 : BitVec 32) : Fin 3 → Nat :=
  let v2515 : Index := Scalar.indexCast v2512
  let c0_1097 : Index := 0#32
  let c0_1098 : Index := 0#32
  ![v2515.toNat, 0, 0]

def k0_chk174 (v2512 : BitVec 32) : Prop :=
  (∀ a, (k0_off535 v2512) a + S1x1x128.size a ≤ S50008x1x128.size a)
theorem k0_off535_inb : ∀ (v2512 : BitVec 32) (k0_hw174 : k0_chk174 v2512), ∀ a, (k0_off535 v2512) a + S1x1x128.size a ≤ S50008x1x128.size a := fun v2512 k0_hw174 => k0_hw174

def k0_off536 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off537 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off538 (v2526 : BitVec 32) : Fin 3 → Nat :=
  let v2529 : Index := Scalar.indexCast v2526
  let c0_1103 : Index := 0#32
  let c0_1104 : Index := 0#32
  ![v2529.toNat, 0, 0]

def k0_chk175 (v2526 : BitVec 32) : Prop :=
  (∀ a, (k0_off538 v2526) a + S1x1x128.size a ≤ S50008x1x128.size a)
theorem k0_off538_inb : ∀ (v2526 : BitVec 32) (k0_hw175 : k0_chk175 v2526), ∀ a, (k0_off538 v2526) a + S1x1x128.size a ≤ S50008x1x128.size a := fun v2526 k0_hw175 => k0_hw175

def k0_off539 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off540 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off541 (v2540 : BitVec 32) : Fin 3 → Nat :=
  let v2543 : Index := Scalar.indexCast v2540
  let c0_1109 : Index := 0#32
  let c0_1110 : Index := 0#32
  ![v2543.toNat, 0, 0]

def k0_chk176 (v2540 : BitVec 32) : Prop :=
  (∀ a, (k0_off541 v2540) a + S1x1x128.size a ≤ S50008x1x128.size a)
theorem k0_off541_inb : ∀ (v2540 : BitVec 32) (k0_hw176 : k0_chk176 v2540), ∀ a, (k0_off541 v2540) a + S1x1x128.size a ≤ S50008x1x128.size a := fun v2540 k0_hw176 => k0_hw176

def k0_off542 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off543 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off544 (v2554 : BitVec 32) : Fin 3 → Nat :=
  let v2557 : Index := Scalar.indexCast v2554
  let c0_1115 : Index := 0#32
  let c0_1116 : Index := 0#32
  ![v2557.toNat, 0, 0]

def k0_chk177 (v2554 : BitVec 32) : Prop :=
  (∀ a, (k0_off544 v2554) a + S1x1x128.size a ≤ S50008x1x128.size a)
theorem k0_off544_inb : ∀ (v2554 : BitVec 32) (k0_hw177 : k0_chk177 v2554), ∀ a, (k0_off544 v2554) a + S1x1x128.size a ≤ S50008x1x128.size a := fun v2554 k0_hw177 => k0_hw177

def k0_off545 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off546 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off547 (v2568 : BitVec 32) : Fin 3 → Nat :=
  let v2571 : Index := Scalar.indexCast v2568
  let c0_1121 : Index := 0#32
  let c0_1122 : Index := 0#32
  ![v2571.toNat, 0, 0]

def k0_chk178 (v2568 : BitVec 32) : Prop :=
  (∀ a, (k0_off547 v2568) a + S1x1x128.size a ≤ S50008x1x128.size a)
theorem k0_off547_inb : ∀ (v2568 : BitVec 32) (k0_hw178 : k0_chk178 v2568), ∀ a, (k0_off547 v2568) a + S1x1x128.size a ≤ S50008x1x128.size a := fun v2568 k0_hw178 => k0_hw178

def k0_off548 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off549 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off550 (v2582 : BitVec 32) : Fin 3 → Nat :=
  let v2585 : Index := Scalar.indexCast v2582
  let c0_1127 : Index := 0#32
  let c0_1128 : Index := 0#32
  ![v2585.toNat, 0, 0]

def k0_chk179 (v2582 : BitVec 32) : Prop :=
  (∀ a, (k0_off550 v2582) a + S1x1x128.size a ≤ S50008x1x128.size a)
theorem k0_off550_inb : ∀ (v2582 : BitVec 32) (k0_hw179 : k0_chk179 v2582), ∀ a, (k0_off550 v2582) a + S1x1x128.size a ≤ S50008x1x128.size a := fun v2582 k0_hw179 => k0_hw179

def k0_off551 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off552 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off553 (v2596 : BitVec 32) : Fin 3 → Nat :=
  let v2599 : Index := Scalar.indexCast v2596
  let c0_1133 : Index := 0#32
  let c0_1134 : Index := 0#32
  ![v2599.toNat, 0, 0]

def k0_chk180 (v2596 : BitVec 32) : Prop :=
  (∀ a, (k0_off553 v2596) a + S1x1x128.size a ≤ S50008x1x128.size a)
theorem k0_off553_inb : ∀ (v2596 : BitVec 32) (k0_hw180 : k0_chk180 v2596), ∀ a, (k0_off553 v2596) a + S1x1x128.size a ≤ S50008x1x128.size a := fun v2596 k0_hw180 => k0_hw180

def k0_off554 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off555 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off556 (v2610 : BitVec 32) : Fin 3 → Nat :=
  let v2613 : Index := Scalar.indexCast v2610
  let c0_1139 : Index := 0#32
  let c0_1140 : Index := 0#32
  ![v2613.toNat, 0, 0]

def k0_chk181 (v2610 : BitVec 32) : Prop :=
  (∀ a, (k0_off556 v2610) a + S1x1x128.size a ≤ S50008x1x128.size a)
theorem k0_off556_inb : ∀ (v2610 : BitVec 32) (k0_hw181 : k0_chk181 v2610), ∀ a, (k0_off556 v2610) a + S1x1x128.size a ≤ S50008x1x128.size a := fun v2610 k0_hw181 => k0_hw181

def k0_off557 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off558 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off559 (v2624 : BitVec 32) : Fin 3 → Nat :=
  let v2627 : Index := Scalar.indexCast v2624
  let c0_1145 : Index := 0#32
  let c0_1146 : Index := 0#32
  ![v2627.toNat, 0, 0]

def k0_chk182 (v2624 : BitVec 32) : Prop :=
  (∀ a, (k0_off559 v2624) a + S1x1x128.size a ≤ S50008x1x128.size a)
theorem k0_off559_inb : ∀ (v2624 : BitVec 32) (k0_hw182 : k0_chk182 v2624), ∀ a, (k0_off559 v2624) a + S1x1x128.size a ≤ S50008x1x128.size a := fun v2624 k0_hw182 => k0_hw182

def k0_off560 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off561 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off562 (v2638 : BitVec 32) : Fin 3 → Nat :=
  let v2641 : Index := Scalar.indexCast v2638
  let c0_1151 : Index := 0#32
  let c0_1152 : Index := 0#32
  ![v2641.toNat, 0, 0]

def k0_chk183 (v2638 : BitVec 32) : Prop :=
  (∀ a, (k0_off562 v2638) a + S1x1x128.size a ≤ S50008x1x128.size a)
theorem k0_off562_inb : ∀ (v2638 : BitVec 32) (k0_hw183 : k0_chk183 v2638), ∀ a, (k0_off562 v2638) a + S1x1x128.size a ≤ S50008x1x128.size a := fun v2638 k0_hw183 => k0_hw183

def k0_off563 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off564 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off565 (v2652 : BitVec 32) : Fin 3 → Nat :=
  let v2655 : Index := Scalar.indexCast v2652
  let c0_1157 : Index := 0#32
  let c0_1158 : Index := 0#32
  ![v2655.toNat, 0, 0]

def k0_chk184 (v2652 : BitVec 32) : Prop :=
  (∀ a, (k0_off565 v2652) a + S1x1x128.size a ≤ S50008x1x128.size a)
theorem k0_off565_inb : ∀ (v2652 : BitVec 32) (k0_hw184 : k0_chk184 v2652), ∀ a, (k0_off565 v2652) a + S1x1x128.size a ≤ S50008x1x128.size a := fun v2652 k0_hw184 => k0_hw184

def k0_off566 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off567 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off568 (v2666 : BitVec 32) : Fin 3 → Nat :=
  let v2669 : Index := Scalar.indexCast v2666
  let c0_1163 : Index := 0#32
  let c0_1164 : Index := 0#32
  ![v2669.toNat, 0, 0]

def k0_chk185 (v2666 : BitVec 32) : Prop :=
  (∀ a, (k0_off568 v2666) a + S1x1x128.size a ≤ S50008x1x128.size a)
theorem k0_off568_inb : ∀ (v2666 : BitVec 32) (k0_hw185 : k0_chk185 v2666), ∀ a, (k0_off568 v2666) a + S1x1x128.size a ≤ S50008x1x128.size a := fun v2666 k0_hw185 => k0_hw185

def k0_off569 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off570 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off571 (v2680 : BitVec 32) : Fin 3 → Nat :=
  let v2683 : Index := Scalar.indexCast v2680
  let c0_1169 : Index := 0#32
  let c0_1170 : Index := 0#32
  ![v2683.toNat, 0, 0]

def k0_chk186 (v2680 : BitVec 32) : Prop :=
  (∀ a, (k0_off571 v2680) a + S1x1x128.size a ≤ S50008x1x128.size a)
theorem k0_off571_inb : ∀ (v2680 : BitVec 32) (k0_hw186 : k0_chk186 v2680), ∀ a, (k0_off571 v2680) a + S1x1x128.size a ≤ S50008x1x128.size a := fun v2680 k0_hw186 => k0_hw186

def k0_off572 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off573 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off574 (v2694 : BitVec 32) : Fin 3 → Nat :=
  let v2697 : Index := Scalar.indexCast v2694
  let c0_1175 : Index := 0#32
  let c0_1176 : Index := 0#32
  ![v2697.toNat, 0, 0]

def k0_chk187 (v2694 : BitVec 32) : Prop :=
  (∀ a, (k0_off574 v2694) a + S1x1x128.size a ≤ S50008x1x128.size a)
theorem k0_off574_inb : ∀ (v2694 : BitVec 32) (k0_hw187 : k0_chk187 v2694), ∀ a, (k0_off574 v2694) a + S1x1x128.size a ≤ S50008x1x128.size a := fun v2694 k0_hw187 => k0_hw187

def k0_off575 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off576 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off577 (v2708 : BitVec 32) : Fin 3 → Nat :=
  let v2711 : Index := Scalar.indexCast v2708
  let c0_1181 : Index := 0#32
  let c0_1182 : Index := 0#32
  ![v2711.toNat, 0, 0]

def k0_chk188 (v2708 : BitVec 32) : Prop :=
  (∀ a, (k0_off577 v2708) a + S1x1x128.size a ≤ S50008x1x128.size a)
theorem k0_off577_inb : ∀ (v2708 : BitVec 32) (k0_hw188 : k0_chk188 v2708), ∀ a, (k0_off577 v2708) a + S1x1x128.size a ≤ S50008x1x128.size a := fun v2708 k0_hw188 => k0_hw188

def k0_off578 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off579 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off580 (v2722 : BitVec 32) : Fin 3 → Nat :=
  let v2725 : Index := Scalar.indexCast v2722
  let c0_1187 : Index := 0#32
  let c0_1188 : Index := 0#32
  ![v2725.toNat, 0, 0]

def k0_chk189 (v2722 : BitVec 32) : Prop :=
  (∀ a, (k0_off580 v2722) a + S1x1x128.size a ≤ S50008x1x128.size a)
theorem k0_off580_inb : ∀ (v2722 : BitVec 32) (k0_hw189 : k0_chk189 v2722), ∀ a, (k0_off580 v2722) a + S1x1x128.size a ≤ S50008x1x128.size a := fun v2722 k0_hw189 => k0_hw189

def k0_off581 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off582 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off583 (v2736 : BitVec 32) : Fin 3 → Nat :=
  let v2739 : Index := Scalar.indexCast v2736
  let c0_1193 : Index := 0#32
  let c0_1194 : Index := 0#32
  ![v2739.toNat, 0, 0]

def k0_chk190 (v2736 : BitVec 32) : Prop :=
  (∀ a, (k0_off583 v2736) a + S1x1x128.size a ≤ S50008x1x128.size a)
theorem k0_off583_inb : ∀ (v2736 : BitVec 32) (k0_hw190 : k0_chk190 v2736), ∀ a, (k0_off583 v2736) a + S1x1x128.size a ≤ S50008x1x128.size a := fun v2736 k0_hw190 => k0_hw190

def k0_off584 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off585 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off586 (v2750 : BitVec 32) : Fin 3 → Nat :=
  let v2753 : Index := Scalar.indexCast v2750
  let c0_1199 : Index := 0#32
  let c0_1200 : Index := 0#32
  ![v2753.toNat, 0, 0]

def k0_chk191 (v2750 : BitVec 32) : Prop :=
  (∀ a, (k0_off586 v2750) a + S1x1x128.size a ≤ S50008x1x128.size a)
theorem k0_off586_inb : ∀ (v2750 : BitVec 32) (k0_hw191 : k0_chk191 v2750), ∀ a, (k0_off586 v2750) a + S1x1x128.size a ≤ S50008x1x128.size a := fun v2750 k0_hw191 => k0_hw191

def k0_off587 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off588 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off589 (v2764 : BitVec 32) : Fin 3 → Nat :=
  let v2767 : Index := Scalar.indexCast v2764
  let c0_1205 : Index := 0#32
  let c0_1206 : Index := 0#32
  ![v2767.toNat, 0, 0]

def k0_chk192 (v2764 : BitVec 32) : Prop :=
  (∀ a, (k0_off589 v2764) a + S1x1x128.size a ≤ S50008x1x128.size a)
theorem k0_off589_inb : ∀ (v2764 : BitVec 32) (k0_hw192 : k0_chk192 v2764), ∀ a, (k0_off589 v2764) a + S1x1x128.size a ≤ S50008x1x128.size a := fun v2764 k0_hw192 => k0_hw192

def k0_off590 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off591 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off592 (v2778 : BitVec 32) : Fin 3 → Nat :=
  let v2781 : Index := Scalar.indexCast v2778
  let c0_1211 : Index := 0#32
  let c0_1212 : Index := 0#32
  ![v2781.toNat, 0, 0]

def k0_chk193 (v2778 : BitVec 32) : Prop :=
  (∀ a, (k0_off592 v2778) a + S1x1x128.size a ≤ S50008x1x128.size a)
theorem k0_off592_inb : ∀ (v2778 : BitVec 32) (k0_hw193 : k0_chk193 v2778), ∀ a, (k0_off592 v2778) a + S1x1x128.size a ≤ S50008x1x128.size a := fun v2778 k0_hw193 => k0_hw193

def k0_off593 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off594 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off595 (v2792 : BitVec 32) : Fin 3 → Nat :=
  let v2795 : Index := Scalar.indexCast v2792
  let c0_1217 : Index := 0#32
  let c0_1218 : Index := 0#32
  ![v2795.toNat, 0, 0]

def k0_chk194 (v2792 : BitVec 32) : Prop :=
  (∀ a, (k0_off595 v2792) a + S1x1x128.size a ≤ S50008x1x128.size a)
theorem k0_off595_inb : ∀ (v2792 : BitVec 32) (k0_hw194 : k0_chk194 v2792), ∀ a, (k0_off595 v2792) a + S1x1x128.size a ≤ S50008x1x128.size a := fun v2792 k0_hw194 => k0_hw194

def k0_off596 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off597 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off598 (v2806 : BitVec 32) : Fin 3 → Nat :=
  let v2809 : Index := Scalar.indexCast v2806
  let c0_1223 : Index := 0#32
  let c0_1224 : Index := 0#32
  ![v2809.toNat, 0, 0]

def k0_chk195 (v2806 : BitVec 32) : Prop :=
  (∀ a, (k0_off598 v2806) a + S1x1x128.size a ≤ S50008x1x128.size a)
theorem k0_off598_inb : ∀ (v2806 : BitVec 32) (k0_hw195 : k0_chk195 v2806), ∀ a, (k0_off598 v2806) a + S1x1x128.size a ≤ S50008x1x128.size a := fun v2806 k0_hw195 => k0_hw195

def k0_off599 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off600 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off601 (v2820 : BitVec 32) : Fin 3 → Nat :=
  let v2823 : Index := Scalar.indexCast v2820
  let c0_1229 : Index := 0#32
  let c0_1230 : Index := 0#32
  ![v2823.toNat, 0, 0]

def k0_chk196 (v2820 : BitVec 32) : Prop :=
  (∀ a, (k0_off601 v2820) a + S1x1x128.size a ≤ S50008x1x128.size a)
theorem k0_off601_inb : ∀ (v2820 : BitVec 32) (k0_hw196 : k0_chk196 v2820), ∀ a, (k0_off601 v2820) a + S1x1x128.size a ≤ S50008x1x128.size a := fun v2820 k0_hw196 => k0_hw196

def k0_off602 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off603 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off604 (v2834 : BitVec 32) : Fin 3 → Nat :=
  let v2837 : Index := Scalar.indexCast v2834
  let c0_1235 : Index := 0#32
  let c0_1236 : Index := 0#32
  ![v2837.toNat, 0, 0]

def k0_chk197 (v2834 : BitVec 32) : Prop :=
  (∀ a, (k0_off604 v2834) a + S1x1x128.size a ≤ S50008x1x128.size a)
theorem k0_off604_inb : ∀ (v2834 : BitVec 32) (k0_hw197 : k0_chk197 v2834), ∀ a, (k0_off604 v2834) a + S1x1x128.size a ≤ S50008x1x128.size a := fun v2834 k0_hw197 => k0_hw197

def k0_off605 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off606 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off607 (v2848 : BitVec 32) : Fin 3 → Nat :=
  let v2851 : Index := Scalar.indexCast v2848
  let c0_1241 : Index := 0#32
  let c0_1242 : Index := 0#32
  ![v2851.toNat, 0, 0]

def k0_chk198 (v2848 : BitVec 32) : Prop :=
  (∀ a, (k0_off607 v2848) a + S1x1x128.size a ≤ S50008x1x128.size a)
theorem k0_off607_inb : ∀ (v2848 : BitVec 32) (k0_hw198 : k0_chk198 v2848), ∀ a, (k0_off607 v2848) a + S1x1x128.size a ≤ S50008x1x128.size a := fun v2848 k0_hw198 => k0_hw198

def k0_off608 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off609 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off610 (v2862 : BitVec 32) : Fin 3 → Nat :=
  let v2865 : Index := Scalar.indexCast v2862
  let c0_1247 : Index := 0#32
  let c0_1248 : Index := 0#32
  ![v2865.toNat, 0, 0]

def k0_chk199 (v2862 : BitVec 32) : Prop :=
  (∀ a, (k0_off610 v2862) a + S1x1x128.size a ≤ S50008x1x128.size a)
theorem k0_off610_inb : ∀ (v2862 : BitVec 32) (k0_hw199 : k0_chk199 v2862), ∀ a, (k0_off610 v2862) a + S1x1x128.size a ≤ S50008x1x128.size a := fun v2862 k0_hw199 => k0_hw199

def k0_off611 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off612 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off613 (v2876 : BitVec 32) : Fin 3 → Nat :=
  let v2879 : Index := Scalar.indexCast v2876
  let c0_1253 : Index := 0#32
  let c0_1254 : Index := 0#32
  ![v2879.toNat, 0, 0]

def k0_chk200 (v2876 : BitVec 32) : Prop :=
  (∀ a, (k0_off613 v2876) a + S1x1x128.size a ≤ S50008x1x128.size a)
theorem k0_off613_inb : ∀ (v2876 : BitVec 32) (k0_hw200 : k0_chk200 v2876), ∀ a, (k0_off613 v2876) a + S1x1x128.size a ≤ S50008x1x128.size a := fun v2876 k0_hw200 => k0_hw200

def k0_off614 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off615 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off616 (v2890 : BitVec 32) : Fin 3 → Nat :=
  let v2893 : Index := Scalar.indexCast v2890
  let c0_1259 : Index := 0#32
  let c0_1260 : Index := 0#32
  ![v2893.toNat, 0, 0]

def k0_chk201 (v2890 : BitVec 32) : Prop :=
  (∀ a, (k0_off616 v2890) a + S1x1x128.size a ≤ S50008x1x128.size a)
theorem k0_off616_inb : ∀ (v2890 : BitVec 32) (k0_hw201 : k0_chk201 v2890), ∀ a, (k0_off616 v2890) a + S1x1x128.size a ≤ S50008x1x128.size a := fun v2890 k0_hw201 => k0_hw201

def k0_off617 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off618 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off619 (v2904 : BitVec 32) : Fin 3 → Nat :=
  let v2907 : Index := Scalar.indexCast v2904
  let c0_1265 : Index := 0#32
  let c0_1266 : Index := 0#32
  ![v2907.toNat, 0, 0]

def k0_chk202 (v2904 : BitVec 32) : Prop :=
  (∀ a, (k0_off619 v2904) a + S1x1x128.size a ≤ S50008x1x128.size a)
theorem k0_off619_inb : ∀ (v2904 : BitVec 32) (k0_hw202 : k0_chk202 v2904), ∀ a, (k0_off619 v2904) a + S1x1x128.size a ≤ S50008x1x128.size a := fun v2904 k0_hw202 => k0_hw202

def k0_off620 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off621 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off622 (v2918 : BitVec 32) : Fin 3 → Nat :=
  let v2921 : Index := Scalar.indexCast v2918
  let c0_1271 : Index := 0#32
  let c0_1272 : Index := 0#32
  ![v2921.toNat, 0, 0]

def k0_chk203 (v2918 : BitVec 32) : Prop :=
  (∀ a, (k0_off622 v2918) a + S1x1x128.size a ≤ S50008x1x128.size a)
theorem k0_off622_inb : ∀ (v2918 : BitVec 32) (k0_hw203 : k0_chk203 v2918), ∀ a, (k0_off622 v2918) a + S1x1x128.size a ≤ S50008x1x128.size a := fun v2918 k0_hw203 => k0_hw203

def k0_off623 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off624 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off625 (v2932 : BitVec 32) : Fin 3 → Nat :=
  let v2935 : Index := Scalar.indexCast v2932
  let c0_1277 : Index := 0#32
  let c0_1278 : Index := 0#32
  ![v2935.toNat, 0, 0]

def k0_chk204 (v2932 : BitVec 32) : Prop :=
  (∀ a, (k0_off625 v2932) a + S1x1x128.size a ≤ S50008x1x128.size a)
theorem k0_off625_inb : ∀ (v2932 : BitVec 32) (k0_hw204 : k0_chk204 v2932), ∀ a, (k0_off625 v2932) a + S1x1x128.size a ≤ S50008x1x128.size a := fun v2932 k0_hw204 => k0_hw204

def k0_off626 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off627 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off628 (v2946 : BitVec 32) : Fin 3 → Nat :=
  let v2949 : Index := Scalar.indexCast v2946
  let c0_1283 : Index := 0#32
  let c0_1284 : Index := 0#32
  ![v2949.toNat, 0, 0]

def k0_chk205 (v2946 : BitVec 32) : Prop :=
  (∀ a, (k0_off628 v2946) a + S1x1x128.size a ≤ S50008x1x128.size a)
theorem k0_off628_inb : ∀ (v2946 : BitVec 32) (k0_hw205 : k0_chk205 v2946), ∀ a, (k0_off628 v2946) a + S1x1x128.size a ≤ S50008x1x128.size a := fun v2946 k0_hw205 => k0_hw205

def k0_off629 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off630 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off631 (v2960 : BitVec 32) : Fin 3 → Nat :=
  let v2963 : Index := Scalar.indexCast v2960
  let c0_1289 : Index := 0#32
  let c0_1290 : Index := 0#32
  ![v2963.toNat, 0, 0]

def k0_chk206 (v2960 : BitVec 32) : Prop :=
  (∀ a, (k0_off631 v2960) a + S1x1x128.size a ≤ S50008x1x128.size a)
theorem k0_off631_inb : ∀ (v2960 : BitVec 32) (k0_hw206 : k0_chk206 v2960), ∀ a, (k0_off631 v2960) a + S1x1x128.size a ≤ S50008x1x128.size a := fun v2960 k0_hw206 => k0_hw206

def k0_off632 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off633 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off634 (v2974 : BitVec 32) : Fin 3 → Nat :=
  let v2977 : Index := Scalar.indexCast v2974
  let c0_1295 : Index := 0#32
  let c0_1296 : Index := 0#32
  ![v2977.toNat, 0, 0]

def k0_chk207 (v2974 : BitVec 32) : Prop :=
  (∀ a, (k0_off634 v2974) a + S1x1x128.size a ≤ S50008x1x128.size a)
theorem k0_off634_inb : ∀ (v2974 : BitVec 32) (k0_hw207 : k0_chk207 v2974), ∀ a, (k0_off634 v2974) a + S1x1x128.size a ≤ S50008x1x128.size a := fun v2974 k0_hw207 => k0_hw207

def k0_off635 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off636 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off637 (v2988 : BitVec 32) : Fin 3 → Nat :=
  let v2991 : Index := Scalar.indexCast v2988
  let c0_1301 : Index := 0#32
  let c0_1302 : Index := 0#32
  ![v2991.toNat, 0, 0]

def k0_chk208 (v2988 : BitVec 32) : Prop :=
  (∀ a, (k0_off637 v2988) a + S1x1x128.size a ≤ S50008x1x128.size a)
theorem k0_off637_inb : ∀ (v2988 : BitVec 32) (k0_hw208 : k0_chk208 v2988), ∀ a, (k0_off637 v2988) a + S1x1x128.size a ≤ S50008x1x128.size a := fun v2988 k0_hw208 => k0_hw208

def k0_off638 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off639 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off640 (v3002 : BitVec 32) : Fin 3 → Nat :=
  let v3005 : Index := Scalar.indexCast v3002
  let c0_1307 : Index := 0#32
  let c0_1308 : Index := 0#32
  ![v3005.toNat, 0, 0]

def k0_chk209 (v3002 : BitVec 32) : Prop :=
  (∀ a, (k0_off640 v3002) a + S1x1x128.size a ≤ S50008x1x128.size a)
theorem k0_off640_inb : ∀ (v3002 : BitVec 32) (k0_hw209 : k0_chk209 v3002), ∀ a, (k0_off640 v3002) a + S1x1x128.size a ≤ S50008x1x128.size a := fun v3002 k0_hw209 => k0_hw209

def k0_off641 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off642 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off643 (v3016 : BitVec 32) : Fin 3 → Nat :=
  let v3019 : Index := Scalar.indexCast v3016
  let c0_1313 : Index := 0#32
  let c0_1314 : Index := 0#32
  ![v3019.toNat, 0, 0]

def k0_chk210 (v3016 : BitVec 32) : Prop :=
  (∀ a, (k0_off643 v3016) a + S1x1x128.size a ≤ S50008x1x128.size a)
theorem k0_off643_inb : ∀ (v3016 : BitVec 32) (k0_hw210 : k0_chk210 v3016), ∀ a, (k0_off643 v3016) a + S1x1x128.size a ≤ S50008x1x128.size a := fun v3016 k0_hw210 => k0_hw210

def k0_off644 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off645 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off646 (v3030 : BitVec 32) : Fin 3 → Nat :=
  let v3033 : Index := Scalar.indexCast v3030
  let c0_1319 : Index := 0#32
  let c0_1320 : Index := 0#32
  ![v3033.toNat, 0, 0]

def k0_chk211 (v3030 : BitVec 32) : Prop :=
  (∀ a, (k0_off646 v3030) a + S1x1x128.size a ≤ S50008x1x128.size a)
theorem k0_off646_inb : ∀ (v3030 : BitVec 32) (k0_hw211 : k0_chk211 v3030), ∀ a, (k0_off646 v3030) a + S1x1x128.size a ≤ S50008x1x128.size a := fun v3030 k0_hw211 => k0_hw211

def k0_off647 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off648 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off649 (v3044 : BitVec 32) : Fin 3 → Nat :=
  let v3047 : Index := Scalar.indexCast v3044
  let c0_1325 : Index := 0#32
  let c0_1326 : Index := 0#32
  ![v3047.toNat, 0, 0]

def k0_chk212 (v3044 : BitVec 32) : Prop :=
  (∀ a, (k0_off649 v3044) a + S1x1x128.size a ≤ S50008x1x128.size a)
theorem k0_off649_inb : ∀ (v3044 : BitVec 32) (k0_hw212 : k0_chk212 v3044), ∀ a, (k0_off649 v3044) a + S1x1x128.size a ≤ S50008x1x128.size a := fun v3044 k0_hw212 => k0_hw212

def k0_off650 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off651 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off652 (v3058 : BitVec 32) : Fin 3 → Nat :=
  let v3061 : Index := Scalar.indexCast v3058
  let c0_1331 : Index := 0#32
  let c0_1332 : Index := 0#32
  ![v3061.toNat, 0, 0]

def k0_chk213 (v3058 : BitVec 32) : Prop :=
  (∀ a, (k0_off652 v3058) a + S1x1x128.size a ≤ S50008x1x128.size a)
theorem k0_off652_inb : ∀ (v3058 : BitVec 32) (k0_hw213 : k0_chk213 v3058), ∀ a, (k0_off652 v3058) a + S1x1x128.size a ≤ S50008x1x128.size a := fun v3058 k0_hw213 => k0_hw213

def k0_off653 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off654 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off655 (v3072 : BitVec 32) : Fin 3 → Nat :=
  let v3075 : Index := Scalar.indexCast v3072
  let c0_1337 : Index := 0#32
  let c0_1338 : Index := 0#32
  ![v3075.toNat, 0, 0]

def k0_chk214 (v3072 : BitVec 32) : Prop :=
  (∀ a, (k0_off655 v3072) a + S1x1x128.size a ≤ S50008x1x128.size a)
theorem k0_off655_inb : ∀ (v3072 : BitVec 32) (k0_hw214 : k0_chk214 v3072), ∀ a, (k0_off655 v3072) a + S1x1x128.size a ≤ S50008x1x128.size a := fun v3072 k0_hw214 => k0_hw214

def k0_off656 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off657 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off658 (v3086 : BitVec 32) : Fin 3 → Nat :=
  let v3089 : Index := Scalar.indexCast v3086
  let c0_1343 : Index := 0#32
  let c0_1344 : Index := 0#32
  ![v3089.toNat, 0, 0]

def k0_chk215 (v3086 : BitVec 32) : Prop :=
  (∀ a, (k0_off658 v3086) a + S1x1x128.size a ≤ S50008x1x128.size a)
theorem k0_off658_inb : ∀ (v3086 : BitVec 32) (k0_hw215 : k0_chk215 v3086), ∀ a, (k0_off658 v3086) a + S1x1x128.size a ≤ S50008x1x128.size a := fun v3086 k0_hw215 => k0_hw215

def k0_off659 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off660 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off661 (v3100 : BitVec 32) : Fin 3 → Nat :=
  let v3103 : Index := Scalar.indexCast v3100
  let c0_1349 : Index := 0#32
  let c0_1350 : Index := 0#32
  ![v3103.toNat, 0, 0]

def k0_chk216 (v3100 : BitVec 32) : Prop :=
  (∀ a, (k0_off661 v3100) a + S1x1x128.size a ≤ S50008x1x128.size a)
theorem k0_off661_inb : ∀ (v3100 : BitVec 32) (k0_hw216 : k0_chk216 v3100), ∀ a, (k0_off661 v3100) a + S1x1x128.size a ≤ S50008x1x128.size a := fun v3100 k0_hw216 => k0_hw216

def k0_off662 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off663 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off664 (v3114 : BitVec 32) : Fin 3 → Nat :=
  let v3117 : Index := Scalar.indexCast v3114
  let c0_1355 : Index := 0#32
  let c0_1356 : Index := 0#32
  ![v3117.toNat, 0, 0]

def k0_chk217 (v3114 : BitVec 32) : Prop :=
  (∀ a, (k0_off664 v3114) a + S1x1x128.size a ≤ S50008x1x128.size a)
theorem k0_off664_inb : ∀ (v3114 : BitVec 32) (k0_hw217 : k0_chk217 v3114), ∀ a, (k0_off664 v3114) a + S1x1x128.size a ≤ S50008x1x128.size a := fun v3114 k0_hw217 => k0_hw217

def k0_off665 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off666 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off667 (v3128 : BitVec 32) : Fin 3 → Nat :=
  let v3131 : Index := Scalar.indexCast v3128
  let c0_1361 : Index := 0#32
  let c0_1362 : Index := 0#32
  ![v3131.toNat, 0, 0]

def k0_chk218 (v3128 : BitVec 32) : Prop :=
  (∀ a, (k0_off667 v3128) a + S1x1x128.size a ≤ S50008x1x128.size a)
theorem k0_off667_inb : ∀ (v3128 : BitVec 32) (k0_hw218 : k0_chk218 v3128), ∀ a, (k0_off667 v3128) a + S1x1x128.size a ≤ S50008x1x128.size a := fun v3128 k0_hw218 => k0_hw218

def k0_off668 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off669 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off670 (v3142 : BitVec 32) : Fin 3 → Nat :=
  let v3145 : Index := Scalar.indexCast v3142
  let c0_1367 : Index := 0#32
  let c0_1368 : Index := 0#32
  ![v3145.toNat, 0, 0]

def k0_chk219 (v3142 : BitVec 32) : Prop :=
  (∀ a, (k0_off670 v3142) a + S1x1x128.size a ≤ S50008x1x128.size a)
theorem k0_off670_inb : ∀ (v3142 : BitVec 32) (k0_hw219 : k0_chk219 v3142), ∀ a, (k0_off670 v3142) a + S1x1x128.size a ≤ S50008x1x128.size a := fun v3142 k0_hw219 => k0_hw219

def k0_off671 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off672 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off673 (v3156 : BitVec 32) : Fin 3 → Nat :=
  let v3159 : Index := Scalar.indexCast v3156
  let c0_1373 : Index := 0#32
  let c0_1374 : Index := 0#32
  ![v3159.toNat, 0, 0]

def k0_chk220 (v3156 : BitVec 32) : Prop :=
  (∀ a, (k0_off673 v3156) a + S1x1x128.size a ≤ S50008x1x128.size a)
theorem k0_off673_inb : ∀ (v3156 : BitVec 32) (k0_hw220 : k0_chk220 v3156), ∀ a, (k0_off673 v3156) a + S1x1x128.size a ≤ S50008x1x128.size a := fun v3156 k0_hw220 => k0_hw220

def k0_off674 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off675 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off676 (v3170 : BitVec 32) : Fin 3 → Nat :=
  let v3173 : Index := Scalar.indexCast v3170
  let c0_1379 : Index := 0#32
  let c0_1380 : Index := 0#32
  ![v3173.toNat, 0, 0]

def k0_chk221 (v3170 : BitVec 32) : Prop :=
  (∀ a, (k0_off676 v3170) a + S1x1x128.size a ≤ S50008x1x128.size a)
theorem k0_off676_inb : ∀ (v3170 : BitVec 32) (k0_hw221 : k0_chk221 v3170), ∀ a, (k0_off676 v3170) a + S1x1x128.size a ≤ S50008x1x128.size a := fun v3170 k0_hw221 => k0_hw221

def k0_off677 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off678 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off679 (v3184 : BitVec 32) : Fin 3 → Nat :=
  let v3187 : Index := Scalar.indexCast v3184
  let c0_1385 : Index := 0#32
  let c0_1386 : Index := 0#32
  ![v3187.toNat, 0, 0]

def k0_chk222 (v3184 : BitVec 32) : Prop :=
  (∀ a, (k0_off679 v3184) a + S1x1x128.size a ≤ S50008x1x128.size a)
theorem k0_off679_inb : ∀ (v3184 : BitVec 32) (k0_hw222 : k0_chk222 v3184), ∀ a, (k0_off679 v3184) a + S1x1x128.size a ≤ S50008x1x128.size a := fun v3184 k0_hw222 => k0_hw222

def k0_off680 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off681 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off682 (v3198 : BitVec 32) : Fin 3 → Nat :=
  let v3201 : Index := Scalar.indexCast v3198
  let c0_1391 : Index := 0#32
  let c0_1392 : Index := 0#32
  ![v3201.toNat, 0, 0]

def k0_chk223 (v3198 : BitVec 32) : Prop :=
  (∀ a, (k0_off682 v3198) a + S1x1x128.size a ≤ S50008x1x128.size a)
theorem k0_off682_inb : ∀ (v3198 : BitVec 32) (k0_hw223 : k0_chk223 v3198), ∀ a, (k0_off682 v3198) a + S1x1x128.size a ≤ S50008x1x128.size a := fun v3198 k0_hw223 => k0_hw223

def k0_off683 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off684 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off685 (v3212 : BitVec 32) : Fin 3 → Nat :=
  let v3215 : Index := Scalar.indexCast v3212
  let c0_1397 : Index := 0#32
  let c0_1398 : Index := 0#32
  ![v3215.toNat, 0, 0]

def k0_chk224 (v3212 : BitVec 32) : Prop :=
  (∀ a, (k0_off685 v3212) a + S1x1x128.size a ≤ S50008x1x128.size a)
theorem k0_off685_inb : ∀ (v3212 : BitVec 32) (k0_hw224 : k0_chk224 v3212), ∀ a, (k0_off685 v3212) a + S1x1x128.size a ≤ S50008x1x128.size a := fun v3212 k0_hw224 => k0_hw224

def k0_off686 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off687 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off688 (v3226 : BitVec 32) : Fin 3 → Nat :=
  let v3229 : Index := Scalar.indexCast v3226
  let c0_1403 : Index := 0#32
  let c0_1404 : Index := 0#32
  ![v3229.toNat, 0, 0]

def k0_chk225 (v3226 : BitVec 32) : Prop :=
  (∀ a, (k0_off688 v3226) a + S1x1x128.size a ≤ S50008x1x128.size a)
theorem k0_off688_inb : ∀ (v3226 : BitVec 32) (k0_hw225 : k0_chk225 v3226), ∀ a, (k0_off688 v3226) a + S1x1x128.size a ≤ S50008x1x128.size a := fun v3226 k0_hw225 => k0_hw225

def k0_off689 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off690 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off691 (v3240 : BitVec 32) : Fin 3 → Nat :=
  let v3243 : Index := Scalar.indexCast v3240
  let c0_1409 : Index := 0#32
  let c0_1410 : Index := 0#32
  ![v3243.toNat, 0, 0]

def k0_chk226 (v3240 : BitVec 32) : Prop :=
  (∀ a, (k0_off691 v3240) a + S1x1x128.size a ≤ S50008x1x128.size a)
theorem k0_off691_inb : ∀ (v3240 : BitVec 32) (k0_hw226 : k0_chk226 v3240), ∀ a, (k0_off691 v3240) a + S1x1x128.size a ≤ S50008x1x128.size a := fun v3240 k0_hw226 => k0_hw226

def k0_off692 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off693 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off694 (v3254 : BitVec 32) : Fin 3 → Nat :=
  let v3257 : Index := Scalar.indexCast v3254
  let c0_1415 : Index := 0#32
  let c0_1416 : Index := 0#32
  ![v3257.toNat, 0, 0]

def k0_chk227 (v3254 : BitVec 32) : Prop :=
  (∀ a, (k0_off694 v3254) a + S1x1x128.size a ≤ S50008x1x128.size a)
theorem k0_off694_inb : ∀ (v3254 : BitVec 32) (k0_hw227 : k0_chk227 v3254), ∀ a, (k0_off694 v3254) a + S1x1x128.size a ≤ S50008x1x128.size a := fun v3254 k0_hw227 => k0_hw227

def k0_off695 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off696 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off697 (v3268 : BitVec 32) : Fin 3 → Nat :=
  let v3271 : Index := Scalar.indexCast v3268
  let c0_1421 : Index := 0#32
  let c0_1422 : Index := 0#32
  ![v3271.toNat, 0, 0]

def k0_chk228 (v3268 : BitVec 32) : Prop :=
  (∀ a, (k0_off697 v3268) a + S1x1x128.size a ≤ S50008x1x128.size a)
theorem k0_off697_inb : ∀ (v3268 : BitVec 32) (k0_hw228 : k0_chk228 v3268), ∀ a, (k0_off697 v3268) a + S1x1x128.size a ≤ S50008x1x128.size a := fun v3268 k0_hw228 => k0_hw228

def k0_off698 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off699 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off700 (v3282 : BitVec 32) : Fin 3 → Nat :=
  let v3285 : Index := Scalar.indexCast v3282
  let c0_1427 : Index := 0#32
  let c0_1428 : Index := 0#32
  ![v3285.toNat, 0, 0]

def k0_chk229 (v3282 : BitVec 32) : Prop :=
  (∀ a, (k0_off700 v3282) a + S1x1x128.size a ≤ S50008x1x128.size a)
theorem k0_off700_inb : ∀ (v3282 : BitVec 32) (k0_hw229 : k0_chk229 v3282), ∀ a, (k0_off700 v3282) a + S1x1x128.size a ≤ S50008x1x128.size a := fun v3282 k0_hw229 => k0_hw229

def k0_off701 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off702 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off703 (v3296 : BitVec 32) : Fin 3 → Nat :=
  let v3299 : Index := Scalar.indexCast v3296
  let c0_1433 : Index := 0#32
  let c0_1434 : Index := 0#32
  ![v3299.toNat, 0, 0]

def k0_chk230 (v3296 : BitVec 32) : Prop :=
  (∀ a, (k0_off703 v3296) a + S1x1x128.size a ≤ S50008x1x128.size a)
theorem k0_off703_inb : ∀ (v3296 : BitVec 32) (k0_hw230 : k0_chk230 v3296), ∀ a, (k0_off703 v3296) a + S1x1x128.size a ≤ S50008x1x128.size a := fun v3296 k0_hw230 => k0_hw230

def k0_off704 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off705 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off706 (v3310 : BitVec 32) : Fin 3 → Nat :=
  let v3313 : Index := Scalar.indexCast v3310
  let c0_1439 : Index := 0#32
  let c0_1440 : Index := 0#32
  ![v3313.toNat, 0, 0]

def k0_chk231 (v3310 : BitVec 32) : Prop :=
  (∀ a, (k0_off706 v3310) a + S1x1x128.size a ≤ S50008x1x128.size a)
theorem k0_off706_inb : ∀ (v3310 : BitVec 32) (k0_hw231 : k0_chk231 v3310), ∀ a, (k0_off706 v3310) a + S1x1x128.size a ≤ S50008x1x128.size a := fun v3310 k0_hw231 => k0_hw231

def k0_off707 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off708 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off709 (v3324 : BitVec 32) : Fin 3 → Nat :=
  let v3327 : Index := Scalar.indexCast v3324
  let c0_1445 : Index := 0#32
  let c0_1446 : Index := 0#32
  ![v3327.toNat, 0, 0]

def k0_chk232 (v3324 : BitVec 32) : Prop :=
  (∀ a, (k0_off709 v3324) a + S1x1x128.size a ≤ S50008x1x128.size a)
theorem k0_off709_inb : ∀ (v3324 : BitVec 32) (k0_hw232 : k0_chk232 v3324), ∀ a, (k0_off709 v3324) a + S1x1x128.size a ≤ S50008x1x128.size a := fun v3324 k0_hw232 => k0_hw232

def k0_off710 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off711 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off712 (v3338 : BitVec 32) : Fin 3 → Nat :=
  let v3341 : Index := Scalar.indexCast v3338
  let c0_1451 : Index := 0#32
  let c0_1452 : Index := 0#32
  ![v3341.toNat, 0, 0]

def k0_chk233 (v3338 : BitVec 32) : Prop :=
  (∀ a, (k0_off712 v3338) a + S1x1x128.size a ≤ S50008x1x128.size a)
theorem k0_off712_inb : ∀ (v3338 : BitVec 32) (k0_hw233 : k0_chk233 v3338), ∀ a, (k0_off712 v3338) a + S1x1x128.size a ≤ S50008x1x128.size a := fun v3338 k0_hw233 => k0_hw233

def k0_off713 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off714 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off715 (v3352 : BitVec 32) : Fin 3 → Nat :=
  let v3355 : Index := Scalar.indexCast v3352
  let c0_1457 : Index := 0#32
  let c0_1458 : Index := 0#32
  ![v3355.toNat, 0, 0]

def k0_chk234 (v3352 : BitVec 32) : Prop :=
  (∀ a, (k0_off715 v3352) a + S1x1x128.size a ≤ S50008x1x128.size a)
theorem k0_off715_inb : ∀ (v3352 : BitVec 32) (k0_hw234 : k0_chk234 v3352), ∀ a, (k0_off715 v3352) a + S1x1x128.size a ≤ S50008x1x128.size a := fun v3352 k0_hw234 => k0_hw234

def k0_off716 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off717 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off718 (v3366 : BitVec 32) : Fin 3 → Nat :=
  let v3369 : Index := Scalar.indexCast v3366
  let c0_1463 : Index := 0#32
  let c0_1464 : Index := 0#32
  ![v3369.toNat, 0, 0]

def k0_chk235 (v3366 : BitVec 32) : Prop :=
  (∀ a, (k0_off718 v3366) a + S1x1x128.size a ≤ S50008x1x128.size a)
theorem k0_off718_inb : ∀ (v3366 : BitVec 32) (k0_hw235 : k0_chk235 v3366), ∀ a, (k0_off718 v3366) a + S1x1x128.size a ≤ S50008x1x128.size a := fun v3366 k0_hw235 => k0_hw235

def k0_off719 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off720 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off721 (v3380 : BitVec 32) : Fin 3 → Nat :=
  let v3383 : Index := Scalar.indexCast v3380
  let c0_1469 : Index := 0#32
  let c0_1470 : Index := 0#32
  ![v3383.toNat, 0, 0]

def k0_chk236 (v3380 : BitVec 32) : Prop :=
  (∀ a, (k0_off721 v3380) a + S1x1x128.size a ≤ S50008x1x128.size a)
theorem k0_off721_inb : ∀ (v3380 : BitVec 32) (k0_hw236 : k0_chk236 v3380), ∀ a, (k0_off721 v3380) a + S1x1x128.size a ≤ S50008x1x128.size a := fun v3380 k0_hw236 => k0_hw236

def k0_off722 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off723 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off724 (v3394 : BitVec 32) : Fin 3 → Nat :=
  let v3397 : Index := Scalar.indexCast v3394
  let c0_1475 : Index := 0#32
  let c0_1476 : Index := 0#32
  ![v3397.toNat, 0, 0]

def k0_chk237 (v3394 : BitVec 32) : Prop :=
  (∀ a, (k0_off724 v3394) a + S1x1x128.size a ≤ S50008x1x128.size a)
theorem k0_off724_inb : ∀ (v3394 : BitVec 32) (k0_hw237 : k0_chk237 v3394), ∀ a, (k0_off724 v3394) a + S1x1x128.size a ≤ S50008x1x128.size a := fun v3394 k0_hw237 => k0_hw237

def k0_off725 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off726 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off727 (v3408 : BitVec 32) : Fin 3 → Nat :=
  let v3411 : Index := Scalar.indexCast v3408
  let c0_1481 : Index := 0#32
  let c0_1482 : Index := 0#32
  ![v3411.toNat, 0, 0]

def k0_chk238 (v3408 : BitVec 32) : Prop :=
  (∀ a, (k0_off727 v3408) a + S1x1x128.size a ≤ S50008x1x128.size a)
theorem k0_off727_inb : ∀ (v3408 : BitVec 32) (k0_hw238 : k0_chk238 v3408), ∀ a, (k0_off727 v3408) a + S1x1x128.size a ≤ S50008x1x128.size a := fun v3408 k0_hw238 => k0_hw238

def k0_off728 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off729 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off730 (v3422 : BitVec 32) : Fin 3 → Nat :=
  let v3425 : Index := Scalar.indexCast v3422
  let c0_1487 : Index := 0#32
  let c0_1488 : Index := 0#32
  ![v3425.toNat, 0, 0]

def k0_chk239 (v3422 : BitVec 32) : Prop :=
  (∀ a, (k0_off730 v3422) a + S1x1x128.size a ≤ S50008x1x128.size a)
theorem k0_off730_inb : ∀ (v3422 : BitVec 32) (k0_hw239 : k0_chk239 v3422), ∀ a, (k0_off730 v3422) a + S1x1x128.size a ≤ S50008x1x128.size a := fun v3422 k0_hw239 => k0_hw239

def k0_off731 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off732 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off733 (v3436 : BitVec 32) : Fin 3 → Nat :=
  let v3439 : Index := Scalar.indexCast v3436
  let c0_1493 : Index := 0#32
  let c0_1494 : Index := 0#32
  ![v3439.toNat, 0, 0]

def k0_chk240 (v3436 : BitVec 32) : Prop :=
  (∀ a, (k0_off733 v3436) a + S1x1x128.size a ≤ S50008x1x128.size a)
theorem k0_off733_inb : ∀ (v3436 : BitVec 32) (k0_hw240 : k0_chk240 v3436), ∀ a, (k0_off733 v3436) a + S1x1x128.size a ≤ S50008x1x128.size a := fun v3436 k0_hw240 => k0_hw240

def k0_off734 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off735 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off736 (v3450 : BitVec 32) : Fin 3 → Nat :=
  let v3453 : Index := Scalar.indexCast v3450
  let c0_1499 : Index := 0#32
  let c0_1500 : Index := 0#32
  ![v3453.toNat, 0, 0]

def k0_chk241 (v3450 : BitVec 32) : Prop :=
  (∀ a, (k0_off736 v3450) a + S1x1x128.size a ≤ S50008x1x128.size a)
theorem k0_off736_inb : ∀ (v3450 : BitVec 32) (k0_hw241 : k0_chk241 v3450), ∀ a, (k0_off736 v3450) a + S1x1x128.size a ≤ S50008x1x128.size a := fun v3450 k0_hw241 => k0_hw241

def k0_off737 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off738 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off739 (v3464 : BitVec 32) : Fin 3 → Nat :=
  let v3467 : Index := Scalar.indexCast v3464
  let c0_1505 : Index := 0#32
  let c0_1506 : Index := 0#32
  ![v3467.toNat, 0, 0]

def k0_chk242 (v3464 : BitVec 32) : Prop :=
  (∀ a, (k0_off739 v3464) a + S1x1x128.size a ≤ S50008x1x128.size a)
theorem k0_off739_inb : ∀ (v3464 : BitVec 32) (k0_hw242 : k0_chk242 v3464), ∀ a, (k0_off739 v3464) a + S1x1x128.size a ≤ S50008x1x128.size a := fun v3464 k0_hw242 => k0_hw242

def k0_off740 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off741 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off742 (v3478 : BitVec 32) : Fin 3 → Nat :=
  let v3481 : Index := Scalar.indexCast v3478
  let c0_1511 : Index := 0#32
  let c0_1512 : Index := 0#32
  ![v3481.toNat, 0, 0]

def k0_chk243 (v3478 : BitVec 32) : Prop :=
  (∀ a, (k0_off742 v3478) a + S1x1x128.size a ≤ S50008x1x128.size a)
theorem k0_off742_inb : ∀ (v3478 : BitVec 32) (k0_hw243 : k0_chk243 v3478), ∀ a, (k0_off742 v3478) a + S1x1x128.size a ≤ S50008x1x128.size a := fun v3478 k0_hw243 => k0_hw243

def k0_off743 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off744 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off745 (v3492 : BitVec 32) : Fin 3 → Nat :=
  let v3495 : Index := Scalar.indexCast v3492
  let c0_1517 : Index := 0#32
  let c0_1518 : Index := 0#32
  ![v3495.toNat, 0, 0]

def k0_chk244 (v3492 : BitVec 32) : Prop :=
  (∀ a, (k0_off745 v3492) a + S1x1x128.size a ≤ S50008x1x128.size a)
theorem k0_off745_inb : ∀ (v3492 : BitVec 32) (k0_hw244 : k0_chk244 v3492), ∀ a, (k0_off745 v3492) a + S1x1x128.size a ≤ S50008x1x128.size a := fun v3492 k0_hw244 => k0_hw244

def k0_off746 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off747 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off748 (v3506 : BitVec 32) : Fin 3 → Nat :=
  let v3509 : Index := Scalar.indexCast v3506
  let c0_1523 : Index := 0#32
  let c0_1524 : Index := 0#32
  ![v3509.toNat, 0, 0]

def k0_chk245 (v3506 : BitVec 32) : Prop :=
  (∀ a, (k0_off748 v3506) a + S1x1x128.size a ≤ S50008x1x128.size a)
theorem k0_off748_inb : ∀ (v3506 : BitVec 32) (k0_hw245 : k0_chk245 v3506), ∀ a, (k0_off748 v3506) a + S1x1x128.size a ≤ S50008x1x128.size a := fun v3506 k0_hw245 => k0_hw245

def k0_off749 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off750 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off751 (v3520 : BitVec 32) : Fin 3 → Nat :=
  let v3523 : Index := Scalar.indexCast v3520
  let c0_1529 : Index := 0#32
  let c0_1530 : Index := 0#32
  ![v3523.toNat, 0, 0]

def k0_chk246 (v3520 : BitVec 32) : Prop :=
  (∀ a, (k0_off751 v3520) a + S1x1x128.size a ≤ S50008x1x128.size a)
theorem k0_off751_inb : ∀ (v3520 : BitVec 32) (k0_hw246 : k0_chk246 v3520), ∀ a, (k0_off751 v3520) a + S1x1x128.size a ≤ S50008x1x128.size a := fun v3520 k0_hw246 => k0_hw246

def k0_off752 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off753 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off754 (v3534 : BitVec 32) : Fin 3 → Nat :=
  let v3537 : Index := Scalar.indexCast v3534
  let c0_1535 : Index := 0#32
  let c0_1536 : Index := 0#32
  ![v3537.toNat, 0, 0]

def k0_chk247 (v3534 : BitVec 32) : Prop :=
  (∀ a, (k0_off754 v3534) a + S1x1x128.size a ≤ S50008x1x128.size a)
theorem k0_off754_inb : ∀ (v3534 : BitVec 32) (k0_hw247 : k0_chk247 v3534), ∀ a, (k0_off754 v3534) a + S1x1x128.size a ≤ S50008x1x128.size a := fun v3534 k0_hw247 => k0_hw247

def k0_off755 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off756 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off757 (v3548 : BitVec 32) : Fin 3 → Nat :=
  let v3551 : Index := Scalar.indexCast v3548
  let c0_1541 : Index := 0#32
  let c0_1542 : Index := 0#32
  ![v3551.toNat, 0, 0]

def k0_chk248 (v3548 : BitVec 32) : Prop :=
  (∀ a, (k0_off757 v3548) a + S1x1x128.size a ≤ S50008x1x128.size a)
theorem k0_off757_inb : ∀ (v3548 : BitVec 32) (k0_hw248 : k0_chk248 v3548), ∀ a, (k0_off757 v3548) a + S1x1x128.size a ≤ S50008x1x128.size a := fun v3548 k0_hw248 => k0_hw248

def k0_off758 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off759 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off760 (v3562 : BitVec 32) : Fin 3 → Nat :=
  let v3565 : Index := Scalar.indexCast v3562
  let c0_1547 : Index := 0#32
  let c0_1548 : Index := 0#32
  ![v3565.toNat, 0, 0]

def k0_chk249 (v3562 : BitVec 32) : Prop :=
  (∀ a, (k0_off760 v3562) a + S1x1x128.size a ≤ S50008x1x128.size a)
theorem k0_off760_inb : ∀ (v3562 : BitVec 32) (k0_hw249 : k0_chk249 v3562), ∀ a, (k0_off760 v3562) a + S1x1x128.size a ≤ S50008x1x128.size a := fun v3562 k0_hw249 => k0_hw249

def k0_off761 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off762 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off763 (v3576 : BitVec 32) : Fin 3 → Nat :=
  let v3579 : Index := Scalar.indexCast v3576
  let c0_1553 : Index := 0#32
  let c0_1554 : Index := 0#32
  ![v3579.toNat, 0, 0]

def k0_chk250 (v3576 : BitVec 32) : Prop :=
  (∀ a, (k0_off763 v3576) a + S1x1x128.size a ≤ S50008x1x128.size a)
theorem k0_off763_inb : ∀ (v3576 : BitVec 32) (k0_hw250 : k0_chk250 v3576), ∀ a, (k0_off763 v3576) a + S1x1x128.size a ≤ S50008x1x128.size a := fun v3576 k0_hw250 => k0_hw250

def k0_off764 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off765 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off766 (v3590 : BitVec 32) : Fin 3 → Nat :=
  let v3593 : Index := Scalar.indexCast v3590
  let c0_1559 : Index := 0#32
  let c0_1560 : Index := 0#32
  ![v3593.toNat, 0, 0]

def k0_chk251 (v3590 : BitVec 32) : Prop :=
  (∀ a, (k0_off766 v3590) a + S1x1x128.size a ≤ S50008x1x128.size a)
theorem k0_off766_inb : ∀ (v3590 : BitVec 32) (k0_hw251 : k0_chk251 v3590), ∀ a, (k0_off766 v3590) a + S1x1x128.size a ≤ S50008x1x128.size a := fun v3590 k0_hw251 => k0_hw251

def k0_off767 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off768 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off769 (v3604 : BitVec 32) : Fin 3 → Nat :=
  let v3607 : Index := Scalar.indexCast v3604
  let c0_1565 : Index := 0#32
  let c0_1566 : Index := 0#32
  ![v3607.toNat, 0, 0]

def k0_chk252 (v3604 : BitVec 32) : Prop :=
  (∀ a, (k0_off769 v3604) a + S1x1x128.size a ≤ S50008x1x128.size a)
theorem k0_off769_inb : ∀ (v3604 : BitVec 32) (k0_hw252 : k0_chk252 v3604), ∀ a, (k0_off769 v3604) a + S1x1x128.size a ≤ S50008x1x128.size a := fun v3604 k0_hw252 => k0_hw252

def k0_off770 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off771 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off772 (v3618 : BitVec 32) : Fin 3 → Nat :=
  let v3621 : Index := Scalar.indexCast v3618
  let c0_1571 : Index := 0#32
  let c0_1572 : Index := 0#32
  ![v3621.toNat, 0, 0]

def k0_chk253 (v3618 : BitVec 32) : Prop :=
  (∀ a, (k0_off772 v3618) a + S1x1x128.size a ≤ S50008x1x128.size a)
theorem k0_off772_inb : ∀ (v3618 : BitVec 32) (k0_hw253 : k0_chk253 v3618), ∀ a, (k0_off772 v3618) a + S1x1x128.size a ≤ S50008x1x128.size a := fun v3618 k0_hw253 => k0_hw253

def k0_off773 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off774 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off775 (v3632 : BitVec 32) : Fin 3 → Nat :=
  let v3635 : Index := Scalar.indexCast v3632
  let c0_1577 : Index := 0#32
  let c0_1578 : Index := 0#32
  ![v3635.toNat, 0, 0]

def k0_chk254 (v3632 : BitVec 32) : Prop :=
  (∀ a, (k0_off775 v3632) a + S1x1x128.size a ≤ S50008x1x128.size a)
theorem k0_off775_inb : ∀ (v3632 : BitVec 32) (k0_hw254 : k0_chk254 v3632), ∀ a, (k0_off775 v3632) a + S1x1x128.size a ≤ S50008x1x128.size a := fun v3632 k0_hw254 => k0_hw254

def k0_off776 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off777 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off778 (v3646 : BitVec 32) : Fin 3 → Nat :=
  let v3649 : Index := Scalar.indexCast v3646
  let c0_1583 : Index := 0#32
  let c0_1584 : Index := 0#32
  ![v3649.toNat, 0, 0]

def k0_chk255 (v3646 : BitVec 32) : Prop :=
  (∀ a, (k0_off778 v3646) a + S1x1x128.size a ≤ S50008x1x128.size a)
theorem k0_off778_inb : ∀ (v3646 : BitVec 32) (k0_hw255 : k0_chk255 v3646), ∀ a, (k0_off778 v3646) a + S1x1x128.size a ≤ S50008x1x128.size a := fun v3646 k0_hw255 => k0_hw255

def k0_off779 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off780 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off781 (v3660 : BitVec 32) : Fin 3 → Nat :=
  let v3663 : Index := Scalar.indexCast v3660
  let c0_1589 : Index := 0#32
  let c0_1590 : Index := 0#32
  ![v3663.toNat, 0, 0]

def k0_chk256 (v3660 : BitVec 32) : Prop :=
  (∀ a, (k0_off781 v3660) a + S1x1x128.size a ≤ S50008x1x128.size a)
theorem k0_off781_inb : ∀ (v3660 : BitVec 32) (k0_hw256 : k0_chk256 v3660), ∀ a, (k0_off781 v3660) a + S1x1x128.size a ≤ S50008x1x128.size a := fun v3660 k0_hw256 => k0_hw256

def k0_off782 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off783 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off784 (v3674 : BitVec 32) : Fin 3 → Nat :=
  let v3677 : Index := Scalar.indexCast v3674
  let c0_1595 : Index := 0#32
  let c0_1596 : Index := 0#32
  ![v3677.toNat, 0, 0]

def k0_chk257 (v3674 : BitVec 32) : Prop :=
  (∀ a, (k0_off784 v3674) a + S1x1x128.size a ≤ S50008x1x128.size a)
theorem k0_off784_inb : ∀ (v3674 : BitVec 32) (k0_hw257 : k0_chk257 v3674), ∀ a, (k0_off784 v3674) a + S1x1x128.size a ≤ S50008x1x128.size a := fun v3674 k0_hw257 => k0_hw257

def k0_off785 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off786 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off787 (v3688 : BitVec 32) : Fin 3 → Nat :=
  let v3691 : Index := Scalar.indexCast v3688
  let c0_1601 : Index := 0#32
  let c0_1602 : Index := 0#32
  ![v3691.toNat, 0, 0]

def k0_chk258 (v3688 : BitVec 32) : Prop :=
  (∀ a, (k0_off787 v3688) a + S1x1x128.size a ≤ S50008x1x128.size a)
theorem k0_off787_inb : ∀ (v3688 : BitVec 32) (k0_hw258 : k0_chk258 v3688), ∀ a, (k0_off787 v3688) a + S1x1x128.size a ≤ S50008x1x128.size a := fun v3688 k0_hw258 => k0_hw258

def k0_off788 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off789 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off790 (v3702 : BitVec 32) : Fin 3 → Nat :=
  let v3705 : Index := Scalar.indexCast v3702
  let c0_1607 : Index := 0#32
  let c0_1608 : Index := 0#32
  ![v3705.toNat, 0, 0]

def k0_chk259 (v3702 : BitVec 32) : Prop :=
  (∀ a, (k0_off790 v3702) a + S1x1x128.size a ≤ S50008x1x128.size a)
theorem k0_off790_inb : ∀ (v3702 : BitVec 32) (k0_hw259 : k0_chk259 v3702), ∀ a, (k0_off790 v3702) a + S1x1x128.size a ≤ S50008x1x128.size a := fun v3702 k0_hw259 => k0_hw259

def k0_off791 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off792 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off793 (v3716 : BitVec 32) : Fin 3 → Nat :=
  let v3719 : Index := Scalar.indexCast v3716
  let c0_1613 : Index := 0#32
  let c0_1614 : Index := 0#32
  ![v3719.toNat, 0, 0]

def k0_chk260 (v3716 : BitVec 32) : Prop :=
  (∀ a, (k0_off793 v3716) a + S1x1x128.size a ≤ S50008x1x128.size a)
theorem k0_off793_inb : ∀ (v3716 : BitVec 32) (k0_hw260 : k0_chk260 v3716), ∀ a, (k0_off793 v3716) a + S1x1x128.size a ≤ S50008x1x128.size a := fun v3716 k0_hw260 => k0_hw260

def k0_off794 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off795 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off796 (v3730 : BitVec 32) : Fin 3 → Nat :=
  let v3733 : Index := Scalar.indexCast v3730
  let c0_1619 : Index := 0#32
  let c0_1620 : Index := 0#32
  ![v3733.toNat, 0, 0]

def k0_chk261 (v3730 : BitVec 32) : Prop :=
  (∀ a, (k0_off796 v3730) a + S1x1x128.size a ≤ S50008x1x128.size a)
theorem k0_off796_inb : ∀ (v3730 : BitVec 32) (k0_hw261 : k0_chk261 v3730), ∀ a, (k0_off796 v3730) a + S1x1x128.size a ≤ S50008x1x128.size a := fun v3730 k0_hw261 => k0_hw261

def k0_off797 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off798 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off799 (v3744 : BitVec 32) : Fin 3 → Nat :=
  let v3747 : Index := Scalar.indexCast v3744
  let c0_1625 : Index := 0#32
  let c0_1626 : Index := 0#32
  ![v3747.toNat, 0, 0]

def k0_chk262 (v3744 : BitVec 32) : Prop :=
  (∀ a, (k0_off799 v3744) a + S1x1x128.size a ≤ S50008x1x128.size a)
theorem k0_off799_inb : ∀ (v3744 : BitVec 32) (k0_hw262 : k0_chk262 v3744), ∀ a, (k0_off799 v3744) a + S1x1x128.size a ≤ S50008x1x128.size a := fun v3744 k0_hw262 => k0_hw262

def k0_off800 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off801 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off802 (v3758 : BitVec 32) : Fin 3 → Nat :=
  let v3761 : Index := Scalar.indexCast v3758
  let c0_1631 : Index := 0#32
  let c0_1632 : Index := 0#32
  ![v3761.toNat, 0, 0]

def k0_chk263 (v3758 : BitVec 32) : Prop :=
  (∀ a, (k0_off802 v3758) a + S1x1x128.size a ≤ S50008x1x128.size a)
theorem k0_off802_inb : ∀ (v3758 : BitVec 32) (k0_hw263 : k0_chk263 v3758), ∀ a, (k0_off802 v3758) a + S1x1x128.size a ≤ S50008x1x128.size a := fun v3758 k0_hw263 => k0_hw263

def k0_off803 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off804 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off805 (v3772 : BitVec 32) : Fin 3 → Nat :=
  let v3775 : Index := Scalar.indexCast v3772
  let c0_1637 : Index := 0#32
  let c0_1638 : Index := 0#32
  ![v3775.toNat, 0, 0]

def k0_chk264 (v3772 : BitVec 32) : Prop :=
  (∀ a, (k0_off805 v3772) a + S1x1x128.size a ≤ S50008x1x128.size a)
theorem k0_off805_inb : ∀ (v3772 : BitVec 32) (k0_hw264 : k0_chk264 v3772), ∀ a, (k0_off805 v3772) a + S1x1x128.size a ≤ S50008x1x128.size a := fun v3772 k0_hw264 => k0_hw264

def k0_off806 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off807 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off808 (v3786 : BitVec 32) : Fin 3 → Nat :=
  let v3789 : Index := Scalar.indexCast v3786
  let c0_1643 : Index := 0#32
  let c0_1644 : Index := 0#32
  ![v3789.toNat, 0, 0]

def k0_chk265 (v3786 : BitVec 32) : Prop :=
  (∀ a, (k0_off808 v3786) a + S1x1x128.size a ≤ S50008x1x128.size a)
theorem k0_off808_inb : ∀ (v3786 : BitVec 32) (k0_hw265 : k0_chk265 v3786), ∀ a, (k0_off808 v3786) a + S1x1x128.size a ≤ S50008x1x128.size a := fun v3786 k0_hw265 => k0_hw265

def k0_off809 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off810 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off811 (v3800 : BitVec 32) : Fin 3 → Nat :=
  let v3803 : Index := Scalar.indexCast v3800
  let c0_1649 : Index := 0#32
  let c0_1650 : Index := 0#32
  ![v3803.toNat, 0, 0]

def k0_chk266 (v3800 : BitVec 32) : Prop :=
  (∀ a, (k0_off811 v3800) a + S1x1x128.size a ≤ S50008x1x128.size a)
theorem k0_off811_inb : ∀ (v3800 : BitVec 32) (k0_hw266 : k0_chk266 v3800), ∀ a, (k0_off811 v3800) a + S1x1x128.size a ≤ S50008x1x128.size a := fun v3800 k0_hw266 => k0_hw266

def k0_off812 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off813 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off814 (v3814 : BitVec 32) : Fin 3 → Nat :=
  let v3817 : Index := Scalar.indexCast v3814
  let c0_1655 : Index := 0#32
  let c0_1656 : Index := 0#32
  ![v3817.toNat, 0, 0]

def k0_chk267 (v3814 : BitVec 32) : Prop :=
  (∀ a, (k0_off814 v3814) a + S1x1x128.size a ≤ S50008x1x128.size a)
theorem k0_off814_inb : ∀ (v3814 : BitVec 32) (k0_hw267 : k0_chk267 v3814), ∀ a, (k0_off814 v3814) a + S1x1x128.size a ≤ S50008x1x128.size a := fun v3814 k0_hw267 => k0_hw267

def k0_off815 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off816 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off817 (v3828 : BitVec 32) : Fin 3 → Nat :=
  let v3831 : Index := Scalar.indexCast v3828
  let c0_1661 : Index := 0#32
  let c0_1662 : Index := 0#32
  ![v3831.toNat, 0, 0]

def k0_chk268 (v3828 : BitVec 32) : Prop :=
  (∀ a, (k0_off817 v3828) a + S1x1x128.size a ≤ S50008x1x128.size a)
theorem k0_off817_inb : ∀ (v3828 : BitVec 32) (k0_hw268 : k0_chk268 v3828), ∀ a, (k0_off817 v3828) a + S1x1x128.size a ≤ S50008x1x128.size a := fun v3828 k0_hw268 => k0_hw268

def k0_off818 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off819 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off820 (v3842 : BitVec 32) : Fin 3 → Nat :=
  let v3845 : Index := Scalar.indexCast v3842
  let c0_1667 : Index := 0#32
  let c0_1668 : Index := 0#32
  ![v3845.toNat, 0, 0]

def k0_chk269 (v3842 : BitVec 32) : Prop :=
  (∀ a, (k0_off820 v3842) a + S1x1x128.size a ≤ S50008x1x128.size a)
theorem k0_off820_inb : ∀ (v3842 : BitVec 32) (k0_hw269 : k0_chk269 v3842), ∀ a, (k0_off820 v3842) a + S1x1x128.size a ≤ S50008x1x128.size a := fun v3842 k0_hw269 => k0_hw269

def k0_off821 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off822 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off823 (v3856 : BitVec 32) : Fin 3 → Nat :=
  let v3859 : Index := Scalar.indexCast v3856
  let c0_1673 : Index := 0#32
  let c0_1674 : Index := 0#32
  ![v3859.toNat, 0, 0]

def k0_chk270 (v3856 : BitVec 32) : Prop :=
  (∀ a, (k0_off823 v3856) a + S1x1x128.size a ≤ S50008x1x128.size a)
theorem k0_off823_inb : ∀ (v3856 : BitVec 32) (k0_hw270 : k0_chk270 v3856), ∀ a, (k0_off823 v3856) a + S1x1x128.size a ≤ S50008x1x128.size a := fun v3856 k0_hw270 => k0_hw270

def k0_off824 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off825 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off826 (v3870 : BitVec 32) : Fin 3 → Nat :=
  let v3873 : Index := Scalar.indexCast v3870
  let c0_1679 : Index := 0#32
  let c0_1680 : Index := 0#32
  ![v3873.toNat, 0, 0]

def k0_chk271 (v3870 : BitVec 32) : Prop :=
  (∀ a, (k0_off826 v3870) a + S1x1x128.size a ≤ S50008x1x128.size a)
theorem k0_off826_inb : ∀ (v3870 : BitVec 32) (k0_hw271 : k0_chk271 v3870), ∀ a, (k0_off826 v3870) a + S1x1x128.size a ≤ S50008x1x128.size a := fun v3870 k0_hw271 => k0_hw271

def k0_off827 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off828 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off829 (v3884 : BitVec 32) : Fin 3 → Nat :=
  let v3887 : Index := Scalar.indexCast v3884
  let c0_1685 : Index := 0#32
  let c0_1686 : Index := 0#32
  ![v3887.toNat, 0, 0]

def k0_chk272 (v3884 : BitVec 32) : Prop :=
  (∀ a, (k0_off829 v3884) a + S1x1x128.size a ≤ S50008x1x128.size a)
theorem k0_off829_inb : ∀ (v3884 : BitVec 32) (k0_hw272 : k0_chk272 v3884), ∀ a, (k0_off829 v3884) a + S1x1x128.size a ≤ S50008x1x128.size a := fun v3884 k0_hw272 => k0_hw272

def k0_off830 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off831 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off832 (v3898 : BitVec 32) : Fin 3 → Nat :=
  let v3901 : Index := Scalar.indexCast v3898
  let c0_1691 : Index := 0#32
  let c0_1692 : Index := 0#32
  ![v3901.toNat, 0, 0]

def k0_chk273 (v3898 : BitVec 32) : Prop :=
  (∀ a, (k0_off832 v3898) a + S1x1x128.size a ≤ S50008x1x128.size a)
theorem k0_off832_inb : ∀ (v3898 : BitVec 32) (k0_hw273 : k0_chk273 v3898), ∀ a, (k0_off832 v3898) a + S1x1x128.size a ≤ S50008x1x128.size a := fun v3898 k0_hw273 => k0_hw273

def k0_off833 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off834 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off835 (v3912 : BitVec 32) : Fin 3 → Nat :=
  let v3915 : Index := Scalar.indexCast v3912
  let c0_1697 : Index := 0#32
  let c0_1698 : Index := 0#32
  ![v3915.toNat, 0, 0]

def k0_chk274 (v3912 : BitVec 32) : Prop :=
  (∀ a, (k0_off835 v3912) a + S1x1x128.size a ≤ S50008x1x128.size a)
theorem k0_off835_inb : ∀ (v3912 : BitVec 32) (k0_hw274 : k0_chk274 v3912), ∀ a, (k0_off835 v3912) a + S1x1x128.size a ≤ S50008x1x128.size a := fun v3912 k0_hw274 => k0_hw274

def k0_off836 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off837 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off838 (v3926 : BitVec 32) : Fin 3 → Nat :=
  let v3929 : Index := Scalar.indexCast v3926
  let c0_1703 : Index := 0#32
  let c0_1704 : Index := 0#32
  ![v3929.toNat, 0, 0]

def k0_chk275 (v3926 : BitVec 32) : Prop :=
  (∀ a, (k0_off838 v3926) a + S1x1x128.size a ≤ S50008x1x128.size a)
theorem k0_off838_inb : ∀ (v3926 : BitVec 32) (k0_hw275 : k0_chk275 v3926), ∀ a, (k0_off838 v3926) a + S1x1x128.size a ≤ S50008x1x128.size a := fun v3926 k0_hw275 => k0_hw275

def k0_off839 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off840 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off841 (v3940 : BitVec 32) : Fin 3 → Nat :=
  let v3943 : Index := Scalar.indexCast v3940
  let c0_1709 : Index := 0#32
  let c0_1710 : Index := 0#32
  ![v3943.toNat, 0, 0]

def k0_chk276 (v3940 : BitVec 32) : Prop :=
  (∀ a, (k0_off841 v3940) a + S1x1x128.size a ≤ S50008x1x128.size a)
theorem k0_off841_inb : ∀ (v3940 : BitVec 32) (k0_hw276 : k0_chk276 v3940), ∀ a, (k0_off841 v3940) a + S1x1x128.size a ≤ S50008x1x128.size a := fun v3940 k0_hw276 => k0_hw276

def k0_off842 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off843 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off844 (v3954 : BitVec 32) : Fin 3 → Nat :=
  let v3957 : Index := Scalar.indexCast v3954
  let c0_1715 : Index := 0#32
  let c0_1716 : Index := 0#32
  ![v3957.toNat, 0, 0]

def k0_chk277 (v3954 : BitVec 32) : Prop :=
  (∀ a, (k0_off844 v3954) a + S1x1x128.size a ≤ S50008x1x128.size a)
theorem k0_off844_inb : ∀ (v3954 : BitVec 32) (k0_hw277 : k0_chk277 v3954), ∀ a, (k0_off844 v3954) a + S1x1x128.size a ≤ S50008x1x128.size a := fun v3954 k0_hw277 => k0_hw277

def k0_off845 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off846 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off847 (v3968 : BitVec 32) : Fin 3 → Nat :=
  let v3971 : Index := Scalar.indexCast v3968
  let c0_1721 : Index := 0#32
  let c0_1722 : Index := 0#32
  ![v3971.toNat, 0, 0]

def k0_chk278 (v3968 : BitVec 32) : Prop :=
  (∀ a, (k0_off847 v3968) a + S1x1x128.size a ≤ S50008x1x128.size a)
theorem k0_off847_inb : ∀ (v3968 : BitVec 32) (k0_hw278 : k0_chk278 v3968), ∀ a, (k0_off847 v3968) a + S1x1x128.size a ≤ S50008x1x128.size a := fun v3968 k0_hw278 => k0_hw278

def k0_off848 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off849 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off850 (v3982 : BitVec 32) : Fin 3 → Nat :=
  let v3985 : Index := Scalar.indexCast v3982
  let c0_1727 : Index := 0#32
  let c0_1728 : Index := 0#32
  ![v3985.toNat, 0, 0]

def k0_chk279 (v3982 : BitVec 32) : Prop :=
  (∀ a, (k0_off850 v3982) a + S1x1x128.size a ≤ S50008x1x128.size a)
theorem k0_off850_inb : ∀ (v3982 : BitVec 32) (k0_hw279 : k0_chk279 v3982), ∀ a, (k0_off850 v3982) a + S1x1x128.size a ≤ S50008x1x128.size a := fun v3982 k0_hw279 => k0_hw279

def k0_off851 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off852 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off853 (v3996 : BitVec 32) : Fin 3 → Nat :=
  let v3999 : Index := Scalar.indexCast v3996
  let c0_1733 : Index := 0#32
  let c0_1734 : Index := 0#32
  ![v3999.toNat, 0, 0]

def k0_chk280 (v3996 : BitVec 32) : Prop :=
  (∀ a, (k0_off853 v3996) a + S1x1x128.size a ≤ S50008x1x128.size a)
theorem k0_off853_inb : ∀ (v3996 : BitVec 32) (k0_hw280 : k0_chk280 v3996), ∀ a, (k0_off853 v3996) a + S1x1x128.size a ≤ S50008x1x128.size a := fun v3996 k0_hw280 => k0_hw280

def k0_off854 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off855 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off856 (v4010 : BitVec 32) : Fin 3 → Nat :=
  let v4013 : Index := Scalar.indexCast v4010
  let c0_1739 : Index := 0#32
  let c0_1740 : Index := 0#32
  ![v4013.toNat, 0, 0]

def k0_chk281 (v4010 : BitVec 32) : Prop :=
  (∀ a, (k0_off856 v4010) a + S1x1x128.size a ≤ S50008x1x128.size a)
theorem k0_off856_inb : ∀ (v4010 : BitVec 32) (k0_hw281 : k0_chk281 v4010), ∀ a, (k0_off856 v4010) a + S1x1x128.size a ≤ S50008x1x128.size a := fun v4010 k0_hw281 => k0_hw281

def k0_off857 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off858 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off859 (v4024 : BitVec 32) : Fin 3 → Nat :=
  let v4027 : Index := Scalar.indexCast v4024
  let c0_1745 : Index := 0#32
  let c0_1746 : Index := 0#32
  ![v4027.toNat, 0, 0]

def k0_chk282 (v4024 : BitVec 32) : Prop :=
  (∀ a, (k0_off859 v4024) a + S1x1x128.size a ≤ S50008x1x128.size a)
theorem k0_off859_inb : ∀ (v4024 : BitVec 32) (k0_hw282 : k0_chk282 v4024), ∀ a, (k0_off859 v4024) a + S1x1x128.size a ≤ S50008x1x128.size a := fun v4024 k0_hw282 => k0_hw282

def k0_off860 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off861 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off862 (v4038 : BitVec 32) : Fin 3 → Nat :=
  let v4041 : Index := Scalar.indexCast v4038
  let c0_1751 : Index := 0#32
  let c0_1752 : Index := 0#32
  ![v4041.toNat, 0, 0]

def k0_chk283 (v4038 : BitVec 32) : Prop :=
  (∀ a, (k0_off862 v4038) a + S1x1x128.size a ≤ S50008x1x128.size a)
theorem k0_off862_inb : ∀ (v4038 : BitVec 32) (k0_hw283 : k0_chk283 v4038), ∀ a, (k0_off862 v4038) a + S1x1x128.size a ≤ S50008x1x128.size a := fun v4038 k0_hw283 => k0_hw283

def k0_off863 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off864 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off865 (v4052 : BitVec 32) : Fin 3 → Nat :=
  let v4055 : Index := Scalar.indexCast v4052
  let c0_1757 : Index := 0#32
  let c0_1758 : Index := 0#32
  ![v4055.toNat, 0, 0]

def k0_chk284 (v4052 : BitVec 32) : Prop :=
  (∀ a, (k0_off865 v4052) a + S1x1x128.size a ≤ S50008x1x128.size a)
theorem k0_off865_inb : ∀ (v4052 : BitVec 32) (k0_hw284 : k0_chk284 v4052), ∀ a, (k0_off865 v4052) a + S1x1x128.size a ≤ S50008x1x128.size a := fun v4052 k0_hw284 => k0_hw284

def k0_off866 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off867 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off868 (v4066 : BitVec 32) : Fin 3 → Nat :=
  let v4069 : Index := Scalar.indexCast v4066
  let c0_1763 : Index := 0#32
  let c0_1764 : Index := 0#32
  ![v4069.toNat, 0, 0]

def k0_chk285 (v4066 : BitVec 32) : Prop :=
  (∀ a, (k0_off868 v4066) a + S1x1x128.size a ≤ S50008x1x128.size a)
theorem k0_off868_inb : ∀ (v4066 : BitVec 32) (k0_hw285 : k0_chk285 v4066), ∀ a, (k0_off868 v4066) a + S1x1x128.size a ≤ S50008x1x128.size a := fun v4066 k0_hw285 => k0_hw285

def k0_off869 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off870 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off871 (v4080 : BitVec 32) : Fin 3 → Nat :=
  let v4083 : Index := Scalar.indexCast v4080
  let c0_1769 : Index := 0#32
  let c0_1770 : Index := 0#32
  ![v4083.toNat, 0, 0]

def k0_chk286 (v4080 : BitVec 32) : Prop :=
  (∀ a, (k0_off871 v4080) a + S1x1x128.size a ≤ S50008x1x128.size a)
theorem k0_off871_inb : ∀ (v4080 : BitVec 32) (k0_hw286 : k0_chk286 v4080), ∀ a, (k0_off871 v4080) a + S1x1x128.size a ≤ S50008x1x128.size a := fun v4080 k0_hw286 => k0_hw286

def k0_off872 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off873 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off874 (v4094 : BitVec 32) : Fin 3 → Nat :=
  let v4097 : Index := Scalar.indexCast v4094
  let c0_1775 : Index := 0#32
  let c0_1776 : Index := 0#32
  ![v4097.toNat, 0, 0]

def k0_chk287 (v4094 : BitVec 32) : Prop :=
  (∀ a, (k0_off874 v4094) a + S1x1x128.size a ≤ S50008x1x128.size a)
theorem k0_off874_inb : ∀ (v4094 : BitVec 32) (k0_hw287 : k0_chk287 v4094), ∀ a, (k0_off874 v4094) a + S1x1x128.size a ≤ S50008x1x128.size a := fun v4094 k0_hw287 => k0_hw287

def k0_off875 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off876 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off877 (v4108 : BitVec 32) : Fin 3 → Nat :=
  let v4111 : Index := Scalar.indexCast v4108
  let c0_1781 : Index := 0#32
  let c0_1782 : Index := 0#32
  ![v4111.toNat, 0, 0]

def k0_chk288 (v4108 : BitVec 32) : Prop :=
  (∀ a, (k0_off877 v4108) a + S1x1x128.size a ≤ S50008x1x128.size a)
theorem k0_off877_inb : ∀ (v4108 : BitVec 32) (k0_hw288 : k0_chk288 v4108), ∀ a, (k0_off877 v4108) a + S1x1x128.size a ≤ S50008x1x128.size a := fun v4108 k0_hw288 => k0_hw288

def k0_off878 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off879 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off880 (v4122 : BitVec 32) : Fin 3 → Nat :=
  let v4125 : Index := Scalar.indexCast v4122
  let c0_1787 : Index := 0#32
  let c0_1788 : Index := 0#32
  ![v4125.toNat, 0, 0]

def k0_chk289 (v4122 : BitVec 32) : Prop :=
  (∀ a, (k0_off880 v4122) a + S1x1x128.size a ≤ S50008x1x128.size a)
theorem k0_off880_inb : ∀ (v4122 : BitVec 32) (k0_hw289 : k0_chk289 v4122), ∀ a, (k0_off880 v4122) a + S1x1x128.size a ≤ S50008x1x128.size a := fun v4122 k0_hw289 => k0_hw289

def k0_off881 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off882 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off883 (v4136 : BitVec 32) : Fin 3 → Nat :=
  let v4139 : Index := Scalar.indexCast v4136
  let c0_1793 : Index := 0#32
  let c0_1794 : Index := 0#32
  ![v4139.toNat, 0, 0]

def k0_chk290 (v4136 : BitVec 32) : Prop :=
  (∀ a, (k0_off883 v4136) a + S1x1x128.size a ≤ S50008x1x128.size a)
theorem k0_off883_inb : ∀ (v4136 : BitVec 32) (k0_hw290 : k0_chk290 v4136), ∀ a, (k0_off883 v4136) a + S1x1x128.size a ≤ S50008x1x128.size a := fun v4136 k0_hw290 => k0_hw290

def k0_off884 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off885 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off886 (v4150 : BitVec 32) : Fin 3 → Nat :=
  let v4153 : Index := Scalar.indexCast v4150
  let c0_1799 : Index := 0#32
  let c0_1800 : Index := 0#32
  ![v4153.toNat, 0, 0]

def k0_chk291 (v4150 : BitVec 32) : Prop :=
  (∀ a, (k0_off886 v4150) a + S1x1x128.size a ≤ S50008x1x128.size a)
theorem k0_off886_inb : ∀ (v4150 : BitVec 32) (k0_hw291 : k0_chk291 v4150), ∀ a, (k0_off886 v4150) a + S1x1x128.size a ≤ S50008x1x128.size a := fun v4150 k0_hw291 => k0_hw291

def k0_off887 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off888 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off889 (v4164 : BitVec 32) : Fin 3 → Nat :=
  let v4167 : Index := Scalar.indexCast v4164
  let c0_1805 : Index := 0#32
  let c0_1806 : Index := 0#32
  ![v4167.toNat, 0, 0]

def k0_chk292 (v4164 : BitVec 32) : Prop :=
  (∀ a, (k0_off889 v4164) a + S1x1x128.size a ≤ S50008x1x128.size a)
theorem k0_off889_inb : ∀ (v4164 : BitVec 32) (k0_hw292 : k0_chk292 v4164), ∀ a, (k0_off889 v4164) a + S1x1x128.size a ≤ S50008x1x128.size a := fun v4164 k0_hw292 => k0_hw292

def k0_off890 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off891 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off892 (v4178 : BitVec 32) : Fin 3 → Nat :=
  let v4181 : Index := Scalar.indexCast v4178
  let c0_1811 : Index := 0#32
  let c0_1812 : Index := 0#32
  ![v4181.toNat, 0, 0]

def k0_chk293 (v4178 : BitVec 32) : Prop :=
  (∀ a, (k0_off892 v4178) a + S1x1x128.size a ≤ S50008x1x128.size a)
theorem k0_off892_inb : ∀ (v4178 : BitVec 32) (k0_hw293 : k0_chk293 v4178), ∀ a, (k0_off892 v4178) a + S1x1x128.size a ≤ S50008x1x128.size a := fun v4178 k0_hw293 => k0_hw293

def k0_off893 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off894 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off895 (v4192 : BitVec 32) : Fin 3 → Nat :=
  let v4195 : Index := Scalar.indexCast v4192
  let c0_1817 : Index := 0#32
  let c0_1818 : Index := 0#32
  ![v4195.toNat, 0, 0]

def k0_chk294 (v4192 : BitVec 32) : Prop :=
  (∀ a, (k0_off895 v4192) a + S1x1x128.size a ≤ S50008x1x128.size a)
theorem k0_off895_inb : ∀ (v4192 : BitVec 32) (k0_hw294 : k0_chk294 v4192), ∀ a, (k0_off895 v4192) a + S1x1x128.size a ≤ S50008x1x128.size a := fun v4192 k0_hw294 => k0_hw294

def k0_off896 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off897 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off898 (v4206 : BitVec 32) : Fin 3 → Nat :=
  let v4209 : Index := Scalar.indexCast v4206
  let c0_1823 : Index := 0#32
  let c0_1824 : Index := 0#32
  ![v4209.toNat, 0, 0]

def k0_chk295 (v4206 : BitVec 32) : Prop :=
  (∀ a, (k0_off898 v4206) a + S1x1x128.size a ≤ S50008x1x128.size a)
theorem k0_off898_inb : ∀ (v4206 : BitVec 32) (k0_hw295 : k0_chk295 v4206), ∀ a, (k0_off898 v4206) a + S1x1x128.size a ≤ S50008x1x128.size a := fun v4206 k0_hw295 => k0_hw295

def k0_off899 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off900 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off901 (v4220 : BitVec 32) : Fin 3 → Nat :=
  let v4223 : Index := Scalar.indexCast v4220
  let c0_1829 : Index := 0#32
  let c0_1830 : Index := 0#32
  ![v4223.toNat, 0, 0]

def k0_chk296 (v4220 : BitVec 32) : Prop :=
  (∀ a, (k0_off901 v4220) a + S1x1x128.size a ≤ S50008x1x128.size a)
theorem k0_off901_inb : ∀ (v4220 : BitVec 32) (k0_hw296 : k0_chk296 v4220), ∀ a, (k0_off901 v4220) a + S1x1x128.size a ≤ S50008x1x128.size a := fun v4220 k0_hw296 => k0_hw296

def k0_off902 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off903 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off904 (v4234 : BitVec 32) : Fin 3 → Nat :=
  let v4237 : Index := Scalar.indexCast v4234
  let c0_1835 : Index := 0#32
  let c0_1836 : Index := 0#32
  ![v4237.toNat, 0, 0]

def k0_chk297 (v4234 : BitVec 32) : Prop :=
  (∀ a, (k0_off904 v4234) a + S1x1x128.size a ≤ S50008x1x128.size a)
theorem k0_off904_inb : ∀ (v4234 : BitVec 32) (k0_hw297 : k0_chk297 v4234), ∀ a, (k0_off904 v4234) a + S1x1x128.size a ≤ S50008x1x128.size a := fun v4234 k0_hw297 => k0_hw297

def k0_off905 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off906 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off907 (v4248 : BitVec 32) : Fin 3 → Nat :=
  let v4251 : Index := Scalar.indexCast v4248
  let c0_1841 : Index := 0#32
  let c0_1842 : Index := 0#32
  ![v4251.toNat, 0, 0]

def k0_chk298 (v4248 : BitVec 32) : Prop :=
  (∀ a, (k0_off907 v4248) a + S1x1x128.size a ≤ S50008x1x128.size a)
theorem k0_off907_inb : ∀ (v4248 : BitVec 32) (k0_hw298 : k0_chk298 v4248), ∀ a, (k0_off907 v4248) a + S1x1x128.size a ≤ S50008x1x128.size a := fun v4248 k0_hw298 => k0_hw298

def k0_off908 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off909 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off910 (v4262 : BitVec 32) : Fin 3 → Nat :=
  let v4265 : Index := Scalar.indexCast v4262
  let c0_1847 : Index := 0#32
  let c0_1848 : Index := 0#32
  ![v4265.toNat, 0, 0]

def k0_chk299 (v4262 : BitVec 32) : Prop :=
  (∀ a, (k0_off910 v4262) a + S1x1x128.size a ≤ S50008x1x128.size a)
theorem k0_off910_inb : ∀ (v4262 : BitVec 32) (k0_hw299 : k0_chk299 v4262), ∀ a, (k0_off910 v4262) a + S1x1x128.size a ≤ S50008x1x128.size a := fun v4262 k0_hw299 => k0_hw299

def k0_off911 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off912 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off913 (v4276 : BitVec 32) : Fin 3 → Nat :=
  let v4279 : Index := Scalar.indexCast v4276
  let c0_1853 : Index := 0#32
  let c0_1854 : Index := 0#32
  ![v4279.toNat, 0, 0]

def k0_chk300 (v4276 : BitVec 32) : Prop :=
  (∀ a, (k0_off913 v4276) a + S1x1x128.size a ≤ S50008x1x128.size a)
theorem k0_off913_inb : ∀ (v4276 : BitVec 32) (k0_hw300 : k0_chk300 v4276), ∀ a, (k0_off913 v4276) a + S1x1x128.size a ≤ S50008x1x128.size a := fun v4276 k0_hw300 => k0_hw300

def k0_off914 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off915 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off916 (v4290 : BitVec 32) : Fin 3 → Nat :=
  let v4293 : Index := Scalar.indexCast v4290
  let c0_1859 : Index := 0#32
  let c0_1860 : Index := 0#32
  ![v4293.toNat, 0, 0]

def k0_chk301 (v4290 : BitVec 32) : Prop :=
  (∀ a, (k0_off916 v4290) a + S1x1x128.size a ≤ S50008x1x128.size a)
theorem k0_off916_inb : ∀ (v4290 : BitVec 32) (k0_hw301 : k0_chk301 v4290), ∀ a, (k0_off916 v4290) a + S1x1x128.size a ≤ S50008x1x128.size a := fun v4290 k0_hw301 => k0_hw301

def k0_off917 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off918 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off919 (v4304 : BitVec 32) : Fin 3 → Nat :=
  let v4307 : Index := Scalar.indexCast v4304
  let c0_1865 : Index := 0#32
  let c0_1866 : Index := 0#32
  ![v4307.toNat, 0, 0]

def k0_chk302 (v4304 : BitVec 32) : Prop :=
  (∀ a, (k0_off919 v4304) a + S1x1x128.size a ≤ S50008x1x128.size a)
theorem k0_off919_inb : ∀ (v4304 : BitVec 32) (k0_hw302 : k0_chk302 v4304), ∀ a, (k0_off919 v4304) a + S1x1x128.size a ≤ S50008x1x128.size a := fun v4304 k0_hw302 => k0_hw302

def k0_off920 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off921 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off922 (v4318 : BitVec 32) : Fin 3 → Nat :=
  let v4321 : Index := Scalar.indexCast v4318
  let c0_1871 : Index := 0#32
  let c0_1872 : Index := 0#32
  ![v4321.toNat, 0, 0]

def k0_chk303 (v4318 : BitVec 32) : Prop :=
  (∀ a, (k0_off922 v4318) a + S1x1x128.size a ≤ S50008x1x128.size a)
theorem k0_off922_inb : ∀ (v4318 : BitVec 32) (k0_hw303 : k0_chk303 v4318), ∀ a, (k0_off922 v4318) a + S1x1x128.size a ≤ S50008x1x128.size a := fun v4318 k0_hw303 => k0_hw303

def k0_off923 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off924 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off925 (v4332 : BitVec 32) : Fin 3 → Nat :=
  let v4335 : Index := Scalar.indexCast v4332
  let c0_1877 : Index := 0#32
  let c0_1878 : Index := 0#32
  ![v4335.toNat, 0, 0]

def k0_chk304 (v4332 : BitVec 32) : Prop :=
  (∀ a, (k0_off925 v4332) a + S1x1x128.size a ≤ S50008x1x128.size a)
theorem k0_off925_inb : ∀ (v4332 : BitVec 32) (k0_hw304 : k0_chk304 v4332), ∀ a, (k0_off925 v4332) a + S1x1x128.size a ≤ S50008x1x128.size a := fun v4332 k0_hw304 => k0_hw304

def k0_off926 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off927 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off928 (v4346 : BitVec 32) : Fin 3 → Nat :=
  let v4349 : Index := Scalar.indexCast v4346
  let c0_1883 : Index := 0#32
  let c0_1884 : Index := 0#32
  ![v4349.toNat, 0, 0]

def k0_chk305 (v4346 : BitVec 32) : Prop :=
  (∀ a, (k0_off928 v4346) a + S1x1x128.size a ≤ S50008x1x128.size a)
theorem k0_off928_inb : ∀ (v4346 : BitVec 32) (k0_hw305 : k0_chk305 v4346), ∀ a, (k0_off928 v4346) a + S1x1x128.size a ≤ S50008x1x128.size a := fun v4346 k0_hw305 => k0_hw305

def k0_off929 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off930 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off931 (v4360 : BitVec 32) : Fin 3 → Nat :=
  let v4363 : Index := Scalar.indexCast v4360
  let c0_1889 : Index := 0#32
  let c0_1890 : Index := 0#32
  ![v4363.toNat, 0, 0]

def k0_chk306 (v4360 : BitVec 32) : Prop :=
  (∀ a, (k0_off931 v4360) a + S1x1x128.size a ≤ S50008x1x128.size a)
theorem k0_off931_inb : ∀ (v4360 : BitVec 32) (k0_hw306 : k0_chk306 v4360), ∀ a, (k0_off931 v4360) a + S1x1x128.size a ≤ S50008x1x128.size a := fun v4360 k0_hw306 => k0_hw306

def k0_off932 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off933 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off934 (v4374 : BitVec 32) : Fin 3 → Nat :=
  let v4377 : Index := Scalar.indexCast v4374
  let c0_1895 : Index := 0#32
  let c0_1896 : Index := 0#32
  ![v4377.toNat, 0, 0]

def k0_chk307 (v4374 : BitVec 32) : Prop :=
  (∀ a, (k0_off934 v4374) a + S1x1x128.size a ≤ S50008x1x128.size a)
theorem k0_off934_inb : ∀ (v4374 : BitVec 32) (k0_hw307 : k0_chk307 v4374), ∀ a, (k0_off934 v4374) a + S1x1x128.size a ≤ S50008x1x128.size a := fun v4374 k0_hw307 => k0_hw307

def k0_off935 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off936 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off937 (v4388 : BitVec 32) : Fin 3 → Nat :=
  let v4391 : Index := Scalar.indexCast v4388
  let c0_1901 : Index := 0#32
  let c0_1902 : Index := 0#32
  ![v4391.toNat, 0, 0]

def k0_chk308 (v4388 : BitVec 32) : Prop :=
  (∀ a, (k0_off937 v4388) a + S1x1x128.size a ≤ S50008x1x128.size a)
theorem k0_off937_inb : ∀ (v4388 : BitVec 32) (k0_hw308 : k0_chk308 v4388), ∀ a, (k0_off937 v4388) a + S1x1x128.size a ≤ S50008x1x128.size a := fun v4388 k0_hw308 => k0_hw308

def k0_off938 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off939 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off940 (v4402 : BitVec 32) : Fin 3 → Nat :=
  let v4405 : Index := Scalar.indexCast v4402
  let c0_1907 : Index := 0#32
  let c0_1908 : Index := 0#32
  ![v4405.toNat, 0, 0]

def k0_chk309 (v4402 : BitVec 32) : Prop :=
  (∀ a, (k0_off940 v4402) a + S1x1x128.size a ≤ S50008x1x128.size a)
theorem k0_off940_inb : ∀ (v4402 : BitVec 32) (k0_hw309 : k0_chk309 v4402), ∀ a, (k0_off940 v4402) a + S1x1x128.size a ≤ S50008x1x128.size a := fun v4402 k0_hw309 => k0_hw309

def k0_off941 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off942 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off943 (v4416 : BitVec 32) : Fin 3 → Nat :=
  let v4419 : Index := Scalar.indexCast v4416
  let c0_1913 : Index := 0#32
  let c0_1914 : Index := 0#32
  ![v4419.toNat, 0, 0]

def k0_chk310 (v4416 : BitVec 32) : Prop :=
  (∀ a, (k0_off943 v4416) a + S1x1x128.size a ≤ S50008x1x128.size a)
theorem k0_off943_inb : ∀ (v4416 : BitVec 32) (k0_hw310 : k0_chk310 v4416), ∀ a, (k0_off943 v4416) a + S1x1x128.size a ≤ S50008x1x128.size a := fun v4416 k0_hw310 => k0_hw310

def k0_off944 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off945 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off946 (v4430 : BitVec 32) : Fin 3 → Nat :=
  let v4433 : Index := Scalar.indexCast v4430
  let c0_1919 : Index := 0#32
  let c0_1920 : Index := 0#32
  ![v4433.toNat, 0, 0]

def k0_chk311 (v4430 : BitVec 32) : Prop :=
  (∀ a, (k0_off946 v4430) a + S1x1x128.size a ≤ S50008x1x128.size a)
theorem k0_off946_inb : ∀ (v4430 : BitVec 32) (k0_hw311 : k0_chk311 v4430), ∀ a, (k0_off946 v4430) a + S1x1x128.size a ≤ S50008x1x128.size a := fun v4430 k0_hw311 => k0_hw311

def k0_off947 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off948 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off949 (v4444 : BitVec 32) : Fin 3 → Nat :=
  let v4447 : Index := Scalar.indexCast v4444
  let c0_1925 : Index := 0#32
  let c0_1926 : Index := 0#32
  ![v4447.toNat, 0, 0]

def k0_chk312 (v4444 : BitVec 32) : Prop :=
  (∀ a, (k0_off949 v4444) a + S1x1x128.size a ≤ S50008x1x128.size a)
theorem k0_off949_inb : ∀ (v4444 : BitVec 32) (k0_hw312 : k0_chk312 v4444), ∀ a, (k0_off949 v4444) a + S1x1x128.size a ≤ S50008x1x128.size a := fun v4444 k0_hw312 => k0_hw312

def k0_off950 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off951 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off952 (v4458 : BitVec 32) : Fin 3 → Nat :=
  let v4461 : Index := Scalar.indexCast v4458
  let c0_1931 : Index := 0#32
  let c0_1932 : Index := 0#32
  ![v4461.toNat, 0, 0]

def k0_chk313 (v4458 : BitVec 32) : Prop :=
  (∀ a, (k0_off952 v4458) a + S1x1x128.size a ≤ S50008x1x128.size a)
theorem k0_off952_inb : ∀ (v4458 : BitVec 32) (k0_hw313 : k0_chk313 v4458), ∀ a, (k0_off952 v4458) a + S1x1x128.size a ≤ S50008x1x128.size a := fun v4458 k0_hw313 => k0_hw313

def k0_off953 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off954 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off955 (v4472 : BitVec 32) : Fin 3 → Nat :=
  let v4475 : Index := Scalar.indexCast v4472
  let c0_1937 : Index := 0#32
  let c0_1938 : Index := 0#32
  ![v4475.toNat, 0, 0]

def k0_chk314 (v4472 : BitVec 32) : Prop :=
  (∀ a, (k0_off955 v4472) a + S1x1x128.size a ≤ S50008x1x128.size a)
theorem k0_off955_inb : ∀ (v4472 : BitVec 32) (k0_hw314 : k0_chk314 v4472), ∀ a, (k0_off955 v4472) a + S1x1x128.size a ≤ S50008x1x128.size a := fun v4472 k0_hw314 => k0_hw314

def k0_off956 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off957 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off958 (v4486 : BitVec 32) : Fin 3 → Nat :=
  let v4489 : Index := Scalar.indexCast v4486
  let c0_1943 : Index := 0#32
  let c0_1944 : Index := 0#32
  ![v4489.toNat, 0, 0]

def k0_chk315 (v4486 : BitVec 32) : Prop :=
  (∀ a, (k0_off958 v4486) a + S1x1x128.size a ≤ S50008x1x128.size a)
theorem k0_off958_inb : ∀ (v4486 : BitVec 32) (k0_hw315 : k0_chk315 v4486), ∀ a, (k0_off958 v4486) a + S1x1x128.size a ≤ S50008x1x128.size a := fun v4486 k0_hw315 => k0_hw315

def k0_off959 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off960 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off961 (v4500 : BitVec 32) : Fin 3 → Nat :=
  let v4503 : Index := Scalar.indexCast v4500
  let c0_1949 : Index := 0#32
  let c0_1950 : Index := 0#32
  ![v4503.toNat, 0, 0]

def k0_chk316 (v4500 : BitVec 32) : Prop :=
  (∀ a, (k0_off961 v4500) a + S1x1x128.size a ≤ S50008x1x128.size a)
theorem k0_off961_inb : ∀ (v4500 : BitVec 32) (k0_hw316 : k0_chk316 v4500), ∀ a, (k0_off961 v4500) a + S1x1x128.size a ≤ S50008x1x128.size a := fun v4500 k0_hw316 => k0_hw316

def k0_off962 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off963 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off964 (v4514 : BitVec 32) : Fin 3 → Nat :=
  let v4517 : Index := Scalar.indexCast v4514
  let c0_1955 : Index := 0#32
  let c0_1956 : Index := 0#32
  ![v4517.toNat, 0, 0]

def k0_chk317 (v4514 : BitVec 32) : Prop :=
  (∀ a, (k0_off964 v4514) a + S1x1x128.size a ≤ S50008x1x128.size a)
theorem k0_off964_inb : ∀ (v4514 : BitVec 32) (k0_hw317 : k0_chk317 v4514), ∀ a, (k0_off964 v4514) a + S1x1x128.size a ≤ S50008x1x128.size a := fun v4514 k0_hw317 => k0_hw317

def k0_off965 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off966 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off967 (v4528 : BitVec 32) : Fin 3 → Nat :=
  let v4531 : Index := Scalar.indexCast v4528
  let c0_1961 : Index := 0#32
  let c0_1962 : Index := 0#32
  ![v4531.toNat, 0, 0]

def k0_chk318 (v4528 : BitVec 32) : Prop :=
  (∀ a, (k0_off967 v4528) a + S1x1x128.size a ≤ S50008x1x128.size a)
theorem k0_off967_inb : ∀ (v4528 : BitVec 32) (k0_hw318 : k0_chk318 v4528), ∀ a, (k0_off967 v4528) a + S1x1x128.size a ≤ S50008x1x128.size a := fun v4528 k0_hw318 => k0_hw318

def k0_off968 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off969 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off970 (v4542 : BitVec 32) : Fin 3 → Nat :=
  let v4545 : Index := Scalar.indexCast v4542
  let c0_1967 : Index := 0#32
  let c0_1968 : Index := 0#32
  ![v4545.toNat, 0, 0]

def k0_chk319 (v4542 : BitVec 32) : Prop :=
  (∀ a, (k0_off970 v4542) a + S1x1x128.size a ≤ S50008x1x128.size a)
theorem k0_off970_inb : ∀ (v4542 : BitVec 32) (k0_hw319 : k0_chk319 v4542), ∀ a, (k0_off970 v4542) a + S1x1x128.size a ≤ S50008x1x128.size a := fun v4542 k0_hw319 => k0_hw319

def k0_off971 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off972 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off973 (v4556 : BitVec 32) : Fin 3 → Nat :=
  let v4559 : Index := Scalar.indexCast v4556
  let c0_1973 : Index := 0#32
  let c0_1974 : Index := 0#32
  ![v4559.toNat, 0, 0]

def k0_chk320 (v4556 : BitVec 32) : Prop :=
  (∀ a, (k0_off973 v4556) a + S1x1x128.size a ≤ S50008x1x128.size a)
theorem k0_off973_inb : ∀ (v4556 : BitVec 32) (k0_hw320 : k0_chk320 v4556), ∀ a, (k0_off973 v4556) a + S1x1x128.size a ≤ S50008x1x128.size a := fun v4556 k0_hw320 => k0_hw320

def k0_off974 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off975 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off976 (v4570 : BitVec 32) : Fin 3 → Nat :=
  let v4573 : Index := Scalar.indexCast v4570
  let c0_1979 : Index := 0#32
  let c0_1980 : Index := 0#32
  ![v4573.toNat, 0, 0]

def k0_chk321 (v4570 : BitVec 32) : Prop :=
  (∀ a, (k0_off976 v4570) a + S1x1x128.size a ≤ S50008x1x128.size a)
theorem k0_off976_inb : ∀ (v4570 : BitVec 32) (k0_hw321 : k0_chk321 v4570), ∀ a, (k0_off976 v4570) a + S1x1x128.size a ≤ S50008x1x128.size a := fun v4570 k0_hw321 => k0_hw321

def k0_off977 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off978 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off979 (v4584 : BitVec 32) : Fin 3 → Nat :=
  let v4587 : Index := Scalar.indexCast v4584
  let c0_1985 : Index := 0#32
  let c0_1986 : Index := 0#32
  ![v4587.toNat, 0, 0]

def k0_chk322 (v4584 : BitVec 32) : Prop :=
  (∀ a, (k0_off979 v4584) a + S1x1x128.size a ≤ S50008x1x128.size a)
theorem k0_off979_inb : ∀ (v4584 : BitVec 32) (k0_hw322 : k0_chk322 v4584), ∀ a, (k0_off979 v4584) a + S1x1x128.size a ≤ S50008x1x128.size a := fun v4584 k0_hw322 => k0_hw322

def k0_off980 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off981 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off982 (v4598 : BitVec 32) : Fin 3 → Nat :=
  let v4601 : Index := Scalar.indexCast v4598
  let c0_1991 : Index := 0#32
  let c0_1992 : Index := 0#32
  ![v4601.toNat, 0, 0]

def k0_chk323 (v4598 : BitVec 32) : Prop :=
  (∀ a, (k0_off982 v4598) a + S1x1x128.size a ≤ S50008x1x128.size a)
theorem k0_off982_inb : ∀ (v4598 : BitVec 32) (k0_hw323 : k0_chk323 v4598), ∀ a, (k0_off982 v4598) a + S1x1x128.size a ≤ S50008x1x128.size a := fun v4598 k0_hw323 => k0_hw323

def k0_off983 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off984 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off985 (v4612 : BitVec 32) : Fin 3 → Nat :=
  let v4615 : Index := Scalar.indexCast v4612
  let c0_1997 : Index := 0#32
  let c0_1998 : Index := 0#32
  ![v4615.toNat, 0, 0]

def k0_chk324 (v4612 : BitVec 32) : Prop :=
  (∀ a, (k0_off985 v4612) a + S1x1x128.size a ≤ S50008x1x128.size a)
theorem k0_off985_inb : ∀ (v4612 : BitVec 32) (k0_hw324 : k0_chk324 v4612), ∀ a, (k0_off985 v4612) a + S1x1x128.size a ≤ S50008x1x128.size a := fun v4612 k0_hw324 => k0_hw324

def k0_off986 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off987 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off988 (v4626 : BitVec 32) : Fin 3 → Nat :=
  let v4629 : Index := Scalar.indexCast v4626
  let c0_2003 : Index := 0#32
  let c0_2004 : Index := 0#32
  ![v4629.toNat, 0, 0]

def k0_chk325 (v4626 : BitVec 32) : Prop :=
  (∀ a, (k0_off988 v4626) a + S1x1x128.size a ≤ S50008x1x128.size a)
theorem k0_off988_inb : ∀ (v4626 : BitVec 32) (k0_hw325 : k0_chk325 v4626), ∀ a, (k0_off988 v4626) a + S1x1x128.size a ≤ S50008x1x128.size a := fun v4626 k0_hw325 => k0_hw325

def k0_off989 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off990 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off991 (v4640 : BitVec 32) : Fin 3 → Nat :=
  let v4643 : Index := Scalar.indexCast v4640
  let c0_2009 : Index := 0#32
  let c0_2010 : Index := 0#32
  ![v4643.toNat, 0, 0]

def k0_chk326 (v4640 : BitVec 32) : Prop :=
  (∀ a, (k0_off991 v4640) a + S1x1x128.size a ≤ S50008x1x128.size a)
theorem k0_off991_inb : ∀ (v4640 : BitVec 32) (k0_hw326 : k0_chk326 v4640), ∀ a, (k0_off991 v4640) a + S1x1x128.size a ≤ S50008x1x128.size a := fun v4640 k0_hw326 => k0_hw326

def k0_off992 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off993 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off994 (v4654 : BitVec 32) : Fin 3 → Nat :=
  let v4657 : Index := Scalar.indexCast v4654
  let c0_2015 : Index := 0#32
  let c0_2016 : Index := 0#32
  ![v4657.toNat, 0, 0]

def k0_chk327 (v4654 : BitVec 32) : Prop :=
  (∀ a, (k0_off994 v4654) a + S1x1x128.size a ≤ S50008x1x128.size a)
theorem k0_off994_inb : ∀ (v4654 : BitVec 32) (k0_hw327 : k0_chk327 v4654), ∀ a, (k0_off994 v4654) a + S1x1x128.size a ≤ S50008x1x128.size a := fun v4654 k0_hw327 => k0_hw327

def k0_off995 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off996 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off997 (v4668 : BitVec 32) : Fin 3 → Nat :=
  let v4671 : Index := Scalar.indexCast v4668
  let c0_2021 : Index := 0#32
  let c0_2022 : Index := 0#32
  ![v4671.toNat, 0, 0]

def k0_chk328 (v4668 : BitVec 32) : Prop :=
  (∀ a, (k0_off997 v4668) a + S1x1x128.size a ≤ S50008x1x128.size a)
theorem k0_off997_inb : ∀ (v4668 : BitVec 32) (k0_hw328 : k0_chk328 v4668), ∀ a, (k0_off997 v4668) a + S1x1x128.size a ≤ S50008x1x128.size a := fun v4668 k0_hw328 => k0_hw328

def k0_off998 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off999 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1000 (v4682 : BitVec 32) : Fin 3 → Nat :=
  let v4685 : Index := Scalar.indexCast v4682
  let c0_2027 : Index := 0#32
  let c0_2028 : Index := 0#32
  ![v4685.toNat, 0, 0]

def k0_chk329 (v4682 : BitVec 32) : Prop :=
  (∀ a, (k0_off1000 v4682) a + S1x1x128.size a ≤ S50008x1x128.size a)
theorem k0_off1000_inb : ∀ (v4682 : BitVec 32) (k0_hw329 : k0_chk329 v4682), ∀ a, (k0_off1000 v4682) a + S1x1x128.size a ≤ S50008x1x128.size a := fun v4682 k0_hw329 => k0_hw329

def k0_off1001 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1002 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1003 (v4696 : BitVec 32) : Fin 3 → Nat :=
  let v4699 : Index := Scalar.indexCast v4696
  let c0_2033 : Index := 0#32
  let c0_2034 : Index := 0#32
  ![v4699.toNat, 0, 0]

def k0_chk330 (v4696 : BitVec 32) : Prop :=
  (∀ a, (k0_off1003 v4696) a + S1x1x128.size a ≤ S50008x1x128.size a)
theorem k0_off1003_inb : ∀ (v4696 : BitVec 32) (k0_hw330 : k0_chk330 v4696), ∀ a, (k0_off1003 v4696) a + S1x1x128.size a ≤ S50008x1x128.size a := fun v4696 k0_hw330 => k0_hw330

def k0_off1004 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1005 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1006 (v4710 : BitVec 32) : Fin 3 → Nat :=
  let v4713 : Index := Scalar.indexCast v4710
  let c0_2039 : Index := 0#32
  let c0_2040 : Index := 0#32
  ![v4713.toNat, 0, 0]

def k0_chk331 (v4710 : BitVec 32) : Prop :=
  (∀ a, (k0_off1006 v4710) a + S1x1x128.size a ≤ S50008x1x128.size a)
theorem k0_off1006_inb : ∀ (v4710 : BitVec 32) (k0_hw331 : k0_chk331 v4710), ∀ a, (k0_off1006 v4710) a + S1x1x128.size a ≤ S50008x1x128.size a := fun v4710 k0_hw331 => k0_hw331

def k0_off1007 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1008 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1009 (v4724 : BitVec 32) : Fin 3 → Nat :=
  let v4727 : Index := Scalar.indexCast v4724
  let c0_2045 : Index := 0#32
  let c0_2046 : Index := 0#32
  ![v4727.toNat, 0, 0]

def k0_chk332 (v4724 : BitVec 32) : Prop :=
  (∀ a, (k0_off1009 v4724) a + S1x1x128.size a ≤ S50008x1x128.size a)
theorem k0_off1009_inb : ∀ (v4724 : BitVec 32) (k0_hw332 : k0_chk332 v4724), ∀ a, (k0_off1009 v4724) a + S1x1x128.size a ≤ S50008x1x128.size a := fun v4724 k0_hw332 => k0_hw332

def k0_off1010 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1011 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1012 (v4738 : BitVec 32) : Fin 3 → Nat :=
  let v4741 : Index := Scalar.indexCast v4738
  let c0_2051 : Index := 0#32
  let c0_2052 : Index := 0#32
  ![v4741.toNat, 0, 0]

def k0_chk333 (v4738 : BitVec 32) : Prop :=
  (∀ a, (k0_off1012 v4738) a + S1x1x128.size a ≤ S50008x1x128.size a)
theorem k0_off1012_inb : ∀ (v4738 : BitVec 32) (k0_hw333 : k0_chk333 v4738), ∀ a, (k0_off1012 v4738) a + S1x1x128.size a ≤ S50008x1x128.size a := fun v4738 k0_hw333 => k0_hw333

def k0_off1013 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1014 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1015 (v4752 : BitVec 32) : Fin 3 → Nat :=
  let v4755 : Index := Scalar.indexCast v4752
  let c0_2057 : Index := 0#32
  let c0_2058 : Index := 0#32
  ![v4755.toNat, 0, 0]

def k0_chk334 (v4752 : BitVec 32) : Prop :=
  (∀ a, (k0_off1015 v4752) a + S1x1x128.size a ≤ S50008x1x128.size a)
theorem k0_off1015_inb : ∀ (v4752 : BitVec 32) (k0_hw334 : k0_chk334 v4752), ∀ a, (k0_off1015 v4752) a + S1x1x128.size a ≤ S50008x1x128.size a := fun v4752 k0_hw334 => k0_hw334

def k0_off1016 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1017 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1018 (v4766 : BitVec 32) : Fin 3 → Nat :=
  let v4769 : Index := Scalar.indexCast v4766
  let c0_2063 : Index := 0#32
  let c0_2064 : Index := 0#32
  ![v4769.toNat, 0, 0]

def k0_chk335 (v4766 : BitVec 32) : Prop :=
  (∀ a, (k0_off1018 v4766) a + S1x1x128.size a ≤ S50008x1x128.size a)
theorem k0_off1018_inb : ∀ (v4766 : BitVec 32) (k0_hw335 : k0_chk335 v4766), ∀ a, (k0_off1018 v4766) a + S1x1x128.size a ≤ S50008x1x128.size a := fun v4766 k0_hw335 => k0_hw335

def k0_off1019 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1020 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1021 (v4780 : BitVec 32) : Fin 3 → Nat :=
  let v4783 : Index := Scalar.indexCast v4780
  let c0_2069 : Index := 0#32
  let c0_2070 : Index := 0#32
  ![v4783.toNat, 0, 0]

def k0_chk336 (v4780 : BitVec 32) : Prop :=
  (∀ a, (k0_off1021 v4780) a + S1x1x128.size a ≤ S50008x1x128.size a)
theorem k0_off1021_inb : ∀ (v4780 : BitVec 32) (k0_hw336 : k0_chk336 v4780), ∀ a, (k0_off1021 v4780) a + S1x1x128.size a ≤ S50008x1x128.size a := fun v4780 k0_hw336 => k0_hw336

def k0_off1022 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1023 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1024 (v4794 : BitVec 32) : Fin 3 → Nat :=
  let v4797 : Index := Scalar.indexCast v4794
  let c0_2075 : Index := 0#32
  let c0_2076 : Index := 0#32
  ![v4797.toNat, 0, 0]

def k0_chk337 (v4794 : BitVec 32) : Prop :=
  (∀ a, (k0_off1024 v4794) a + S1x1x128.size a ≤ S50008x1x128.size a)
theorem k0_off1024_inb : ∀ (v4794 : BitVec 32) (k0_hw337 : k0_chk337 v4794), ∀ a, (k0_off1024 v4794) a + S1x1x128.size a ≤ S50008x1x128.size a := fun v4794 k0_hw337 => k0_hw337

def k0_off1025 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1026 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1027 (v4808 : BitVec 32) : Fin 3 → Nat :=
  let v4811 : Index := Scalar.indexCast v4808
  let c0_2081 : Index := 0#32
  let c0_2082 : Index := 0#32
  ![v4811.toNat, 0, 0]

def k0_chk338 (v4808 : BitVec 32) : Prop :=
  (∀ a, (k0_off1027 v4808) a + S1x1x128.size a ≤ S50008x1x128.size a)
theorem k0_off1027_inb : ∀ (v4808 : BitVec 32) (k0_hw338 : k0_chk338 v4808), ∀ a, (k0_off1027 v4808) a + S1x1x128.size a ≤ S50008x1x128.size a := fun v4808 k0_hw338 => k0_hw338

def k0_off1028 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1029 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1030 (v4822 : BitVec 32) : Fin 3 → Nat :=
  let v4825 : Index := Scalar.indexCast v4822
  let c0_2087 : Index := 0#32
  let c0_2088 : Index := 0#32
  ![v4825.toNat, 0, 0]

def k0_chk339 (v4822 : BitVec 32) : Prop :=
  (∀ a, (k0_off1030 v4822) a + S1x1x128.size a ≤ S50008x1x128.size a)
theorem k0_off1030_inb : ∀ (v4822 : BitVec 32) (k0_hw339 : k0_chk339 v4822), ∀ a, (k0_off1030 v4822) a + S1x1x128.size a ≤ S50008x1x128.size a := fun v4822 k0_hw339 => k0_hw339

def k0_off1031 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1032 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1033 (v4836 : BitVec 32) : Fin 3 → Nat :=
  let v4839 : Index := Scalar.indexCast v4836
  let c0_2093 : Index := 0#32
  let c0_2094 : Index := 0#32
  ![v4839.toNat, 0, 0]

def k0_chk340 (v4836 : BitVec 32) : Prop :=
  (∀ a, (k0_off1033 v4836) a + S1x1x128.size a ≤ S50008x1x128.size a)
theorem k0_off1033_inb : ∀ (v4836 : BitVec 32) (k0_hw340 : k0_chk340 v4836), ∀ a, (k0_off1033 v4836) a + S1x1x128.size a ≤ S50008x1x128.size a := fun v4836 k0_hw340 => k0_hw340

def k0_off1034 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1035 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1036 (v4850 : BitVec 32) : Fin 3 → Nat :=
  let v4853 : Index := Scalar.indexCast v4850
  let c0_2099 : Index := 0#32
  let c0_2100 : Index := 0#32
  ![v4853.toNat, 0, 0]

def k0_chk341 (v4850 : BitVec 32) : Prop :=
  (∀ a, (k0_off1036 v4850) a + S1x1x128.size a ≤ S50008x1x128.size a)
theorem k0_off1036_inb : ∀ (v4850 : BitVec 32) (k0_hw341 : k0_chk341 v4850), ∀ a, (k0_off1036 v4850) a + S1x1x128.size a ≤ S50008x1x128.size a := fun v4850 k0_hw341 => k0_hw341

def k0_off1037 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1038 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1039 (v4864 : BitVec 32) : Fin 3 → Nat :=
  let v4867 : Index := Scalar.indexCast v4864
  let c0_2105 : Index := 0#32
  let c0_2106 : Index := 0#32
  ![v4867.toNat, 0, 0]

def k0_chk342 (v4864 : BitVec 32) : Prop :=
  (∀ a, (k0_off1039 v4864) a + S1x1x128.size a ≤ S50008x1x128.size a)
theorem k0_off1039_inb : ∀ (v4864 : BitVec 32) (k0_hw342 : k0_chk342 v4864), ∀ a, (k0_off1039 v4864) a + S1x1x128.size a ≤ S50008x1x128.size a := fun v4864 k0_hw342 => k0_hw342

def k0_off1040 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1041 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1042 (v4878 : BitVec 32) : Fin 3 → Nat :=
  let v4881 : Index := Scalar.indexCast v4878
  let c0_2111 : Index := 0#32
  let c0_2112 : Index := 0#32
  ![v4881.toNat, 0, 0]

def k0_chk343 (v4878 : BitVec 32) : Prop :=
  (∀ a, (k0_off1042 v4878) a + S1x1x128.size a ≤ S50008x1x128.size a)
theorem k0_off1042_inb : ∀ (v4878 : BitVec 32) (k0_hw343 : k0_chk343 v4878), ∀ a, (k0_off1042 v4878) a + S1x1x128.size a ≤ S50008x1x128.size a := fun v4878 k0_hw343 => k0_hw343

def k0_off1043 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1044 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1045 (v4892 : BitVec 32) : Fin 3 → Nat :=
  let v4895 : Index := Scalar.indexCast v4892
  let c0_2117 : Index := 0#32
  let c0_2118 : Index := 0#32
  ![v4895.toNat, 0, 0]

def k0_chk344 (v4892 : BitVec 32) : Prop :=
  (∀ a, (k0_off1045 v4892) a + S1x1x128.size a ≤ S50008x1x128.size a)
theorem k0_off1045_inb : ∀ (v4892 : BitVec 32) (k0_hw344 : k0_chk344 v4892), ∀ a, (k0_off1045 v4892) a + S1x1x128.size a ≤ S50008x1x128.size a := fun v4892 k0_hw344 => k0_hw344

def k0_off1046 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1047 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1048 (v4906 : BitVec 32) : Fin 3 → Nat :=
  let v4909 : Index := Scalar.indexCast v4906
  let c0_2123 : Index := 0#32
  let c0_2124 : Index := 0#32
  ![v4909.toNat, 0, 0]

def k0_chk345 (v4906 : BitVec 32) : Prop :=
  (∀ a, (k0_off1048 v4906) a + S1x1x128.size a ≤ S50008x1x128.size a)
theorem k0_off1048_inb : ∀ (v4906 : BitVec 32) (k0_hw345 : k0_chk345 v4906), ∀ a, (k0_off1048 v4906) a + S1x1x128.size a ≤ S50008x1x128.size a := fun v4906 k0_hw345 => k0_hw345

def k0_off1049 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1050 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1051 (v4920 : BitVec 32) : Fin 3 → Nat :=
  let v4923 : Index := Scalar.indexCast v4920
  let c0_2129 : Index := 0#32
  let c0_2130 : Index := 0#32
  ![v4923.toNat, 0, 0]

def k0_chk346 (v4920 : BitVec 32) : Prop :=
  (∀ a, (k0_off1051 v4920) a + S1x1x128.size a ≤ S50008x1x128.size a)
theorem k0_off1051_inb : ∀ (v4920 : BitVec 32) (k0_hw346 : k0_chk346 v4920), ∀ a, (k0_off1051 v4920) a + S1x1x128.size a ≤ S50008x1x128.size a := fun v4920 k0_hw346 => k0_hw346

def k0_off1052 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1053 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1054 (v4934 : BitVec 32) : Fin 3 → Nat :=
  let v4937 : Index := Scalar.indexCast v4934
  let c0_2135 : Index := 0#32
  let c0_2136 : Index := 0#32
  ![v4937.toNat, 0, 0]

def k0_chk347 (v4934 : BitVec 32) : Prop :=
  (∀ a, (k0_off1054 v4934) a + S1x1x128.size a ≤ S50008x1x128.size a)
theorem k0_off1054_inb : ∀ (v4934 : BitVec 32) (k0_hw347 : k0_chk347 v4934), ∀ a, (k0_off1054 v4934) a + S1x1x128.size a ≤ S50008x1x128.size a := fun v4934 k0_hw347 => k0_hw347

def k0_off1055 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1056 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1057 (v4948 : BitVec 32) : Fin 3 → Nat :=
  let v4951 : Index := Scalar.indexCast v4948
  let c0_2141 : Index := 0#32
  let c0_2142 : Index := 0#32
  ![v4951.toNat, 0, 0]

def k0_chk348 (v4948 : BitVec 32) : Prop :=
  (∀ a, (k0_off1057 v4948) a + S1x1x128.size a ≤ S50008x1x128.size a)
theorem k0_off1057_inb : ∀ (v4948 : BitVec 32) (k0_hw348 : k0_chk348 v4948), ∀ a, (k0_off1057 v4948) a + S1x1x128.size a ≤ S50008x1x128.size a := fun v4948 k0_hw348 => k0_hw348

def k0_off1058 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1059 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1060 (v4962 : BitVec 32) : Fin 3 → Nat :=
  let v4965 : Index := Scalar.indexCast v4962
  let c0_2147 : Index := 0#32
  let c0_2148 : Index := 0#32
  ![v4965.toNat, 0, 0]

def k0_chk349 (v4962 : BitVec 32) : Prop :=
  (∀ a, (k0_off1060 v4962) a + S1x1x128.size a ≤ S50008x1x128.size a)
theorem k0_off1060_inb : ∀ (v4962 : BitVec 32) (k0_hw349 : k0_chk349 v4962), ∀ a, (k0_off1060 v4962) a + S1x1x128.size a ≤ S50008x1x128.size a := fun v4962 k0_hw349 => k0_hw349

def k0_off1061 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1062 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1063 (v4976 : BitVec 32) : Fin 3 → Nat :=
  let v4979 : Index := Scalar.indexCast v4976
  let c0_2153 : Index := 0#32
  let c0_2154 : Index := 0#32
  ![v4979.toNat, 0, 0]

def k0_chk350 (v4976 : BitVec 32) : Prop :=
  (∀ a, (k0_off1063 v4976) a + S1x1x128.size a ≤ S50008x1x128.size a)
theorem k0_off1063_inb : ∀ (v4976 : BitVec 32) (k0_hw350 : k0_chk350 v4976), ∀ a, (k0_off1063 v4976) a + S1x1x128.size a ≤ S50008x1x128.size a := fun v4976 k0_hw350 => k0_hw350

def k0_off1064 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1065 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1066 (v4990 : BitVec 32) : Fin 3 → Nat :=
  let v4993 : Index := Scalar.indexCast v4990
  let c0_2159 : Index := 0#32
  let c0_2160 : Index := 0#32
  ![v4993.toNat, 0, 0]

def k0_chk351 (v4990 : BitVec 32) : Prop :=
  (∀ a, (k0_off1066 v4990) a + S1x1x128.size a ≤ S50008x1x128.size a)
theorem k0_off1066_inb : ∀ (v4990 : BitVec 32) (k0_hw351 : k0_chk351 v4990), ∀ a, (k0_off1066 v4990) a + S1x1x128.size a ≤ S50008x1x128.size a := fun v4990 k0_hw351 => k0_hw351

def k0_off1067 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1068 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1069 (v5004 : BitVec 32) : Fin 3 → Nat :=
  let v5007 : Index := Scalar.indexCast v5004
  let c0_2165 : Index := 0#32
  let c0_2166 : Index := 0#32
  ![v5007.toNat, 0, 0]

def k0_chk352 (v5004 : BitVec 32) : Prop :=
  (∀ a, (k0_off1069 v5004) a + S1x1x128.size a ≤ S50008x1x128.size a)
theorem k0_off1069_inb : ∀ (v5004 : BitVec 32) (k0_hw352 : k0_chk352 v5004), ∀ a, (k0_off1069 v5004) a + S1x1x128.size a ≤ S50008x1x128.size a := fun v5004 k0_hw352 => k0_hw352

def k0_off1070 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1071 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1072 (v5018 : BitVec 32) : Fin 3 → Nat :=
  let v5021 : Index := Scalar.indexCast v5018
  let c0_2171 : Index := 0#32
  let c0_2172 : Index := 0#32
  ![v5021.toNat, 0, 0]

def k0_chk353 (v5018 : BitVec 32) : Prop :=
  (∀ a, (k0_off1072 v5018) a + S1x1x128.size a ≤ S50008x1x128.size a)
theorem k0_off1072_inb : ∀ (v5018 : BitVec 32) (k0_hw353 : k0_chk353 v5018), ∀ a, (k0_off1072 v5018) a + S1x1x128.size a ≤ S50008x1x128.size a := fun v5018 k0_hw353 => k0_hw353

def k0_off1073 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1074 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1075 (v5032 : BitVec 32) : Fin 3 → Nat :=
  let v5035 : Index := Scalar.indexCast v5032
  let c0_2177 : Index := 0#32
  let c0_2178 : Index := 0#32
  ![v5035.toNat, 0, 0]

def k0_chk354 (v5032 : BitVec 32) : Prop :=
  (∀ a, (k0_off1075 v5032) a + S1x1x128.size a ≤ S50008x1x128.size a)
theorem k0_off1075_inb : ∀ (v5032 : BitVec 32) (k0_hw354 : k0_chk354 v5032), ∀ a, (k0_off1075 v5032) a + S1x1x128.size a ≤ S50008x1x128.size a := fun v5032 k0_hw354 => k0_hw354

def k0_off1076 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1077 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1078 (v5046 : BitVec 32) : Fin 3 → Nat :=
  let v5049 : Index := Scalar.indexCast v5046
  let c0_2183 : Index := 0#32
  let c0_2184 : Index := 0#32
  ![v5049.toNat, 0, 0]

def k0_chk355 (v5046 : BitVec 32) : Prop :=
  (∀ a, (k0_off1078 v5046) a + S1x1x128.size a ≤ S50008x1x128.size a)
theorem k0_off1078_inb : ∀ (v5046 : BitVec 32) (k0_hw355 : k0_chk355 v5046), ∀ a, (k0_off1078 v5046) a + S1x1x128.size a ≤ S50008x1x128.size a := fun v5046 k0_hw355 => k0_hw355

def k0_off1079 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1080 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1081 (v5060 : BitVec 32) : Fin 3 → Nat :=
  let v5063 : Index := Scalar.indexCast v5060
  let c0_2189 : Index := 0#32
  let c0_2190 : Index := 0#32
  ![v5063.toNat, 0, 0]

def k0_chk356 (v5060 : BitVec 32) : Prop :=
  (∀ a, (k0_off1081 v5060) a + S1x1x128.size a ≤ S50008x1x128.size a)
theorem k0_off1081_inb : ∀ (v5060 : BitVec 32) (k0_hw356 : k0_chk356 v5060), ∀ a, (k0_off1081 v5060) a + S1x1x128.size a ≤ S50008x1x128.size a := fun v5060 k0_hw356 => k0_hw356

def k0_off1082 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1083 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1084 (v5074 : BitVec 32) : Fin 3 → Nat :=
  let v5077 : Index := Scalar.indexCast v5074
  let c0_2195 : Index := 0#32
  let c0_2196 : Index := 0#32
  ![v5077.toNat, 0, 0]

def k0_chk357 (v5074 : BitVec 32) : Prop :=
  (∀ a, (k0_off1084 v5074) a + S1x1x128.size a ≤ S50008x1x128.size a)
theorem k0_off1084_inb : ∀ (v5074 : BitVec 32) (k0_hw357 : k0_chk357 v5074), ∀ a, (k0_off1084 v5074) a + S1x1x128.size a ≤ S50008x1x128.size a := fun v5074 k0_hw357 => k0_hw357

def k0_off1085 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1086 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1087 (v5088 : BitVec 32) : Fin 3 → Nat :=
  let v5091 : Index := Scalar.indexCast v5088
  let c0_2201 : Index := 0#32
  let c0_2202 : Index := 0#32
  ![v5091.toNat, 0, 0]

def k0_chk358 (v5088 : BitVec 32) : Prop :=
  (∀ a, (k0_off1087 v5088) a + S1x1x128.size a ≤ S50008x1x128.size a)
theorem k0_off1087_inb : ∀ (v5088 : BitVec 32) (k0_hw358 : k0_chk358 v5088), ∀ a, (k0_off1087 v5088) a + S1x1x128.size a ≤ S50008x1x128.size a := fun v5088 k0_hw358 => k0_hw358

def k0_off1088 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1089 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1090 (v5102 : BitVec 32) : Fin 3 → Nat :=
  let v5105 : Index := Scalar.indexCast v5102
  let c0_2207 : Index := 0#32
  let c0_2208 : Index := 0#32
  ![v5105.toNat, 0, 0]

def k0_chk359 (v5102 : BitVec 32) : Prop :=
  (∀ a, (k0_off1090 v5102) a + S1x1x128.size a ≤ S50008x1x128.size a)
theorem k0_off1090_inb : ∀ (v5102 : BitVec 32) (k0_hw359 : k0_chk359 v5102), ∀ a, (k0_off1090 v5102) a + S1x1x128.size a ≤ S50008x1x128.size a := fun v5102 k0_hw359 => k0_hw359

def k0_off1091 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1092 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1093 (v5116 : BitVec 32) : Fin 3 → Nat :=
  let v5119 : Index := Scalar.indexCast v5116
  let c0_2213 : Index := 0#32
  let c0_2214 : Index := 0#32
  ![v5119.toNat, 0, 0]

def k0_chk360 (v5116 : BitVec 32) : Prop :=
  (∀ a, (k0_off1093 v5116) a + S1x1x128.size a ≤ S50008x1x128.size a)
theorem k0_off1093_inb : ∀ (v5116 : BitVec 32) (k0_hw360 : k0_chk360 v5116), ∀ a, (k0_off1093 v5116) a + S1x1x128.size a ≤ S50008x1x128.size a := fun v5116 k0_hw360 => k0_hw360

def k0_off1094 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1095 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1096 (v5130 : BitVec 32) : Fin 3 → Nat :=
  let v5133 : Index := Scalar.indexCast v5130
  let c0_2219 : Index := 0#32
  let c0_2220 : Index := 0#32
  ![v5133.toNat, 0, 0]

def k0_chk361 (v5130 : BitVec 32) : Prop :=
  (∀ a, (k0_off1096 v5130) a + S1x1x128.size a ≤ S50008x1x128.size a)
theorem k0_off1096_inb : ∀ (v5130 : BitVec 32) (k0_hw361 : k0_chk361 v5130), ∀ a, (k0_off1096 v5130) a + S1x1x128.size a ≤ S50008x1x128.size a := fun v5130 k0_hw361 => k0_hw361

def k0_off1097 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1098 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1099 (v5144 : BitVec 32) : Fin 3 → Nat :=
  let v5147 : Index := Scalar.indexCast v5144
  let c0_2225 : Index := 0#32
  let c0_2226 : Index := 0#32
  ![v5147.toNat, 0, 0]

def k0_chk362 (v5144 : BitVec 32) : Prop :=
  (∀ a, (k0_off1099 v5144) a + S1x1x128.size a ≤ S50008x1x128.size a)
theorem k0_off1099_inb : ∀ (v5144 : BitVec 32) (k0_hw362 : k0_chk362 v5144), ∀ a, (k0_off1099 v5144) a + S1x1x128.size a ≤ S50008x1x128.size a := fun v5144 k0_hw362 => k0_hw362

def k0_off1100 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1101 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1102 (v5158 : BitVec 32) : Fin 3 → Nat :=
  let v5161 : Index := Scalar.indexCast v5158
  let c0_2231 : Index := 0#32
  let c0_2232 : Index := 0#32
  ![v5161.toNat, 0, 0]

def k0_chk363 (v5158 : BitVec 32) : Prop :=
  (∀ a, (k0_off1102 v5158) a + S1x1x128.size a ≤ S50008x1x128.size a)
theorem k0_off1102_inb : ∀ (v5158 : BitVec 32) (k0_hw363 : k0_chk363 v5158), ∀ a, (k0_off1102 v5158) a + S1x1x128.size a ≤ S50008x1x128.size a := fun v5158 k0_hw363 => k0_hw363

def k0_off1103 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1104 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1105 (v5172 : BitVec 32) : Fin 3 → Nat :=
  let v5175 : Index := Scalar.indexCast v5172
  let c0_2237 : Index := 0#32
  let c0_2238 : Index := 0#32
  ![v5175.toNat, 0, 0]

def k0_chk364 (v5172 : BitVec 32) : Prop :=
  (∀ a, (k0_off1105 v5172) a + S1x1x128.size a ≤ S50008x1x128.size a)
theorem k0_off1105_inb : ∀ (v5172 : BitVec 32) (k0_hw364 : k0_chk364 v5172), ∀ a, (k0_off1105 v5172) a + S1x1x128.size a ≤ S50008x1x128.size a := fun v5172 k0_hw364 => k0_hw364

def k0_off1106 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1107 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1108 (v5186 : BitVec 32) : Fin 3 → Nat :=
  let v5189 : Index := Scalar.indexCast v5186
  let c0_2243 : Index := 0#32
  let c0_2244 : Index := 0#32
  ![v5189.toNat, 0, 0]

def k0_chk365 (v5186 : BitVec 32) : Prop :=
  (∀ a, (k0_off1108 v5186) a + S1x1x128.size a ≤ S50008x1x128.size a)
theorem k0_off1108_inb : ∀ (v5186 : BitVec 32) (k0_hw365 : k0_chk365 v5186), ∀ a, (k0_off1108 v5186) a + S1x1x128.size a ≤ S50008x1x128.size a := fun v5186 k0_hw365 => k0_hw365

def k0_off1109 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1110 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1111 (v5200 : BitVec 32) : Fin 3 → Nat :=
  let v5203 : Index := Scalar.indexCast v5200
  let c0_2249 : Index := 0#32
  let c0_2250 : Index := 0#32
  ![v5203.toNat, 0, 0]

def k0_chk366 (v5200 : BitVec 32) : Prop :=
  (∀ a, (k0_off1111 v5200) a + S1x1x128.size a ≤ S50008x1x128.size a)
theorem k0_off1111_inb : ∀ (v5200 : BitVec 32) (k0_hw366 : k0_chk366 v5200), ∀ a, (k0_off1111 v5200) a + S1x1x128.size a ≤ S50008x1x128.size a := fun v5200 k0_hw366 => k0_hw366

def k0_off1112 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1113 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1114 (v5214 : BitVec 32) : Fin 3 → Nat :=
  let v5217 : Index := Scalar.indexCast v5214
  let c0_2255 : Index := 0#32
  let c0_2256 : Index := 0#32
  ![v5217.toNat, 0, 0]

def k0_chk367 (v5214 : BitVec 32) : Prop :=
  (∀ a, (k0_off1114 v5214) a + S1x1x128.size a ≤ S50008x1x128.size a)
theorem k0_off1114_inb : ∀ (v5214 : BitVec 32) (k0_hw367 : k0_chk367 v5214), ∀ a, (k0_off1114 v5214) a + S1x1x128.size a ≤ S50008x1x128.size a := fun v5214 k0_hw367 => k0_hw367

def k0_off1115 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1116 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1117 (v5228 : BitVec 32) : Fin 3 → Nat :=
  let v5231 : Index := Scalar.indexCast v5228
  let c0_2261 : Index := 0#32
  let c0_2262 : Index := 0#32
  ![v5231.toNat, 0, 0]

def k0_chk368 (v5228 : BitVec 32) : Prop :=
  (∀ a, (k0_off1117 v5228) a + S1x1x128.size a ≤ S50008x1x128.size a)
theorem k0_off1117_inb : ∀ (v5228 : BitVec 32) (k0_hw368 : k0_chk368 v5228), ∀ a, (k0_off1117 v5228) a + S1x1x128.size a ≤ S50008x1x128.size a := fun v5228 k0_hw368 => k0_hw368

def k0_off1118 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1119 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1120 (v5242 : BitVec 32) : Fin 3 → Nat :=
  let v5245 : Index := Scalar.indexCast v5242
  let c0_2267 : Index := 0#32
  let c0_2268 : Index := 0#32
  ![v5245.toNat, 0, 0]

def k0_chk369 (v5242 : BitVec 32) : Prop :=
  (∀ a, (k0_off1120 v5242) a + S1x1x128.size a ≤ S50008x1x128.size a)
theorem k0_off1120_inb : ∀ (v5242 : BitVec 32) (k0_hw369 : k0_chk369 v5242), ∀ a, (k0_off1120 v5242) a + S1x1x128.size a ≤ S50008x1x128.size a := fun v5242 k0_hw369 => k0_hw369

def k0_off1121 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1122 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1123 (v5256 : BitVec 32) : Fin 3 → Nat :=
  let v5259 : Index := Scalar.indexCast v5256
  let c0_2273 : Index := 0#32
  let c0_2274 : Index := 0#32
  ![v5259.toNat, 0, 0]

def k0_chk370 (v5256 : BitVec 32) : Prop :=
  (∀ a, (k0_off1123 v5256) a + S1x1x128.size a ≤ S50008x1x128.size a)
theorem k0_off1123_inb : ∀ (v5256 : BitVec 32) (k0_hw370 : k0_chk370 v5256), ∀ a, (k0_off1123 v5256) a + S1x1x128.size a ≤ S50008x1x128.size a := fun v5256 k0_hw370 => k0_hw370

def k0_off1124 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1125 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1126 (v5270 : BitVec 32) : Fin 3 → Nat :=
  let v5273 : Index := Scalar.indexCast v5270
  let c0_2279 : Index := 0#32
  let c0_2280 : Index := 0#32
  ![v5273.toNat, 0, 0]

def k0_chk371 (v5270 : BitVec 32) : Prop :=
  (∀ a, (k0_off1126 v5270) a + S1x1x128.size a ≤ S50008x1x128.size a)
theorem k0_off1126_inb : ∀ (v5270 : BitVec 32) (k0_hw371 : k0_chk371 v5270), ∀ a, (k0_off1126 v5270) a + S1x1x128.size a ≤ S50008x1x128.size a := fun v5270 k0_hw371 => k0_hw371

def k0_off1127 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1128 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1129 (v5284 : BitVec 32) : Fin 3 → Nat :=
  let v5287 : Index := Scalar.indexCast v5284
  let c0_2285 : Index := 0#32
  let c0_2286 : Index := 0#32
  ![v5287.toNat, 0, 0]

def k0_chk372 (v5284 : BitVec 32) : Prop :=
  (∀ a, (k0_off1129 v5284) a + S1x1x128.size a ≤ S50008x1x128.size a)
theorem k0_off1129_inb : ∀ (v5284 : BitVec 32) (k0_hw372 : k0_chk372 v5284), ∀ a, (k0_off1129 v5284) a + S1x1x128.size a ≤ S50008x1x128.size a := fun v5284 k0_hw372 => k0_hw372

def k0_off1130 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1131 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1132 (v5298 : BitVec 32) : Fin 3 → Nat :=
  let v5301 : Index := Scalar.indexCast v5298
  let c0_2291 : Index := 0#32
  let c0_2292 : Index := 0#32
  ![v5301.toNat, 0, 0]

def k0_chk373 (v5298 : BitVec 32) : Prop :=
  (∀ a, (k0_off1132 v5298) a + S1x1x128.size a ≤ S50008x1x128.size a)
theorem k0_off1132_inb : ∀ (v5298 : BitVec 32) (k0_hw373 : k0_chk373 v5298), ∀ a, (k0_off1132 v5298) a + S1x1x128.size a ≤ S50008x1x128.size a := fun v5298 k0_hw373 => k0_hw373

def k0_off1133 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1134 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1135 (v5312 : BitVec 32) : Fin 3 → Nat :=
  let v5315 : Index := Scalar.indexCast v5312
  let c0_2297 : Index := 0#32
  let c0_2298 : Index := 0#32
  ![v5315.toNat, 0, 0]

def k0_chk374 (v5312 : BitVec 32) : Prop :=
  (∀ a, (k0_off1135 v5312) a + S1x1x128.size a ≤ S50008x1x128.size a)
theorem k0_off1135_inb : ∀ (v5312 : BitVec 32) (k0_hw374 : k0_chk374 v5312), ∀ a, (k0_off1135 v5312) a + S1x1x128.size a ≤ S50008x1x128.size a := fun v5312 k0_hw374 => k0_hw374

def k0_off1136 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1137 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1138 (v5326 : BitVec 32) : Fin 3 → Nat :=
  let v5329 : Index := Scalar.indexCast v5326
  let c0_2303 : Index := 0#32
  let c0_2304 : Index := 0#32
  ![v5329.toNat, 0, 0]

def k0_chk375 (v5326 : BitVec 32) : Prop :=
  (∀ a, (k0_off1138 v5326) a + S1x1x128.size a ≤ S50008x1x128.size a)
theorem k0_off1138_inb : ∀ (v5326 : BitVec 32) (k0_hw375 : k0_chk375 v5326), ∀ a, (k0_off1138 v5326) a + S1x1x128.size a ≤ S50008x1x128.size a := fun v5326 k0_hw375 => k0_hw375

def k0_off1139 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1140 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1141 (v5340 : BitVec 32) : Fin 3 → Nat :=
  let v5343 : Index := Scalar.indexCast v5340
  let c0_2309 : Index := 0#32
  let c0_2310 : Index := 0#32
  ![v5343.toNat, 0, 0]

def k0_chk376 (v5340 : BitVec 32) : Prop :=
  (∀ a, (k0_off1141 v5340) a + S1x1x128.size a ≤ S50008x1x128.size a)
theorem k0_off1141_inb : ∀ (v5340 : BitVec 32) (k0_hw376 : k0_chk376 v5340), ∀ a, (k0_off1141 v5340) a + S1x1x128.size a ≤ S50008x1x128.size a := fun v5340 k0_hw376 => k0_hw376

def k0_off1142 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1143 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1144 (v5354 : BitVec 32) : Fin 3 → Nat :=
  let v5357 : Index := Scalar.indexCast v5354
  let c0_2315 : Index := 0#32
  let c0_2316 : Index := 0#32
  ![v5357.toNat, 0, 0]

def k0_chk377 (v5354 : BitVec 32) : Prop :=
  (∀ a, (k0_off1144 v5354) a + S1x1x128.size a ≤ S50008x1x128.size a)
theorem k0_off1144_inb : ∀ (v5354 : BitVec 32) (k0_hw377 : k0_chk377 v5354), ∀ a, (k0_off1144 v5354) a + S1x1x128.size a ≤ S50008x1x128.size a := fun v5354 k0_hw377 => k0_hw377

def k0_off1145 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1146 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1147 (v5368 : BitVec 32) : Fin 3 → Nat :=
  let v5371 : Index := Scalar.indexCast v5368
  let c0_2321 : Index := 0#32
  let c0_2322 : Index := 0#32
  ![v5371.toNat, 0, 0]

def k0_chk378 (v5368 : BitVec 32) : Prop :=
  (∀ a, (k0_off1147 v5368) a + S1x1x128.size a ≤ S50008x1x128.size a)
theorem k0_off1147_inb : ∀ (v5368 : BitVec 32) (k0_hw378 : k0_chk378 v5368), ∀ a, (k0_off1147 v5368) a + S1x1x128.size a ≤ S50008x1x128.size a := fun v5368 k0_hw378 => k0_hw378

def k0_off1148 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1149 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1150 (v5382 : BitVec 32) : Fin 3 → Nat :=
  let v5385 : Index := Scalar.indexCast v5382
  let c0_2327 : Index := 0#32
  let c0_2328 : Index := 0#32
  ![v5385.toNat, 0, 0]

def k0_chk379 (v5382 : BitVec 32) : Prop :=
  (∀ a, (k0_off1150 v5382) a + S1x1x128.size a ≤ S50008x1x128.size a)
theorem k0_off1150_inb : ∀ (v5382 : BitVec 32) (k0_hw379 : k0_chk379 v5382), ∀ a, (k0_off1150 v5382) a + S1x1x128.size a ≤ S50008x1x128.size a := fun v5382 k0_hw379 => k0_hw379

def k0_off1151 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1152 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1153 (v5396 : BitVec 32) : Fin 3 → Nat :=
  let v5399 : Index := Scalar.indexCast v5396
  let c0_2333 : Index := 0#32
  let c0_2334 : Index := 0#32
  ![v5399.toNat, 0, 0]

def k0_chk380 (v5396 : BitVec 32) : Prop :=
  (∀ a, (k0_off1153 v5396) a + S1x1x128.size a ≤ S50008x1x128.size a)
theorem k0_off1153_inb : ∀ (v5396 : BitVec 32) (k0_hw380 : k0_chk380 v5396), ∀ a, (k0_off1153 v5396) a + S1x1x128.size a ≤ S50008x1x128.size a := fun v5396 k0_hw380 => k0_hw380

def k0_off1154 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1155 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1156 (v5410 : BitVec 32) : Fin 3 → Nat :=
  let v5413 : Index := Scalar.indexCast v5410
  let c0_2339 : Index := 0#32
  let c0_2340 : Index := 0#32
  ![v5413.toNat, 0, 0]

def k0_chk381 (v5410 : BitVec 32) : Prop :=
  (∀ a, (k0_off1156 v5410) a + S1x1x128.size a ≤ S50008x1x128.size a)
theorem k0_off1156_inb : ∀ (v5410 : BitVec 32) (k0_hw381 : k0_chk381 v5410), ∀ a, (k0_off1156 v5410) a + S1x1x128.size a ≤ S50008x1x128.size a := fun v5410 k0_hw381 => k0_hw381

def k0_off1157 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1158 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1159 (v5424 : BitVec 32) : Fin 3 → Nat :=
  let v5427 : Index := Scalar.indexCast v5424
  let c0_2345 : Index := 0#32
  let c0_2346 : Index := 0#32
  ![v5427.toNat, 0, 0]

def k0_chk382 (v5424 : BitVec 32) : Prop :=
  (∀ a, (k0_off1159 v5424) a + S1x1x128.size a ≤ S50008x1x128.size a)
theorem k0_off1159_inb : ∀ (v5424 : BitVec 32) (k0_hw382 : k0_chk382 v5424), ∀ a, (k0_off1159 v5424) a + S1x1x128.size a ≤ S50008x1x128.size a := fun v5424 k0_hw382 => k0_hw382

def k0_off1160 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1161 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1162 (v5438 : BitVec 32) : Fin 3 → Nat :=
  let v5441 : Index := Scalar.indexCast v5438
  let c0_2351 : Index := 0#32
  let c0_2352 : Index := 0#32
  ![v5441.toNat, 0, 0]

def k0_chk383 (v5438 : BitVec 32) : Prop :=
  (∀ a, (k0_off1162 v5438) a + S1x1x128.size a ≤ S50008x1x128.size a)
theorem k0_off1162_inb : ∀ (v5438 : BitVec 32) (k0_hw383 : k0_chk383 v5438), ∀ a, (k0_off1162 v5438) a + S1x1x128.size a ≤ S50008x1x128.size a := fun v5438 k0_hw383 => k0_hw383

def k0_off1163 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1164 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1165 (v5452 : BitVec 32) : Fin 3 → Nat :=
  let v5455 : Index := Scalar.indexCast v5452
  let c0_2357 : Index := 0#32
  let c0_2358 : Index := 0#32
  ![v5455.toNat, 0, 0]

def k0_chk384 (v5452 : BitVec 32) : Prop :=
  (∀ a, (k0_off1165 v5452) a + S1x1x128.size a ≤ S50008x1x128.size a)
theorem k0_off1165_inb : ∀ (v5452 : BitVec 32) (k0_hw384 : k0_chk384 v5452), ∀ a, (k0_off1165 v5452) a + S1x1x128.size a ≤ S50008x1x128.size a := fun v5452 k0_hw384 => k0_hw384

def k0_off1166 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1167 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1168 (v5466 : BitVec 32) : Fin 3 → Nat :=
  let v5469 : Index := Scalar.indexCast v5466
  let c0_2363 : Index := 0#32
  let c0_2364 : Index := 0#32
  ![v5469.toNat, 0, 0]

def k0_chk385 (v5466 : BitVec 32) : Prop :=
  (∀ a, (k0_off1168 v5466) a + S1x1x128.size a ≤ S50008x1x128.size a)
theorem k0_off1168_inb : ∀ (v5466 : BitVec 32) (k0_hw385 : k0_chk385 v5466), ∀ a, (k0_off1168 v5466) a + S1x1x128.size a ≤ S50008x1x128.size a := fun v5466 k0_hw385 => k0_hw385

def k0_off1169 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1170 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1171 (v5480 : BitVec 32) : Fin 3 → Nat :=
  let v5483 : Index := Scalar.indexCast v5480
  let c0_2369 : Index := 0#32
  let c0_2370 : Index := 0#32
  ![v5483.toNat, 0, 0]

def k0_chk386 (v5480 : BitVec 32) : Prop :=
  (∀ a, (k0_off1171 v5480) a + S1x1x128.size a ≤ S50008x1x128.size a)
theorem k0_off1171_inb : ∀ (v5480 : BitVec 32) (k0_hw386 : k0_chk386 v5480), ∀ a, (k0_off1171 v5480) a + S1x1x128.size a ≤ S50008x1x128.size a := fun v5480 k0_hw386 => k0_hw386

def k0_off1172 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1173 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1174 (v5494 : BitVec 32) : Fin 3 → Nat :=
  let v5497 : Index := Scalar.indexCast v5494
  let c0_2375 : Index := 0#32
  let c0_2376 : Index := 0#32
  ![v5497.toNat, 0, 0]

def k0_chk387 (v5494 : BitVec 32) : Prop :=
  (∀ a, (k0_off1174 v5494) a + S1x1x128.size a ≤ S50008x1x128.size a)
theorem k0_off1174_inb : ∀ (v5494 : BitVec 32) (k0_hw387 : k0_chk387 v5494), ∀ a, (k0_off1174 v5494) a + S1x1x128.size a ≤ S50008x1x128.size a := fun v5494 k0_hw387 => k0_hw387

def k0_off1175 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1176 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1177 (v5508 : BitVec 32) : Fin 3 → Nat :=
  let v5511 : Index := Scalar.indexCast v5508
  let c0_2381 : Index := 0#32
  let c0_2382 : Index := 0#32
  ![v5511.toNat, 0, 0]

def k0_chk388 (v5508 : BitVec 32) : Prop :=
  (∀ a, (k0_off1177 v5508) a + S1x1x128.size a ≤ S50008x1x128.size a)
theorem k0_off1177_inb : ∀ (v5508 : BitVec 32) (k0_hw388 : k0_chk388 v5508), ∀ a, (k0_off1177 v5508) a + S1x1x128.size a ≤ S50008x1x128.size a := fun v5508 k0_hw388 => k0_hw388

def k0_off1178 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1179 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1180 (v5522 : BitVec 32) : Fin 3 → Nat :=
  let v5525 : Index := Scalar.indexCast v5522
  let c0_2387 : Index := 0#32
  let c0_2388 : Index := 0#32
  ![v5525.toNat, 0, 0]

def k0_chk389 (v5522 : BitVec 32) : Prop :=
  (∀ a, (k0_off1180 v5522) a + S1x1x128.size a ≤ S50008x1x128.size a)
theorem k0_off1180_inb : ∀ (v5522 : BitVec 32) (k0_hw389 : k0_chk389 v5522), ∀ a, (k0_off1180 v5522) a + S1x1x128.size a ≤ S50008x1x128.size a := fun v5522 k0_hw389 => k0_hw389

def k0_off1181 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1182 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1183 (v5536 : BitVec 32) : Fin 3 → Nat :=
  let v5539 : Index := Scalar.indexCast v5536
  let c0_2393 : Index := 0#32
  let c0_2394 : Index := 0#32
  ![v5539.toNat, 0, 0]

def k0_chk390 (v5536 : BitVec 32) : Prop :=
  (∀ a, (k0_off1183 v5536) a + S1x1x128.size a ≤ S50008x1x128.size a)
theorem k0_off1183_inb : ∀ (v5536 : BitVec 32) (k0_hw390 : k0_chk390 v5536), ∀ a, (k0_off1183 v5536) a + S1x1x128.size a ≤ S50008x1x128.size a := fun v5536 k0_hw390 => k0_hw390

def k0_off1184 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1185 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1186 (v5550 : BitVec 32) : Fin 3 → Nat :=
  let v5553 : Index := Scalar.indexCast v5550
  let c0_2399 : Index := 0#32
  let c0_2400 : Index := 0#32
  ![v5553.toNat, 0, 0]

def k0_chk391 (v5550 : BitVec 32) : Prop :=
  (∀ a, (k0_off1186 v5550) a + S1x1x128.size a ≤ S50008x1x128.size a)
theorem k0_off1186_inb : ∀ (v5550 : BitVec 32) (k0_hw391 : k0_chk391 v5550), ∀ a, (k0_off1186 v5550) a + S1x1x128.size a ≤ S50008x1x128.size a := fun v5550 k0_hw391 => k0_hw391

def k0_off1187 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1188 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1189 (v5564 : BitVec 32) : Fin 3 → Nat :=
  let v5567 : Index := Scalar.indexCast v5564
  let c0_2405 : Index := 0#32
  let c0_2406 : Index := 0#32
  ![v5567.toNat, 0, 0]

def k0_chk392 (v5564 : BitVec 32) : Prop :=
  (∀ a, (k0_off1189 v5564) a + S1x1x128.size a ≤ S50008x1x128.size a)
theorem k0_off1189_inb : ∀ (v5564 : BitVec 32) (k0_hw392 : k0_chk392 v5564), ∀ a, (k0_off1189 v5564) a + S1x1x128.size a ≤ S50008x1x128.size a := fun v5564 k0_hw392 => k0_hw392

def k0_off1190 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1191 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1192 (v5578 : BitVec 32) : Fin 3 → Nat :=
  let v5581 : Index := Scalar.indexCast v5578
  let c0_2411 : Index := 0#32
  let c0_2412 : Index := 0#32
  ![v5581.toNat, 0, 0]

def k0_chk393 (v5578 : BitVec 32) : Prop :=
  (∀ a, (k0_off1192 v5578) a + S1x1x128.size a ≤ S50008x1x128.size a)
theorem k0_off1192_inb : ∀ (v5578 : BitVec 32) (k0_hw393 : k0_chk393 v5578), ∀ a, (k0_off1192 v5578) a + S1x1x128.size a ≤ S50008x1x128.size a := fun v5578 k0_hw393 => k0_hw393

def k0_off1193 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1194 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1195 (v5592 : BitVec 32) : Fin 3 → Nat :=
  let v5595 : Index := Scalar.indexCast v5592
  let c0_2417 : Index := 0#32
  let c0_2418 : Index := 0#32
  ![v5595.toNat, 0, 0]

def k0_chk394 (v5592 : BitVec 32) : Prop :=
  (∀ a, (k0_off1195 v5592) a + S1x1x128.size a ≤ S50008x1x128.size a)
theorem k0_off1195_inb : ∀ (v5592 : BitVec 32) (k0_hw394 : k0_chk394 v5592), ∀ a, (k0_off1195 v5592) a + S1x1x128.size a ≤ S50008x1x128.size a := fun v5592 k0_hw394 => k0_hw394

def k0_off1196 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1197 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1198 (v5606 : BitVec 32) : Fin 3 → Nat :=
  let v5609 : Index := Scalar.indexCast v5606
  let c0_2423 : Index := 0#32
  let c0_2424 : Index := 0#32
  ![v5609.toNat, 0, 0]

def k0_chk395 (v5606 : BitVec 32) : Prop :=
  (∀ a, (k0_off1198 v5606) a + S1x1x128.size a ≤ S50008x1x128.size a)
theorem k0_off1198_inb : ∀ (v5606 : BitVec 32) (k0_hw395 : k0_chk395 v5606), ∀ a, (k0_off1198 v5606) a + S1x1x128.size a ≤ S50008x1x128.size a := fun v5606 k0_hw395 => k0_hw395

def k0_off1199 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1200 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1201 (v5620 : BitVec 32) : Fin 3 → Nat :=
  let v5623 : Index := Scalar.indexCast v5620
  let c0_2429 : Index := 0#32
  let c0_2430 : Index := 0#32
  ![v5623.toNat, 0, 0]

def k0_chk396 (v5620 : BitVec 32) : Prop :=
  (∀ a, (k0_off1201 v5620) a + S1x1x128.size a ≤ S50008x1x128.size a)
theorem k0_off1201_inb : ∀ (v5620 : BitVec 32) (k0_hw396 : k0_chk396 v5620), ∀ a, (k0_off1201 v5620) a + S1x1x128.size a ≤ S50008x1x128.size a := fun v5620 k0_hw396 => k0_hw396

def k0_off1202 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1203 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1204 (v5634 : BitVec 32) : Fin 3 → Nat :=
  let v5637 : Index := Scalar.indexCast v5634
  let c0_2435 : Index := 0#32
  let c0_2436 : Index := 0#32
  ![v5637.toNat, 0, 0]

def k0_chk397 (v5634 : BitVec 32) : Prop :=
  (∀ a, (k0_off1204 v5634) a + S1x1x128.size a ≤ S50008x1x128.size a)
theorem k0_off1204_inb : ∀ (v5634 : BitVec 32) (k0_hw397 : k0_chk397 v5634), ∀ a, (k0_off1204 v5634) a + S1x1x128.size a ≤ S50008x1x128.size a := fun v5634 k0_hw397 => k0_hw397

def k0_off1205 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1206 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1207 (v5648 : BitVec 32) : Fin 3 → Nat :=
  let v5651 : Index := Scalar.indexCast v5648
  let c0_2441 : Index := 0#32
  let c0_2442 : Index := 0#32
  ![v5651.toNat, 0, 0]

def k0_chk398 (v5648 : BitVec 32) : Prop :=
  (∀ a, (k0_off1207 v5648) a + S1x1x128.size a ≤ S50008x1x128.size a)
theorem k0_off1207_inb : ∀ (v5648 : BitVec 32) (k0_hw398 : k0_chk398 v5648), ∀ a, (k0_off1207 v5648) a + S1x1x128.size a ≤ S50008x1x128.size a := fun v5648 k0_hw398 => k0_hw398

def k0_off1208 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1209 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1210 (v5662 : BitVec 32) : Fin 3 → Nat :=
  let v5665 : Index := Scalar.indexCast v5662
  let c0_2447 : Index := 0#32
  let c0_2448 : Index := 0#32
  ![v5665.toNat, 0, 0]

def k0_chk399 (v5662 : BitVec 32) : Prop :=
  (∀ a, (k0_off1210 v5662) a + S1x1x128.size a ≤ S50008x1x128.size a)
theorem k0_off1210_inb : ∀ (v5662 : BitVec 32) (k0_hw399 : k0_chk399 v5662), ∀ a, (k0_off1210 v5662) a + S1x1x128.size a ≤ S50008x1x128.size a := fun v5662 k0_hw399 => k0_hw399

def k0_off1211 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1212 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1213 (v5676 : BitVec 32) : Fin 3 → Nat :=
  let v5679 : Index := Scalar.indexCast v5676
  let c0_2453 : Index := 0#32
  let c0_2454 : Index := 0#32
  ![v5679.toNat, 0, 0]

def k0_chk400 (v5676 : BitVec 32) : Prop :=
  (∀ a, (k0_off1213 v5676) a + S1x1x128.size a ≤ S50008x1x128.size a)
theorem k0_off1213_inb : ∀ (v5676 : BitVec 32) (k0_hw400 : k0_chk400 v5676), ∀ a, (k0_off1213 v5676) a + S1x1x128.size a ≤ S50008x1x128.size a := fun v5676 k0_hw400 => k0_hw400

def k0_off1214 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1215 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1216 (v5690 : BitVec 32) : Fin 3 → Nat :=
  let v5693 : Index := Scalar.indexCast v5690
  let c0_2459 : Index := 0#32
  let c0_2460 : Index := 0#32
  ![v5693.toNat, 0, 0]

def k0_chk401 (v5690 : BitVec 32) : Prop :=
  (∀ a, (k0_off1216 v5690) a + S1x1x128.size a ≤ S50008x1x128.size a)
theorem k0_off1216_inb : ∀ (v5690 : BitVec 32) (k0_hw401 : k0_chk401 v5690), ∀ a, (k0_off1216 v5690) a + S1x1x128.size a ≤ S50008x1x128.size a := fun v5690 k0_hw401 => k0_hw401

def k0_off1217 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1218 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1219 (v5704 : BitVec 32) : Fin 3 → Nat :=
  let v5707 : Index := Scalar.indexCast v5704
  let c0_2465 : Index := 0#32
  let c0_2466 : Index := 0#32
  ![v5707.toNat, 0, 0]

def k0_chk402 (v5704 : BitVec 32) : Prop :=
  (∀ a, (k0_off1219 v5704) a + S1x1x128.size a ≤ S50008x1x128.size a)
theorem k0_off1219_inb : ∀ (v5704 : BitVec 32) (k0_hw402 : k0_chk402 v5704), ∀ a, (k0_off1219 v5704) a + S1x1x128.size a ≤ S50008x1x128.size a := fun v5704 k0_hw402 => k0_hw402

def k0_off1220 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1221 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1222 (v5718 : BitVec 32) : Fin 3 → Nat :=
  let v5721 : Index := Scalar.indexCast v5718
  let c0_2471 : Index := 0#32
  let c0_2472 : Index := 0#32
  ![v5721.toNat, 0, 0]

def k0_chk403 (v5718 : BitVec 32) : Prop :=
  (∀ a, (k0_off1222 v5718) a + S1x1x128.size a ≤ S50008x1x128.size a)
theorem k0_off1222_inb : ∀ (v5718 : BitVec 32) (k0_hw403 : k0_chk403 v5718), ∀ a, (k0_off1222 v5718) a + S1x1x128.size a ≤ S50008x1x128.size a := fun v5718 k0_hw403 => k0_hw403

def k0_off1223 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1224 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1225 (v5732 : BitVec 32) : Fin 3 → Nat :=
  let v5735 : Index := Scalar.indexCast v5732
  let c0_2477 : Index := 0#32
  let c0_2478 : Index := 0#32
  ![v5735.toNat, 0, 0]

def k0_chk404 (v5732 : BitVec 32) : Prop :=
  (∀ a, (k0_off1225 v5732) a + S1x1x128.size a ≤ S50008x1x128.size a)
theorem k0_off1225_inb : ∀ (v5732 : BitVec 32) (k0_hw404 : k0_chk404 v5732), ∀ a, (k0_off1225 v5732) a + S1x1x128.size a ≤ S50008x1x128.size a := fun v5732 k0_hw404 => k0_hw404

def k0_off1226 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1227 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1228 (v5746 : BitVec 32) : Fin 3 → Nat :=
  let v5749 : Index := Scalar.indexCast v5746
  let c0_2483 : Index := 0#32
  let c0_2484 : Index := 0#32
  ![v5749.toNat, 0, 0]

def k0_chk405 (v5746 : BitVec 32) : Prop :=
  (∀ a, (k0_off1228 v5746) a + S1x1x128.size a ≤ S50008x1x128.size a)
theorem k0_off1228_inb : ∀ (v5746 : BitVec 32) (k0_hw405 : k0_chk405 v5746), ∀ a, (k0_off1228 v5746) a + S1x1x128.size a ≤ S50008x1x128.size a := fun v5746 k0_hw405 => k0_hw405

def k0_off1229 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1230 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1231 (v5760 : BitVec 32) : Fin 3 → Nat :=
  let v5763 : Index := Scalar.indexCast v5760
  let c0_2489 : Index := 0#32
  let c0_2490 : Index := 0#32
  ![v5763.toNat, 0, 0]

def k0_chk406 (v5760 : BitVec 32) : Prop :=
  (∀ a, (k0_off1231 v5760) a + S1x1x128.size a ≤ S50008x1x128.size a)
theorem k0_off1231_inb : ∀ (v5760 : BitVec 32) (k0_hw406 : k0_chk406 v5760), ∀ a, (k0_off1231 v5760) a + S1x1x128.size a ≤ S50008x1x128.size a := fun v5760 k0_hw406 => k0_hw406

def k0_off1232 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1233 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1234 (v5774 : BitVec 32) : Fin 3 → Nat :=
  let v5777 : Index := Scalar.indexCast v5774
  let c0_2495 : Index := 0#32
  let c0_2496 : Index := 0#32
  ![v5777.toNat, 0, 0]

def k0_chk407 (v5774 : BitVec 32) : Prop :=
  (∀ a, (k0_off1234 v5774) a + S1x1x128.size a ≤ S50008x1x128.size a)
theorem k0_off1234_inb : ∀ (v5774 : BitVec 32) (k0_hw407 : k0_chk407 v5774), ∀ a, (k0_off1234 v5774) a + S1x1x128.size a ≤ S50008x1x128.size a := fun v5774 k0_hw407 => k0_hw407

def k0_off1235 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1236 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1237 (v5788 : BitVec 32) : Fin 3 → Nat :=
  let v5791 : Index := Scalar.indexCast v5788
  let c0_2501 : Index := 0#32
  let c0_2502 : Index := 0#32
  ![v5791.toNat, 0, 0]

def k0_chk408 (v5788 : BitVec 32) : Prop :=
  (∀ a, (k0_off1237 v5788) a + S1x1x128.size a ≤ S50008x1x128.size a)
theorem k0_off1237_inb : ∀ (v5788 : BitVec 32) (k0_hw408 : k0_chk408 v5788), ∀ a, (k0_off1237 v5788) a + S1x1x128.size a ≤ S50008x1x128.size a := fun v5788 k0_hw408 => k0_hw408

def k0_off1238 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1239 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1240 (v5802 : BitVec 32) : Fin 3 → Nat :=
  let v5805 : Index := Scalar.indexCast v5802
  let c0_2507 : Index := 0#32
  let c0_2508 : Index := 0#32
  ![v5805.toNat, 0, 0]

def k0_chk409 (v5802 : BitVec 32) : Prop :=
  (∀ a, (k0_off1240 v5802) a + S1x1x128.size a ≤ S50008x1x128.size a)
theorem k0_off1240_inb : ∀ (v5802 : BitVec 32) (k0_hw409 : k0_chk409 v5802), ∀ a, (k0_off1240 v5802) a + S1x1x128.size a ≤ S50008x1x128.size a := fun v5802 k0_hw409 => k0_hw409

def k0_off1241 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1242 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1243 (v5816 : BitVec 32) : Fin 3 → Nat :=
  let v5819 : Index := Scalar.indexCast v5816
  let c0_2513 : Index := 0#32
  let c0_2514 : Index := 0#32
  ![v5819.toNat, 0, 0]

def k0_chk410 (v5816 : BitVec 32) : Prop :=
  (∀ a, (k0_off1243 v5816) a + S1x1x128.size a ≤ S50008x1x128.size a)
theorem k0_off1243_inb : ∀ (v5816 : BitVec 32) (k0_hw410 : k0_chk410 v5816), ∀ a, (k0_off1243 v5816) a + S1x1x128.size a ≤ S50008x1x128.size a := fun v5816 k0_hw410 => k0_hw410

def k0_off1244 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1245 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1246 (v5830 : BitVec 32) : Fin 3 → Nat :=
  let v5833 : Index := Scalar.indexCast v5830
  let c0_2519 : Index := 0#32
  let c0_2520 : Index := 0#32
  ![v5833.toNat, 0, 0]

def k0_chk411 (v5830 : BitVec 32) : Prop :=
  (∀ a, (k0_off1246 v5830) a + S1x1x128.size a ≤ S50008x1x128.size a)
theorem k0_off1246_inb : ∀ (v5830 : BitVec 32) (k0_hw411 : k0_chk411 v5830), ∀ a, (k0_off1246 v5830) a + S1x1x128.size a ≤ S50008x1x128.size a := fun v5830 k0_hw411 => k0_hw411

def k0_off1247 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1248 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1249 (v5844 : BitVec 32) : Fin 3 → Nat :=
  let v5847 : Index := Scalar.indexCast v5844
  let c0_2525 : Index := 0#32
  let c0_2526 : Index := 0#32
  ![v5847.toNat, 0, 0]

def k0_chk412 (v5844 : BitVec 32) : Prop :=
  (∀ a, (k0_off1249 v5844) a + S1x1x128.size a ≤ S50008x1x128.size a)
theorem k0_off1249_inb : ∀ (v5844 : BitVec 32) (k0_hw412 : k0_chk412 v5844), ∀ a, (k0_off1249 v5844) a + S1x1x128.size a ≤ S50008x1x128.size a := fun v5844 k0_hw412 => k0_hw412

def k0_off1250 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1251 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1252 (v5858 : BitVec 32) : Fin 3 → Nat :=
  let v5861 : Index := Scalar.indexCast v5858
  let c0_2531 : Index := 0#32
  let c0_2532 : Index := 0#32
  ![v5861.toNat, 0, 0]

def k0_chk413 (v5858 : BitVec 32) : Prop :=
  (∀ a, (k0_off1252 v5858) a + S1x1x128.size a ≤ S50008x1x128.size a)
theorem k0_off1252_inb : ∀ (v5858 : BitVec 32) (k0_hw413 : k0_chk413 v5858), ∀ a, (k0_off1252 v5858) a + S1x1x128.size a ≤ S50008x1x128.size a := fun v5858 k0_hw413 => k0_hw413

def k0_off1253 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1254 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1255 (v5872 : BitVec 32) : Fin 3 → Nat :=
  let v5875 : Index := Scalar.indexCast v5872
  let c0_2537 : Index := 0#32
  let c0_2538 : Index := 0#32
  ![v5875.toNat, 0, 0]

def k0_chk414 (v5872 : BitVec 32) : Prop :=
  (∀ a, (k0_off1255 v5872) a + S1x1x128.size a ≤ S50008x1x128.size a)
theorem k0_off1255_inb : ∀ (v5872 : BitVec 32) (k0_hw414 : k0_chk414 v5872), ∀ a, (k0_off1255 v5872) a + S1x1x128.size a ≤ S50008x1x128.size a := fun v5872 k0_hw414 => k0_hw414

def k0_off1256 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1257 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1258 (v5886 : BitVec 32) : Fin 3 → Nat :=
  let v5889 : Index := Scalar.indexCast v5886
  let c0_2543 : Index := 0#32
  let c0_2544 : Index := 0#32
  ![v5889.toNat, 0, 0]

def k0_chk415 (v5886 : BitVec 32) : Prop :=
  (∀ a, (k0_off1258 v5886) a + S1x1x128.size a ≤ S50008x1x128.size a)
theorem k0_off1258_inb : ∀ (v5886 : BitVec 32) (k0_hw415 : k0_chk415 v5886), ∀ a, (k0_off1258 v5886) a + S1x1x128.size a ≤ S50008x1x128.size a := fun v5886 k0_hw415 => k0_hw415

def k0_off1259 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1260 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1261 (v5900 : BitVec 32) : Fin 3 → Nat :=
  let v5903 : Index := Scalar.indexCast v5900
  let c0_2549 : Index := 0#32
  let c0_2550 : Index := 0#32
  ![v5903.toNat, 0, 0]

def k0_chk416 (v5900 : BitVec 32) : Prop :=
  (∀ a, (k0_off1261 v5900) a + S1x1x128.size a ≤ S50008x1x128.size a)
theorem k0_off1261_inb : ∀ (v5900 : BitVec 32) (k0_hw416 : k0_chk416 v5900), ∀ a, (k0_off1261 v5900) a + S1x1x128.size a ≤ S50008x1x128.size a := fun v5900 k0_hw416 => k0_hw416

def k0_off1262 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1263 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1264 (v5914 : BitVec 32) : Fin 3 → Nat :=
  let v5917 : Index := Scalar.indexCast v5914
  let c0_2555 : Index := 0#32
  let c0_2556 : Index := 0#32
  ![v5917.toNat, 0, 0]

def k0_chk417 (v5914 : BitVec 32) : Prop :=
  (∀ a, (k0_off1264 v5914) a + S1x1x128.size a ≤ S50008x1x128.size a)
theorem k0_off1264_inb : ∀ (v5914 : BitVec 32) (k0_hw417 : k0_chk417 v5914), ∀ a, (k0_off1264 v5914) a + S1x1x128.size a ≤ S50008x1x128.size a := fun v5914 k0_hw417 => k0_hw417

def k0_off1265 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1266 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1267 (v5928 : BitVec 32) : Fin 3 → Nat :=
  let v5931 : Index := Scalar.indexCast v5928
  let c0_2561 : Index := 0#32
  let c0_2562 : Index := 0#32
  ![v5931.toNat, 0, 0]

def k0_chk418 (v5928 : BitVec 32) : Prop :=
  (∀ a, (k0_off1267 v5928) a + S1x1x128.size a ≤ S50008x1x128.size a)
theorem k0_off1267_inb : ∀ (v5928 : BitVec 32) (k0_hw418 : k0_chk418 v5928), ∀ a, (k0_off1267 v5928) a + S1x1x128.size a ≤ S50008x1x128.size a := fun v5928 k0_hw418 => k0_hw418

def k0_off1268 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1269 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1270 (v5942 : BitVec 32) : Fin 3 → Nat :=
  let v5945 : Index := Scalar.indexCast v5942
  let c0_2567 : Index := 0#32
  let c0_2568 : Index := 0#32
  ![v5945.toNat, 0, 0]

def k0_chk419 (v5942 : BitVec 32) : Prop :=
  (∀ a, (k0_off1270 v5942) a + S1x1x128.size a ≤ S50008x1x128.size a)
theorem k0_off1270_inb : ∀ (v5942 : BitVec 32) (k0_hw419 : k0_chk419 v5942), ∀ a, (k0_off1270 v5942) a + S1x1x128.size a ≤ S50008x1x128.size a := fun v5942 k0_hw419 => k0_hw419

def k0_off1271 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1272 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1273 (v5956 : BitVec 32) : Fin 3 → Nat :=
  let v5959 : Index := Scalar.indexCast v5956
  let c0_2573 : Index := 0#32
  let c0_2574 : Index := 0#32
  ![v5959.toNat, 0, 0]

def k0_chk420 (v5956 : BitVec 32) : Prop :=
  (∀ a, (k0_off1273 v5956) a + S1x1x128.size a ≤ S50008x1x128.size a)
theorem k0_off1273_inb : ∀ (v5956 : BitVec 32) (k0_hw420 : k0_chk420 v5956), ∀ a, (k0_off1273 v5956) a + S1x1x128.size a ≤ S50008x1x128.size a := fun v5956 k0_hw420 => k0_hw420

def k0_off1274 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1275 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1276 (v5970 : BitVec 32) : Fin 3 → Nat :=
  let v5973 : Index := Scalar.indexCast v5970
  let c0_2579 : Index := 0#32
  let c0_2580 : Index := 0#32
  ![v5973.toNat, 0, 0]

def k0_chk421 (v5970 : BitVec 32) : Prop :=
  (∀ a, (k0_off1276 v5970) a + S1x1x128.size a ≤ S50008x1x128.size a)
theorem k0_off1276_inb : ∀ (v5970 : BitVec 32) (k0_hw421 : k0_chk421 v5970), ∀ a, (k0_off1276 v5970) a + S1x1x128.size a ≤ S50008x1x128.size a := fun v5970 k0_hw421 => k0_hw421

def k0_off1277 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1278 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1279 (v5984 : BitVec 32) : Fin 3 → Nat :=
  let v5987 : Index := Scalar.indexCast v5984
  let c0_2585 : Index := 0#32
  let c0_2586 : Index := 0#32
  ![v5987.toNat, 0, 0]

def k0_chk422 (v5984 : BitVec 32) : Prop :=
  (∀ a, (k0_off1279 v5984) a + S1x1x128.size a ≤ S50008x1x128.size a)
theorem k0_off1279_inb : ∀ (v5984 : BitVec 32) (k0_hw422 : k0_chk422 v5984), ∀ a, (k0_off1279 v5984) a + S1x1x128.size a ≤ S50008x1x128.size a := fun v5984 k0_hw422 => k0_hw422

def k0_off1280 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1281 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1282 (v5998 : BitVec 32) : Fin 3 → Nat :=
  let v6001 : Index := Scalar.indexCast v5998
  let c0_2591 : Index := 0#32
  let c0_2592 : Index := 0#32
  ![v6001.toNat, 0, 0]

def k0_chk423 (v5998 : BitVec 32) : Prop :=
  (∀ a, (k0_off1282 v5998) a + S1x1x128.size a ≤ S50008x1x128.size a)
theorem k0_off1282_inb : ∀ (v5998 : BitVec 32) (k0_hw423 : k0_chk423 v5998), ∀ a, (k0_off1282 v5998) a + S1x1x128.size a ≤ S50008x1x128.size a := fun v5998 k0_hw423 => k0_hw423

def k0_off1283 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1284 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1285 (v6012 : BitVec 32) : Fin 3 → Nat :=
  let v6015 : Index := Scalar.indexCast v6012
  let c0_2597 : Index := 0#32
  let c0_2598 : Index := 0#32
  ![v6015.toNat, 0, 0]

def k0_chk424 (v6012 : BitVec 32) : Prop :=
  (∀ a, (k0_off1285 v6012) a + S1x1x128.size a ≤ S50008x1x128.size a)
theorem k0_off1285_inb : ∀ (v6012 : BitVec 32) (k0_hw424 : k0_chk424 v6012), ∀ a, (k0_off1285 v6012) a + S1x1x128.size a ≤ S50008x1x128.size a := fun v6012 k0_hw424 => k0_hw424

def k0_off1286 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1287 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1288 (v6026 : BitVec 32) : Fin 3 → Nat :=
  let v6029 : Index := Scalar.indexCast v6026
  let c0_2603 : Index := 0#32
  let c0_2604 : Index := 0#32
  ![v6029.toNat, 0, 0]

def k0_chk425 (v6026 : BitVec 32) : Prop :=
  (∀ a, (k0_off1288 v6026) a + S1x1x128.size a ≤ S50008x1x128.size a)
theorem k0_off1288_inb : ∀ (v6026 : BitVec 32) (k0_hw425 : k0_chk425 v6026), ∀ a, (k0_off1288 v6026) a + S1x1x128.size a ≤ S50008x1x128.size a := fun v6026 k0_hw425 => k0_hw425

def k0_off1289 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1290 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1291 (v6040 : BitVec 32) : Fin 3 → Nat :=
  let v6043 : Index := Scalar.indexCast v6040
  let c0_2609 : Index := 0#32
  let c0_2610 : Index := 0#32
  ![v6043.toNat, 0, 0]

def k0_chk426 (v6040 : BitVec 32) : Prop :=
  (∀ a, (k0_off1291 v6040) a + S1x1x128.size a ≤ S50008x1x128.size a)
theorem k0_off1291_inb : ∀ (v6040 : BitVec 32) (k0_hw426 : k0_chk426 v6040), ∀ a, (k0_off1291 v6040) a + S1x1x128.size a ≤ S50008x1x128.size a := fun v6040 k0_hw426 => k0_hw426

def k0_off1292 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1293 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1294 (v6054 : BitVec 32) : Fin 3 → Nat :=
  let v6057 : Index := Scalar.indexCast v6054
  let c0_2615 : Index := 0#32
  let c0_2616 : Index := 0#32
  ![v6057.toNat, 0, 0]

def k0_chk427 (v6054 : BitVec 32) : Prop :=
  (∀ a, (k0_off1294 v6054) a + S1x1x128.size a ≤ S50008x1x128.size a)
theorem k0_off1294_inb : ∀ (v6054 : BitVec 32) (k0_hw427 : k0_chk427 v6054), ∀ a, (k0_off1294 v6054) a + S1x1x128.size a ≤ S50008x1x128.size a := fun v6054 k0_hw427 => k0_hw427

def k0_off1295 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1296 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1297 (v6068 : BitVec 32) : Fin 3 → Nat :=
  let v6071 : Index := Scalar.indexCast v6068
  let c0_2621 : Index := 0#32
  let c0_2622 : Index := 0#32
  ![v6071.toNat, 0, 0]

def k0_chk428 (v6068 : BitVec 32) : Prop :=
  (∀ a, (k0_off1297 v6068) a + S1x1x128.size a ≤ S50008x1x128.size a)
theorem k0_off1297_inb : ∀ (v6068 : BitVec 32) (k0_hw428 : k0_chk428 v6068), ∀ a, (k0_off1297 v6068) a + S1x1x128.size a ≤ S50008x1x128.size a := fun v6068 k0_hw428 => k0_hw428

def k0_off1298 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1299 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1300 (v6082 : BitVec 32) : Fin 3 → Nat :=
  let v6085 : Index := Scalar.indexCast v6082
  let c0_2627 : Index := 0#32
  let c0_2628 : Index := 0#32
  ![v6085.toNat, 0, 0]

def k0_chk429 (v6082 : BitVec 32) : Prop :=
  (∀ a, (k0_off1300 v6082) a + S1x1x128.size a ≤ S50008x1x128.size a)
theorem k0_off1300_inb : ∀ (v6082 : BitVec 32) (k0_hw429 : k0_chk429 v6082), ∀ a, (k0_off1300 v6082) a + S1x1x128.size a ≤ S50008x1x128.size a := fun v6082 k0_hw429 => k0_hw429

def k0_off1301 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1302 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1303 (v6096 : BitVec 32) : Fin 3 → Nat :=
  let v6099 : Index := Scalar.indexCast v6096
  let c0_2633 : Index := 0#32
  let c0_2634 : Index := 0#32
  ![v6099.toNat, 0, 0]

def k0_chk430 (v6096 : BitVec 32) : Prop :=
  (∀ a, (k0_off1303 v6096) a + S1x1x128.size a ≤ S50008x1x128.size a)
theorem k0_off1303_inb : ∀ (v6096 : BitVec 32) (k0_hw430 : k0_chk430 v6096), ∀ a, (k0_off1303 v6096) a + S1x1x128.size a ≤ S50008x1x128.size a := fun v6096 k0_hw430 => k0_hw430

def k0_off1304 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1305 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1306 (v6110 : BitVec 32) : Fin 3 → Nat :=
  let v6113 : Index := Scalar.indexCast v6110
  let c0_2639 : Index := 0#32
  let c0_2640 : Index := 0#32
  ![v6113.toNat, 0, 0]

def k0_chk431 (v6110 : BitVec 32) : Prop :=
  (∀ a, (k0_off1306 v6110) a + S1x1x128.size a ≤ S50008x1x128.size a)
theorem k0_off1306_inb : ∀ (v6110 : BitVec 32) (k0_hw431 : k0_chk431 v6110), ∀ a, (k0_off1306 v6110) a + S1x1x128.size a ≤ S50008x1x128.size a := fun v6110 k0_hw431 => k0_hw431

def k0_off1307 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1308 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1309 (v6124 : BitVec 32) : Fin 3 → Nat :=
  let v6127 : Index := Scalar.indexCast v6124
  let c0_2645 : Index := 0#32
  let c0_2646 : Index := 0#32
  ![v6127.toNat, 0, 0]

def k0_chk432 (v6124 : BitVec 32) : Prop :=
  (∀ a, (k0_off1309 v6124) a + S1x1x128.size a ≤ S50008x1x128.size a)
theorem k0_off1309_inb : ∀ (v6124 : BitVec 32) (k0_hw432 : k0_chk432 v6124), ∀ a, (k0_off1309 v6124) a + S1x1x128.size a ≤ S50008x1x128.size a := fun v6124 k0_hw432 => k0_hw432

def k0_off1310 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1311 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1312 (v6138 : BitVec 32) : Fin 3 → Nat :=
  let v6141 : Index := Scalar.indexCast v6138
  let c0_2651 : Index := 0#32
  let c0_2652 : Index := 0#32
  ![v6141.toNat, 0, 0]

def k0_chk433 (v6138 : BitVec 32) : Prop :=
  (∀ a, (k0_off1312 v6138) a + S1x1x128.size a ≤ S50008x1x128.size a)
theorem k0_off1312_inb : ∀ (v6138 : BitVec 32) (k0_hw433 : k0_chk433 v6138), ∀ a, (k0_off1312 v6138) a + S1x1x128.size a ≤ S50008x1x128.size a := fun v6138 k0_hw433 => k0_hw433

def k0_off1313 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1314 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1315 (v6152 : BitVec 32) : Fin 3 → Nat :=
  let v6155 : Index := Scalar.indexCast v6152
  let c0_2657 : Index := 0#32
  let c0_2658 : Index := 0#32
  ![v6155.toNat, 0, 0]

def k0_chk434 (v6152 : BitVec 32) : Prop :=
  (∀ a, (k0_off1315 v6152) a + S1x1x128.size a ≤ S50008x1x128.size a)
theorem k0_off1315_inb : ∀ (v6152 : BitVec 32) (k0_hw434 : k0_chk434 v6152), ∀ a, (k0_off1315 v6152) a + S1x1x128.size a ≤ S50008x1x128.size a := fun v6152 k0_hw434 => k0_hw434

def k0_off1316 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1317 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1318 (v6166 : BitVec 32) : Fin 3 → Nat :=
  let v6169 : Index := Scalar.indexCast v6166
  let c0_2663 : Index := 0#32
  let c0_2664 : Index := 0#32
  ![v6169.toNat, 0, 0]

def k0_chk435 (v6166 : BitVec 32) : Prop :=
  (∀ a, (k0_off1318 v6166) a + S1x1x128.size a ≤ S50008x1x128.size a)
theorem k0_off1318_inb : ∀ (v6166 : BitVec 32) (k0_hw435 : k0_chk435 v6166), ∀ a, (k0_off1318 v6166) a + S1x1x128.size a ≤ S50008x1x128.size a := fun v6166 k0_hw435 => k0_hw435

def k0_off1319 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1320 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1321 (v6180 : BitVec 32) : Fin 3 → Nat :=
  let v6183 : Index := Scalar.indexCast v6180
  let c0_2669 : Index := 0#32
  let c0_2670 : Index := 0#32
  ![v6183.toNat, 0, 0]

def k0_chk436 (v6180 : BitVec 32) : Prop :=
  (∀ a, (k0_off1321 v6180) a + S1x1x128.size a ≤ S50008x1x128.size a)
theorem k0_off1321_inb : ∀ (v6180 : BitVec 32) (k0_hw436 : k0_chk436 v6180), ∀ a, (k0_off1321 v6180) a + S1x1x128.size a ≤ S50008x1x128.size a := fun v6180 k0_hw436 => k0_hw436

def k0_off1322 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1323 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1324 (v6194 : BitVec 32) : Fin 3 → Nat :=
  let v6197 : Index := Scalar.indexCast v6194
  let c0_2675 : Index := 0#32
  let c0_2676 : Index := 0#32
  ![v6197.toNat, 0, 0]

def k0_chk437 (v6194 : BitVec 32) : Prop :=
  (∀ a, (k0_off1324 v6194) a + S1x1x128.size a ≤ S50008x1x128.size a)
theorem k0_off1324_inb : ∀ (v6194 : BitVec 32) (k0_hw437 : k0_chk437 v6194), ∀ a, (k0_off1324 v6194) a + S1x1x128.size a ≤ S50008x1x128.size a := fun v6194 k0_hw437 => k0_hw437

def k0_off1325 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1326 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1327 (v6208 : BitVec 32) : Fin 3 → Nat :=
  let v6211 : Index := Scalar.indexCast v6208
  let c0_2681 : Index := 0#32
  let c0_2682 : Index := 0#32
  ![v6211.toNat, 0, 0]

def k0_chk438 (v6208 : BitVec 32) : Prop :=
  (∀ a, (k0_off1327 v6208) a + S1x1x128.size a ≤ S50008x1x128.size a)
theorem k0_off1327_inb : ∀ (v6208 : BitVec 32) (k0_hw438 : k0_chk438 v6208), ∀ a, (k0_off1327 v6208) a + S1x1x128.size a ≤ S50008x1x128.size a := fun v6208 k0_hw438 => k0_hw438

def k0_off1328 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1329 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1330 (v6222 : BitVec 32) : Fin 3 → Nat :=
  let v6225 : Index := Scalar.indexCast v6222
  let c0_2687 : Index := 0#32
  let c0_2688 : Index := 0#32
  ![v6225.toNat, 0, 0]

def k0_chk439 (v6222 : BitVec 32) : Prop :=
  (∀ a, (k0_off1330 v6222) a + S1x1x128.size a ≤ S50008x1x128.size a)
theorem k0_off1330_inb : ∀ (v6222 : BitVec 32) (k0_hw439 : k0_chk439 v6222), ∀ a, (k0_off1330 v6222) a + S1x1x128.size a ≤ S50008x1x128.size a := fun v6222 k0_hw439 => k0_hw439

def k0_off1331 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1332 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1333 (v6236 : BitVec 32) : Fin 3 → Nat :=
  let v6239 : Index := Scalar.indexCast v6236
  let c0_2693 : Index := 0#32
  let c0_2694 : Index := 0#32
  ![v6239.toNat, 0, 0]

def k0_chk440 (v6236 : BitVec 32) : Prop :=
  (∀ a, (k0_off1333 v6236) a + S1x1x128.size a ≤ S50008x1x128.size a)
theorem k0_off1333_inb : ∀ (v6236 : BitVec 32) (k0_hw440 : k0_chk440 v6236), ∀ a, (k0_off1333 v6236) a + S1x1x128.size a ≤ S50008x1x128.size a := fun v6236 k0_hw440 => k0_hw440

def k0_off1334 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1335 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1336 (v6250 : BitVec 32) : Fin 3 → Nat :=
  let v6253 : Index := Scalar.indexCast v6250
  let c0_2699 : Index := 0#32
  let c0_2700 : Index := 0#32
  ![v6253.toNat, 0, 0]

def k0_chk441 (v6250 : BitVec 32) : Prop :=
  (∀ a, (k0_off1336 v6250) a + S1x1x128.size a ≤ S50008x1x128.size a)
theorem k0_off1336_inb : ∀ (v6250 : BitVec 32) (k0_hw441 : k0_chk441 v6250), ∀ a, (k0_off1336 v6250) a + S1x1x128.size a ≤ S50008x1x128.size a := fun v6250 k0_hw441 => k0_hw441

def k0_off1337 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1338 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1339 (v6264 : BitVec 32) : Fin 3 → Nat :=
  let v6267 : Index := Scalar.indexCast v6264
  let c0_2705 : Index := 0#32
  let c0_2706 : Index := 0#32
  ![v6267.toNat, 0, 0]

def k0_chk442 (v6264 : BitVec 32) : Prop :=
  (∀ a, (k0_off1339 v6264) a + S1x1x128.size a ≤ S50008x1x128.size a)
theorem k0_off1339_inb : ∀ (v6264 : BitVec 32) (k0_hw442 : k0_chk442 v6264), ∀ a, (k0_off1339 v6264) a + S1x1x128.size a ≤ S50008x1x128.size a := fun v6264 k0_hw442 => k0_hw442

def k0_off1340 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1341 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1342 (v6278 : BitVec 32) : Fin 3 → Nat :=
  let v6281 : Index := Scalar.indexCast v6278
  let c0_2711 : Index := 0#32
  let c0_2712 : Index := 0#32
  ![v6281.toNat, 0, 0]

def k0_chk443 (v6278 : BitVec 32) : Prop :=
  (∀ a, (k0_off1342 v6278) a + S1x1x128.size a ≤ S50008x1x128.size a)
theorem k0_off1342_inb : ∀ (v6278 : BitVec 32) (k0_hw443 : k0_chk443 v6278), ∀ a, (k0_off1342 v6278) a + S1x1x128.size a ≤ S50008x1x128.size a := fun v6278 k0_hw443 => k0_hw443

def k0_off1343 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1344 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1345 (v6292 : BitVec 32) : Fin 3 → Nat :=
  let v6295 : Index := Scalar.indexCast v6292
  let c0_2717 : Index := 0#32
  let c0_2718 : Index := 0#32
  ![v6295.toNat, 0, 0]

def k0_chk444 (v6292 : BitVec 32) : Prop :=
  (∀ a, (k0_off1345 v6292) a + S1x1x128.size a ≤ S50008x1x128.size a)
theorem k0_off1345_inb : ∀ (v6292 : BitVec 32) (k0_hw444 : k0_chk444 v6292), ∀ a, (k0_off1345 v6292) a + S1x1x128.size a ≤ S50008x1x128.size a := fun v6292 k0_hw444 => k0_hw444

def k0_off1346 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1347 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1348 (v6306 : BitVec 32) : Fin 3 → Nat :=
  let v6309 : Index := Scalar.indexCast v6306
  let c0_2723 : Index := 0#32
  let c0_2724 : Index := 0#32
  ![v6309.toNat, 0, 0]

def k0_chk445 (v6306 : BitVec 32) : Prop :=
  (∀ a, (k0_off1348 v6306) a + S1x1x128.size a ≤ S50008x1x128.size a)
theorem k0_off1348_inb : ∀ (v6306 : BitVec 32) (k0_hw445 : k0_chk445 v6306), ∀ a, (k0_off1348 v6306) a + S1x1x128.size a ≤ S50008x1x128.size a := fun v6306 k0_hw445 => k0_hw445

def k0_off1349 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1350 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1351 (v6320 : BitVec 32) : Fin 3 → Nat :=
  let v6323 : Index := Scalar.indexCast v6320
  let c0_2729 : Index := 0#32
  let c0_2730 : Index := 0#32
  ![v6323.toNat, 0, 0]

def k0_chk446 (v6320 : BitVec 32) : Prop :=
  (∀ a, (k0_off1351 v6320) a + S1x1x128.size a ≤ S50008x1x128.size a)
theorem k0_off1351_inb : ∀ (v6320 : BitVec 32) (k0_hw446 : k0_chk446 v6320), ∀ a, (k0_off1351 v6320) a + S1x1x128.size a ≤ S50008x1x128.size a := fun v6320 k0_hw446 => k0_hw446

def k0_off1352 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1353 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1354 (v6334 : BitVec 32) : Fin 3 → Nat :=
  let v6337 : Index := Scalar.indexCast v6334
  let c0_2735 : Index := 0#32
  let c0_2736 : Index := 0#32
  ![v6337.toNat, 0, 0]

def k0_chk447 (v6334 : BitVec 32) : Prop :=
  (∀ a, (k0_off1354 v6334) a + S1x1x128.size a ≤ S50008x1x128.size a)
theorem k0_off1354_inb : ∀ (v6334 : BitVec 32) (k0_hw447 : k0_chk447 v6334), ∀ a, (k0_off1354 v6334) a + S1x1x128.size a ≤ S50008x1x128.size a := fun v6334 k0_hw447 => k0_hw447

def k0_off1355 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1356 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1357 (v6348 : BitVec 32) : Fin 3 → Nat :=
  let v6351 : Index := Scalar.indexCast v6348
  let c0_2741 : Index := 0#32
  let c0_2742 : Index := 0#32
  ![v6351.toNat, 0, 0]

def k0_chk448 (v6348 : BitVec 32) : Prop :=
  (∀ a, (k0_off1357 v6348) a + S1x1x128.size a ≤ S50008x1x128.size a)
theorem k0_off1357_inb : ∀ (v6348 : BitVec 32) (k0_hw448 : k0_chk448 v6348), ∀ a, (k0_off1357 v6348) a + S1x1x128.size a ≤ S50008x1x128.size a := fun v6348 k0_hw448 => k0_hw448

def k0_off1358 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1359 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1360 (v6362 : BitVec 32) : Fin 3 → Nat :=
  let v6365 : Index := Scalar.indexCast v6362
  let c0_2747 : Index := 0#32
  let c0_2748 : Index := 0#32
  ![v6365.toNat, 0, 0]

def k0_chk449 (v6362 : BitVec 32) : Prop :=
  (∀ a, (k0_off1360 v6362) a + S1x1x128.size a ≤ S50008x1x128.size a)
theorem k0_off1360_inb : ∀ (v6362 : BitVec 32) (k0_hw449 : k0_chk449 v6362), ∀ a, (k0_off1360 v6362) a + S1x1x128.size a ≤ S50008x1x128.size a := fun v6362 k0_hw449 => k0_hw449

def k0_off1361 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1362 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1363 (v6376 : BitVec 32) : Fin 3 → Nat :=
  let v6379 : Index := Scalar.indexCast v6376
  let c0_2753 : Index := 0#32
  let c0_2754 : Index := 0#32
  ![v6379.toNat, 0, 0]

def k0_chk450 (v6376 : BitVec 32) : Prop :=
  (∀ a, (k0_off1363 v6376) a + S1x1x128.size a ≤ S50008x1x128.size a)
theorem k0_off1363_inb : ∀ (v6376 : BitVec 32) (k0_hw450 : k0_chk450 v6376), ∀ a, (k0_off1363 v6376) a + S1x1x128.size a ≤ S50008x1x128.size a := fun v6376 k0_hw450 => k0_hw450

def k0_off1364 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1365 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1366 (v6390 : BitVec 32) : Fin 3 → Nat :=
  let v6393 : Index := Scalar.indexCast v6390
  let c0_2759 : Index := 0#32
  let c0_2760 : Index := 0#32
  ![v6393.toNat, 0, 0]

def k0_chk451 (v6390 : BitVec 32) : Prop :=
  (∀ a, (k0_off1366 v6390) a + S1x1x128.size a ≤ S50008x1x128.size a)
theorem k0_off1366_inb : ∀ (v6390 : BitVec 32) (k0_hw451 : k0_chk451 v6390), ∀ a, (k0_off1366 v6390) a + S1x1x128.size a ≤ S50008x1x128.size a := fun v6390 k0_hw451 => k0_hw451

def k0_off1367 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1368 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1369 (v6404 : BitVec 32) : Fin 3 → Nat :=
  let v6407 : Index := Scalar.indexCast v6404
  let c0_2765 : Index := 0#32
  let c0_2766 : Index := 0#32
  ![v6407.toNat, 0, 0]

def k0_chk452 (v6404 : BitVec 32) : Prop :=
  (∀ a, (k0_off1369 v6404) a + S1x1x128.size a ≤ S50008x1x128.size a)
theorem k0_off1369_inb : ∀ (v6404 : BitVec 32) (k0_hw452 : k0_chk452 v6404), ∀ a, (k0_off1369 v6404) a + S1x1x128.size a ≤ S50008x1x128.size a := fun v6404 k0_hw452 => k0_hw452

def k0_off1370 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1371 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1372 (v6418 : BitVec 32) : Fin 3 → Nat :=
  let v6421 : Index := Scalar.indexCast v6418
  let c0_2771 : Index := 0#32
  let c0_2772 : Index := 0#32
  ![v6421.toNat, 0, 0]

def k0_chk453 (v6418 : BitVec 32) : Prop :=
  (∀ a, (k0_off1372 v6418) a + S1x1x128.size a ≤ S50008x1x128.size a)
theorem k0_off1372_inb : ∀ (v6418 : BitVec 32) (k0_hw453 : k0_chk453 v6418), ∀ a, (k0_off1372 v6418) a + S1x1x128.size a ≤ S50008x1x128.size a := fun v6418 k0_hw453 => k0_hw453

def k0_off1373 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1374 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1375 (v6432 : BitVec 32) : Fin 3 → Nat :=
  let v6435 : Index := Scalar.indexCast v6432
  let c0_2777 : Index := 0#32
  let c0_2778 : Index := 0#32
  ![v6435.toNat, 0, 0]

def k0_chk454 (v6432 : BitVec 32) : Prop :=
  (∀ a, (k0_off1375 v6432) a + S1x1x128.size a ≤ S50008x1x128.size a)
theorem k0_off1375_inb : ∀ (v6432 : BitVec 32) (k0_hw454 : k0_chk454 v6432), ∀ a, (k0_off1375 v6432) a + S1x1x128.size a ≤ S50008x1x128.size a := fun v6432 k0_hw454 => k0_hw454

def k0_off1376 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1377 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1378 (v6446 : BitVec 32) : Fin 3 → Nat :=
  let v6449 : Index := Scalar.indexCast v6446
  let c0_2783 : Index := 0#32
  let c0_2784 : Index := 0#32
  ![v6449.toNat, 0, 0]

def k0_chk455 (v6446 : BitVec 32) : Prop :=
  (∀ a, (k0_off1378 v6446) a + S1x1x128.size a ≤ S50008x1x128.size a)
theorem k0_off1378_inb : ∀ (v6446 : BitVec 32) (k0_hw455 : k0_chk455 v6446), ∀ a, (k0_off1378 v6446) a + S1x1x128.size a ≤ S50008x1x128.size a := fun v6446 k0_hw455 => k0_hw455

def k0_off1379 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1380 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1381 (v6460 : BitVec 32) : Fin 3 → Nat :=
  let v6463 : Index := Scalar.indexCast v6460
  let c0_2789 : Index := 0#32
  let c0_2790 : Index := 0#32
  ![v6463.toNat, 0, 0]

def k0_chk456 (v6460 : BitVec 32) : Prop :=
  (∀ a, (k0_off1381 v6460) a + S1x1x128.size a ≤ S50008x1x128.size a)
theorem k0_off1381_inb : ∀ (v6460 : BitVec 32) (k0_hw456 : k0_chk456 v6460), ∀ a, (k0_off1381 v6460) a + S1x1x128.size a ≤ S50008x1x128.size a := fun v6460 k0_hw456 => k0_hw456

def k0_off1382 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1383 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1384 (v6474 : BitVec 32) : Fin 3 → Nat :=
  let v6477 : Index := Scalar.indexCast v6474
  let c0_2795 : Index := 0#32
  let c0_2796 : Index := 0#32
  ![v6477.toNat, 0, 0]

def k0_chk457 (v6474 : BitVec 32) : Prop :=
  (∀ a, (k0_off1384 v6474) a + S1x1x128.size a ≤ S50008x1x128.size a)
theorem k0_off1384_inb : ∀ (v6474 : BitVec 32) (k0_hw457 : k0_chk457 v6474), ∀ a, (k0_off1384 v6474) a + S1x1x128.size a ≤ S50008x1x128.size a := fun v6474 k0_hw457 => k0_hw457

def k0_off1385 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1386 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1387 (v6488 : BitVec 32) : Fin 3 → Nat :=
  let v6491 : Index := Scalar.indexCast v6488
  let c0_2801 : Index := 0#32
  let c0_2802 : Index := 0#32
  ![v6491.toNat, 0, 0]

def k0_chk458 (v6488 : BitVec 32) : Prop :=
  (∀ a, (k0_off1387 v6488) a + S1x1x128.size a ≤ S50008x1x128.size a)
theorem k0_off1387_inb : ∀ (v6488 : BitVec 32) (k0_hw458 : k0_chk458 v6488), ∀ a, (k0_off1387 v6488) a + S1x1x128.size a ≤ S50008x1x128.size a := fun v6488 k0_hw458 => k0_hw458

def k0_off1388 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1389 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1390 (v6502 : BitVec 32) : Fin 3 → Nat :=
  let v6505 : Index := Scalar.indexCast v6502
  let c0_2807 : Index := 0#32
  let c0_2808 : Index := 0#32
  ![v6505.toNat, 0, 0]

def k0_chk459 (v6502 : BitVec 32) : Prop :=
  (∀ a, (k0_off1390 v6502) a + S1x1x128.size a ≤ S50008x1x128.size a)
theorem k0_off1390_inb : ∀ (v6502 : BitVec 32) (k0_hw459 : k0_chk459 v6502), ∀ a, (k0_off1390 v6502) a + S1x1x128.size a ≤ S50008x1x128.size a := fun v6502 k0_hw459 => k0_hw459

def k0_off1391 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1392 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1393 (v6516 : BitVec 32) : Fin 3 → Nat :=
  let v6519 : Index := Scalar.indexCast v6516
  let c0_2813 : Index := 0#32
  let c0_2814 : Index := 0#32
  ![v6519.toNat, 0, 0]

def k0_chk460 (v6516 : BitVec 32) : Prop :=
  (∀ a, (k0_off1393 v6516) a + S1x1x128.size a ≤ S50008x1x128.size a)
theorem k0_off1393_inb : ∀ (v6516 : BitVec 32) (k0_hw460 : k0_chk460 v6516), ∀ a, (k0_off1393 v6516) a + S1x1x128.size a ≤ S50008x1x128.size a := fun v6516 k0_hw460 => k0_hw460

def k0_off1394 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1395 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1396 (v6530 : BitVec 32) : Fin 3 → Nat :=
  let v6533 : Index := Scalar.indexCast v6530
  let c0_2819 : Index := 0#32
  let c0_2820 : Index := 0#32
  ![v6533.toNat, 0, 0]

def k0_chk461 (v6530 : BitVec 32) : Prop :=
  (∀ a, (k0_off1396 v6530) a + S1x1x128.size a ≤ S50008x1x128.size a)
theorem k0_off1396_inb : ∀ (v6530 : BitVec 32) (k0_hw461 : k0_chk461 v6530), ∀ a, (k0_off1396 v6530) a + S1x1x128.size a ≤ S50008x1x128.size a := fun v6530 k0_hw461 => k0_hw461

def k0_off1397 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1398 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1399 (v6544 : BitVec 32) : Fin 3 → Nat :=
  let v6547 : Index := Scalar.indexCast v6544
  let c0_2825 : Index := 0#32
  let c0_2826 : Index := 0#32
  ![v6547.toNat, 0, 0]

def k0_chk462 (v6544 : BitVec 32) : Prop :=
  (∀ a, (k0_off1399 v6544) a + S1x1x128.size a ≤ S50008x1x128.size a)
theorem k0_off1399_inb : ∀ (v6544 : BitVec 32) (k0_hw462 : k0_chk462 v6544), ∀ a, (k0_off1399 v6544) a + S1x1x128.size a ≤ S50008x1x128.size a := fun v6544 k0_hw462 => k0_hw462

def k0_off1400 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1401 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1402 (v6558 : BitVec 32) : Fin 3 → Nat :=
  let v6561 : Index := Scalar.indexCast v6558
  let c0_2831 : Index := 0#32
  let c0_2832 : Index := 0#32
  ![v6561.toNat, 0, 0]

def k0_chk463 (v6558 : BitVec 32) : Prop :=
  (∀ a, (k0_off1402 v6558) a + S1x1x128.size a ≤ S50008x1x128.size a)
theorem k0_off1402_inb : ∀ (v6558 : BitVec 32) (k0_hw463 : k0_chk463 v6558), ∀ a, (k0_off1402 v6558) a + S1x1x128.size a ≤ S50008x1x128.size a := fun v6558 k0_hw463 => k0_hw463

def k0_off1403 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1404 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1405 (v6572 : BitVec 32) : Fin 3 → Nat :=
  let v6575 : Index := Scalar.indexCast v6572
  let c0_2837 : Index := 0#32
  let c0_2838 : Index := 0#32
  ![v6575.toNat, 0, 0]

def k0_chk464 (v6572 : BitVec 32) : Prop :=
  (∀ a, (k0_off1405 v6572) a + S1x1x128.size a ≤ S50008x1x128.size a)
theorem k0_off1405_inb : ∀ (v6572 : BitVec 32) (k0_hw464 : k0_chk464 v6572), ∀ a, (k0_off1405 v6572) a + S1x1x128.size a ≤ S50008x1x128.size a := fun v6572 k0_hw464 => k0_hw464

def k0_off1406 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1407 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1408 (v6586 : BitVec 32) : Fin 3 → Nat :=
  let v6589 : Index := Scalar.indexCast v6586
  let c0_2843 : Index := 0#32
  let c0_2844 : Index := 0#32
  ![v6589.toNat, 0, 0]

def k0_chk465 (v6586 : BitVec 32) : Prop :=
  (∀ a, (k0_off1408 v6586) a + S1x1x128.size a ≤ S50008x1x128.size a)
theorem k0_off1408_inb : ∀ (v6586 : BitVec 32) (k0_hw465 : k0_chk465 v6586), ∀ a, (k0_off1408 v6586) a + S1x1x128.size a ≤ S50008x1x128.size a := fun v6586 k0_hw465 => k0_hw465

def k0_off1409 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1410 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1411 (v6600 : BitVec 32) : Fin 3 → Nat :=
  let v6603 : Index := Scalar.indexCast v6600
  let c0_2849 : Index := 0#32
  let c0_2850 : Index := 0#32
  ![v6603.toNat, 0, 0]

def k0_chk466 (v6600 : BitVec 32) : Prop :=
  (∀ a, (k0_off1411 v6600) a + S1x1x128.size a ≤ S50008x1x128.size a)
theorem k0_off1411_inb : ∀ (v6600 : BitVec 32) (k0_hw466 : k0_chk466 v6600), ∀ a, (k0_off1411 v6600) a + S1x1x128.size a ≤ S50008x1x128.size a := fun v6600 k0_hw466 => k0_hw466

def k0_off1412 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1413 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1414 (v6614 : BitVec 32) : Fin 3 → Nat :=
  let v6617 : Index := Scalar.indexCast v6614
  let c0_2855 : Index := 0#32
  let c0_2856 : Index := 0#32
  ![v6617.toNat, 0, 0]

def k0_chk467 (v6614 : BitVec 32) : Prop :=
  (∀ a, (k0_off1414 v6614) a + S1x1x128.size a ≤ S50008x1x128.size a)
theorem k0_off1414_inb : ∀ (v6614 : BitVec 32) (k0_hw467 : k0_chk467 v6614), ∀ a, (k0_off1414 v6614) a + S1x1x128.size a ≤ S50008x1x128.size a := fun v6614 k0_hw467 => k0_hw467

def k0_off1415 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1416 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1417 (v6628 : BitVec 32) : Fin 3 → Nat :=
  let v6631 : Index := Scalar.indexCast v6628
  let c0_2861 : Index := 0#32
  let c0_2862 : Index := 0#32
  ![v6631.toNat, 0, 0]

def k0_chk468 (v6628 : BitVec 32) : Prop :=
  (∀ a, (k0_off1417 v6628) a + S1x1x128.size a ≤ S50008x1x128.size a)
theorem k0_off1417_inb : ∀ (v6628 : BitVec 32) (k0_hw468 : k0_chk468 v6628), ∀ a, (k0_off1417 v6628) a + S1x1x128.size a ≤ S50008x1x128.size a := fun v6628 k0_hw468 => k0_hw468

def k0_off1418 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1419 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1420 (v6642 : BitVec 32) : Fin 3 → Nat :=
  let v6645 : Index := Scalar.indexCast v6642
  let c0_2867 : Index := 0#32
  let c0_2868 : Index := 0#32
  ![v6645.toNat, 0, 0]

def k0_chk469 (v6642 : BitVec 32) : Prop :=
  (∀ a, (k0_off1420 v6642) a + S1x1x128.size a ≤ S50008x1x128.size a)
theorem k0_off1420_inb : ∀ (v6642 : BitVec 32) (k0_hw469 : k0_chk469 v6642), ∀ a, (k0_off1420 v6642) a + S1x1x128.size a ≤ S50008x1x128.size a := fun v6642 k0_hw469 => k0_hw469

def k0_off1421 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1422 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1423 (v6656 : BitVec 32) : Fin 3 → Nat :=
  let v6659 : Index := Scalar.indexCast v6656
  let c0_2873 : Index := 0#32
  let c0_2874 : Index := 0#32
  ![v6659.toNat, 0, 0]

def k0_chk470 (v6656 : BitVec 32) : Prop :=
  (∀ a, (k0_off1423 v6656) a + S1x1x128.size a ≤ S50008x1x128.size a)
theorem k0_off1423_inb : ∀ (v6656 : BitVec 32) (k0_hw470 : k0_chk470 v6656), ∀ a, (k0_off1423 v6656) a + S1x1x128.size a ≤ S50008x1x128.size a := fun v6656 k0_hw470 => k0_hw470

def k0_off1424 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1425 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1426 (v6670 : BitVec 32) : Fin 3 → Nat :=
  let v6673 : Index := Scalar.indexCast v6670
  let c0_2879 : Index := 0#32
  let c0_2880 : Index := 0#32
  ![v6673.toNat, 0, 0]

def k0_chk471 (v6670 : BitVec 32) : Prop :=
  (∀ a, (k0_off1426 v6670) a + S1x1x128.size a ≤ S50008x1x128.size a)
theorem k0_off1426_inb : ∀ (v6670 : BitVec 32) (k0_hw471 : k0_chk471 v6670), ∀ a, (k0_off1426 v6670) a + S1x1x128.size a ≤ S50008x1x128.size a := fun v6670 k0_hw471 => k0_hw471

def k0_off1427 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1428 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1429 (v6684 : BitVec 32) : Fin 3 → Nat :=
  let v6687 : Index := Scalar.indexCast v6684
  let c0_2885 : Index := 0#32
  let c0_2886 : Index := 0#32
  ![v6687.toNat, 0, 0]

def k0_chk472 (v6684 : BitVec 32) : Prop :=
  (∀ a, (k0_off1429 v6684) a + S1x1x128.size a ≤ S50008x1x128.size a)
theorem k0_off1429_inb : ∀ (v6684 : BitVec 32) (k0_hw472 : k0_chk472 v6684), ∀ a, (k0_off1429 v6684) a + S1x1x128.size a ≤ S50008x1x128.size a := fun v6684 k0_hw472 => k0_hw472

def k0_off1430 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1431 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1432 (v6698 : BitVec 32) : Fin 3 → Nat :=
  let v6701 : Index := Scalar.indexCast v6698
  let c0_2891 : Index := 0#32
  let c0_2892 : Index := 0#32
  ![v6701.toNat, 0, 0]

def k0_chk473 (v6698 : BitVec 32) : Prop :=
  (∀ a, (k0_off1432 v6698) a + S1x1x128.size a ≤ S50008x1x128.size a)
theorem k0_off1432_inb : ∀ (v6698 : BitVec 32) (k0_hw473 : k0_chk473 v6698), ∀ a, (k0_off1432 v6698) a + S1x1x128.size a ≤ S50008x1x128.size a := fun v6698 k0_hw473 => k0_hw473

def k0_off1433 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1434 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1435 (v6712 : BitVec 32) : Fin 3 → Nat :=
  let v6715 : Index := Scalar.indexCast v6712
  let c0_2897 : Index := 0#32
  let c0_2898 : Index := 0#32
  ![v6715.toNat, 0, 0]

def k0_chk474 (v6712 : BitVec 32) : Prop :=
  (∀ a, (k0_off1435 v6712) a + S1x1x128.size a ≤ S50008x1x128.size a)
theorem k0_off1435_inb : ∀ (v6712 : BitVec 32) (k0_hw474 : k0_chk474 v6712), ∀ a, (k0_off1435 v6712) a + S1x1x128.size a ≤ S50008x1x128.size a := fun v6712 k0_hw474 => k0_hw474

def k0_off1436 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1437 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1438 (v6726 : BitVec 32) : Fin 3 → Nat :=
  let v6729 : Index := Scalar.indexCast v6726
  let c0_2903 : Index := 0#32
  let c0_2904 : Index := 0#32
  ![v6729.toNat, 0, 0]

def k0_chk475 (v6726 : BitVec 32) : Prop :=
  (∀ a, (k0_off1438 v6726) a + S1x1x128.size a ≤ S50008x1x128.size a)
theorem k0_off1438_inb : ∀ (v6726 : BitVec 32) (k0_hw475 : k0_chk475 v6726), ∀ a, (k0_off1438 v6726) a + S1x1x128.size a ≤ S50008x1x128.size a := fun v6726 k0_hw475 => k0_hw475

def k0_off1439 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1440 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1441 (v6740 : BitVec 32) : Fin 3 → Nat :=
  let v6743 : Index := Scalar.indexCast v6740
  let c0_2909 : Index := 0#32
  let c0_2910 : Index := 0#32
  ![v6743.toNat, 0, 0]

def k0_chk476 (v6740 : BitVec 32) : Prop :=
  (∀ a, (k0_off1441 v6740) a + S1x1x128.size a ≤ S50008x1x128.size a)
theorem k0_off1441_inb : ∀ (v6740 : BitVec 32) (k0_hw476 : k0_chk476 v6740), ∀ a, (k0_off1441 v6740) a + S1x1x128.size a ≤ S50008x1x128.size a := fun v6740 k0_hw476 => k0_hw476

def k0_off1442 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1443 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1444 (v6754 : BitVec 32) : Fin 3 → Nat :=
  let v6757 : Index := Scalar.indexCast v6754
  let c0_2915 : Index := 0#32
  let c0_2916 : Index := 0#32
  ![v6757.toNat, 0, 0]

def k0_chk477 (v6754 : BitVec 32) : Prop :=
  (∀ a, (k0_off1444 v6754) a + S1x1x128.size a ≤ S50008x1x128.size a)
theorem k0_off1444_inb : ∀ (v6754 : BitVec 32) (k0_hw477 : k0_chk477 v6754), ∀ a, (k0_off1444 v6754) a + S1x1x128.size a ≤ S50008x1x128.size a := fun v6754 k0_hw477 => k0_hw477

def k0_off1445 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1446 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1447 (v6768 : BitVec 32) : Fin 3 → Nat :=
  let v6771 : Index := Scalar.indexCast v6768
  let c0_2921 : Index := 0#32
  let c0_2922 : Index := 0#32
  ![v6771.toNat, 0, 0]

def k0_chk478 (v6768 : BitVec 32) : Prop :=
  (∀ a, (k0_off1447 v6768) a + S1x1x128.size a ≤ S50008x1x128.size a)
theorem k0_off1447_inb : ∀ (v6768 : BitVec 32) (k0_hw478 : k0_chk478 v6768), ∀ a, (k0_off1447 v6768) a + S1x1x128.size a ≤ S50008x1x128.size a := fun v6768 k0_hw478 => k0_hw478

def k0_off1448 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1449 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1450 (v6782 : BitVec 32) : Fin 3 → Nat :=
  let v6785 : Index := Scalar.indexCast v6782
  let c0_2927 : Index := 0#32
  let c0_2928 : Index := 0#32
  ![v6785.toNat, 0, 0]

def k0_chk479 (v6782 : BitVec 32) : Prop :=
  (∀ a, (k0_off1450 v6782) a + S1x1x128.size a ≤ S50008x1x128.size a)
theorem k0_off1450_inb : ∀ (v6782 : BitVec 32) (k0_hw479 : k0_chk479 v6782), ∀ a, (k0_off1450 v6782) a + S1x1x128.size a ≤ S50008x1x128.size a := fun v6782 k0_hw479 => k0_hw479

def k0_off1451 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1452 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1453 (v6796 : BitVec 32) : Fin 3 → Nat :=
  let v6799 : Index := Scalar.indexCast v6796
  let c0_2933 : Index := 0#32
  let c0_2934 : Index := 0#32
  ![v6799.toNat, 0, 0]

def k0_chk480 (v6796 : BitVec 32) : Prop :=
  (∀ a, (k0_off1453 v6796) a + S1x1x128.size a ≤ S50008x1x128.size a)
theorem k0_off1453_inb : ∀ (v6796 : BitVec 32) (k0_hw480 : k0_chk480 v6796), ∀ a, (k0_off1453 v6796) a + S1x1x128.size a ≤ S50008x1x128.size a := fun v6796 k0_hw480 => k0_hw480

def k0_off1454 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1455 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1456 (v6810 : BitVec 32) : Fin 3 → Nat :=
  let v6813 : Index := Scalar.indexCast v6810
  let c0_2939 : Index := 0#32
  let c0_2940 : Index := 0#32
  ![v6813.toNat, 0, 0]

def k0_chk481 (v6810 : BitVec 32) : Prop :=
  (∀ a, (k0_off1456 v6810) a + S1x1x128.size a ≤ S50008x1x128.size a)
theorem k0_off1456_inb : ∀ (v6810 : BitVec 32) (k0_hw481 : k0_chk481 v6810), ∀ a, (k0_off1456 v6810) a + S1x1x128.size a ≤ S50008x1x128.size a := fun v6810 k0_hw481 => k0_hw481

def k0_off1457 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1458 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1459 (v6824 : BitVec 32) : Fin 3 → Nat :=
  let v6827 : Index := Scalar.indexCast v6824
  let c0_2945 : Index := 0#32
  let c0_2946 : Index := 0#32
  ![v6827.toNat, 0, 0]

def k0_chk482 (v6824 : BitVec 32) : Prop :=
  (∀ a, (k0_off1459 v6824) a + S1x1x128.size a ≤ S50008x1x128.size a)
theorem k0_off1459_inb : ∀ (v6824 : BitVec 32) (k0_hw482 : k0_chk482 v6824), ∀ a, (k0_off1459 v6824) a + S1x1x128.size a ≤ S50008x1x128.size a := fun v6824 k0_hw482 => k0_hw482

def k0_off1460 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1461 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1462 (v6838 : BitVec 32) : Fin 3 → Nat :=
  let v6841 : Index := Scalar.indexCast v6838
  let c0_2951 : Index := 0#32
  let c0_2952 : Index := 0#32
  ![v6841.toNat, 0, 0]

def k0_chk483 (v6838 : BitVec 32) : Prop :=
  (∀ a, (k0_off1462 v6838) a + S1x1x128.size a ≤ S50008x1x128.size a)
theorem k0_off1462_inb : ∀ (v6838 : BitVec 32) (k0_hw483 : k0_chk483 v6838), ∀ a, (k0_off1462 v6838) a + S1x1x128.size a ≤ S50008x1x128.size a := fun v6838 k0_hw483 => k0_hw483

def k0_off1463 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1464 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1465 (v6852 : BitVec 32) : Fin 3 → Nat :=
  let v6855 : Index := Scalar.indexCast v6852
  let c0_2957 : Index := 0#32
  let c0_2958 : Index := 0#32
  ![v6855.toNat, 0, 0]

def k0_chk484 (v6852 : BitVec 32) : Prop :=
  (∀ a, (k0_off1465 v6852) a + S1x1x128.size a ≤ S50008x1x128.size a)
theorem k0_off1465_inb : ∀ (v6852 : BitVec 32) (k0_hw484 : k0_chk484 v6852), ∀ a, (k0_off1465 v6852) a + S1x1x128.size a ≤ S50008x1x128.size a := fun v6852 k0_hw484 => k0_hw484

def k0_off1466 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1467 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1468 (v6866 : BitVec 32) : Fin 3 → Nat :=
  let v6869 : Index := Scalar.indexCast v6866
  let c0_2963 : Index := 0#32
  let c0_2964 : Index := 0#32
  ![v6869.toNat, 0, 0]

def k0_chk485 (v6866 : BitVec 32) : Prop :=
  (∀ a, (k0_off1468 v6866) a + S1x1x128.size a ≤ S50008x1x128.size a)
theorem k0_off1468_inb : ∀ (v6866 : BitVec 32) (k0_hw485 : k0_chk485 v6866), ∀ a, (k0_off1468 v6866) a + S1x1x128.size a ≤ S50008x1x128.size a := fun v6866 k0_hw485 => k0_hw485

def k0_off1469 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1470 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1471 (v6880 : BitVec 32) : Fin 3 → Nat :=
  let v6883 : Index := Scalar.indexCast v6880
  let c0_2969 : Index := 0#32
  let c0_2970 : Index := 0#32
  ![v6883.toNat, 0, 0]

def k0_chk486 (v6880 : BitVec 32) : Prop :=
  (∀ a, (k0_off1471 v6880) a + S1x1x128.size a ≤ S50008x1x128.size a)
theorem k0_off1471_inb : ∀ (v6880 : BitVec 32) (k0_hw486 : k0_chk486 v6880), ∀ a, (k0_off1471 v6880) a + S1x1x128.size a ≤ S50008x1x128.size a := fun v6880 k0_hw486 => k0_hw486

def k0_off1472 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1473 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1474 (v6894 : BitVec 32) : Fin 3 → Nat :=
  let v6897 : Index := Scalar.indexCast v6894
  let c0_2975 : Index := 0#32
  let c0_2976 : Index := 0#32
  ![v6897.toNat, 0, 0]

def k0_chk487 (v6894 : BitVec 32) : Prop :=
  (∀ a, (k0_off1474 v6894) a + S1x1x128.size a ≤ S50008x1x128.size a)
theorem k0_off1474_inb : ∀ (v6894 : BitVec 32) (k0_hw487 : k0_chk487 v6894), ∀ a, (k0_off1474 v6894) a + S1x1x128.size a ≤ S50008x1x128.size a := fun v6894 k0_hw487 => k0_hw487

def k0_off1475 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1476 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1477 (v6908 : BitVec 32) : Fin 3 → Nat :=
  let v6911 : Index := Scalar.indexCast v6908
  let c0_2981 : Index := 0#32
  let c0_2982 : Index := 0#32
  ![v6911.toNat, 0, 0]

def k0_chk488 (v6908 : BitVec 32) : Prop :=
  (∀ a, (k0_off1477 v6908) a + S1x1x128.size a ≤ S50008x1x128.size a)
theorem k0_off1477_inb : ∀ (v6908 : BitVec 32) (k0_hw488 : k0_chk488 v6908), ∀ a, (k0_off1477 v6908) a + S1x1x128.size a ≤ S50008x1x128.size a := fun v6908 k0_hw488 => k0_hw488

def k0_off1478 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1479 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1480 (v6922 : BitVec 32) : Fin 3 → Nat :=
  let v6925 : Index := Scalar.indexCast v6922
  let c0_2987 : Index := 0#32
  let c0_2988 : Index := 0#32
  ![v6925.toNat, 0, 0]

def k0_chk489 (v6922 : BitVec 32) : Prop :=
  (∀ a, (k0_off1480 v6922) a + S1x1x128.size a ≤ S50008x1x128.size a)
theorem k0_off1480_inb : ∀ (v6922 : BitVec 32) (k0_hw489 : k0_chk489 v6922), ∀ a, (k0_off1480 v6922) a + S1x1x128.size a ≤ S50008x1x128.size a := fun v6922 k0_hw489 => k0_hw489

def k0_off1481 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1482 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1483 (v6936 : BitVec 32) : Fin 3 → Nat :=
  let v6939 : Index := Scalar.indexCast v6936
  let c0_2993 : Index := 0#32
  let c0_2994 : Index := 0#32
  ![v6939.toNat, 0, 0]

def k0_chk490 (v6936 : BitVec 32) : Prop :=
  (∀ a, (k0_off1483 v6936) a + S1x1x128.size a ≤ S50008x1x128.size a)
theorem k0_off1483_inb : ∀ (v6936 : BitVec 32) (k0_hw490 : k0_chk490 v6936), ∀ a, (k0_off1483 v6936) a + S1x1x128.size a ≤ S50008x1x128.size a := fun v6936 k0_hw490 => k0_hw490

def k0_off1484 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1485 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1486 (v6950 : BitVec 32) : Fin 3 → Nat :=
  let v6953 : Index := Scalar.indexCast v6950
  let c0_2999 : Index := 0#32
  let c0_3000 : Index := 0#32
  ![v6953.toNat, 0, 0]

def k0_chk491 (v6950 : BitVec 32) : Prop :=
  (∀ a, (k0_off1486 v6950) a + S1x1x128.size a ≤ S50008x1x128.size a)
theorem k0_off1486_inb : ∀ (v6950 : BitVec 32) (k0_hw491 : k0_chk491 v6950), ∀ a, (k0_off1486 v6950) a + S1x1x128.size a ≤ S50008x1x128.size a := fun v6950 k0_hw491 => k0_hw491

def k0_off1487 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1488 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1489 (v6964 : BitVec 32) : Fin 3 → Nat :=
  let v6967 : Index := Scalar.indexCast v6964
  let c0_3005 : Index := 0#32
  let c0_3006 : Index := 0#32
  ![v6967.toNat, 0, 0]

def k0_chk492 (v6964 : BitVec 32) : Prop :=
  (∀ a, (k0_off1489 v6964) a + S1x1x128.size a ≤ S50008x1x128.size a)
theorem k0_off1489_inb : ∀ (v6964 : BitVec 32) (k0_hw492 : k0_chk492 v6964), ∀ a, (k0_off1489 v6964) a + S1x1x128.size a ≤ S50008x1x128.size a := fun v6964 k0_hw492 => k0_hw492

def k0_off1490 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1491 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1492 (v6978 : BitVec 32) : Fin 3 → Nat :=
  let v6981 : Index := Scalar.indexCast v6978
  let c0_3011 : Index := 0#32
  let c0_3012 : Index := 0#32
  ![v6981.toNat, 0, 0]

def k0_chk493 (v6978 : BitVec 32) : Prop :=
  (∀ a, (k0_off1492 v6978) a + S1x1x128.size a ≤ S50008x1x128.size a)
theorem k0_off1492_inb : ∀ (v6978 : BitVec 32) (k0_hw493 : k0_chk493 v6978), ∀ a, (k0_off1492 v6978) a + S1x1x128.size a ≤ S50008x1x128.size a := fun v6978 k0_hw493 => k0_hw493

def k0_off1493 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1494 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1495 (v6992 : BitVec 32) : Fin 3 → Nat :=
  let v6995 : Index := Scalar.indexCast v6992
  let c0_3017 : Index := 0#32
  let c0_3018 : Index := 0#32
  ![v6995.toNat, 0, 0]

def k0_chk494 (v6992 : BitVec 32) : Prop :=
  (∀ a, (k0_off1495 v6992) a + S1x1x128.size a ≤ S50008x1x128.size a)
theorem k0_off1495_inb : ∀ (v6992 : BitVec 32) (k0_hw494 : k0_chk494 v6992), ∀ a, (k0_off1495 v6992) a + S1x1x128.size a ≤ S50008x1x128.size a := fun v6992 k0_hw494 => k0_hw494

def k0_off1496 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1497 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1498 (v7006 : BitVec 32) : Fin 3 → Nat :=
  let v7009 : Index := Scalar.indexCast v7006
  let c0_3023 : Index := 0#32
  let c0_3024 : Index := 0#32
  ![v7009.toNat, 0, 0]

def k0_chk495 (v7006 : BitVec 32) : Prop :=
  (∀ a, (k0_off1498 v7006) a + S1x1x128.size a ≤ S50008x1x128.size a)
theorem k0_off1498_inb : ∀ (v7006 : BitVec 32) (k0_hw495 : k0_chk495 v7006), ∀ a, (k0_off1498 v7006) a + S1x1x128.size a ≤ S50008x1x128.size a := fun v7006 k0_hw495 => k0_hw495

def k0_off1499 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1500 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1501 (v7020 : BitVec 32) : Fin 3 → Nat :=
  let v7023 : Index := Scalar.indexCast v7020
  let c0_3029 : Index := 0#32
  let c0_3030 : Index := 0#32
  ![v7023.toNat, 0, 0]

def k0_chk496 (v7020 : BitVec 32) : Prop :=
  (∀ a, (k0_off1501 v7020) a + S1x1x128.size a ≤ S50008x1x128.size a)
theorem k0_off1501_inb : ∀ (v7020 : BitVec 32) (k0_hw496 : k0_chk496 v7020), ∀ a, (k0_off1501 v7020) a + S1x1x128.size a ≤ S50008x1x128.size a := fun v7020 k0_hw496 => k0_hw496

def k0_off1502 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1503 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1504 (v7034 : BitVec 32) : Fin 3 → Nat :=
  let v7037 : Index := Scalar.indexCast v7034
  let c0_3035 : Index := 0#32
  let c0_3036 : Index := 0#32
  ![v7037.toNat, 0, 0]

def k0_chk497 (v7034 : BitVec 32) : Prop :=
  (∀ a, (k0_off1504 v7034) a + S1x1x128.size a ≤ S50008x1x128.size a)
theorem k0_off1504_inb : ∀ (v7034 : BitVec 32) (k0_hw497 : k0_chk497 v7034), ∀ a, (k0_off1504 v7034) a + S1x1x128.size a ≤ S50008x1x128.size a := fun v7034 k0_hw497 => k0_hw497

def k0_off1505 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1506 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1507 (v7048 : BitVec 32) : Fin 3 → Nat :=
  let v7051 : Index := Scalar.indexCast v7048
  let c0_3041 : Index := 0#32
  let c0_3042 : Index := 0#32
  ![v7051.toNat, 0, 0]

def k0_chk498 (v7048 : BitVec 32) : Prop :=
  (∀ a, (k0_off1507 v7048) a + S1x1x128.size a ≤ S50008x1x128.size a)
theorem k0_off1507_inb : ∀ (v7048 : BitVec 32) (k0_hw498 : k0_chk498 v7048), ∀ a, (k0_off1507 v7048) a + S1x1x128.size a ≤ S50008x1x128.size a := fun v7048 k0_hw498 => k0_hw498

def k0_off1508 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1509 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1510 (v7062 : BitVec 32) : Fin 3 → Nat :=
  let v7065 : Index := Scalar.indexCast v7062
  let c0_3047 : Index := 0#32
  let c0_3048 : Index := 0#32
  ![v7065.toNat, 0, 0]

def k0_chk499 (v7062 : BitVec 32) : Prop :=
  (∀ a, (k0_off1510 v7062) a + S1x1x128.size a ≤ S50008x1x128.size a)
theorem k0_off1510_inb : ∀ (v7062 : BitVec 32) (k0_hw499 : k0_chk499 v7062), ∀ a, (k0_off1510 v7062) a + S1x1x128.size a ≤ S50008x1x128.size a := fun v7062 k0_hw499 => k0_hw499

def k0_off1511 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1512 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1513 (v7076 : BitVec 32) : Fin 3 → Nat :=
  let v7079 : Index := Scalar.indexCast v7076
  let c0_3053 : Index := 0#32
  let c0_3054 : Index := 0#32
  ![v7079.toNat, 0, 0]

def k0_chk500 (v7076 : BitVec 32) : Prop :=
  (∀ a, (k0_off1513 v7076) a + S1x1x128.size a ≤ S50008x1x128.size a)
theorem k0_off1513_inb : ∀ (v7076 : BitVec 32) (k0_hw500 : k0_chk500 v7076), ∀ a, (k0_off1513 v7076) a + S1x1x128.size a ≤ S50008x1x128.size a := fun v7076 k0_hw500 => k0_hw500

def k0_off1514 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1515 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1516 (v7090 : BitVec 32) : Fin 3 → Nat :=
  let v7093 : Index := Scalar.indexCast v7090
  let c0_3059 : Index := 0#32
  let c0_3060 : Index := 0#32
  ![v7093.toNat, 0, 0]

def k0_chk501 (v7090 : BitVec 32) : Prop :=
  (∀ a, (k0_off1516 v7090) a + S1x1x128.size a ≤ S50008x1x128.size a)
theorem k0_off1516_inb : ∀ (v7090 : BitVec 32) (k0_hw501 : k0_chk501 v7090), ∀ a, (k0_off1516 v7090) a + S1x1x128.size a ≤ S50008x1x128.size a := fun v7090 k0_hw501 => k0_hw501

def k0_off1517 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1518 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1519 (v7104 : BitVec 32) : Fin 3 → Nat :=
  let v7107 : Index := Scalar.indexCast v7104
  let c0_3065 : Index := 0#32
  let c0_3066 : Index := 0#32
  ![v7107.toNat, 0, 0]

def k0_chk502 (v7104 : BitVec 32) : Prop :=
  (∀ a, (k0_off1519 v7104) a + S1x1x128.size a ≤ S50008x1x128.size a)
theorem k0_off1519_inb : ∀ (v7104 : BitVec 32) (k0_hw502 : k0_chk502 v7104), ∀ a, (k0_off1519 v7104) a + S1x1x128.size a ≤ S50008x1x128.size a := fun v7104 k0_hw502 => k0_hw502

def k0_off1520 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1521 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1522 (v7118 : BitVec 32) : Fin 3 → Nat :=
  let v7121 : Index := Scalar.indexCast v7118
  let c0_3071 : Index := 0#32
  let c0_3072 : Index := 0#32
  ![v7121.toNat, 0, 0]

def k0_chk503 (v7118 : BitVec 32) : Prop :=
  (∀ a, (k0_off1522 v7118) a + S1x1x128.size a ≤ S50008x1x128.size a)
theorem k0_off1522_inb : ∀ (v7118 : BitVec 32) (k0_hw503 : k0_chk503 v7118), ∀ a, (k0_off1522 v7118) a + S1x1x128.size a ≤ S50008x1x128.size a := fun v7118 k0_hw503 => k0_hw503

def k0_off1523 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1524 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1525 (v7132 : BitVec 32) : Fin 3 → Nat :=
  let v7135 : Index := Scalar.indexCast v7132
  let c0_3077 : Index := 0#32
  let c0_3078 : Index := 0#32
  ![v7135.toNat, 0, 0]

def k0_chk504 (v7132 : BitVec 32) : Prop :=
  (∀ a, (k0_off1525 v7132) a + S1x1x128.size a ≤ S50008x1x128.size a)
theorem k0_off1525_inb : ∀ (v7132 : BitVec 32) (k0_hw504 : k0_chk504 v7132), ∀ a, (k0_off1525 v7132) a + S1x1x128.size a ≤ S50008x1x128.size a := fun v7132 k0_hw504 => k0_hw504

def k0_off1526 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1527 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1528 (v7146 : BitVec 32) : Fin 3 → Nat :=
  let v7149 : Index := Scalar.indexCast v7146
  let c0_3083 : Index := 0#32
  let c0_3084 : Index := 0#32
  ![v7149.toNat, 0, 0]

def k0_chk505 (v7146 : BitVec 32) : Prop :=
  (∀ a, (k0_off1528 v7146) a + S1x1x128.size a ≤ S50008x1x128.size a)
theorem k0_off1528_inb : ∀ (v7146 : BitVec 32) (k0_hw505 : k0_chk505 v7146), ∀ a, (k0_off1528 v7146) a + S1x1x128.size a ≤ S50008x1x128.size a := fun v7146 k0_hw505 => k0_hw505

def k0_off1529 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1530 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1531 (v7160 : BitVec 32) : Fin 3 → Nat :=
  let v7163 : Index := Scalar.indexCast v7160
  let c0_3089 : Index := 0#32
  let c0_3090 : Index := 0#32
  ![v7163.toNat, 0, 0]

def k0_chk506 (v7160 : BitVec 32) : Prop :=
  (∀ a, (k0_off1531 v7160) a + S1x1x128.size a ≤ S50008x1x128.size a)
theorem k0_off1531_inb : ∀ (v7160 : BitVec 32) (k0_hw506 : k0_chk506 v7160), ∀ a, (k0_off1531 v7160) a + S1x1x128.size a ≤ S50008x1x128.size a := fun v7160 k0_hw506 => k0_hw506

def k0_off1532 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1533 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1534 (v7174 : BitVec 32) : Fin 3 → Nat :=
  let v7177 : Index := Scalar.indexCast v7174
  let c0_3095 : Index := 0#32
  let c0_3096 : Index := 0#32
  ![v7177.toNat, 0, 0]

def k0_chk507 (v7174 : BitVec 32) : Prop :=
  (∀ a, (k0_off1534 v7174) a + S1x1x128.size a ≤ S50008x1x128.size a)
theorem k0_off1534_inb : ∀ (v7174 : BitVec 32) (k0_hw507 : k0_chk507 v7174), ∀ a, (k0_off1534 v7174) a + S1x1x128.size a ≤ S50008x1x128.size a := fun v7174 k0_hw507 => k0_hw507

def k0_off1535 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1536 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1537 (v7188 : BitVec 32) : Fin 3 → Nat :=
  let v7191 : Index := Scalar.indexCast v7188
  let c0_3101 : Index := 0#32
  let c0_3102 : Index := 0#32
  ![v7191.toNat, 0, 0]

def k0_chk508 (v7188 : BitVec 32) : Prop :=
  (∀ a, (k0_off1537 v7188) a + S1x1x128.size a ≤ S50008x1x128.size a)
theorem k0_off1537_inb : ∀ (v7188 : BitVec 32) (k0_hw508 : k0_chk508 v7188), ∀ a, (k0_off1537 v7188) a + S1x1x128.size a ≤ S50008x1x128.size a := fun v7188 k0_hw508 => k0_hw508

def k0_off1538 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1539 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1540 (v7202 : BitVec 32) : Fin 3 → Nat :=
  let v7205 : Index := Scalar.indexCast v7202
  let c0_3107 : Index := 0#32
  let c0_3108 : Index := 0#32
  ![v7205.toNat, 0, 0]

def k0_chk509 (v7202 : BitVec 32) : Prop :=
  (∀ a, (k0_off1540 v7202) a + S1x1x128.size a ≤ S50008x1x128.size a)
theorem k0_off1540_inb : ∀ (v7202 : BitVec 32) (k0_hw509 : k0_chk509 v7202), ∀ a, (k0_off1540 v7202) a + S1x1x128.size a ≤ S50008x1x128.size a := fun v7202 k0_hw509 => k0_hw509

def k0_off1541 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1542 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1543 (v7216 : BitVec 32) : Fin 3 → Nat :=
  let v7219 : Index := Scalar.indexCast v7216
  let c0_3113 : Index := 0#32
  let c0_3114 : Index := 0#32
  ![v7219.toNat, 0, 0]

def k0_chk510 (v7216 : BitVec 32) : Prop :=
  (∀ a, (k0_off1543 v7216) a + S1x1x128.size a ≤ S50008x1x128.size a)
theorem k0_off1543_inb : ∀ (v7216 : BitVec 32) (k0_hw510 : k0_chk510 v7216), ∀ a, (k0_off1543 v7216) a + S1x1x128.size a ≤ S50008x1x128.size a := fun v7216 k0_hw510 => k0_hw510

def k0_off1544 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1545 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1546 (v7230 : BitVec 32) : Fin 3 → Nat :=
  let v7233 : Index := Scalar.indexCast v7230
  let c0_3119 : Index := 0#32
  let c0_3120 : Index := 0#32
  ![v7233.toNat, 0, 0]

def k0_chk511 (v7230 : BitVec 32) : Prop :=
  (∀ a, (k0_off1546 v7230) a + S1x1x128.size a ≤ S50008x1x128.size a)
theorem k0_off1546_inb : ∀ (v7230 : BitVec 32) (k0_hw511 : k0_chk511 v7230), ∀ a, (k0_off1546 v7230) a + S1x1x128.size a ≤ S50008x1x128.size a := fun v7230 k0_hw511 => k0_hw511

def k0_off1547 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  ![v87.toNat]
def k0_off1548 (k0_t1 : Fin k0_t1_loop.trips) (k0_t2 : Fin k0_t2_loop.trips) : Fin 1 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c27648_i32_54 : BitVec 32 := 27648#32
  let v84 : BitVec 32 := Scalar.muli v26 c27648_i32_54
  let c0_i32_36 : BitVec 32 := 0#32
  let c1_i32_37 : BitVec 32 := 1#32
  let arg16 : BitVec 32 := Scf.iv c0_i32_36 c1_i32_37 k0_t2
  let c512_i32_55 : BitVec 32 := 512#32
  let v85 : BitVec 32 := Scalar.muli arg16 c512_i32_55
  let v86 : BitVec 32 := Scalar.addi v84 v85
  let v87 : BitVec 32 := v86
  let c13824_i32 : BitVec 32 := 13824#32
  let v88 : BitVec 32 := Scalar.addi v87 c13824_i32
  ![v88.toNat]
def k0_off1549 (v7244 : BitVec 32) : Fin 3 → Nat :=
  let v7247 : Index := Scalar.indexCast v7244
  let c0_3125 : Index := 0#32
  let c0_3126 : Index := 0#32
  ![v7247.toNat, 0, 0]

def k0_chk512 (v7244 : BitVec 32) : Prop :=
  (∀ a, (k0_off1549 v7244) a + S1x1x128.size a ≤ S50008x1x128.size a)
theorem k0_off1549_inb : ∀ (v7244 : BitVec 32) (k0_hw512 : k0_chk512 v7244), ∀ a, (k0_off1549 v7244) a + S1x1x128.size a ≤ S50008x1x128.size a := fun v7244 k0_hw512 => k0_hw512

def k0_off1550 (k0_t1 : Fin k0_t1_loop.trips) : Fin 3 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let v7257 : Index := Scalar.indexCast v26
  let c0_3130 : Index := 0#32
  let c0_3131 : Index := 0#32
  ![v7257.toNat, 0, 0]
def k0_off1551 (i : grid0.Coords) (k0_t1 : Fin k0_t1_loop.trips) : Fin 3 → Nat :=
  let arg0 : BitVec 32 := BitVec.ofNat 32 (i 0).val
  let c0_i32_6 : BitVec 32 := 0#32
  let c1_i32 : BitVec 32 := 1#32
  let arg15 : BitVec 32 := Scf.iv c0_i32_6 c1_i32 k0_t1
  let c512_i32 : BitVec 32 := 512#32
  let v73 : BitVec 32 := Scalar.muli arg15 c512_i32
  let c0_i32_50 : BitVec 32 := 0#32
  ![arg0.toNat, v73.toNat, 0]
def k0_off1552 (k0_t1 : Fin k0_t1_loop.trips) : Fin 3 → Nat :=
  let c0_i32_6 : BitVec 32 := 0#32
  let c1_i32 : BitVec 32 := 1#32
  let arg15 : BitVec 32 := Scf.iv c0_i32_6 c1_i32 k0_t1
  let c2_i32 : BitVec 32 := 2#32
  let v26 : BitVec 32 := Scalar.remsi arg15 c2_i32
  let c0_i32_51 : BitVec 32 := 0#32
  let c0_i32_52 : BitVec 32 := 0#32
  ![v26.toNat, 0, 0]
def k0_off1553 (i : grid0.Coords) : Fin 3 → Nat :=
  let arg0 : BitVec 32 := BitVec.ofNat 32 (i 0).val
  let c0_i32_11 : BitVec 32 := 0#32
  let c0_i32_12 : BitVec 32 := 0#32
  ![arg0.toNat, 0, 0]
def k0_off1554 (i : grid0.Coords) : Fin 3 → Nat :=
  let arg0 : BitVec 32 := BitVec.ofNat 32 (i 0).val
  let c0_i32_21 : BitVec 32 := 0#32
  let c0_i32_22 : BitVec 32 := 0#32
  ![arg0.toNat, 0, 0]
def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S3456x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev grid1 : Pipeline.Grid := ⟨2, ![2, 100], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x2000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S2x8x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x2000x32 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]
-- ==== ReferenceIdeal.lean ====
abbrev S400000x32 : Shape := ⟨2, ![400000, 32]⟩
abbrev S27x32x32 : Shape := ⟨3, ![27, 32, 32]⟩
abbrev S32 : Shape := ⟨1, ![32]⟩
abbrev S27x400000 : Shape := ⟨2, ![27, 400000]⟩
abbrev S27x400000x1 : Shape := ⟨3, ![27, 400000, 1]⟩
abbrev S_ : Shape := ⟨0, ![]⟩
abbrev S27x400000x32 : Shape := ⟨3, ![27, 400000, 32]⟩
abbrev S1x32 : Shape := ⟨2, ![1, 32]⟩

abbrev nBuf : Space → Nat
  | .hbm => 52
  | .vmem => 0
  | .smem => 0
  | _ => 0

abbrev bufTy : (tb : Table) → Fin (tcTables nBuf tb) → BufTy
  | .hbm, ⟨0, _⟩ => ⟨S400000x32, .f32⟩
  | .hbm, ⟨1, _⟩ => ⟨S27x32x32, .f32⟩
  | .hbm, ⟨2, _⟩ => ⟨S32, .f32⟩
  | .hbm, ⟨3, _⟩ => ⟨S32, .f32⟩
  | .hbm, ⟨4, _⟩ => ⟨S27x400000, .i32⟩
  | .hbm, ⟨5, _⟩ => ⟨S27x400000, .i1⟩
  | .hbm, ⟨6, _⟩ => ⟨S27x400000x1, .i1⟩
  | .hbm, ⟨7, _⟩ => ⟨S_, .i32⟩
  | .hbm, ⟨8, _⟩ => ⟨S27x400000, .i32⟩
  | .hbm, ⟨9, _⟩ => ⟨S27x400000, .i1⟩
  | .hbm, ⟨10, _⟩ => ⟨S_, .i32⟩
  | .hbm, ⟨11, _⟩ => ⟨S27x400000, .i32⟩
  | .hbm, ⟨12, _⟩ => ⟨S27x400000, .i32⟩
  | .hbm, ⟨13, _⟩ => ⟨S27x400000, .i32⟩
  | .hbm, ⟨14, _⟩ => ⟨S27x400000x1, .i32⟩
  | .hbm, ⟨15, _⟩ => ⟨S27x400000x32, .f32⟩
  | .hbm, ⟨16, _⟩ => ⟨S_, .f32⟩
  | .hbm, ⟨17, _⟩ => ⟨S_, .f32⟩
  | .hbm, ⟨18, _⟩ => ⟨S27x400000x32, .i1⟩
  | .hbm, ⟨19, _⟩ => ⟨S27x400000x32, .f32⟩
  | .hbm, ⟨20, _⟩ => ⟨S27x400000x32, .f32⟩
  | .hbm, ⟨21, _⟩ => ⟨S400000x32, .f32⟩
  | .hbm, ⟨22, _⟩ => ⟨S_, .f32⟩
  | .hbm, ⟨23, _⟩ => ⟨S32, .f32⟩
  | .hbm, ⟨24, _⟩ => ⟨S_, .f32⟩
  | .hbm, ⟨25, _⟩ => ⟨S32, .f32⟩
  | .hbm, ⟨26, _⟩ => ⟨S32, .f32⟩
  | .hbm, ⟨27, _⟩ => ⟨S1x32, .f32⟩
  | .hbm, ⟨28, _⟩ => ⟨S400000x32, .f32⟩
  | .hbm, ⟨29, _⟩ => ⟨S400000x32, .f32⟩
  | .hbm, ⟨30, _⟩ => ⟨S400000x32, .f32⟩
  | .hbm, ⟨31, _⟩ => ⟨S_, .f32⟩
  | .hbm, ⟨32, _⟩ => ⟨S32, .f32⟩
  | .hbm, ⟨33, _⟩ => ⟨S_, .f32⟩
  | .hbm, ⟨34, _⟩ => ⟨S32, .f32⟩
  | .hbm, ⟨35, _⟩ => ⟨S32, .f32⟩
  | .hbm, ⟨36, _⟩ => ⟨S1x32, .f32⟩
  | .hbm, ⟨37, _⟩ => ⟨S400000x32, .f32⟩
  | .hbm, ⟨38, _⟩ => ⟨S400000x32, .f32⟩
  | .hbm, ⟨39, _⟩ => ⟨S_, .f32⟩
  | .hbm, ⟨40, _⟩ => ⟨S32, .f32⟩
  | .hbm, ⟨41, _⟩ => ⟨S32, .f32⟩
  | .hbm, ⟨42, _⟩ => ⟨S32, .f32⟩
  | .hbm, ⟨43, _⟩ => ⟨S1x32, .f32⟩
  | .hbm, ⟨44, _⟩ => ⟨S400000x32, .f32⟩
  | .hbm, ⟨45, _⟩ => ⟨S400000x32, .f32⟩
  | .hbm, ⟨46, _⟩ => ⟨S1x32, .f32⟩
  | .hbm, ⟨47, _⟩ => ⟨S400000x32, .f32⟩
  | .hbm, ⟨48, _⟩ => ⟨S400000x32, .f32⟩
  | .hbm, ⟨49, _⟩ => ⟨S_, .f32⟩
  | .hbm, ⟨50, _⟩ => ⟨S400000x32, .f32⟩
  | .hbm, ⟨51, _⟩ => ⟨S400000x32, .f32⟩
  | _, _ => ⟨S400000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_v17 : Ref sig .tc := ⟨.hbm, 32, rfl⟩
abbrev main_cst_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_call1_cst : Ref sig .tc := ⟨.hbm, 49, rfl⟩
abbrev main_call1_v0 : Ref sig .tc := ⟨.hbm, 50, rfl⟩
abbrev main_v32 : Ref sig .tc := ⟨.hbm, 51, rfl⟩

abbrev nD : Nat := 1
abbrev τ : Topo := Topo.v7x

variable {F : FTy → Type} [FloatOps F]
-- ==== Proof.RowsFold.lean ====
module

public import proofs.«01_k».proof.KernelIdeal

@[expose] public section

noncomputable section

namespace Cert.Proof.KernelIdeal

open Cert.KernelIdeal
open Idealize.ShloMosaic Idealize.SL.Sem
open Shapes1.Facts₀ Shapes2.Facts₀ K0.R1.Facts₀ K0.R2.Facts₀ Facts

variable {F : FTy → Type} [FloatOps F] [Facts]

/-- A word position below 512 lies in the band of 512 words. -/
theorem inbWord {e : ℕ} (h : e < 512) : ∀ a : Fin 1, (![e] : Fin 1 → ℕ) a + S1.size a ≤ S512.size a := by
  intro a; fin_cases a; show e + 1 ≤ 512; omega

/-- A row below 512 lies in the gathered block. -/
theorem inbRow {e : ℕ} (h : e < 512) : ∀ a : Fin 2, (![e, 0] : Fin 2 → ℕ) a + S1x128.size a ≤ S512x128.size a := by
  intro a; fin_cases a
  · show e + 1 ≤ 512; omega
  · show 0 + 128 ≤ 128; omega

/-- One gathered row: read its index and its slot, check the index, read the packed row, keep the
   slot's lanes, write row `e` of the block. -/
def rowProg (arg6 : Memref sig .tc .vmem S50008x1x128 .f32) (arg7 : Memref sig .tc .vmem S512x128 .f32)
    (arg10 : Memref sig .tc .smem S55296 .i32) (k0_t1 : Fin k0_t1_loop.trips) (k0_t2 : Fin k0_t2_loop.trips)
    (v53 : IVec S1x128 32) (e : ℕ) (h : e < 512) : Prog (TpuEff nD τ sig (Elt F) Λ₀ .tc) PUnit := do
  let r : Elt F .i32 ← smemLoad (arg10.slice (Rect.unit (s := S55296) (k0_off14 k0_t1 k0_t2) S512.size (k0_off14_inb k0_t1 k0_t2)) (fun _ => rfl)) (Rect.unit (s := S512) ![e] S1.size (inbWord h)) numel1_S1 rfl
  have hw : k0_chk1 r := (← Prog.lift (TpuEff.assume (k0_chk1 r) (k0_chk1.dec r))).down
  let j : Elt F .i32 ← smemLoad (arg10.slice (Rect.unit (s := S55296) (k0_off15 k0_t1 k0_t2) S512.size (k0_off15_inb k0_t1 k0_t2)) (fun _ => rfl)) (Rect.unit (s := S512) ![e] S1.size (inbWord h)) numel1_S1 rfl
  let x : Vec F S1x1x128 .f32 ← Prog.lift (.load arg6 (Rect.unit (s := S50008x1x128) (k0_off16 r) S1x1x128.size (k0_off16_inb r hw)).toLoadRect (View.loadsAt_vmem h_S1x1x128))
  let _ : Vec F S1x128 .f32 ← Prog.lift (.load arg7 (Rect.unit (s := S512x128) ![e, 0] S1x128.size (inbRow h)).toLoadRect (View.loadsAt_vmem h_S1x128))
  Prog.lift (.store arg7 (Rect.unit (s := S512x128) ![e, 0] S1x128.size (inbRow h))
    (shapeCast S1x128 (select (cmpi .eq v53 (broadcast S1x128 j)) (shapeCast S1x128 x shapeCasts_S1x1x128_S1x128) (broadcast S1x128 (Scalar.ofBits .f32 0x00000000#32))) shapeCasts_S1x128_S1x128)
    Finset.univ (View.stores_vmem_bits_univ h_S1x128 rfl) (.inl rfl))

/-- The last `n` rows of the block, in order, then `K`. -/
def rows {β : Type} (arg6 : Memref sig .tc .vmem S50008x1x128 .f32) (arg7 : Memref sig .tc .vmem S512x128 .f32)
    (arg10 : Memref sig .tc .smem S55296 .i32) (k0_t1 : Fin k0_t1_loop.trips) (k0_t2 : Fin k0_t2_loop.trips)
    (v53 : IVec S1x128 32) (K : Prog (TpuEff nD τ sig (Elt F) Λ₀ .tc) β) (n : ℕ) : Prog (TpuEff nD τ sig (Elt F) Λ₀ .tc) β :=
  Nat.rec K (fun n ih => Prog.bind (rowProg arg6 arg7 arg10 k0_t1 k0_t2 v53 (511 - n) (by omega)) fun _ => ih) n

end Cert.Proof.KernelIdeal
-- ==== Proof.ConvRow.lean ====
module
public import proofs.«01_k».proof.Proof.RowsFold
public import proofs.«01_k».proof.Proof.Gen.KernelIdeal.Launch
public import proofs.«01_k».proof.Proof.Gen.KernelIdeal.Skeleton
public import Idealize.ShloMosaic.Lib.Transfers
public import Idealize.ShloMosaic.Lib.Pointwise
public import Idealize.ShloMosaic.Lib.ValueLayout
public import Idealize.ShloMosaic.Lib.Tactic
public import Idealize.ShloMosaic.Lib.Pipeline.ValueKit
@[expose] public section
noncomputable section
namespace Cert.Proof.KernelIdeal
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F]

local notation "𝕄" => MT nD τ sig Unit (Elt F) ℕ (Pipeline.UD sig nD τ) ℕ

/-- The buffers of the gather kernel, each named by its whole memref. -/
abbrev mFeat : Memref sig .tc .vmem S50008x1x128 .f32 := Memref.whole cc0_scratch0
abbrev mRows : Memref sig .tc .vmem S512x128 .f32 := Memref.whole cc0_scratch1
abbrev mAcc : Memref sig .tc .vmem S2x512x32 .f32 := Memref.whole cc0_scratch2
abbrev mSum : Memref sig .tc .vmem S8x32 .f32 := Memref.whole cc0_scratch3
abbrev mWord : Memref sig .tc .smem S55296 .i32 := Memref.whole cc0_scratch4
abbrev mIlx : Memref sig .tc .hbm S782x27648 .i32 := Memref.whole main_v28
abbrev mArr : Memref sig .tc .hbm S100016x1x128 .f32 := Memref.whole main_v2
abbrev mW : Memref sig .tc .vmem S3456x32 .f32 := Memref.whole cc0_stg0_0
abbrev mOut : Memref sig .tc .hbm S2x200192x32 .f32 := Memref.whole main_v33_0
abbrev mPart : Memref sig .tc .hbm S2x8x32 .f32 := Memref.whole main_v33_1

abbrev Zf : F .f32 := Scalar.ofBits .f32 0x00000000#32

/-- Lane `l` of packed row `n` of one half of the features, zero past the end. -/
def featAt (fs : S50008x1x128.Idx → F .f32) (n l : ℕ) : F .f32 :=
  if h : n < 50008 ∧ l < 128 then fs (ix3 ⟨n, h.1⟩ 0 ⟨l, h.2⟩) else Zf

/-- Lane `l` of the row gathered by packed row `r` and lane group `j`: the lanes outside the group are zero. -/
def gat (fs : S50008x1x128.Idx → F .f32) (r j : BitVec 32) (l : ℕ) : F .f32 :=
  if j.toNat = l / 32 then featAt fs r.toNat l else Zf

/-- The gathered block of offset `k` of a tile whose words are `wd`. -/
def Xblk (fs : S50008x1x128.Idx → F .f32) (wd : ℕ → BitVec 32) (k : ℕ) : S512x128.Idx → F .f32 :=
  fun i => gat fs (wd (512 * k + (i 0).val)) (wd (13824 + 512 * k + (i 0).val)) (i 1).val

/-- The elements of slot `p` of the word buffer. -/
def wslot (p : ℕ) : Finset S55296.Idx := Finset.univ.filter fun i => (i 0).val / 27648 = p

/-- The word buffer's contents when each slot holds the words `wd`. -/
def wbuf (wd : ℕ → BitVec 32) : S55296.Idx → BitVec 32 := fun i => wd ((i 0).val % 27648)

theorem mem_wslot_window {p : ℕ} (hp : p < 2) {o e : ℕ} (h : o + e < 27648) (i : S55296.Idx) (hi : (i 0).val = 27648 * p + o + e) : i ∈ wslot p := by
  simp only [wslot, Finset.mem_filter, Finset.mem_univ, true_and]; omega

theorem chk_of_le {r : BitVec 32} (h : r.toNat < 50008) : k0_chk1 r := by
  intro a
  have e : k0_off16 r = ![r.toNat, 0, 0] := rfl
  rw [e]
  fin_cases a
  · show r.toNat + 1 ≤ 50008; omega
  · show 0 + 1 ≤ 1; omega
  · show 0 + 128 ≤ 128; omega

/-- Entry of the row the kernel stores. -/
theorem rowVal_apply (fs : S50008x1x128.Idx → F .f32) (r j : BitVec 32) (hr : r.toNat < 50008) (hw : k0_chk1 r) (x : S1x128.Idx) :
    shapeCast S1x128 (select (cmpi .eq k0_pay645 (broadcast S1x128 j)) (shapeCast S1x128
      (View.readAt (Elt F) mFeat.view (Rect.unit (s := S50008x1x128) (k0_off16 r) S1x1x128.size (k0_off16_inb r hw)).toLoadRect fs) shapeCasts_S1x1x128_S1x128) (broadcast S1x128 (Zf (F := F)))) shapeCasts_S1x128_S1x128 x
      = gat fs r j (x 1).val := by
  rw [shapeCast_self]
  have hx : (x 1).val < 128 := (x 1).isLt
  have hx0 : (x 0).val = 0 := by have := (x 0).isLt; change (x 0).val < 1 at this; omega
  have hc : cmpi .eq k0_pay645 (broadcast S1x128 j) x = BitVec.ofBool (decide (j.toNat = (x 1).val / 32)) := by
    have h0 : k0_pay645 x = BitVec.ofNat 32 ((x 1).val / 32) := by
      have key : ∀ l : Fin 128, (BitVec.ofNat 32 (0 * 128 + l.val)).sshiftRight' 5#32 = BitVec.ofNat 32 (l.val / 32) := by decide +kernel
      exact key ⟨(x 1).val, hx⟩
    show BitVec.ofBool (k0_pay645 x == j) = _
    rw [h0]
    congr 1
    rw [Bool.eq_iff_iff, beq_iff_eq, decide_eq_true_iff]
    constructor
    · rintro rfl
      rw [BitVec.toNat_ofNat]; omega
    · intro h
      rw [← h]; exact BitVec.ofNat_toNat 32 j ▸ (BitVec.setWidth_eq j).symm ▸ rfl
  have hv : shapeCast S1x128 (View.readAt (Elt F) mFeat.view (Rect.unit (s := S50008x1x128) (k0_off16 r) S1x1x128.size (k0_off16_inb r hw)).toLoadRect fs) shapeCasts_S1x1x128_S1x128 x
      = fs (ix3 ⟨r.toNat, hr⟩ 0 ⟨(x 1).val, hx⟩) := by
    rw [shapeCast_apply _ _ x (ix3 (0 : Fin 1) (0 : Fin 1) ⟨(x 1).val, hx⟩) (by
      rw [Shape.rowMajor_val_three, Shape.rowMajor_val_two]
      show (0 * 1 + 0) * 128 + (x 1).val = (x 0).val * 128 + (x 1).val
      omega)]
    show fs _ = fs _
    congr 1
    funext a
    apply Fin.ext
    refine (ValueKit.view_emb_slice_whole_unit_val cc0_scratch0 _ _ (k0_off16_inb r hw) _ a).trans ?_
    fin_cases a
    · rfl
    · rfl
    · show 0 + (x 1).val = (x 1).val; omega
  rw [gat]
  show (if cmpi .eq k0_pay645 (broadcast S1x128 j) x = 1#1 then _ else _) = _
  rw [hc, hv]
  by_cases e : j.toNat = (x 1).val / 32
  · simp [e, featAt, hr, hx]
  · simp [e]; rfl

/-- The word the row step reads for the packed row's number. -/
theorem word14 (wd : ℕ → BitVec 32) (t : Fin k0_t1_loop.trips) (k : Fin k0_t2_loop.trips) (e : ℕ) (he : e < 512)
    (x : (Rect.unit (s := S512) ![e] S1.size (inbWord he)).shape.Idx) :
    View.readAt (Elt F) (mWord.slice (Rect.unit (s := S55296) (k0_off14 t k) S512.size (k0_off14_inb t k)) (fun _ => rfl)).view
      (Rect.unit (s := S512) ![e] S1.size (inbWord he)).toLoadRect (wbuf wd) x = wd (512 * k.val + e) := by
  have hx : (x 0).val = 0 := by have := (x 0).isLt; change (x 0).val < 1 at this; omega
  have hk : k.val < 27 := k.isLt
  have ho : k0_off14 t k 0 = 27648 * (t.val % 2) + 512 * k.val := by rw [k0_off14_eq]; rfl
  have hv := (ValueKit.view_emb_slice_whole_unit_val cc0_scratch4 (k0_off14 t k) S512.size (k0_off14_inb t k)
    ((Rect.unit (s := S512) ![e] S1.size (inbWord he)).emb x) 0).trans (congrArg (k0_off14 t k 0 + ·) (ValueKit.rect_emb_unit_val _ _ (inbWord he) x 0))
  refine (congrArg (fun n : ℕ => wd (n % 27648)) hv).trans ?_
  dsimp only
  rw [ho, hx]
  refine congrArg wd ?_
  show (27648 * (t.val % 2) + 512 * k.val + (e + 0)) % 27648 = _
  omega

/-- The word the row step reads for the lane group. -/
theorem word15 (wd : ℕ → BitVec 32) (t : Fin k0_t1_loop.trips) (k : Fin k0_t2_loop.trips) (e : ℕ) (he : e < 512)
    (x : (Rect.unit (s := S512) ![e] S1.size (inbWord he)).shape.Idx) :
    View.readAt (Elt F) (mWord.slice (Rect.unit (s := S55296) (k0_off15 t k) S512.size (k0_off15_inb t k)) (fun _ => rfl)).view
      (Rect.unit (s := S512) ![e] S1.size (inbWord he)).toLoadRect (wbuf wd) x = wd (13824 + 512 * k.val + e) := by
  have hx : (x 0).val = 0 := by have := (x 0).isLt; change (x 0).val < 1 at this; omega
  have hk : k.val < 27 := k.isLt
  have ho : k0_off15 t k 0 = 27648 * (t.val % 2) + 512 * k.val + 13824 := by rw [k0_off15_eq]; rfl
  have hv := (ValueKit.view_emb_slice_whole_unit_val cc0_scratch4 (k0_off15 t k) S512.size (k0_off15_inb t k)
    ((Rect.unit (s := S512) ![e] S1.size (inbWord he)).emb x) 0).trans (congrArg (k0_off15 t k 0 + ·) (ValueKit.rect_emb_unit_val _ _ (inbWord he) x 0))
  refine (congrArg (fun n : ℕ => wd (n % 27648)) hv).trans ?_
  dsimp only
  rw [ho, hx]
  refine congrArg wd ?_
  show (27648 * (t.val % 2) + 512 * k.val + 13824 + (e + 0)) % 27648 = _
  omega

/-- A rectangle of the word buffer inside one slot. -/
theorem wslot_sub {off : Fin 1 → ℕ} (inb : ∀ a, off a + S512.size a ≤ S55296.size a) {p o : ℕ} (h : off 0 = 27648 * p + o) (ho : o + 512 ≤ 27648)
    (Rr : Rect S512) : (mWord.slice (Rect.unit (s := S55296) off S512.size inb) (fun _ => rfl)).view.setOn Rr.set ⊆ wslot p := by
  intro i hi
  have h1 := View.setOn_subset_set _ _ hi
  have h1' : i ∈ ((View.whole cc0_scratch4).slice (Rect.unit (s := S55296) off S512.size inb)).set := h1
  rw [View.set_slice_whole] at h1'
  have h2 := (Rect.mem_set_unit.1 h1') 0
  simp only [wslot, Finset.mem_filter, Finset.mem_univ, true_and]
  have h3 : off 0 ≤ (i 0).val ∧ (i 0).val < off 0 + 512 := h2
  rw [Nat.div_eq_iff (by omega)]
  omega

/-- A word read at the head of a program: the continuation runs at the word's value. -/
theorem wp_word (c : Dev nD) {s : Shape} {β : Type} (m : Memref sig .tc .smem s .i32) (r : Rect s) (h1 : r.shape.numel = 1) (hp : EltTy.i32.packing = 1)
    (kk : Elt F .i32 → Prog (TpuEff nD τ sig (Elt F) Λ₀ .tc) β) (Q : β → sProp 𝕄) {S : Finset (Idx (m.view.loc (c : Thread nD τ)))}
    {f : Buf (Elt F) (m.view.loc (c : Thread nD τ))} (v : Elt F .i32) (hS : m.view.setOn r.toLoadRect.set ⊆ S)
    (hv : ∀ x, m.view.readAt (Elt F) r.toLoadRect f x = v) :
    (m.view.loc (c : Thread nD τ) ↦[S]{fullShare} f : sProp 𝕄)
    ⊢ iprop((m.view.loc (c : Thread nD τ) ↦[S]{fullShare} f) -∗ wp frame (wpE (defs₀ (F := F)) Variants.none (c : Thread nD τ) none) Set.univ (kk v) Q)
      -∗ wp frame (wpE (defs₀ (F := F)) Variants.none (c : Thread nD τ) none) Set.univ (Prog.bind (smemLoad m r h1 hp) kk) Q := by
  rw [← hv (Shape.Idx.first (h1.symm ▸ Nat.one_pos))]
  iintro H Hk
  iapply (wp_load (Val := Elt F) Variants.none (c : Thread nD τ) none Set.univ hS) $$ H
  iexact Hk

/-- The row step with its continuation inside. -/
def rowProgK {β : Type} (t : Fin k0_t1_loop.trips) (k : Fin k0_t2_loop.trips) (e : ℕ) (h : e < 512)
    (kk : Prog (TpuEff nD τ sig (Elt F) Λ₀ .tc) β) : Prog (TpuEff nD τ sig (Elt F) Λ₀ .tc) β :=
  Prog.bind (smemLoad (mWord.slice (Rect.unit (s := S55296) (k0_off14 t k) S512.size (k0_off14_inb t k)) (fun _ => rfl)) (Rect.unit (s := S512) ![e] S1.size (inbWord h)) numel1_S1 rfl)
    fun (r : Elt F .i32) => .op (.assume (k0_chk1 r) (k0_chk1.dec r)) fun hw =>
  Prog.bind (smemLoad (mWord.slice (Rect.unit (s := S55296) (k0_off15 t k) S512.size (k0_off15_inb t k)) (fun _ => rfl)) (Rect.unit (s := S512) ![e] S1.size (inbWord h)) numel1_S1 rfl)
    fun (j : Elt F .i32) =>
  .op (.load mFeat (Rect.unit (s := S50008x1x128) (k0_off16 r) S1x1x128.size (k0_off16_inb r hw.down)).toLoadRect (View.loadsAt_vmem h_S1x1x128)) fun (x : Vec F S1x1x128 .f32) =>
  .op (.load mRows (Rect.unit (s := S512x128) ![e, 0] S1x128.size (inbRow h)).toLoadRect (View.loadsAt_vmem h_S1x128)) fun (_ : Vec F S1x128 .f32) =>
  .op (.store mRows (Rect.unit (s := S512x128) ![e, 0] S1x128.size (inbRow h))
    (shapeCast S1x128 (select (cmpi .eq k0_pay645 (broadcast S1x128 j)) (shapeCast S1x128 x shapeCasts_S1x1x128_S1x128) (broadcast S1x128 (Zf (F := F)))) shapeCasts_S1x128_S1x128)
    Finset.univ (View.stores_vmem_bits_univ h_S1x128 rfl) (.inl rfl)) fun _ => kk

theorem rowProg_bind {β : Type} (t : Fin k0_t1_loop.trips) (k : Fin k0_t2_loop.trips) (e : ℕ) (h : e < 512)
    (kk : PUnit → Prog (TpuEff nD τ sig (Elt F) Λ₀ .tc) β) :
    Prog.bind (rowProg mFeat mRows mWord t k k0_pay645 e h) kk = rowProgK t k e h (kk ⟨⟩) := rfl

/-- Storing the gathered row changes row `e` of the block and nothing else. -/
theorem storeRow (fs : S50008x1x128.Idx → F .f32) (wd : ℕ → BitVec 32) (k e : ℕ) (he : e < 512) (hr : (wd (512 * k + e)).toNat < 50008)
    (hw : k0_chk1 (wd (512 * k + e))) (f : S512x128.Idx → F .f32) :
    (mRows.access (Rect.unit (s := S512x128) ![e, 0] S1x128.size (inbRow he))).write (Elt F) f
      (shapeCast S1x128 (select (cmpi .eq k0_pay645 (broadcast S1x128 (wd (13824 + 512 * k + e)))) (shapeCast S1x128
        (View.readAt (Elt F) mFeat.view (Rect.unit (s := S50008x1x128) (k0_off16 (wd (512 * k + e))) S1x1x128.size (k0_off16_inb _ hw)).toLoadRect fs) shapeCasts_S1x1x128_S1x128)
        (broadcast S1x128 (Zf (F := F)))) shapeCasts_S1x128_S1x128) Finset.univ
      = fun i : S512x128.Idx => if (i 0).val = e then Xblk fs wd k i else f i := by
  funext i
  by_cases h : (i 0).val = e
  · have hi : i = (mRows.access (Rect.unit (s := S512x128) ![e, 0] S1x128.size (inbRow he))).emb (ix2 (0 : Fin 1) ⟨(i 1).val, (i 1).isLt⟩ : S1x128.Idx) := by
      funext a
      apply Fin.ext
      refine Eq.trans ?_ (ValueKit.view_emb_slice_whole_unit_val cc0_scratch1 _ _ (inbRow he) _ a).symm
      fin_cases a
      · show (i 0).val = e + 0; omega
      · show (i 1).val = 0 + (i 1).val; omega
    rw [if_pos h]
    refine (congrArg ((mRows.access (Rect.unit (s := S512x128) ![e, 0] S1x128.size (inbRow he))).write (Elt F) f _ Finset.univ) hi).trans ?_
    refine (View.write_emb_of_mem _ _ (Finset.mem_univ _)).trans ?_
    refine (rowVal_apply fs _ _ hr hw _).trans ?_
    show gat _ _ _ _ = gat _ _ _ _
    rw [h]
    rfl
  · rw [if_neg h, View.write_of_not_mem]
    intro hm
    rw [View.setOn_univ] at hm
    have h1 : i ∈ ((View.whole cc0_scratch1).slice (Rect.unit (s := S512x128) ![e, 0] S1x128.size (inbRow he))).set := hm
    rw [View.set_slice_whole] at h1
    have h3 : e ≤ (i 0).val ∧ (i 0).val < e + 1 := (Rect.mem_set_unit.1 h1) 0
    omega

/-- One row step: the words are read, the packed row is read, and row `e` of the gathered block is stored. -/
theorem wp_rowProg (c : Dev nD) {β : Type} (kk : PUnit → Prog (TpuEff nD τ sig (Elt F) Λ₀ .tc) β) (Q : β → sProp 𝕄)
    (t : Fin k0_t1_loop.trips) (k : Fin k0_t2_loop.trips) (e : ℕ) (he : e < 512)
    (fs : S50008x1x128.Idx → F .f32) (wd : ℕ → BitVec 32) (hwd : (wd (512 * k.val + e)).toNat < 50008) (f : S512x128.Idx → F .f32) :
    iprop((mWord.view.loc (c : Thread nD τ) ↦[wslot (t.val % 2)]{fullShare} wbuf wd) ∗ (mFeat.view.loc (c : Thread nD τ) ↦{fullShare} fs)
      ∗ (mRows.view.loc (c : Thread nD τ) ↦{fullShare} f)
      ∗ (iprop((mWord.view.loc (c : Thread nD τ) ↦[wslot (t.val % 2)]{fullShare} wbuf wd) ∗ (mFeat.view.loc (c : Thread nD τ) ↦{fullShare} fs)
        ∗ (mRows.view.loc (c : Thread nD τ) ↦{fullShare} (fun i : S512x128.Idx => if (i 0).val = e then Xblk fs wd k.val i else f i)))
        -∗ wp frame (wpE (defs₀ (F := F)) Variants.none (c : Thread nD τ) none) Set.univ (kk ⟨⟩) Q))
    ⊢ wp frame (wpE (defs₀ (F := F)) Variants.none (c : Thread nD τ) none) Set.univ (Prog.bind (rowProg mFeat mRows mWord t k k0_pay645 e he) kk) Q := by
  iintro ⟨Hw, Hf, Hr, Hk⟩
  rw [rowProg_bind]
  unfold rowProgK
  iapply (wp_word c _ _ _ _ _ Q (wd (512 * k.val + e)) (wslot_sub (p := t.val % 2) (o := 512 * k.val) _ (by rw [k0_off14_eq]; rfl) (by have : k.val < 27 := k.isLt; omega) _) (word14 wd t k e he)) $$ Hw
  iintro Hw
  iapply (wp_assume Variants.none (c : Thread nD τ) none Set.univ (chk_of_le hwd))
  iapply (wp_word c _ _ _ _ _ Q (wd (13824 + 512 * k.val + e)) (wslot_sub (p := t.val % 2) (o := 512 * k.val + 13824) _ (by rw [k0_off15_eq]; show _ = _; rw [← Nat.add_assoc]; rfl) (by have : k.val < 27 := k.isLt; omega) _) (word15 wd t k e he)) $$ Hw
  iintro Hw
  iapply (wp_load (Val := Elt F) Variants.none (c : Thread nD τ) none Set.univ (m := mFeat) (Finset.subset_univ _)) $$ Hf
  iintro Hf
  iapply (wp_load (Val := Elt F) Variants.none (c : Thread nD τ) none Set.univ (m := mRows) (Finset.subset_univ _)) $$ Hr
  iintro Hr
  iapply (wp_store (Val := Elt F) Variants.none (c : Thread nD τ) none Set.univ (m := mRows) (r := Rect.unit (s := S512x128) ![e, 0] S1x128.size (inbRow he)) (Mk := Finset.univ) (Finset.subset_univ _)) $$ Hr
  iintro Hr
  iapply Hk
  isplitl [Hw]; · iexact Hw
  isplitl [Hf]; · iexact Hf
  rw [← storeRow fs wd k.val e he hwd (chk_of_le hwd) f]
  iexact Hr

end Cert.Proof.KernelIdeal
-- ==== Proof.InnerBody.lean ====
module
public import proofs.«01_k».proof.Proof.ConvRow
@[expose] public section
noncomputable section
namespace Cert.Proof.KernelIdeal
open Cert.KernelIdeal Cert.KernelIdeal.Gen
open Idealize.ShloMosaic Idealize.ShloMosaic.TcCoe
open Idealize.SL.Sem
variable {F : FTy → Type} [FloatOps F]

/-- After the rows of one offset: the accumulator's slot plus the product of the gathered block and the offset's weights. -/
def accTail (t : Fin k0_t1_loop.trips) (w : Vec F S128x32 .f32) : Prog (TpuEff nD τ sig (Elt F) Λ₀ .tc) Unit :=
  .op (.load mAcc (Rect.unit (s := S2x512x32) (k0_off1550 t) S1x512x32.size (k0_off1550_inb t)).toLoadRect (View.loadsAt_vmem h_S1x512x32)) fun (a : Vec F S1x512x32 .f32) =>
  .op (.load mRows (Rect.unit (s := S512x128) ![0, 0] S512x128.size inb_S512x128_S512x128_0_0).toLoadRect (View.loadsAt_vmem h_S512x128)) fun (x : Vec F S512x128 .f32) =>
  .op (.load mAcc (Rect.unit (s := S2x512x32) (k0_off1550 t) S1x512x32.size (k0_off1550_inb t)).toLoadRect (View.loadsAt_vmem h_S1x512x32)) fun (_ : Vec F S1x512x32 .f32) =>
  .op (.store mAcc (Rect.unit (s := S2x512x32) (k0_off1550 t) S1x512x32.size (k0_off1550_inb t)) (k0_pay646 (k0_pay642 (shapeCast S128x32 w shapeCasts_S128x32_S128x32) a x)) Finset.univ
    (View.stores_vmem_bits_univ h_S1x512x32 rfl) (.inl rfl)) fun _ => .ret ⟨⟩

/-- The inner loop's body at the launch's buffers. -/
abbrev innerBody (i : grid0.Coords) (arg0 c0 c1 : BitVec 32) (t : Fin k0_t1_loop.trips) (v26 : BitVec 32) :=
  k0_t2_body (F := F) i mIlx (Memref.isWhole_whole _) mArr (Memref.isWhole_whole _) mW (Memref.isWhole_whole _) mOut (Memref.isWhole_whole _)
    mPart (Memref.isWhole_whole _) mFeat (Memref.isWhole_whole _) mRows (Memref.isWhole_whole _) mAcc (Memref.isWhole_whole _) mSum (Memref.isWhole_whole _)
    mWord (Memref.isWhole_whole _) cc0_scratch5 cc0_scratch6 cc0_scratch7 cc0_scratch8 arg0 c0 c1 t v26

set_option maxRecDepth 10000000 in
set_option maxHeartbeats 0 in
/-- The unrolled statements of the inner loop are: read the offset's weights, the row step 512 times, the product. -/
theorem innerBody_eq (i : grid0.Coords) (arg0 c0 c1 : BitVec 32) (t : Fin k0_t1_loop.trips) (v26 : BitVec 32) (k : Fin k0_t2_loop.trips) (u : Unit) :
    innerBody (F := F) i arg0 c0 c1 t v26 k u =
      .op (.load mW (Rect.unit (s := S3456x32) (k0_off13 k) S128x32.size (k0_off13_inb k)).toLoadRect (View.loadsAt_vmem h_S128x32)) fun (w : Vec F S128x32 .f32) =>
        rows mFeat mRows mWord t k k0_pay645 (accTail t w) 512 := rfl

end Cert.Proof.KernelIdeal
-- ==== Proof.InnerLoop.lean ====
module
public import proofs.«01_k».proof.Proof.InnerBody
@[expose] public section
noncomputable section
namespace Cert.Proof.KernelIdeal
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F]

local notation "𝕄" => MT nD τ sig Unit (Elt F) ℕ (Pipeline.UD sig nD τ) ℕ

/-- What holds of the buffers a row step touches: the slot's words, the features, the gathered block. -/
abbrev rowRes (c : Dev nD) (p : ℕ) (fs : S50008x1x128.Idx → F .f32) (wd : ℕ → BitVec 32) (f : S512x128.Idx → F .f32) : sProp 𝕄 :=
  iprop((mWord.view.loc (c : Thread nD τ) ↦[wslot p]{fullShare} wbuf wd) ∗ (mFeat.view.loc (c : Thread nD τ) ↦{fullShare} fs)
      ∗ (mRows.view.loc (c : Thread nD τ) ↦{fullShare} f))

/-- The last `n` row steps leave the last `n` rows of the gathered block, then the rest runs. -/
theorem wp_rows (c : Dev nD) {β : Type} (K : Prog (TpuEff nD τ sig (Elt F) Λ₀ .tc) β) (Q : β → sProp 𝕄)
    (t : Fin k0_t1_loop.trips) (k : Fin k0_t2_loop.trips)
    (fs : S50008x1x128.Idx → F .f32) (wd : ℕ → BitVec 32) (hwd : ∀ q, q < 13824 → (wd q).toNat < 50008) (n : ℕ) (hn : n ≤ 512) :
    ∀ f : S512x128.Idx → F .f32,
    iprop(rowRes c (t.val % 2) fs wd f
      ∗ (rowRes c (t.val % 2) fs wd (fun i : S512x128.Idx => if 512 - n ≤ (i 0).val then Xblk fs wd k.val i else f i)
        -∗ wp frame (wpE (defs₀ (F := F)) Variants.none (c : Thread nD τ) none) Set.univ K Q))
    ⊢ wp frame (wpE (defs₀ (F := F)) Variants.none (c : Thread nD τ) none) Set.univ (rows mFeat mRows mWord t k k0_pay645 K n) Q := by
  induction n with
  | zero =>
    intro f
    have e : (fun i : S512x128.Idx => if 512 - 0 ≤ (i 0).val then Xblk fs wd k.val i else f i) = f := by
      funext i
      have : (i 0).val < 512 := (i 0).isLt
      rw [if_neg (by omega)]
    rw [e]
    iintro ⟨H, Hk⟩
    iapply Hk
    iexact H
  | succ n ih =>
    intro f
    have hk : k.val < 27 := k.isLt
    have e : (fun i : S512x128.Idx => if 512 - (n + 1) ≤ (i 0).val then Xblk fs wd k.val i else f i)
        = (fun i : S512x128.Idx => if 512 - n ≤ (i 0).val then Xblk fs wd k.val i
            else (fun i : S512x128.Idx => if (i 0).val = 511 - n then Xblk fs wd k.val i else f i) i) := by
      funext i
      by_cases h1 : 512 - n ≤ (i 0).val
      · rw [if_pos h1, if_pos (by omega)]
      · by_cases h2 : (i 0).val = 511 - n
        · rw [if_neg h1, if_pos (by omega)]; exact (if_pos h2).symm
        · rw [if_neg h1, if_neg (by omega)]; exact (if_neg h2).symm
    rw [e]
    show _ ⊢ wp frame _ Set.univ (Prog.bind (rowProg mFeat mRows mWord t k k0_pay645 (511 - n) (by omega : 511 - n < 512)) fun _ => rows mFeat mRows mWord t k k0_pay645 K n) Q
    iintro ⟨⟨Hw, Hf, Hr⟩, Hk⟩
    iapply (wp_rowProg c (fun _ => rows mFeat mRows mWord t k k0_pay645 K n) Q t k (511 - n) (Nat.lt_of_le_of_lt (Nat.sub_le _ _) (by decide)) fs wd (hwd _ (by omega)) f)
    isplitl [Hw]; · iexact Hw
    isplitl [Hf]; · iexact Hf
    isplitl [Hr]; · iexact Hr
    iintro H
    iapply (ih (by omega) _)
    isplitl [H]; · iexact H
    iexact Hk

/-- The weights of offset `k`, a band of 128 rows. -/
def Wblk (wf : S3456x32.Idx → F .f32) (k : ℕ) : S128x32.Idx → F .f32 :=
  fun i => if h : 128 * k + (i 0).val < 3456 then wf (ix2 ⟨128 * k + (i 0).val, h⟩ (i 1)) else Zf

/-- The accumulator after `k` offsets. -/
def accAt (fs : S50008x1x128.Idx → F .f32) (wd : ℕ → BitVec 32) (wf : S3456x32.Idx → F .f32) : ℕ → S512x32.Idx → F .f32
  | 0 => fun _ => Zf
  | k + 1 => addf (φ := .f32) (accAt fs wd wf k) (matmul (F := F) dot_S512x128_S128x32_S512x32_1_0_0_1_n_n none (Xblk fs wd k) (Wblk wf k) (constant S512x32 .f32 0x00000000#32))

/-- The elements of slot `p` of the accumulators. -/
def aslot (p : ℕ) : Finset S2x512x32.Idx := Finset.univ.filter fun i => (i 0).val = p

/-- Row and column of an index of one slot's block. -/
def slabIx (i : S1x512x32.Idx) : S512x32.Idx := ix2 (i 1) (i 2)
/-- Row and column of an index of the accumulators. -/
def accIx (i : S2x512x32.Idx) : S512x32.Idx := ix2 (i 1) (i 2)

/-- The accumulators' contents when each slot holds `A`. -/
def abuf (A : S512x32.Idx → F .f32) : S2x512x32.Idx → F .f32 := fun i => A (accIx i)

theorem off1550_at (t : Fin k0_t1_loop.trips) : k0_off1550 t = ![t.val % 2, 0, 0] := k0_off1550_eq t

/-- A load of one slot of the accumulators reads within that slot. -/
theorem aslot_sub {off : Fin 3 → ℕ} (inb : ∀ a, off a + S1x512x32.size a ≤ S2x512x32.size a) {p : ℕ} (h : off = ![p, 0, 0]) :
    (Rect.unit (s := S2x512x32) off S1x512x32.size inb).set = aslot p := by
  subst h
  ext i
  rw [Rect.mem_set_unit]
  simp only [aslot, Finset.mem_filter, Finset.mem_univ, true_and]
  have h1 : (i 1).val < 512 := (i 1).isLt
  have h2 : (i 2).val < 32 := (i 2).isLt
  constructor
  · intro h
    have h3 : p ≤ (i 0).val ∧ (i 0).val < p + 1 := h 0
    omega
  · intro h a
    fin_cases a
    · show p ≤ (i 0).val ∧ (i 0).val < p + 1; omega
    · show 0 ≤ (i 1).val ∧ (i 1).val < 0 + 512; omega
    · show 0 ≤ (i 2).val ∧ (i 2).val < 0 + 32; omega

theorem acc_loadset {off : Fin 3 → ℕ} (inb : ∀ a, off a + S1x512x32.size a ≤ S2x512x32.size a) {p : ℕ} (h : off = ![p, 0, 0]) :
    mAcc.view.setOn (Rect.unit (s := S2x512x32) off S1x512x32.size inb).toLoadRect.set ⊆ aslot p := by
  intro i hi
  have hi' : i ∈ ((View.whole cc0_scratch2).slice (Rect.unit (s := S2x512x32) off S1x512x32.size inb)).set := by rw [View.set_slice]; exact hi
  rw [View.set_slice_whole] at hi'
  exact aslot_sub inb h ▸ hi'

theorem acc_storeset {off : Fin 3 → ℕ} (inb : ∀ a, off a + S1x512x32.size a ≤ S2x512x32.size a) {p : ℕ} (h : off = ![p, 0, 0]) :
    (mAcc.access (Rect.unit (s := S2x512x32) off S1x512x32.size inb)).setOn Finset.univ ⊆ aslot p := by
  intro i hi
  rw [View.setOn_univ] at hi
  have hi' : i ∈ ((View.whole cc0_scratch2).slice (Rect.unit (s := S2x512x32) off S1x512x32.size inb)).set := hi
  rw [View.set_slice_whole] at hi'
  exact aslot_sub inb h ▸ hi'

/-- What a load of slot `p` reads when the slot holds `A`. -/
theorem acc_read {off : Fin 3 → ℕ} (inb : ∀ a, off a + S1x512x32.size a ≤ S2x512x32.size a) {p : ℕ} (h : off = ![p, 0, 0]) (A : S512x32.Idx → F .f32) :
    mAcc.view.readAt (Elt F) (Rect.unit (s := S2x512x32) off S1x512x32.size inb).toLoadRect (abuf A)
      = (fun i : S1x512x32.Idx => A (slabIx i)) := by
  subst h
  funext i
  have h1 := ValueKit.view_emb_slice_whole_unit_val cc0_scratch2 _ _ inb i 1
  have h2 := ValueKit.view_emb_slice_whole_unit_val cc0_scratch2 _ _ inb i 2
  show A (ix2 _ _) = A (ix2 _ _)
  congr 2
  · apply Fin.ext; refine h1.trans ?_; show 0 + (i 1).val = _; omega
  · apply Fin.ext; refine h2.trans ?_; show 0 + (i 2).val = _; omega

/-- A store of `A` into slot `p` leaves the slot holding `A`. -/
theorem acc_write {off : Fin 3 → ℕ} (inb : ∀ a, off a + S1x512x32.size a ≤ S2x512x32.size a) {p : ℕ} (h : off = ![p, 0, 0]) (A : S512x32.Idx → F .f32)
    (f : S2x512x32.Idx → F .f32) (i : S2x512x32.Idx) (hi : i ∈ aslot p) :
    (mAcc.access (Rect.unit (s := S2x512x32) off S1x512x32.size inb)).write (Elt F) f (fun j : S1x512x32.Idx => A (slabIx j)) Finset.univ i = abuf A i := by
  subst h
  simp only [aslot, Finset.mem_filter, Finset.mem_univ, true_and] at hi
  have he : i = (mAcc.access (Rect.unit (s := S2x512x32) ![p, 0, 0] S1x512x32.size inb)).emb (ix3 (0 : Fin 1) (i 1) (i 2) : S1x512x32.Idx) := by
    funext a
    apply Fin.ext
    refine Eq.trans ?_ (ValueKit.view_emb_slice_whole_unit_val cc0_scratch2 _ _ inb _ a).symm
    fin_cases a
    · show (i 0).val = p + 0; omega
    · show (i 1).val = 0 + (i 1).val; omega
    · show (i 2).val = 0 + (i 2).val; omega
  refine (congrArg ((mAcc.access (Rect.unit (s := S2x512x32) ![p, 0, 0] S1x512x32.size inb)).write (Elt F) f _ Finset.univ) he).trans ?_
  exact View.write_emb_of_mem _ _ (Finset.mem_univ _)

theorem pay642_eq (A : S512x32.Idx → F .f32) (X : S512x128.Idx → F .f32) (w : S128x32.Idx → F .f32) :
    k0_pay646 (k0_pay642 (F := F) (shapeCast S128x32 w shapeCasts_S128x32_S128x32) (fun i : S1x512x32.Idx => A (slabIx i)) X)
      = fun j : S1x512x32.Idx => (addf (φ := .f32) A (matmul (F := F) dot_S512x128_S128x32_S512x32_1_0_0_1_n_n none X w (constant S512x32 .f32 0x00000000#32))) (slabIx j) := by
  have hA : shapeCast S512x32 (fun i : S1x512x32.Idx => A (slabIx i)) shapeCasts_S1x512x32_S512x32 = A := by
    funext i
    refine (shapeCast_apply _ _ i (ix3 (0 : Fin 1) (i 0) (i 1)) (by
      rw [Shape.rowMajor_val_three, Shape.rowMajor_val_two]
      show (0 * 512 + (i 0).val) * 32 + (i 1).val = (i 0).val * 32 + (i 1).val
      omega)).trans ?_
    exact congrArg A (eq_ix2 i).symm
  funext j
  unfold k0_pay646 k0_pay642
  rw [shapeCast_self, hA]
  refine (shapeCast_apply _ _ j (slabIx j) (by
      rw [Shape.rowMajor_val_three, Shape.rowMajor_val_two]
      have h0 : (j 0).val = 0 := by have := (j 0).isLt; change (j 0).val < 1 at this; omega
      show (j 1).val * 32 + (j 2).val = ((j 0).val * 512 + (j 1).val) * 32 + (j 2).val
      rw [h0]; omega)).trans rfl

/-- What a load of the offset's weights reads. -/
theorem w_read (wf : S3456x32.Idx → F .f32) (k : Fin k0_t2_loop.trips) :
    mW.view.readAt (Elt F) (Rect.unit (s := S3456x32) (k0_off13 k) S128x32.size (k0_off13_inb k)).toLoadRect wf = Wblk wf k.val := by
  funext i
  have hk : k.val < 27 := k.isLt
  have h0 : (i 0).val < 128 := (i 0).isLt
  have e0 : k0_off13 k 0 = 128 * k.val := by rw [k0_off13_eq]; rfl
  have e1 : k0_off13 k 1 = 0 := by rw [k0_off13_eq]; rfl
  have h1 := ValueKit.view_emb_slice_whole_unit_val cc0_stg0_0 _ _ (k0_off13_inb k) i
  unfold Wblk
  rw [dif_pos (by omega)]
  show wf _ = wf _
  congr 1
  funext a
  apply Fin.ext
  refine (h1 a).trans ?_
  fin_cases a
  · show k0_off13 k 0 + (i 0).val = _; rw [e0]; rfl
  · show k0_off13 k 1 + (i 1).val = _; rw [e1]; show 0 + (i 1).val = (i 1).val; omega

/-- What a load of the whole gathered block reads. -/
theorem rows_read (X : S512x128.Idx → F .f32) :
    mRows.view.readAt (Elt F) (Rect.unit (s := S512x128) ![0, 0] S512x128.size inb_S512x128_S512x128_0_0).toLoadRect X = X := by
  funext i
  have h1 := ValueKit.view_emb_slice_whole_unit_val cc0_scratch1 _ _ inb_S512x128_S512x128_0_0 i
  show X _ = X _
  congr 1
  funext a
  apply Fin.ext
  refine (h1 a).trans ?_
  fin_cases a
  · show 0 + (i 0).val = (i 0).val; omega
  · show 0 + (i 1).val = (i 1).val; omega

/-- What the inner loop keeps before offset `k`. -/
abbrev innerInv (c : Dev nD) (p : ℕ) (fs : S50008x1x128.Idx → F .f32) (wd : ℕ → BitVec 32) (wf : S3456x32.Idx → F .f32) (k : ℕ) : sProp 𝕄 :=
  iprop((∃ f : S512x128.Idx → F .f32, rowRes c p fs wd f) ∗ (mW.view.loc (c : Thread nD τ) ↦{fullShare} wf)
    ∗ (mAcc.view.loc (c : Thread nD τ) ↦[aslot p]{fullShare} abuf (accAt fs wd wf k)))

/-- One offset: the slot's accumulator gains the product of the gathered block and the offset's weights. -/
theorem inner_step (c : Dev nD) (i : grid0.Coords) (arg0 c0 c1 : BitVec 32) (t : Fin k0_t1_loop.trips) (v26 : BitVec 32)
    (fs : S50008x1x128.Idx → F .f32) (wd : ℕ → BitVec 32) (hwd : ∀ q, q < 13824 → (wd q).toNat < 50008) (wf : S3456x32.Idx → F .f32)
    (k : Fin k0_t2_loop.trips) (u : Unit) :
    innerInv c (t.val % 2) fs wd wf k.val ⊢ wp frame (wpE (defs₀ (F := F)) Variants.none (c : Thread nD τ) none) Set.univ
      (innerBody (F := F) i arg0 c0 c1 t v26 k u) (fun _ => innerInv c (t.val % 2) fs wd wf (k.val + 1)) := by
  rw [innerBody_eq]
  iintro ⟨⟨%f, Hr⟩, Hw, Ha⟩
  iapply (wp_load (Val := Elt F) Variants.none (c : Thread nD τ) none Set.univ (m := mW) (Finset.subset_univ _)) $$ Hw
  iintro Hw
  rw [w_read]
  iapply (wp_rows c (accTail t (Wblk wf k.val)) _ t k fs wd hwd 512 le_rfl f)
  isplitl [Hr]; · iexact Hr
  have e : (fun i : S512x128.Idx => if 512 - 512 ≤ (i 0).val then Xblk fs wd k.val i else f i) = Xblk fs wd k.val := by
    funext i; exact if_pos (by omega)
  rw [e]
  iintro ⟨H1, H2, Hx⟩
  unfold accTail
  iapply (wp_load (Val := Elt F) Variants.none (c : Thread nD τ) none Set.univ (m := mAcc) (acc_loadset _ (k0_off1550_eq t))) $$ Ha
  iintro Ha
  rw [acc_read _ (k0_off1550_eq t)]
  iapply (wp_load (Val := Elt F) Variants.none (c : Thread nD τ) none Set.univ (m := mRows) (Finset.subset_univ _)) $$ Hx
  iintro Hx
  rw [rows_read]
  iapply (wp_load (Val := Elt F) Variants.none (c : Thread nD τ) none Set.univ (m := mAcc) (acc_loadset _ (k0_off1550_eq t))) $$ Ha
  iintro Ha
  rw [pay642_eq]
  iapply (wp_store (Val := Elt F) Variants.none (c : Thread nD τ) none Set.univ (m := mAcc)
    (r := Rect.unit (s := S2x512x32) (k0_off1550 t) S1x512x32.size (k0_off1550_inb t)) (Mk := Finset.univ) (acc_storeset _ (k0_off1550_eq t))) $$ Ha
  iintro Ha
  rw [wp_ret]
  imodintro
  isplitl [H1 H2 Hx]
  · iexists (Xblk fs wd k.val)
    isplitl [H1]; · iexact H1
    isplitl [H2]; · iexact H2
    iexact Hx
  isplitl [Hw]; · iexact Hw
  have e2 : ((mAcc.view.loc (c : Thread nD τ)) ↦[aslot (t.val % 2)]{fullShare} _ : sProp 𝕄) = _ :=
    pointsTo_congr (fun j hj => acc_write (k0_off1550_inb t) (k0_off1550_eq t) (accAt fs wd wf (k.val + 1)) (abuf (accAt fs wd wf k.val)) j hj)
  iapply (BI.BIBase.Entails.of_eq e2)
  iexact Ha

end Cert.Proof.KernelIdeal
-- ==== Proof.ConvDma.lean ====
module
public import proofs.«01_k».proof.Proof.InnerLoop
@[expose] public section
noncomputable section
namespace Cert.Proof.KernelIdeal
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F]

local notation "𝕄" => MT nD τ sig Unit (Elt F) ℕ (Pipeline.UD sig nD τ) ℕ

/-- The windows that the kernel's copies name. -/
abbrev ilxM (off : Fin 2 → ℕ) (inb : ∀ a, off a + S1x27648.size a ≤ S782x27648.size a) : Memref sig .tc .hbm S27648 .i32 :=
  (mIlx.slice (Rect.unit (s := S782x27648) off S1x27648.size inb) (fun _ => rfl)).squeeze S27648 squeezes_S1x27648_S27648
abbrev wordM (off : Fin 1 → ℕ) (inb : ∀ a, off a + S27648.size a ≤ S55296.size a) : Memref sig .tc .smem S27648 .i32 :=
  mWord.slice (Rect.unit (s := S55296) off S27648.size inb) (fun _ => rfl)
abbrev accM (off : Fin 3 → ℕ) (inb : ∀ a, off a + S1x512x32.size a ≤ S2x512x32.size a) : Memref sig .tc .vmem S512x32 .f32 :=
  (mAcc.slice (Rect.unit (s := S2x512x32) off S1x512x32.size inb) (fun _ => rfl)).squeeze S512x32 squeezes_S1x512x32_S512x32
abbrev outM (off : Fin 3 → ℕ) (inb : ∀ a, off a + S1x512x32.size a ≤ S2x200192x32.size a) : Memref sig .tc .hbm S512x32 .f32 :=
  (mOut.slice (Rect.unit (s := S2x200192x32) off S1x512x32.size inb) (fun _ => rfl)).squeeze S512x32 squeezes_S1x512x32_S512x32
abbrev partM (off : Fin 3 → ℕ) (inb : ∀ a, off a + S1x8x32.size a ≤ S2x8x32.size a) : Memref sig .tc .hbm S8x32 .f32 :=
  (mPart.slice (Rect.unit (s := S2x8x32) off S1x8x32.size inb) (fun _ => rfl)).squeeze S8x32 squeezes_S1x8x32_S8x32
abbrev arrM (off : Fin 3 → ℕ) (inb : ∀ a, off a + S50008x1x128.size a ≤ S100016x1x128.size a) : Memref sig .tc .hbm S50008x1x128 .f32 :=
  mArr.slice (Rect.unit (s := S100016x1x128) off S50008x1x128.size inb) (fun _ => rfl)

/-- Row `n` of the words; tile `t` of half `b` of the result; half `b` of the sums; half `b` of the features. -/
def irow (n : ℕ) : Finset S782x27648.Idx := Finset.univ.filter fun i => (i 0).val = n
def orow (b t : ℕ) : Finset S2x200192x32.Idx := Finset.univ.filter fun i => (i 0).val = b ∧ (i 1).val / 512 = t
def prow (b : ℕ) : Finset S2x8x32.Idx := Finset.univ.filter fun i => (i 0).val = b
def arow (b : ℕ) : Finset S100016x1x128.Idx := Finset.univ.filter fun i => (i 0).val / 50008 = b

/-- The words of row `n`. -/
def rowW (x : S782x27648.Idx → BitVec 32) (n : ℕ) : ℕ → BitVec 32 :=
  fun q => if h : n < 782 ∧ q < 27648 then x (ix2 ⟨n, h.1⟩ ⟨q, h.2⟩) else 0#32
/-- Half `b` of the packed features. -/
def featHalf (x : S100016x1x128.Idx → F .f32) (b : ℕ) : S50008x1x128.Idx → F .f32 :=
  fun i => if h : 50008 * b + (i 0).val < 100016 then x (ix3 ⟨50008 * b + (i 0).val, h⟩ 0 (i 2)) else Zf
/-- Position of an element of the result within its tile, and of the sums within their half. -/
def oIx (i : S2x200192x32.Idx) : S512x32.Idx := ix2 ⟨(i 1).val % 512, Nat.mod_lt _ (by decide)⟩ (i 2)
def pIx (i : S2x8x32.Idx) : S8x32.Idx := ix2 (i 1) (i 2)

theorem sq2 (j : S27648.Idx) : Shape.reshapeEquiv (squeezes_S1x27648_S27648).numel_eq j = (ix2 (0 : Fin 1) (j 0) : S1x27648.Idx) := by
  refine Shape.reshapeEquiv_eq_of_rowMajor _ ?_
  rw [Shape.rowMajor_val_two, Shape.rowMajor_val_one]
  show 0 * 27648 + (j 0).val = (j 0).val; omega
theorem sq3 (j : S512x32.Idx) : Shape.reshapeEquiv (squeezes_S1x512x32_S512x32).numel_eq j = (ix3 (0 : Fin 1) (j 0) (j 1) : S1x512x32.Idx) := by
  refine Shape.reshapeEquiv_eq_of_rowMajor _ ?_
  rw [Shape.rowMajor_val_three, Shape.rowMajor_val_two]
  show (0 * 512 + (j 0).val) * 32 + (j 1).val = (j 0).val * 32 + (j 1).val; omega
theorem sq3p (j : S8x32.Idx) : Shape.reshapeEquiv (squeezes_S1x8x32_S8x32).numel_eq j = (ix3 (0 : Fin 1) (j 0) (j 1) : S1x8x32.Idx) := by
  refine Shape.reshapeEquiv_eq_of_rowMajor _ ?_
  rw [Shape.rowMajor_val_three, Shape.rowMajor_val_two]
  show (0 * 8 + (j 0).val) * 32 + (j 1).val = (j 0).val * 32 + (j 1).val; omega

/-! Where an element of a window lies in its buffer. -/
theorem ilxM_emb {off : Fin 2 → ℕ} (inb : ∀ a, off a + S1x27648.size a ≤ S782x27648.size a) (j : S27648.Idx) (a : Fin 2) :
    (((ilxM off inb).view.emb j : S782x27648.Idx) a).val = off a + ((ix2 (0 : Fin 1) (j 0) : S1x27648.Idx) a).val := by
  rw [← sq2 j]
  exact ValueKit.view_emb_slice_whole_unit_val main_v28 _ _ inb _ a
theorem wordM_emb {off : Fin 1 → ℕ} (inb : ∀ a, off a + S27648.size a ≤ S55296.size a) (j : S27648.Idx) (a : Fin 1) :
    (((wordM off inb).view.emb j : S55296.Idx) a).val = off a + (j a).val :=
  ValueKit.view_emb_slice_whole_unit_val cc0_scratch4 _ _ inb _ a
theorem accM_emb {off : Fin 3 → ℕ} (inb : ∀ a, off a + S1x512x32.size a ≤ S2x512x32.size a) (j : S512x32.Idx) (a : Fin 3) :
    (((accM off inb).view.emb j : S2x512x32.Idx) a).val = off a + ((ix3 (0 : Fin 1) (j 0) (j 1) : S1x512x32.Idx) a).val := by
  rw [← sq3 j]
  exact ValueKit.view_emb_slice_whole_unit_val cc0_scratch2 _ _ inb _ a
theorem outM_emb {off : Fin 3 → ℕ} (inb : ∀ a, off a + S1x512x32.size a ≤ S2x200192x32.size a) (j : S512x32.Idx) (a : Fin 3) :
    (((outM off inb).view.emb j : S2x200192x32.Idx) a).val = off a + ((ix3 (0 : Fin 1) (j 0) (j 1) : S1x512x32.Idx) a).val := by
  rw [← sq3 j]
  exact ValueKit.view_emb_slice_whole_unit_val main_v33_0 _ _ inb _ a
theorem partM_emb {off : Fin 3 → ℕ} (inb : ∀ a, off a + S1x8x32.size a ≤ S2x8x32.size a) (j : S8x32.Idx) (a : Fin 3) :
    (((partM off inb).view.emb j : S2x8x32.Idx) a).val = off a + ((ix3 (0 : Fin 1) (j 0) (j 1) : S1x8x32.Idx) a).val := by
  rw [← sq3p j]
  exact ValueKit.view_emb_slice_whole_unit_val main_v33_1 _ _ inb _ a
theorem arrM_emb {off : Fin 3 → ℕ} (inb : ∀ a, off a + S50008x1x128.size a ≤ S100016x1x128.size a) (j : S50008x1x128.Idx) (a : Fin 3) :
    (((arrM off inb).view.emb j : S100016x1x128.Idx) a).val = off a + (j a).val :=
  ValueKit.view_emb_slice_whole_unit_val main_v2 _ _ inb _ a

/-! The elements of each window. -/
theorem ilxM_set {off : Fin 2 → ℕ} (inb : ∀ a, off a + S1x27648.size a ≤ S782x27648.size a) {n : ℕ} (h : off = ![n, 0]) :
    (ilxM off inb).view.set = irow n := by
  subst h
  refine (View.set_reshape ..).trans ?_
  refine (View.set_slice_whole ..).trans ?_
  ext i
  rw [Rect.mem_set_unit]
  simp only [irow, Finset.mem_filter, Finset.mem_univ, true_and]
  have h1 : (i 1).val < 27648 := (i 1).isLt
  constructor
  · intro h
    have h3 : n ≤ (i 0).val ∧ (i 0).val < n + 1 := h 0
    omega
  · intro h a
    fin_cases a
    · show n ≤ (i 0).val ∧ (i 0).val < n + 1; omega
    · show 0 ≤ (i 1).val ∧ (i 1).val < 0 + 27648; omega
theorem wordM_set {off : Fin 1 → ℕ} (inb : ∀ a, off a + S27648.size a ≤ S55296.size a) {p : ℕ} (h : off = ![27648 * p]) :
    (wordM off inb).view.set = wslot p := by
  subst h
  refine (View.set_slice_whole ..).trans ?_
  ext i
  rw [Rect.mem_set_unit]
  simp only [wslot, Finset.mem_filter, Finset.mem_univ, true_and]
  constructor
  · intro h
    have h3 : 27648 * p ≤ (i 0).val ∧ (i 0).val < 27648 * p + 27648 := h 0
    omega
  · intro h a
    fin_cases a
    show 27648 * p ≤ (i 0).val ∧ (i 0).val < 27648 * p + 27648; omega
theorem accM_set {off : Fin 3 → ℕ} (inb : ∀ a, off a + S1x512x32.size a ≤ S2x512x32.size a) {p : ℕ} (h : off = ![p, 0, 0]) :
    (accM off inb).view.set = aslot p := by
  refine (View.set_reshape ..).trans ?_
  refine (View.set_slice_whole ..).trans ?_
  exact aslot_sub inb h
theorem outM_set {off : Fin 3 → ℕ} (inb : ∀ a, off a + S1x512x32.size a ≤ S2x200192x32.size a) {b t : ℕ} (h : off = ![b, 512 * t, 0]) :
    (outM off inb).view.set = orow b t := by
  subst h
  refine (View.set_reshape ..).trans ?_
  refine (View.set_slice_whole ..).trans ?_
  ext i
  rw [Rect.mem_set_unit]
  simp only [orow, Finset.mem_filter, Finset.mem_univ, true_and]
  have h2 : (i 2).val < 32 := (i 2).isLt
  constructor
  · intro h
    have h3 : b ≤ (i 0).val ∧ (i 0).val < b + 1 := h 0
    have h4 : 512 * t ≤ (i 1).val ∧ (i 1).val < 512 * t + 512 := h 1
    omega
  · intro h a
    fin_cases a
    · show b ≤ (i 0).val ∧ (i 0).val < b + 1; omega
    · show 512 * t ≤ (i 1).val ∧ (i 1).val < 512 * t + 512; omega
    · show 0 ≤ (i 2).val ∧ (i 2).val < 0 + 32; omega
theorem partM_set {off : Fin 3 → ℕ} (inb : ∀ a, off a + S1x8x32.size a ≤ S2x8x32.size a) {b : ℕ} (h : off = ![b, 0, 0]) :
    (partM off inb).view.set = prow b := by
  subst h
  refine (View.set_reshape ..).trans ?_
  refine (View.set_slice_whole ..).trans ?_
  ext i
  rw [Rect.mem_set_unit]
  simp only [prow, Finset.mem_filter, Finset.mem_univ, true_and]
  have h1 : (i 1).val < 8 := (i 1).isLt
  have h2 : (i 2).val < 32 := (i 2).isLt
  constructor
  · intro h
    have h3 : b ≤ (i 0).val ∧ (i 0).val < b + 1 := h 0
    omega
  · intro h a
    fin_cases a
    · show b ≤ (i 0).val ∧ (i 0).val < b + 1; omega
    · show 0 ≤ (i 1).val ∧ (i 1).val < 0 + 8; omega
    · show 0 ≤ (i 2).val ∧ (i 2).val < 0 + 32; omega

/-! What a copy reads from a window, and what it leaves in one. -/
theorem ilxM_read {off : Fin 2 → ℕ} (inb : ∀ a, off a + S1x27648.size a ≤ S782x27648.size a) {n : ℕ} (hn : n < 782) (h : off = ![n, 0]) (x : S782x27648.Idx → BitVec 32) :
    (ilxM off inb).view.read (Elt F) x = fun j : S27648.Idx => rowW x n (j 0).val := by
  subst h
  funext j
  have hj : (j 0).val < 27648 := (j 0).isLt
  rw [rowW, dif_pos ⟨hn, hj⟩]
  show x ((ilxM ![n, 0] inb).view.emb j) = _
  congr 1
  funext a
  apply Fin.ext
  refine (ilxM_emb inb j a).trans ?_
  fin_cases a
  · show n + 0 = n; omega
  · show 0 + (j 0).val = (j 0).val; omega

theorem wordM_write {off : Fin 1 → ℕ} (inb : ∀ a, off a + S27648.size a ≤ S55296.size a) {p : ℕ} (h : off = ![27648 * p]) (wd : ℕ → BitVec 32)
    (f : S55296.Idx → BitVec 32) (i : S55296.Idx) (hi : i ∈ wslot p) :
    (wordM off inb).view.write (Elt F) f (fun j : S27648.Idx => wd (j 0).val) Finset.univ i = wbuf wd i := by
  subst h
  simp only [wslot, Finset.mem_filter, Finset.mem_univ, true_and] at hi
  have he : i = (wordM ![27648 * p] inb).view.emb (ix1 ⟨(i 0).val % 27648, Nat.mod_lt _ (by decide)⟩ : S27648.Idx) := by
    funext a
    apply Fin.ext
    refine Eq.trans ?_ (wordM_emb inb _ a).symm
    fin_cases a
    show (i 0).val = 27648 * p + (i 0).val % 27648; omega
  refine (congrArg ((wordM ![27648 * p] inb).view.write (Elt F) f _ Finset.univ) he).trans ?_
  exact View.write_emb_of_mem _ _ (Finset.mem_univ _)

theorem accM_read {off : Fin 3 → ℕ} (inb : ∀ a, off a + S1x512x32.size a ≤ S2x512x32.size a) {p : ℕ} (h : off = ![p, 0, 0]) (A : S512x32.Idx → F .f32) :
    (accM off inb).view.read (Elt F) (abuf A) = A := by
  subst h
  funext j
  have h1 := accM_emb inb j 1
  have h2 := accM_emb inb j 2
  show A (ix2 _ _) = A j
  refine (congrArg A ?_).trans (congrArg A (eq_ix2 j).symm)
  congr 1
  · apply Fin.ext; refine h1.trans ?_; show 0 + (j 0).val = (j 0).val; omega
  · apply Fin.ext; refine h2.trans ?_; show 0 + (j 1).val = (j 1).val; omega

theorem outM_write {off : Fin 3 → ℕ} (inb : ∀ a, off a + S1x512x32.size a ≤ S2x200192x32.size a) {b t : ℕ} (h : off = ![b, 512 * t, 0]) (A : S512x32.Idx → F .f32)
    (f : S2x200192x32.Idx → F .f32) (i : S2x200192x32.Idx) (hi : i ∈ orow b t) :
    (outM off inb).view.write (Elt F) f A Finset.univ i = A (oIx i) := by
  subst h
  simp only [orow, Finset.mem_filter, Finset.mem_univ, true_and] at hi
  have he : i = (outM ![b, 512 * t, 0] inb).view.emb (oIx i) := by
    funext a
    apply Fin.ext
    refine Eq.trans ?_ (outM_emb inb _ a).symm
    fin_cases a
    · show (i 0).val = b + 0; omega
    · show (i 1).val = 512 * t + (i 1).val % 512; omega
    · show (i 2).val = 0 + (i 2).val; omega
  refine (congrArg ((outM ![b, 512 * t, 0] inb).view.write (Elt F) f _ Finset.univ) he).trans ?_
  exact View.write_emb_of_mem _ _ (Finset.mem_univ _)

theorem partM_write {off : Fin 3 → ℕ} (inb : ∀ a, off a + S1x8x32.size a ≤ S2x8x32.size a) {b : ℕ} (h : off = ![b, 0, 0]) (A : S8x32.Idx → F .f32)
    (f : S2x8x32.Idx → F .f32) (i : S2x8x32.Idx) (hi : i ∈ prow b) :
    (partM off inb).view.write (Elt F) f A Finset.univ i = A (pIx i) := by
  subst h
  simp only [prow, Finset.mem_filter, Finset.mem_univ, true_and] at hi
  have he : i = (partM ![b, 0, 0] inb).view.emb (pIx i) := by
    funext a
    apply Fin.ext
    refine Eq.trans ?_ (partM_emb inb _ a).symm
    fin_cases a
    · show (i 0).val = b + 0; omega
    · show (i 1).val = 0 + (i 1).val; omega
    · show (i 2).val = 0 + (i 2).val; omega
  refine (congrArg ((partM ![b, 0, 0] inb).view.write (Elt F) f _ Finset.univ) he).trans ?_
  exact View.write_emb_of_mem _ _ (Finset.mem_univ _)

theorem arrM_read {off : Fin 3 → ℕ} (inb : ∀ a, off a + S50008x1x128.size a ≤ S100016x1x128.size a) {b : ℕ} (hb : b < 2) (h : off = ![50008 * b, 0, 0])
    (x : S100016x1x128.Idx → F .f32) : (arrM off inb).view.read (Elt F) x = featHalf x b := by
  subst h
  funext j
  have hj : (j 0).val < 50008 := (j 0).isLt
  have hj1 : (j 1).val < 1 := (j 1).isLt
  rw [featHalf, dif_pos (by omega)]
  show x ((arrM ![50008 * b, 0, 0] inb).view.emb j) = _
  congr 1
  funext a
  apply Fin.ext
  refine (arrM_emb inb j a).trans ?_
  fin_cases a
  · rfl
  · show 0 + (j 1).val = 0; omega
  · show 0 + (j 2).val = (j 2).val; omega

/-! The semaphores that the copies signal. -/
theorem semI_eq {off : Fin 1 → ℕ} (inb : ∀ a, off a + S1.size a ≤ S2.size a) {p : ℕ} (hp : p < 2) (h : off = ![p]) :
    ((cc0_scratch6.slice (Rect.unit (s := S2) off S1.size inb)).squeeze S_ squeezes_S1_S_).sem = (⟨2 + p, by omega⟩ : Fin 14) := by
  subst h
  apply Fin.ext
  show 2 + (S2.rowMajor _).val = 2 + p
  rw [Shape.rowMajor_val_one]
  refine congrArg (2 + ·) ((ValueKit.rect_emb_unit_val _ _ inb _ 0).trans ?_)
  have one : ∀ x : Fin 1, p + x.val = p := fun x => by omega
  exact one _
theorem semO_eq {off : Fin 1 → ℕ} (inb : ∀ a, off a + S1.size a ≤ S2.size a) {p : ℕ} (hp : p < 2) (h : off = ![p]) :
    ((cc0_scratch7.slice (Rect.unit (s := S2) off S1.size inb)).squeeze S_ squeezes_S1_S_).sem = (⟨4 + p, by omega⟩ : Fin 14) := by
  subst h
  apply Fin.ext
  show 4 + (S2.rowMajor _).val = 4 + p
  rw [Shape.rowMajor_val_one]
  refine congrArg (4 + ·) ((ValueKit.rect_emb_unit_val _ _ inb _ 0).trans ?_)
  have one : ∀ x : Fin 1, p + x.val = p := fun x => by omega
  exact one _

end Cert.Proof.KernelIdeal
-- ==== Proof.OuterProg.lean ====
module
public import proofs.«01_k».proof.Proof.ConvDma
@[expose] public section
noncomputable section
namespace Cert.Proof.KernelIdeal
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F]

local notation "𝕄" => MT nD τ sig Unit (Elt F) ℕ (Pipeline.UD sig nD τ) ℕ

/-- Programs on a TensorCore of this kernel. -/
abbrev Pg (F : FTy → Type) [FloatOps F] (α : Type) := Prog (TpuEff nD τ sig (Elt F) Λ₀ .tc) α

/-- The semaphore of slot `off` of the word copies, and of the result copies. -/
abbrev semIM (off : Fin 1 → ℕ) (inb : ∀ a, off a + S1.size a ≤ S2.size a) : DmaSem sig :=
  ((cc0_scratch6.slice (Rect.unit (s := S2) off S1.size inb)).squeeze S_ squeezes_S1_S_).sem
abbrev semOM (off : Fin 1 → ℕ) (inb : ∀ a, off a + S1.size a ≤ S2.size a) : DmaSem sig :=
  ((cc0_scratch7.slice (Rect.unit (s := S2) off S1.size inb)).squeeze S_ squeezes_S1_S_).sem

variable (i : grid0.Coords) (ib : Fin k0_t1_loop.trips → Fin k0_t2_loop.trips → Unit → Pg F Unit) (t : Fin k0_t1_loop.trips)

/-- The tile's product: the slot is zeroed, the 27 offsets are added, the slot is read. -/
def tileProg : Pg F (Σ' (_ : BitVec 32), Vec F S1x512x32 .f32) :=
  .op (.load mAcc (Rect.unit (s := S2x512x32) (k0_off12 t) S1x512x32.size (k0_off12_inb t)).toLoadRect (View.loadsAt_vmem h_S1x512x32)) fun (_ : Vec F S1x512x32 .f32) =>
  .op (.store mAcc (Rect.unit (s := S2x512x32) (k0_off12 t) S1x512x32.size (k0_off12_inb t)) (k0_pay644 (F := F)) Finset.univ (View.stores_vmem_bits_univ h_S1x512x32 rfl) (.inl rfl)) fun _ =>
  Prog.bind (Scf.Loop.for k0_t2_loop k0_t2_ok ⟨⟩ (ib t)) fun _ =>
  .op (.load mAcc (Rect.unit (s := S2x512x32) (k0_off12 t) S1x512x32.size (k0_off12_inb t)).toLoadRect (View.loadsAt_vmem h_S1x512x32)) fun (v : Vec F S1x512x32 .f32) =>
  .ret ⟨Scf.iv 0#32 1#32 t, v⟩

/-- From the third tile on, the slot's last copy out is awaited. -/
def reclaimProg : Pg F (Σ' (_ : BitVec 32), Vec F S1x512x32 .f32) :=
  if h : k0_cond3 t = 1#1 then
    .op (.waitDma2 (semOM (k0_off9 t) (k0_off9_inb t h)) (accM (k0_off11 t) (k0_off11_inb t h)) (outM (k0_off10 i) (k0_off10_inb i t h))
      ((View.wordExact_bits rfl).reshape _ _) ((View.wordExact_bits rfl).reshape _ _)) fun _ => tileProg ib t
  else tileProg ib t

/-- While a tile is left, its words are asked for. -/
def prefetchProg : Pg F (Σ' (_ : BitVec 32), Vec F S1x512x32 .f32) :=
  if h : k0_cond2 t = 1#1 then
    .op (.enqueueDma (ilxM (k0_off8 i t) (k0_off8_inb i t h)) (.here (wordM (k0_off7 t) (k0_off7_inb t h))) (.dma (semIM (k0_off6 t) (k0_off6_inb t h)))
      ((View.wordExact_bits rfl).reshape _ _) (View.wordExact_bits rfl) ⟨Or.inl rfl, trivial⟩) fun _ => reclaimProg i ib t
  else reclaimProg i ib t

/-- The tile's words are awaited. -/
def awaitProg : Pg F (Σ' (_ : BitVec 32), Vec F S1x512x32 .f32) :=
  .op (.waitDma2 (semIM (k0_off3 t) (k0_off3_inb t)) (ilxM (k0_off5 i t) (k0_off5_inb i t)) (wordM (k0_off4 t) (k0_off4_inb t))
    ((View.wordExact_bits rfl).reshape _ _) (View.wordExact_bits rfl)) fun _ => prefetchProg i ib t

/-- On the first tile the sums are zeroed. -/
def zeroProg : Pg F (Σ' (_ : BitVec 32), Vec F S1x512x32 .f32) :=
  if _h : Scalar.cmpi .ne (Scalar.extui (Scalar.cmpi .eq (Scf.iv 0#32 1#32 t) 0#32) : BitVec 32) 0#32 = 1#1 then
    .op (.load mSum (Rect.unit (s := S8x32) ![0, 0] S8x32.size inb_S8x32_S8x32_0_0).toLoadRect (View.loadsAt_vmem h_S8x32)) fun (_ : Vec F S8x32 .f32) =>
    .op (.store mSum (Rect.unit (s := S8x32) ![0, 0] S8x32.size inb_S8x32_S8x32_0_0) (k0_pay643 (F := F)) Finset.univ (View.stores_vmem_bits_univ h_S8x32 rfl) (.inl rfl)) fun _ =>
    awaitProg i ib t
  else awaitProg i ib t

/-- The tile's sums are added and its copy out is started. -/
def sumProg (x : Σ' (_ : BitVec 32), Vec F S1x512x32 .f32) : Pg F Unit :=
  .op (.load mSum (Rect.unit (s := S8x32) ![0, 0] S1x32.size inb_S8x32_S1x32_0_0).toLoadRect (View.loadsAt_vmem h_S1x32)) fun (v58 : Vec F S1x32 .f32) =>
  .op (.load mSum (Rect.unit (s := S8x32) ![0, 0] S1x32.size inb_S8x32_S1x32_0_0).toLoadRect (View.loadsAt_vmem h_S1x32)) fun (_ : Vec F S1x32 .f32) =>
  .op (.store mSum (Rect.unit (s := S8x32) ![0, 0] S1x32.size inb_S8x32_S1x32_0_0) (k0_pay648 x.2 v58) Finset.univ (View.stores_vmem_bits_univ h_S1x32 rfl) (.inl rfl)) fun _ =>
  .op (.load mSum (Rect.unit (s := S8x32) ![1, 0] S1x32.size inb_S8x32_S1x32_1_0).toLoadRect (View.loadsAt_vmem h_S1x32)) fun (v65 : Vec F S1x32 .f32) =>
  .op (.load mSum (Rect.unit (s := S8x32) ![1, 0] S1x32.size inb_S8x32_S1x32_1_0).toLoadRect (View.loadsAt_vmem h_S1x32)) fun (_ : Vec F S1x32 .f32) =>
  .op (.store mSum (Rect.unit (s := S8x32) ![1, 0] S1x32.size inb_S8x32_S1x32_1_0) (k0_pay649 x.2 v65) Finset.univ (View.stores_vmem_bits_univ h_S1x32 rfl) (.inl rfl)) fun _ =>
  .op (.enqueueDma (accM (k0_off1552 t) (k0_off1552_inb t)) (.here (outM (k0_off1551 i t) (k0_off1551_inb i t))) (.dma (semOM (k0_off3 t) (k0_off3_inb t)))
    ((View.wordExact_bits rfl).reshape _ _) ((View.wordExact_bits rfl).reshape _ _) ⟨Or.inl rfl, trivial⟩) fun _ => .ret ⟨⟩

/-- One tile. -/
def outerBody (_ : Unit) : Pg F Unit := Prog.bind (zeroProg i ib t) (sumProg i t)

/-- One half: its features and first words are asked for, the tiles run, the last copies are awaited, its sums' copy out is started. -/
def halfProg : Pg F PUnit :=
  .op (.enqueueDma (arrM (k0_off1 i) (k0_off1_inb i)) (.here mFeat) (.dma cc0_scratch5.sem) (View.wordExact_bits rfl) (Memref.isWhole_whole _).wordExact ⟨Or.inl rfl, trivial⟩) fun _ =>
  .op (.enqueueDma (ilxM (k0_off2 i) (k0_off2_inb i)) (.here (wordM ![0] inb_S55296_S27648_0)) (.dma (semIM ![0] inb_S2_S1_0))
    ((View.wordExact_bits rfl).reshape _ _) (View.wordExact_bits rfl) ⟨Or.inl rfl, trivial⟩) fun _ =>
  .op (.waitDma2 cc0_scratch5.sem (arrM (k0_off1 i) (k0_off1_inb i)) mFeat (View.wordExact_bits rfl) (Memref.isWhole_whole _).wordExact) fun _ =>
  Prog.bind (Scf.Loop.for k0_t1_loop k0_t1_ok ⟨⟩ (outerBody i ib)) fun _ =>
  .op (.waitDma2 (semOM ![0] inb_S2_S1_0) (accM ![0, 0, 0] inb_S2x512x32_S1x512x32_0_0_0) (outM (k0_off1553 i) (k0_off1553_inb i))
    ((View.wordExact_bits rfl).reshape _ _) ((View.wordExact_bits rfl).reshape _ _)) fun _ =>
  .op (.waitDma2 (semOM ![1] inb_S2_S1_1) (accM ![1, 0, 0] inb_S2x512x32_S1x512x32_1_0_0) (outM (k0_off1553 i) (k0_off1553_inb i))
    ((View.wordExact_bits rfl).reshape _ _) ((View.wordExact_bits rfl).reshape _ _)) fun _ =>
  .op (.enqueueDma mSum (.here (partM (k0_off1554 i) (k0_off1554_inb i))) (.dma cc0_scratch8.sem) (Memref.isWhole_whole _).wordExact ((View.wordExact_bits rfl).reshape _ _) ⟨Or.inl rfl, trivial⟩) fun _ => .ret ⟨⟩

/-- One half, its sums' copy out awaited. -/
def convProg : Pg F PUnit :=
  Prog.bind (halfProg i ib) fun _ =>
  .op (.waitDma2 cc0_scratch8.sem mSum (partM (k0_off1554 i) (k0_off1554_inb i)) (Memref.isWhole_whole _).wordExact ((View.wordExact_bits rfl).reshape _ _)) fun _ => .ret ⟨⟩

/-- The inner loop's body of tile `t`. -/
abbrev innerOf : Fin k0_t2_loop.trips → Unit → Pg F Unit :=
  innerBody (F := F) i (BitVec.ofNat 32 (i 0).val) 0#32 1#32 t (Scalar.remsi (Scf.iv 0#32 1#32 t) 2#32)

set_option maxRecDepth 100000 in
/-- The statements up to the tile's product are this program. -/
theorem zeroProg_eq (t : Fin k0_t1_loop.trips) : k0_part201 (F := F) i mIlx (Memref.isWhole_whole _) mArr (Memref.isWhole_whole _) mW (Memref.isWhole_whole _) mOut (Memref.isWhole_whole _)
    mPart (Memref.isWhole_whole _) mFeat (Memref.isWhole_whole _) mRows (Memref.isWhole_whole _) mAcc (Memref.isWhole_whole _) mSum (Memref.isWhole_whole _)
    mWord (Memref.isWhole_whole _) cc0_scratch5 cc0_scratch6 cc0_scratch7 cc0_scratch8 (BitVec.ofNat 32 (i 0).val) 0#32 1#32 t = zeroProg i (innerOf i) t := by
  rw [k0_part201_eq_skeleton]
  unfold k0_part201_skel zeroProg
  rfl

/-- The outer loop's body is this program. -/
theorem outerBody_eq : k0_t1_body (F := F) i mIlx (Memref.isWhole_whole _) mArr (Memref.isWhole_whole _) mW (Memref.isWhole_whole _) mOut (Memref.isWhole_whole _)
    mPart (Memref.isWhole_whole _) mFeat (Memref.isWhole_whole _) mRows (Memref.isWhole_whole _) mAcc (Memref.isWhole_whole _) mSum (Memref.isWhole_whole _)
    mWord (Memref.isWhole_whole _) cc0_scratch5 cc0_scratch6 cc0_scratch7 cc0_scratch8 (BitVec.ofNat 32 (i 0).val) = outerBody i (innerOf i) := by
  funext t u
  unfold k0_t1_body outerBody
  rw [← zeroProg_eq]
  rfl

set_option maxRecDepth 100000 in
/-- The kernel is this program. -/
theorem convProg_eq : cc0__conv_kernel (F := F) i mIlx (Memref.isWhole_whole _) mArr (Memref.isWhole_whole _) mW (Memref.isWhole_whole _) mOut (Memref.isWhole_whole _)
    mPart (Memref.isWhole_whole _) mFeat (Memref.isWhole_whole _) mRows (Memref.isWhole_whole _) mAcc (Memref.isWhole_whole _) mSum (Memref.isWhole_whole _)
    mWord (Memref.isWhole_whole _) cc0_scratch5 cc0_scratch6 cc0_scratch7 cc0_scratch8 = convProg i (innerOf i) := by
  rw [cc0__conv_kernel_eq_skeleton]
  unfold cc0__conv_kernel_skel
  rw [k0_part202_eq_skeleton]
  unfold k0_part202_skel convProg halfProg
  rw [← outerBody_eq]
  rfl

end Cert.Proof.KernelIdeal
-- ==== Proof.ConvCopies.lean ====
module
public import proofs.«01_k».proof.Proof.OuterProg
@[expose] public section
noncomputable section
namespace Cert.Proof.KernelIdeal
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F]

local notation "𝕄" => MT nD τ sig Unit (Elt F) ℕ (Pipeline.UD sig nD τ) ℕ

/-- Where the copies' invariants take their tokens from. -/
abbrev EC : UEmb Counters (MT nD τ sig Unit (Elt F) ℕ (Pipeline.UD sig nD τ) ℕ) :=
  (UEmb.inr : UEmb Counters (Pipeline.UD sig nD τ)).trans uEmb

/-- What holds of a program run on core `c`. -/
abbrev wpC {α : Type} (c : Dev nD) (P : Pg F α) (Q : α → sProp 𝕄) : sProp 𝕄 :=
  wp frame (wpE (defs₀ (F := F)) Variants.none (c : Thread nD τ) none) Set.univ P Q

/-- The semaphores: the features', the words' two, the result's two, the sums'. -/
abbrev sF : DmaSem sig := (⟨1, by decide⟩ : Fin 14)
abbrev sI (p : ℕ) : DmaSem sig := (⟨2 + p % 2, by omega⟩ : Fin 14)
abbrev sO (p : ℕ) : DmaSem sig := (⟨4 + p % 2, by omega⟩ : Fin 14)
abbrev sP : DmaSem sig := (⟨6, by decide⟩ : Fin 14)

/-- What a copy of each kind counts on its semaphore. -/
abbrev NF : ℕ := mFeat.view.dmaCredit
abbrev NI : ℕ := (wordM ![0] inb_S55296_S27648_0).view.dmaCredit
abbrev NO : ℕ := (outM ![0, 0, 0] (by decide)).view.dmaCredit
abbrev NP : ℕ := (partM ![0, 0, 0] (by decide)).view.dmaCredit

abbrev ow (c : Dev nD) : sProp 𝕄 := iprop(∃ W, owes (c : Thread nD τ) (0 : CellTallies nD τ sig Unit) W)
abbrev fl (c : Dev nD) (s : DmaSem sig) (N : ℕ) (D : sProp 𝕄) : sProp 𝕄 := Transfers.Flight EC (c : Thread nD τ) (.dma s) () N D
abbrev sv (c : Dev nD) (s : DmaSem sig) : sProp 𝕄 := semVal ((c : Thread nD τ), .dma s) 0

/-- Held elements of the buffers. -/
abbrev pIlx (c : Dev nD) (I : Finset S782x27648.Idx) (x : S782x27648.Idx → BitVec 32) : sProp 𝕄 := (mIlx.view.loc (c : Thread nD τ)) ↦[I]{fullShare} x
abbrev pWord (c : Dev nD) (I : Finset S55296.Idx) (x : S55296.Idx → BitVec 32) : sProp 𝕄 := (mWord.view.loc (c : Thread nD τ)) ↦[I]{fullShare} x
abbrev pAcc (c : Dev nD) (I : Finset S2x512x32.Idx) (x : S2x512x32.Idx → F .f32) : sProp 𝕄 := (mAcc.view.loc (c : Thread nD τ)) ↦[I]{fullShare} x
abbrev pOut (c : Dev nD) (I : Finset S2x200192x32.Idx) (x : S2x200192x32.Idx → F .f32) : sProp 𝕄 := (mOut.view.loc (c : Thread nD τ)) ↦[I]{fullShare} x
abbrev pPart (c : Dev nD) (I : Finset S2x8x32.Idx) (x : S2x8x32.Idx → F .f32) : sProp 𝕄 := (mPart.view.loc (c : Thread nD τ)) ↦[I]{fullShare} x
abbrev pArr (c : Dev nD) (I : Finset S100016x1x128.Idx) (x : S100016x1x128.Idx → F .f32) : sProp 𝕄 := (mArr.view.loc (c : Thread nD τ)) ↦[I]{fullShare} x

/-- The words of row `n` are asked for into slot `p`. -/
theorem dma_idx (c : Dev nD) {α : Type} {off : Fin 2 → ℕ} {inb : ∀ a, off a + S1x27648.size a ≤ S782x27648.size a} {off' : Fin 1 → ℕ}
    {inb' : ∀ a, off' a + S27648.size a ≤ S55296.size a} {sem : DmaSem sig} {n p : ℕ} (hn : n < 782) (h : off = ![n, 0]) (h' : off' = ![27648 * (p % 2)])
    (hs : sem = sI p) {h1 : (ilxM off inb).view.WordExact} {h2 : (wordM off' inb').view.WordExact} {h3 : DmaTarget.Typed (nD := nD) (τ := τ) (p := .tc) .hbm (.dma sem) (.here (wordM off' inb'))}
    {k : PUnit → Pg F α} {Q : α → sProp 𝕄} (x : S782x27648.Idx → BitVec 32) :
    iprop(pIlx c (irow n) x ∗ (∃ f, pWord c (wslot (p % 2)) f) ∗ sv c (sI p))
      ⊢ iprop((fl c (sI p) NI iprop(pWord c (wslot (p % 2)) (wbuf (rowW x n)) ∗ pIlx c (irow n) x) -∗ wpC c (k ⟨⟩) Q)
          -∗ wpC c (.op (.enqueueDma (ilxM off inb) (.here (wordM off' inb')) (.dma sem) h1 h2 h3) k) Q) := by
  subst hs
  iintro ⟨Hx, ⟨%f, Hw⟩, Hs⟩ Hk
  have e1 : pIlx (F := F) c (irow n) x = ((ilxM off inb).view.loc (c : Thread nD τ) ↦[(ilxM off inb).view.set]{fullShare} x : sProp 𝕄) := by
    rw [ilxM_set inb h]
  have hsub : (wordM off' inb').view.set ⊆ wslot (p % 2) := (wordM_set inb' h').subset
  iapply (Transfers.wp_dmaLocal (EC (F := F)) Variants.none (c : Thread nD τ) none (src := ilxM off inb) (dst := wordM off' inb')
    (sm := .dma (sI p)) (fs := x) (fd := f) () NI rfl (View.dmaCredit_pos _ (by decide)) hsub) $$ [Hx Hw Hs]
  · isplitl [Hx]; · iapply (Entails.of_eq e1); iexact Hx
    isplitl [Hw]; · iexact Hw
    iexact Hs
  iintro Hf
  iapply Hk
  iapply (Transfers.Flight_mono EC (c : Thread nD τ) ?_) $$ Hf
  iintro ⟨Hw, Hx⟩
  have e2 : ((wordM off' inb').view.loc (c : Thread nD τ) ↦[wslot (p % 2)]{fullShare} ((wordM off' inb').view.write (Elt F) f (ReadAs.same.apply ((ilxM off inb).view.read (Elt F) x)) Finset.univ) : sProp 𝕄)
      = pWord c (wslot (p % 2)) (wbuf (rowW x n)) := by
    rw [ReadAs.apply_same, ilxM_read inb hn h]
    exact pointsTo_congr fun j hj => wordM_write inb' h' (rowW x n) f j hj
  isplitl [Hw]; · iapply (Entails.of_eq e2); iexact Hw
  iapply (Entails.of_eq e1.symm); iexact Hx

/-- The words in a slot are awaited. -/
theorem wait_idx (c : Dev nD) {α : Type} {off : Fin 2 → ℕ} {inb : ∀ a, off a + S1x27648.size a ≤ S782x27648.size a} {off' : Fin 1 → ℕ}
    {inb' : ∀ a, off' a + S27648.size a ≤ S55296.size a} {sem : DmaSem sig} {p : ℕ}
    (hs : sem = sI p) {h1 : (ilxM off inb).view.WordExact} {h2 : (wordM off' inb').view.WordExact}
    {k : PUnit → Pg F α} {Q : α → sProp 𝕄} {D : sProp 𝕄} :
    iprop(fl c (sI p) NI D ∗ ow c)
      ⊢ iprop((iprop(D ∗ sv c (sI p) ∗ ow c) -∗ wpC c (k ⟨⟩) Q)
          -∗ wpC c (.op (.waitDma2 sem (ilxM off inb) (wordM off' inb') h1 h2) k) Q) := by
  subst hs
  iintro ⟨Hf, %W, Ho⟩ Hk
  iapply (Transfers.wp_waitLocal (EC (F := F)) Variants.none (c : Thread nD τ) none (srcw := ilxM off inb) (dstw := wordM off' inb') () (N := NI) rfl) $$ [Hf Ho]
  · isplitl [Hf] <;> iassumption
  iintro ⟨HD, Hs, Ho⟩
  iapply Hk
  isplitl [HD]; · iexact HD
  isplitl [Hs]; · iexact Hs
  iexists _; iexact Ho

/-- Tile `t` of half `b` is copied out of slot `p`. -/
theorem dma_out (c : Dev nD) {α : Type} {off : Fin 3 → ℕ} {inb : ∀ a, off a + S1x512x32.size a ≤ S2x512x32.size a} {off' : Fin 3 → ℕ}
    {inb' : ∀ a, off' a + S1x512x32.size a ≤ S2x200192x32.size a} {sem : DmaSem sig} {p b t : ℕ} (h : off = ![p % 2, 0, 0]) (h' : off' = ![b, 512 * t, 0])
    (hs : sem = sO p) {h1 : (accM off inb).view.WordExact} {h2 : (outM off' inb').view.WordExact} {h3 : DmaTarget.Typed (nD := nD) (τ := τ) (p := .tc) .vmem (.dma sem) (.here (outM off' inb'))}
    {k : PUnit → Pg F α} {Q : α → sProp 𝕄} (A : S512x32.Idx → F .f32) (O : S2x200192x32.Idx → F .f32) (hO : ∀ j ∈ orow b t, A (oIx j) = O j) (f : S2x200192x32.Idx → F .f32) :
    iprop(pAcc c (aslot (p % 2)) (abuf A) ∗ pOut c (orow b t) f ∗ sv c (sO p))
      ⊢ iprop((fl c (sO p) NO iprop(pOut c (orow b t) O ∗ ∃ f, pAcc c (aslot (p % 2)) f) -∗ wpC c (k ⟨⟩) Q)
          -∗ wpC c (.op (.enqueueDma (accM off inb) (.here (outM off' inb')) (.dma sem) h1 h2 h3) k) Q) := by
  subst hs
  iintro ⟨Hx, Hw, Hs⟩ Hk
  have e1 : pAcc (F := F) c (aslot (p % 2)) (abuf A) = ((accM off inb).view.loc (c : Thread nD τ) ↦[(accM off inb).view.set]{fullShare} (abuf A) : sProp 𝕄) := by
    rw [accM_set inb h]
  have hsub : (outM off' inb').view.set ⊆ orow b t := (outM_set inb' h').subset
  iapply (Transfers.wp_dmaLocal (EC (F := F)) Variants.none (c : Thread nD τ) none (src := accM off inb) (dst := outM off' inb')
    (sm := .dma (sO p)) (fs := abuf A) (fd := f) () NO rfl (View.dmaCredit_pos _ (by decide)) hsub) $$ [Hx Hw Hs]
  · isplitl [Hx]; · iapply (Entails.of_eq e1); iexact Hx
    isplitl [Hw]; · iexact Hw
    iexact Hs
  iintro Hf
  iapply Hk
  iapply (Transfers.Flight_mono EC (c : Thread nD τ) ?_) $$ Hf
  iintro ⟨Hw, Hx⟩
  have e2 : ((outM off' inb').view.loc (c : Thread nD τ) ↦[orow b t]{fullShare} ((outM off' inb').view.write (Elt F) f (ReadAs.same.apply ((accM off inb).view.read (Elt F) (abuf A))) Finset.univ) : sProp 𝕄)
      = pOut c (orow b t) O := by
    rw [ReadAs.apply_same, accM_read inb h]
    exact pointsTo_congr fun j hj => (outM_write inb' h' A f j hj).trans (hO j hj)
  isplitl [Hw]; · iapply (Entails.of_eq e2); iexact Hw
  iexists (abuf A)
  iapply (Entails.of_eq e1.symm); iexact Hx

/-- A tile's copy out is awaited. -/
theorem wait_out (c : Dev nD) {α : Type} {off : Fin 3 → ℕ} {inb : ∀ a, off a + S1x512x32.size a ≤ S2x512x32.size a} {off' : Fin 3 → ℕ}
    {inb' : ∀ a, off' a + S1x512x32.size a ≤ S2x200192x32.size a} {sem : DmaSem sig} {p : ℕ}
    (hs : sem = sO p) {h1 : (accM off inb).view.WordExact} {h2 : (outM off' inb').view.WordExact}
    {k : PUnit → Pg F α} {Q : α → sProp 𝕄} {D : sProp 𝕄} :
    iprop(fl c (sO p) NO D ∗ ow c)
      ⊢ iprop((iprop(D ∗ sv c (sO p) ∗ ow c) -∗ wpC c (k ⟨⟩) Q)
          -∗ wpC c (.op (.waitDma2 sem (accM off inb) (outM off' inb') h1 h2) k) Q) := by
  subst hs
  iintro ⟨Hf, %W, Ho⟩ Hk
  iapply (Transfers.wp_waitLocal (EC (F := F)) Variants.none (c : Thread nD τ) none (srcw := accM off inb) (dstw := outM off' inb') () (N := NO) rfl) $$ [Hf Ho]
  · isplitl [Hf] <;> iassumption
  iintro ⟨HD, Hs, Ho⟩
  iapply Hk
  isplitl [HD]; · iexact HD
  isplitl [Hs]; · iexact Hs
  iexists _; iexact Ho

/-- Half `b` of the features is asked for. -/
theorem dma_feat (c : Dev nD) {α : Type} {off : Fin 3 → ℕ} {inb : ∀ a, off a + S50008x1x128.size a ≤ S100016x1x128.size a} {sem : DmaSem sig} {b : ℕ} (hb : b < 2)
    (h : off = ![50008 * b, 0, 0]) (hs : sem = sF) {h1 : (arrM off inb).view.WordExact} {h2 : mFeat.view.WordExact} {h3 : DmaTarget.Typed (nD := nD) (τ := τ) (p := .tc) .hbm (.dma sem) (.here mFeat)}
    {k : PUnit → Pg F α} {Q : α → sProp 𝕄} (x : S100016x1x128.Idx → F .f32) :
    iprop(pArr c Finset.univ x ∗ (∃ f : S50008x1x128.Idx → F .f32, mFeat.view.loc (c : Thread nD τ) ↦{fullShare} f) ∗ sv c sF)
      ⊢ iprop((fl c sF NF iprop((mFeat.view.loc (c : Thread nD τ) ↦{fullShare} featHalf x b) ∗ pArr c (arrM off inb).view.set x) ∗ pArr c (Finset.univ \ (arrM off inb).view.set) x -∗ wpC c (k ⟨⟩) Q)
          -∗ wpC c (.op (.enqueueDma (arrM off inb) (.here mFeat) (.dma sem) h1 h2 h3) k) Q) := by
  subst hs
  iintro ⟨Hx, ⟨%f, Hw⟩, Hs⟩ Hk
  ihave Hx := (pointsTo_split_subset (Finset.subset_univ (arrM off inb).view.set)).1 $$ Hx
  icases Hx with ⟨Hx, Hrest⟩
  iapply (Transfers.wp_dmaLocal (EC (F := F)) Variants.none (c : Thread nD τ) none (src := arrM off inb) (dst := mFeat)
    (sm := .dma sF) (Sd := Finset.univ) (fs := x) (fd := f) () NF rfl (View.dmaCredit_pos _ (by decide)) (Finset.subset_univ _)) $$ [Hx Hw Hs]
  · isplitl [Hx]; · iexact Hx
    isplitl [Hw]; · iexact Hw
    iexact Hs
  iintro Hf
  iapply Hk
  isplitl [Hf]
  · iapply (Transfers.Flight_mono EC (c : Thread nD τ) ?_) $$ Hf
    iintro ⟨Hw, Hx⟩
    have e2 : (mFeat.view.write (Elt F) f (ReadAs.same.apply ((arrM off inb).view.read (Elt F) x)) Finset.univ : S50008x1x128.Idx → F .f32)
        = featHalf x b := by
      rw [ReadAs.apply_same, arrM_read inb hb h]
      exact View.write_whole_univ _ _ _
    isplitl [Hw]; · rw [← e2]; iexact Hw
    iexact Hx
  iexact Hrest

/-- The half's features are awaited. -/
theorem wait_feat (c : Dev nD) {α : Type} {off : Fin 3 → ℕ} {inb : ∀ a, off a + S50008x1x128.size a ≤ S100016x1x128.size a} {sem : DmaSem sig}
    (hs : sem = sF) {h1 : (arrM off inb).view.WordExact} {h2 : mFeat.view.WordExact}
    {k : PUnit → Pg F α} {Q : α → sProp 𝕄} {D : sProp 𝕄} :
    iprop(fl c sF NF D ∗ ow c)
      ⊢ iprop((iprop(D ∗ sv c sF ∗ ow c) -∗ wpC c (k ⟨⟩) Q)
          -∗ wpC c (.op (.waitDma2 sem (arrM off inb) mFeat h1 h2) k) Q) := by
  subst hs
  iintro ⟨Hf, %W, Ho⟩ Hk
  iapply (Transfers.wp_waitLocal (EC (F := F)) Variants.none (c : Thread nD τ) none (srcw := arrM off inb) (dstw := mFeat) () (N := NF) rfl) $$ [Hf Ho]
  · isplitl [Hf] <;> iassumption
  iintro ⟨HD, Hs, Ho⟩
  iapply Hk
  isplitl [HD]; · iexact HD
  isplitl [Hs]; · iexact Hs
  iexists _; iexact Ho

/-- The sums of half `b` are copied out. -/
theorem dma_part (c : Dev nD) {α : Type} {off' : Fin 3 → ℕ} {inb' : ∀ a, off' a + S1x8x32.size a ≤ S2x8x32.size a} {sem : DmaSem sig} {b : ℕ} (h' : off' = ![b, 0, 0])
    (hs : sem = sP) {h1 : mSum.view.WordExact} {h2 : (partM off' inb').view.WordExact} {h3 : DmaTarget.Typed (nD := nD) (τ := τ) (p := .tc) .vmem (.dma sem) (.here (partM off' inb'))}
    {k : PUnit → Pg F α} {Q : α → sProp 𝕄} (A : S8x32.Idx → F .f32) (O : S2x8x32.Idx → F .f32) (hO : ∀ j ∈ prow b, A (pIx j) = O j) (f : S2x8x32.Idx → F .f32) :
    iprop((mSum.view.loc (c : Thread nD τ) ↦{fullShare} A) ∗ pPart c (prow b) f ∗ sv c sP)
      ⊢ iprop((fl c sP NP iprop(pPart c (prow b) O ∗ ∃ f : S8x32.Idx → F .f32, mSum.view.loc (c : Thread nD τ) ↦{fullShare} f) -∗ wpC c (k ⟨⟩) Q)
          -∗ wpC c (.op (.enqueueDma mSum (.here (partM off' inb')) (.dma sem) h1 h2 h3) k) Q) := by
  subst hs
  iintro ⟨Hx, Hw, Hs⟩ Hk
  have e1 : (mSum.view.loc (c : Thread nD τ) ↦{fullShare} A : sProp 𝕄) = (mSum.view.loc (c : Thread nD τ) ↦[mSum.view.set]{fullShare} A : sProp 𝕄) := by
    rw [View.set_whole]
  have hsub : (partM off' inb').view.set ⊆ prow b := (partM_set inb' h').subset
  iapply (Transfers.wp_dmaLocal (EC (F := F)) Variants.none (c : Thread nD τ) none (src := mSum) (dst := partM off' inb')
    (sm := .dma sP) (fs := A) (fd := f) () NP rfl (View.dmaCredit_pos _ (by decide)) hsub) $$ [Hx Hw Hs]
  · isplitl [Hx]; · iapply (Entails.of_eq e1); iexact Hx
    isplitl [Hw]; · iexact Hw
    iexact Hs
  iintro Hf
  iapply Hk
  iapply (Transfers.Flight_mono EC (c : Thread nD τ) ?_) $$ Hf
  iintro ⟨Hw, Hx⟩
  have e2 : ((partM off' inb').view.loc (c : Thread nD τ) ↦[prow b]{fullShare} ((partM off' inb').view.write (Elt F) f (ReadAs.same.apply (mSum.view.read (Elt F) A)) Finset.univ) : sProp 𝕄)
      = pPart c (prow b) O := by
    exact pointsTo_congr fun j hj => (partM_write inb' h' A f j hj).trans (hO j hj)
  isplitl [Hw]; · iapply (Entails.of_eq e2); iexact Hw
  iexists A
  iapply (Entails.of_eq e1.symm); iexact Hx

/-- The sums' copy out is awaited. -/
theorem wait_part (c : Dev nD) {α : Type} {off' : Fin 3 → ℕ} {inb' : ∀ a, off' a + S1x8x32.size a ≤ S2x8x32.size a} {sem : DmaSem sig}
    (hs : sem = sP) {h1 : mSum.view.WordExact} {h2 : (partM off' inb').view.WordExact}
    {k : PUnit → Pg F α} {Q : α → sProp 𝕄} {D : sProp 𝕄} :
    iprop(fl c sP NP D ∗ ow c)
      ⊢ iprop((iprop(D ∗ sv c sP ∗ ow c) -∗ wpC c (k ⟨⟩) Q)
          -∗ wpC c (.op (.waitDma2 sem mSum (partM off' inb') h1 h2) k) Q) := by
  subst hs
  iintro ⟨Hf, %W, Ho⟩ Hk
  iapply (Transfers.wp_waitLocal (EC (F := F)) Variants.none (c : Thread nD τ) none (srcw := mSum) (dstw := partM off' inb') () (N := NP) rfl) $$ [Hf Ho]
  · isplitl [Hf] <;> iassumption
  iintro ⟨HD, Hs, Ho⟩
  iapply Hk
  isplitl [HD]; · iexact HD
  isplitl [Hs]; · iexact Hs
  iexists _; iexact Ho

end Cert.Proof.KernelIdeal
-- ==== Proof.OuterTile.lean ====
module
public import proofs.«01_k».proof.Proof.ConvCopies
@[expose] public section
noncomputable section
namespace Cert.Proof.KernelIdeal
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F]

local notation "𝕄" => MT nD τ sig Unit (Elt F) ℕ (Pipeline.UD sig nD τ) ℕ

/-- Row `r` of the sums. -/
def sumRow (s : S8x32.Idx → F .f32) (r : ℕ) (hr : r < 8) : S1x32.Idx → F .f32 := fun q => s (ix2 ⟨r, hr⟩ (q 1))

/-- A load of row `r` of the sums. -/
theorem sum_read {r : ℕ} (hr : r < 8) (inb : ∀ a, (![r, 0] : Fin 2 → ℕ) a + S1x32.size a ≤ S8x32.size a) (s : S8x32.Idx → F .f32) :
    mSum.view.readAt (Elt F) (Rect.unit (s := S8x32) ![r, 0] S1x32.size inb).toLoadRect s = sumRow s r hr := by
  funext q
  have h0 : (q 0).val = 0 := by have := (q 0).isLt; change (q 0).val < 1 at this; omega
  have h1 := ValueKit.view_emb_slice_whole_unit_val cc0_scratch3 _ _ inb q
  show s _ = s _
  congr 1
  funext a
  apply Fin.ext
  refine (h1 a).trans ?_
  fin_cases a
  · show r + (q 0).val = r; omega
  · show 0 + (q 1).val = (q 1).val; omega

/-- The sums with row `r` set. -/
def sumSet (s : S8x32.Idx → F .f32) (r : ℕ) (v : S1x32.Idx → F .f32) : S8x32.Idx → F .f32 := fun j => if (j 0).val = r then v (ix2 0 (j 1)) else s j

/-- A store of row `r` of the sums. -/
theorem sum_write {r : ℕ} (hr : r < 8) (inb : ∀ a, (![r, 0] : Fin 2 → ℕ) a + S1x32.size a ≤ S8x32.size a) (s : S8x32.Idx → F .f32) (v : S1x32.Idx → F .f32) :
    (mSum.access (Rect.unit (s := S8x32) ![r, 0] S1x32.size inb)).write (Elt F) s v Finset.univ = sumSet s r v := by
  funext i
  unfold sumSet
  by_cases h : (i 0).val = r
  · have hi : i = (mSum.access (Rect.unit (s := S8x32) ![r, 0] S1x32.size inb)).emb (ix2 (0 : Fin 1) ⟨(i 1).val, (i 1).isLt⟩ : S1x32.Idx) := by
      funext a
      apply Fin.ext
      refine Eq.trans ?_ (ValueKit.view_emb_slice_whole_unit_val cc0_scratch3 _ _ inb _ a).symm
      fin_cases a
      · show (i 0).val = r + 0; omega
      · show (i 1).val = 0 + (i 1).val; omega
    rw [if_pos h]
    refine (congrArg ((mSum.access (Rect.unit (s := S8x32) ![r, 0] S1x32.size inb)).write (Elt F) s v Finset.univ) hi).trans ?_
    exact (View.write_emb_of_mem _ _ (Finset.mem_univ _)).trans rfl
  · rw [if_neg h, View.write_of_not_mem]
    intro hm
    rw [View.setOn_univ] at hm
    have h1 : i ∈ ((View.whole cc0_scratch3).slice (Rect.unit (s := S8x32) ![r, 0] S1x32.size inb)).set := hm
    rw [View.set_slice_whole] at h1
    have h3 : r ≤ (i 0).val ∧ (i 0).val < r + 1 := (Rect.mem_set_unit.1 h1) 0
    omega

/-- The sums after tile `A`: row 0 gains its column sums, row 1 those of its squares. -/
def sumStep (A : S512x32.Idx → F .f32) (s : S8x32.Idx → F .f32) : S8x32.Idx → F .f32 :=
  sumSet (sumSet s 0 (k0_pay648 (fun i : S1x512x32.Idx => A (slabIx i)) (sumRow s 0 (by decide)))) 1
    (k0_pay649 (fun i : S1x512x32.Idx => A (slabIx i)) (sumRow s 1 (by decide)))

/-- Setting row 0 leaves row 1. -/
theorem sumRow_set (s : S8x32.Idx → F .f32) (v : S1x32.Idx → F .f32) : sumRow (sumSet s 0 v) 1 (by decide) = sumRow s 1 (by decide) := by
  funext q
  show sumSet s 0 v (ix2 ⟨1, _⟩ (q 1)) = _
  unfold sumSet
  exact if_neg (show ¬ (1 : ℕ) = 0 from by decide)

/-- A program that returns. -/
theorem wpC_ret (c : Dev nD) {α : Type} (x : α) (Q : α → sProp 𝕄) : Q x ⊢ wpC c (.ret x : Pg F α) Q := by
  show _ ⊢ wp _ _ _ _ _
  rw [wp_ret]
  iintro H
  imodintro
  iexact H

/-- One program after another. -/
theorem wpC_bind (c : Dev nD) {α β : Type} (p : Pg F α) (k : α → Pg F β) (Q : β → sProp 𝕄) :
    wpC c p (fun x => wpC c (k x) Q) ⊢ wpC c (Prog.bind p k) Q := by
  show _ ⊢ wp _ _ _ (p >>= k) _
  rw [wp_bind]

variable (c : Dev nD) (i : grid0.Coords) (t : Fin k0_t1_loop.trips)

/-- There are 27 offsets. -/
theorem trips_inner : Scf.trips (0#32) (Scalar.addi 0#32 27#32 : BitVec 32) (1#32) = 27 := by decide

/-- The 27 offsets. -/
theorem inner_loop (fs : S50008x1x128.Idx → F .f32) (wd : ℕ → BitVec 32) (hwd : ∀ q, q < 13824 → (wd q).toNat < 50008) (wf : S3456x32.Idx → F .f32)
    (Q : Unit → sProp 𝕄) :
    iprop(innerInv c (t.val % 2) fs wd wf 0 ∗ (∀ u, innerInv c (t.val % 2) fs wd wf (Scf.trips 0#32 (Scalar.addi 0#32 27#32) 1#32) -∗ Q u))
    ⊢ wpC c (Scf.Loop.for k0_t2_loop k0_t2_ok ⟨⟩ (innerOf (F := F) i t)) Q := by
  unfold Scf.Loop.for
  refine Scf.wp_for _ _ _ _ _ _ _ _ _ (fun k (_ : Unit) => innerInv c (t.val % 2) fs wd wf k) ?_
  intro k u
  have h := inner_step (F := F) c i (BitVec.ofNat 32 (i 0).val) 0#32 1#32 t (Scalar.remsi (Scf.iv 0#32 1#32 t) 2#32) fs wd hwd wf k u
  unfold innerOf
  generalize innerBody (F := F) i (BitVec.ofNat 32 (i 0).val) 0#32 1#32 t (Scalar.remsi (Scf.iv 0#32 1#32 t) 2#32) = B at h ⊢
  exact h

/-- The tile is computed into its slot and read. -/
theorem wp_tile (fs : S50008x1x128.Idx → F .f32) (wd : ℕ → BitVec 32) (hwd : ∀ q, q < 13824 → (wd q).toNat < 50008) (wf : S3456x32.Idx → F .f32)
    (f : S512x128.Idx → F .f32) (Q : (Σ' (_ : BitVec 32), Vec F S1x512x32 .f32) → sProp 𝕄) :
    iprop(rowRes c (t.val % 2) fs wd f ∗ (mW.view.loc (c : Thread nD τ) ↦{fullShare} wf) ∗ (∃ g, pAcc c (aslot (t.val % 2)) g)
      ∗ (innerInv c (t.val % 2) fs wd wf 27 -∗ Q ⟨Scf.iv 0#32 1#32 t, fun j : S1x512x32.Idx => accAt fs wd wf 27 (slabIx j)⟩))
    ⊢ wpC c (tileProg (innerOf (F := F) i) t) Q := by
  unfold tileProg
  iintro ⟨Hr, Hw, ⟨%g, Ha⟩, Hk⟩
  iapply (wp_load (Val := Elt F) Variants.none (c : Thread nD τ) none Set.univ (m := mAcc) (acc_loadset _ (k0_off12_eq t))) $$ Ha
  iintro Ha
  iapply (wp_store (Val := Elt F) Variants.none (c : Thread nD τ) none Set.univ (m := mAcc)
    (r := Rect.unit (s := S2x512x32) (k0_off12 t) S1x512x32.size (k0_off12_inb t)) (Mk := Finset.univ) (acc_storeset _ (k0_off12_eq t))) $$ Ha
  iintro Ha
  have e2 : ((mAcc.view.loc (c : Thread nD τ)) ↦[aslot (t.val % 2)]{fullShare} _ : sProp 𝕄) = _ :=
    pointsTo_congr (fun j hj => acc_write (k0_off12_inb t) (k0_off12_eq t) (fun _ => Zf) g j hj)
  ihave Ha : pAcc c (aslot (t.val % 2)) (abuf fun _ => Zf) $$ [Ha]
  · iapply (Entails.of_eq e2); iexact Ha
  iapply wpC_bind
  iapply (inner_loop c i t fs wd hwd wf)
  isplitl [Hr Hw Ha]
  · isplitl [Hr]; · iexists f; iexact Hr
    isplitl [Hw]; · iexact Hw
    iexact Ha
  iintro %u H
  ihave H : innerInv c (t.val % 2) fs wd wf 27 $$ [H]
  · iapply (Entails.of_eq (congrArg (innerInv c (t.val % 2) fs wd wf) trips_inner)); iexact H
  unfold innerInv
  icases H with ⟨Hr, Hw, Ha⟩
  iapply (wp_load (Val := Elt F) Variants.none (c : Thread nD τ) none Set.univ (m := mAcc) (acc_loadset _ (k0_off12_eq t))) $$ Ha
  iintro Ha
  rw [acc_read _ (k0_off12_eq t)]
  iapply wpC_ret
  iapply Hk
  isplitl [Hr]; · iexact Hr
  isplitl [Hw]; · iexact Hw
  iexact Ha

/-- The tile's sums are added, then its copy out is started. -/
theorem wp_sum (x : Σ' (_ : BitVec 32), Vec F S1x512x32 .f32) (A : S512x32.Idx → F .f32) (hx : x.2 = fun j : S1x512x32.Idx => A (slabIx j)) (s : S8x32.Idx → F .f32)
    (O : S2x200192x32.Idx → F .f32) (hO : ∀ j ∈ orow (i 0).val t.val, A (oIx j) = O j) (f : S2x200192x32.Idx → F .f32) (Q : Unit → sProp 𝕄) :
    iprop((mSum.view.loc (c : Thread nD τ) ↦{fullShare} s) ∗ pAcc c (aslot (t.val % 2)) (abuf A) ∗ pOut c (orow (i 0).val t.val) f ∗ sv c (sO t.val)
      ∗ (iprop((mSum.view.loc (c : Thread nD τ) ↦{fullShare} sumStep A s)
          ∗ fl c (sO t.val) NO iprop(pOut c (orow (i 0).val t.val) O ∗ ∃ f, pAcc c (aslot (t.val % 2)) f)) -∗ Q ⟨⟩))
    ⊢ wpC c (sumProg i t x) Q := by
  unfold sumProg
  rw [hx]
  iintro ⟨Hs, Ha, Ho, Hv, Hk⟩
  iapply (wp_load (Val := Elt F) Variants.none (c : Thread nD τ) none Set.univ (m := mSum) (Finset.subset_univ _)) $$ Hs
  iintro Hs
  rw [sum_read (r := 0) (by decide)]
  iapply (wp_load (Val := Elt F) Variants.none (c : Thread nD τ) none Set.univ (m := mSum) (Finset.subset_univ _)) $$ Hs
  iintro Hs
  iapply (wp_store (Val := Elt F) Variants.none (c : Thread nD τ) none Set.univ (m := mSum)
    (r := Rect.unit (s := S8x32) ![0, 0] S1x32.size inb_S8x32_S1x32_0_0) (Mk := Finset.univ) (Finset.subset_univ _)) $$ Hs
  iintro Hs
  rw [sum_write (r := 0) (by decide)]
  iapply (wp_load (Val := Elt F) Variants.none (c : Thread nD τ) none Set.univ (m := mSum) (Finset.subset_univ _)) $$ Hs
  iintro Hs
  rw [sum_read (r := 1) (by decide), sumRow_set]
  iapply (wp_load (Val := Elt F) Variants.none (c : Thread nD τ) none Set.univ (m := mSum) (Finset.subset_univ _)) $$ Hs
  iintro Hs
  iapply (wp_store (Val := Elt F) Variants.none (c : Thread nD τ) none Set.univ (m := mSum)
    (r := Rect.unit (s := S8x32) ![1, 0] S1x32.size inb_S8x32_S1x32_1_0) (Mk := Finset.univ) (Finset.subset_univ _)) $$ Hs
  iintro Hs
  rw [sum_write (r := 1) (by decide)]
  iapply (dma_out c (p := t.val) (b := (i 0).val) (t := t.val) (k0_off1552_eq t) (k0_off1551_eq i t) (semO_eq _ (Nat.mod_lt _ (by decide)) (k0_off3_eq t)) A O hO f) $$ [Ha Ho Hv]
  · isplitl [Ha]; · iexact Ha
    isplitl [Ho] <;> iassumption
  iintro Hf
  iapply wpC_ret
  iapply Hk
  isplitl [Hs]; · iexact Hs
  iexact Hf

end Cert.Proof.KernelIdeal
-- ==== Proof.OuterSpec.lean ====
module
public import proofs.«01_k».proof.Proof.OuterTile
@[expose] public section
noncomputable section
namespace Cert.Proof.KernelIdeal
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F]

local notation "𝕄" => MT nD τ sig Unit (Elt F) ℕ (Pipeline.UD sig nD τ) ℕ

section
variable (x : S782x27648.Idx → BitVec 32) (a : S100016x1x128.Idx → F .f32) (wf : S3456x32.Idx → F .f32)

/-- Tile `t` of half `b`. -/
def tile (b t : ℕ) : S512x32.Idx → F .f32 := accAt (featHalf a b) (rowW x (391 * b + t)) wf 27
/-- The result, tile by tile. -/
def Ofun : S2x200192x32.Idx → F .f32 := fun j => tile x a wf (j 0).val ((j 1).val / 512) (oIx j)
/-- The sums of half `b` after `t` tiles. -/
def sumAt (b : ℕ) : ℕ → S8x32.Idx → F .f32
  | 0 => fun _ => Zf
  | t + 1 => sumStep (tile x a wf b t) (sumAt b t)
/-- The sums of both halves. -/
def Pfun : S2x8x32.Idx → F .f32 := fun j => sumAt x a wf (j 0).val 391 (pIx j)

/-- The words' slot of tile `n`, at rest. -/
def wordsIdle (c : Dev nD) (n : ℕ) : sProp 𝕄 := iprop(sv c (sI n) ∗ ∃ f, pWord c (wslot (n % 2)) f)
/-- The words of tile `n`: on their way, or no tile is left. -/
def words (c : Dev nD) (b n : ℕ) : sProp 𝕄 :=
  if n < 391 then iprop(fl c (sI n) NI iprop(pWord c (wslot (n % 2)) (wbuf (rowW x (391 * b + n))) ∗ pIlx c (irow (391 * b + n)) x) ∗ pIlx c (Finset.univ \ irow (391 * b + n)) x)
  else iprop(pIlx c Finset.univ x ∗ wordsIdle c n)
/-- The accumulator's slot of tile `u`: at rest, or being copied out as tile `u - 2`. -/
def outS (c : Dev nD) (b u : ℕ) : sProp 𝕄 :=
  if u < 2 then iprop(sv c (sO u) ∗ ∃ f, pAcc c (aslot (u % 2)) f)
  else fl c (sO u) NO iprop(pOut c (orow b (u - 2)) (Ofun x a wf) ∗ ∃ f, pAcc c (aslot (u % 2)) f)
/-- What awaiting the slot of tile `u` gives back. -/
def doneRow (c : Dev nD) (b u : ℕ) : sProp 𝕄 := if u < 2 then iprop(emp) else pOut c (orow b (u - 2)) (Ofun x a wf)
/-- The rows' buffer, the features and the weights. -/
def bodyRes (c : Dev nD) (b : ℕ) : sProp 𝕄 :=
  iprop((∃ f : S512x128.Idx → F .f32, mRows.view.loc (c : Thread nD τ) ↦{fullShare} f) ∗ (mFeat.view.loc (c : Thread nD τ) ↦{fullShare} featHalf a b)
    ∗ (mW.view.loc (c : Thread nD τ) ↦{fullShare} wf))
end

theorem cond3_iff : ∀ t : Fin k0_t1_loop.trips, k0_cond3 t = 1#1 ↔ ¬ t.val < 2 := by decide +kernel
theorem cond2_iff : ∀ t : Fin k0_t1_loop.trips, k0_cond2 t = 1#1 ↔ t.val + 1 < 391 := by decide +kernel
theorem zero_iff : ∀ t : Fin k0_t1_loop.trips,
    Scalar.cmpi .ne (Scalar.extui (Scalar.cmpi .eq (Scf.iv 0#32 1#32 t) 0#32) : BitVec 32) 0#32 = 1#1 ↔ t.val = 0 := by decide +kernel
theorem off6_next (t : Fin k0_t1_loop.trips) : k0_off6 t = ![(t.val + 1) % 2] := (k0_off6_eq t).trans (by congr 1; omega)
theorem off7_next (t : Fin k0_t1_loop.trips) : k0_off7 t = ![27648 * ((t.val + 1) % 2)] := (k0_off7_eq t).trans (by congr 1; omega)
theorem trip_lt (t : Fin k0_t1_loop.trips) : t.val < 391 := t.isLt

/-- What the tile's program does, given its slots. -/
def TileSpec (c : Dev nD) (t : Fin k0_t1_loop.trips) (ib : Fin k0_t1_loop.trips → Fin k0_t2_loop.trips → Unit → Pg F Unit) (fs : S50008x1x128.Idx → F .f32)
    (wd : ℕ → BitVec 32) (wf : S3456x32.Idx → F .f32) : Prop :=
  ∀ (f : S512x128.Idx → F .f32) (Q : (Σ' (_ : BitVec 32), Vec F S1x512x32 .f32) → sProp 𝕄),
    iprop(rowRes c (t.val % 2) fs wd f ∗ (mW.view.loc (c : Thread nD τ) ↦{fullShare} wf) ∗ (∃ g, pAcc c (aslot (t.val % 2)) g)
      ∗ (innerInv c (t.val % 2) fs wd wf 27 -∗ Q ⟨Scf.iv 0#32 1#32 t, fun j : S1x512x32.Idx => accAt fs wd wf 27 (slabIx j)⟩))
    ⊢ wpC c (tileProg ib t) Q

variable (c : Dev nD) (i : grid0.Coords) (t : Fin k0_t1_loop.trips) (ib : Fin k0_t1_loop.trips → Fin k0_t2_loop.trips → Unit → Pg F Unit)
variable (x : S782x27648.Idx → BitVec 32) (a : S100016x1x128.Idx → F .f32) (wf : S3456x32.Idx → F .f32)

/-- The slot's last copy out is awaited, then the tile is computed. -/
theorem wp_reclaim (hT : TileSpec c t ib (featHalf a (i 0).val) (rowW x (391 * (i 0).val + t.val)) wf) (f : S512x128.Idx → F .f32)
    (Q : (Σ' (_ : BitVec 32), Vec F S1x512x32 .f32) → sProp 𝕄) :
    iprop(rowRes c (t.val % 2) (featHalf a (i 0).val) (rowW x (391 * (i 0).val + t.val)) f ∗ (mW.view.loc (c : Thread nD τ) ↦{fullShare} wf)
      ∗ outS x a wf c (i 0).val t.val ∗ ow c
      ∗ (iprop(innerInv c (t.val % 2) (featHalf a (i 0).val) (rowW x (391 * (i 0).val + t.val)) wf 27 ∗ sv c (sO t.val) ∗ doneRow x a wf c (i 0).val t.val ∗ ow c)
          -∗ Q ⟨Scf.iv 0#32 1#32 t, fun j : S1x512x32.Idx => tile x a wf (i 0).val t.val (slabIx j)⟩))
    ⊢ wpC c (reclaimProg i ib t) Q := by
  unfold reclaimProg outS doneRow tile
  by_cases h : k0_cond3 t = 1#1
  · rw [dif_pos h, if_neg ((cond3_iff t).1 h), if_neg ((cond3_iff t).1 h)]
    iintro ⟨Hr, Hw, Ho, Hd, Hk⟩
    iapply (wait_out c (p := t.val) (semO_eq _ (Nat.mod_lt _ (by decide)) (k0_off9_eq t))) $$ [Ho Hd]
    · isplitl [Ho] <;> iassumption
    iintro ⟨⟨Ho, Ha⟩, Hs, Hd⟩
    iapply (hT f)
    isplitl [Hr]; · iexact Hr
    isplitl [Hw]; · iexact Hw
    isplitl [Ha]; · iexact Ha
    iintro H
    iapply Hk
    isplitl [H]; · iexact H
    isplitl [Hs]; · iexact Hs
    isplitl [Ho]; · iexact Ho
    iexact Hd
  · have h2 : t.val < 2 := by
      by_contra h2
      exact h ((cond3_iff t).2 h2)
    rw [dif_neg h, if_pos h2, if_pos h2]
    iintro ⟨Hr, Hw, ⟨Hs, Ha⟩, Hd, Hk⟩
    iapply (hT f)
    isplitl [Hr]; · iexact Hr
    isplitl [Hw]; · iexact Hw
    isplitl [Ha]; · iexact Ha
    iintro H
    iapply Hk
    isplitl [H]; · iexact H
    isplitl [Hs]; · iexact Hs
    isplitr; · iempintro
    iexact Hd

/-- The next tile's words are asked for. -/
theorem wp_prefetch (hT : TileSpec c t ib (featHalf a (i 0).val) (rowW x (391 * (i 0).val + t.val)) wf) (f : S512x128.Idx → F .f32)
    (Q : (Σ' (_ : BitVec 32), Vec F S1x512x32 .f32) → sProp 𝕄) :
    iprop(rowRes c (t.val % 2) (featHalf a (i 0).val) (rowW x (391 * (i 0).val + t.val)) f ∗ (mW.view.loc (c : Thread nD τ) ↦{fullShare} wf)
      ∗ outS x a wf c (i 0).val t.val ∗ ow c ∗ pIlx c Finset.univ x ∗ wordsIdle c (t.val + 1)
      ∗ (iprop((innerInv c (t.val % 2) (featHalf a (i 0).val) (rowW x (391 * (i 0).val + t.val)) wf 27 ∗ sv c (sO t.val) ∗ doneRow x a wf c (i 0).val t.val ∗ ow c)
            ∗ words x c (i 0).val (t.val + 1))
          -∗ Q ⟨Scf.iv 0#32 1#32 t, fun j : S1x512x32.Idx => tile x a wf (i 0).val t.val (slabIx j)⟩))
    ⊢ wpC c (prefetchProg i ib t) Q := by
  have hi : (i 0).val < 2 := (i 0).isLt
  unfold prefetchProg words
  by_cases h : k0_cond2 t = 1#1
  · have hl := (cond2_iff t).1 h
    rw [dif_pos h, if_pos hl]
    unfold wordsIdle
    iintro ⟨Hr, Hw, Ho, Hd, Hx, ⟨Hs, Hf⟩, Hk⟩
    ihave ⟨Hx1, Hx2⟩ := (pointsTo_split_subset (Finset.subset_univ (irow (391 * (i 0).val + (t.val + 1))))).1 $$ Hx
    iapply (dma_idx c (p := t.val + 1) (n := 391 * (i 0).val + (t.val + 1)) (by omega) (k0_off8_eq i t) (off7_next t)
      (semI_eq _ (Nat.mod_lt _ (by decide)) (off6_next t)) x) $$ [Hx1 Hs Hf]
    · isplitl [Hx1]; · iexact Hx1
      isplitl [Hf] <;> iassumption
    iintro Hf
    iapply (wp_reclaim c i t ib x a wf hT f)
    isplitl [Hr]; · iexact Hr
    isplitl [Hw]; · iexact Hw
    isplitl [Ho]; · iexact Ho
    isplitl [Hd]; · iexact Hd
    iintro H
    iapply Hk
    isplitl [H]; · iexact H
    isplitl [Hf] <;> iassumption
  · rw [dif_neg h, if_neg fun hl => h ((cond2_iff t).2 hl)]
    iintro ⟨Hr, Hw, Ho, Hd, Hx, Hi, Hk⟩
    iapply (wp_reclaim c i t ib x a wf hT f)
    isplitl [Hr]; · iexact Hr
    isplitl [Hw]; · iexact Hw
    isplitl [Ho]; · iexact Ho
    isplitl [Hd]; · iexact Hd
    iintro H
    iapply Hk
    isplitl [H]; · iexact H
    isplitl [Hx] <;> iassumption

/-- The tile's words are awaited. -/
theorem wp_await (hT : TileSpec c t ib (featHalf a (i 0).val) (rowW x (391 * (i 0).val + t.val)) wf)
    (Q : (Σ' (_ : BitVec 32), Vec F S1x512x32 .f32) → sProp 𝕄) :
    iprop(words x c (i 0).val t.val ∗ wordsIdle c (t.val + 1) ∗ bodyRes a wf c (i 0).val ∗ outS x a wf c (i 0).val t.val ∗ ow c
      ∗ (iprop((innerInv c (t.val % 2) (featHalf a (i 0).val) (rowW x (391 * (i 0).val + t.val)) wf 27 ∗ sv c (sO t.val) ∗ doneRow x a wf c (i 0).val t.val ∗ ow c)
            ∗ words x c (i 0).val (t.val + 1) ∗ sv c (sI t.val))
          -∗ Q ⟨Scf.iv 0#32 1#32 t, fun j : S1x512x32.Idx => tile x a wf (i 0).val t.val (slabIx j)⟩))
    ⊢ wpC c (awaitProg i ib t) Q := by
  unfold awaitProg bodyRes
  conv_lhs => arg 1; unfold words; rw [if_pos (trip_lt t)]
  iintro ⟨⟨Hf, Hx2⟩, Hi, ⟨⟨%f, Hr⟩, Hfe, Hw⟩, Ho, Hd, Hk⟩
  iapply (wait_idx c (p := t.val) (semI_eq _ (Nat.mod_lt _ (by decide)) (k0_off3_eq t))) $$ [Hf Hd]
  · isplitl [Hf] <;> iassumption
  iintro ⟨⟨Hwd, Hx1⟩, Hs, Hd⟩
  ihave Hx : pIlx c Finset.univ x $$ [Hx1 Hx2]
  · iapply (pointsTo_split_subset (Finset.subset_univ (irow (391 * (i 0).val + t.val)))).2
    isplitl [Hx1] <;> iassumption
  iapply (wp_prefetch c i t ib x a wf hT f)
  isplitl [Hwd Hfe Hr]
  · isplitl [Hwd]; · iexact Hwd
    isplitl [Hfe] <;> iassumption
  isplitl [Hw]; · iexact Hw
  isplitl [Ho]; · iexact Ho
  isplitl [Hd]; · iexact Hd
  isplitl [Hx]; · iexact Hx
  isplitl [Hi]; · iexact Hi
  iintro ⟨H, Hn⟩
  iapply Hk
  isplitl [H]; · iexact H
  isplitl [Hn] <;> iassumption

/-- Zeros stored over the whole of the sums. -/
theorem sum_zero (s : S8x32.Idx → F .f32) :
    (mSum.access (Rect.unit (s := S8x32) ![0, 0] S8x32.size inb_S8x32_S8x32_0_0)).write (Elt F) s (k0_pay643 (F := F)) Finset.univ = fun _ => Zf := by
  funext j
  have hj : j = (mSum.access (Rect.unit (s := S8x32) ![0, 0] S8x32.size inb_S8x32_S8x32_0_0)).emb j := by
    funext q
    apply Fin.ext
    refine Eq.trans ?_ (ValueKit.view_emb_slice_whole_unit_val cc0_scratch3 _ _ inb_S8x32_S8x32_0_0 j q).symm
    fin_cases q
    · show (j 0).val = 0 + (j 0).val; omega
    · show (j 1).val = 0 + (j 1).val; omega
  refine (congrArg ((mSum.access (Rect.unit (s := S8x32) ![0, 0] S8x32.size inb_S8x32_S8x32_0_0)).write (Elt F) s (k0_pay643 (F := F)) Finset.univ) hj).trans ?_
  exact (View.write_emb_of_mem _ _ (Finset.mem_univ _)).trans rfl

/-- On the first tile the sums are zeroed. -/
theorem wp_zero (hT : TileSpec c t ib (featHalf a (i 0).val) (rowW x (391 * (i 0).val + t.val)) wf)
    (Q : (Σ' (_ : BitVec 32), Vec F S1x512x32 .f32) → sProp 𝕄) :
    iprop((∃ s : S8x32.Idx → F .f32, (mSum.view.loc (c : Thread nD τ) ↦{fullShare} s) ∗ ⌜0 < t.val → s = sumAt x a wf (i 0).val t.val⌝)
      ∗ words x c (i 0).val t.val ∗ wordsIdle c (t.val + 1) ∗ bodyRes a wf c (i 0).val ∗ outS x a wf c (i 0).val t.val ∗ ow c
      ∗ (iprop(((innerInv c (t.val % 2) (featHalf a (i 0).val) (rowW x (391 * (i 0).val + t.val)) wf 27 ∗ sv c (sO t.val) ∗ doneRow x a wf c (i 0).val t.val ∗ ow c)
            ∗ words x c (i 0).val (t.val + 1) ∗ sv c (sI t.val)) ∗ (mSum.view.loc (c : Thread nD τ) ↦{fullShare} sumAt x a wf (i 0).val t.val))
          -∗ Q ⟨Scf.iv 0#32 1#32 t, fun j : S1x512x32.Idx => tile x a wf (i 0).val t.val (slabIx j)⟩))
    ⊢ wpC c (zeroProg i ib t) Q := by
  have go : ∀ s : S8x32.Idx → F .f32, s = sumAt x a wf (i 0).val t.val →
      iprop((mSum.view.loc (c : Thread nD τ) ↦{fullShare} s)
      ∗ words x c (i 0).val t.val ∗ wordsIdle c (t.val + 1) ∗ bodyRes a wf c (i 0).val ∗ outS x a wf c (i 0).val t.val ∗ ow c
      ∗ (iprop(((innerInv c (t.val % 2) (featHalf a (i 0).val) (rowW x (391 * (i 0).val + t.val)) wf 27 ∗ sv c (sO t.val) ∗ doneRow x a wf c (i 0).val t.val ∗ ow c)
            ∗ words x c (i 0).val (t.val + 1) ∗ sv c (sI t.val)) ∗ (mSum.view.loc (c : Thread nD τ) ↦{fullShare} sumAt x a wf (i 0).val t.val))
          -∗ Q ⟨Scf.iv 0#32 1#32 t, fun j : S1x512x32.Idx => tile x a wf (i 0).val t.val (slabIx j)⟩))
      ⊢ wpC c (awaitProg i ib t) Q := by
    intro s hs
    subst hs
    iintro ⟨Hs, Hwd, Hi, Hb, Ho, Hd, Hk⟩
    iapply (wp_await c i t ib x a wf hT)
    isplitl [Hwd]; · iexact Hwd
    isplitl [Hi]; · iexact Hi
    isplitl [Hb]; · iexact Hb
    isplitl [Ho]; · iexact Ho
    isplitl [Hd]; · iexact Hd
    iintro H
    iapply Hk
    isplitl [H] <;> iassumption
  unfold zeroProg
  by_cases h : Scalar.cmpi .ne (Scalar.extui (Scalar.cmpi .eq (Scf.iv 0#32 1#32 t) 0#32) : BitVec 32) 0#32 = 1#1
  · rw [dif_pos h]
    have h0 := (zero_iff t).1 h
    iintro ⟨⟨%s, Hs, -⟩, Hr⟩
    iapply (wp_load (Val := Elt F) Variants.none (c : Thread nD τ) none Set.univ (m := mSum) (Finset.subset_univ _)) $$ Hs
    iintro Hs
    iapply (wp_store (Val := Elt F) Variants.none (c : Thread nD τ) none Set.univ (m := mSum)
      (r := Rect.unit (s := S8x32) ![0, 0] S8x32.size inb_S8x32_S8x32_0_0) (Mk := Finset.univ) (Finset.subset_univ _)) $$ Hs
    iintro Hs
    rw [sum_zero]
    iapply (go (fun _ => Zf) (by rw [h0]; rfl))
    isplitl [Hs] <;> iassumption
  · rw [dif_neg h]
    iintro ⟨⟨%s, Hs, %hs⟩, Hr⟩
    iapply (go s (hs (Nat.pos_of_ne_zero fun h0 => h ((zero_iff t).2 h0))))
    isplitl [Hs] <;> iassumption

end Cert.Proof.KernelIdeal
-- ==== Proof.OuterLoop.lean ====
module
public import proofs.«01_k».proof.Proof.OuterSpec
@[expose] public section
noncomputable section
namespace Cert.Proof.KernelIdeal
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F]

local notation "𝕄" => MT nD τ sig Unit (Elt F) ℕ (Pipeline.UD sig nD τ) ℕ

/-- Half `b` of the result; its tiles whose copy out is awaited before tile `n`; its tiles from `n` on. -/
def ohalf (b : ℕ) : Finset S2x200192x32.Idx := Finset.univ.filter fun i => (i 0).val = b
def odone (b n : ℕ) : Finset S2x200192x32.Idx := Finset.univ.filter fun i => (i 0).val = b ∧ (i 1).val / 512 + 2 < n
def otodo (b n : ℕ) : Finset S2x200192x32.Idx := Finset.univ.filter fun i => (i 0).val = b ∧ n ≤ (i 1).val / 512

theorem orow_todo (b n : ℕ) : orow b n ⊆ otodo b n := by
  intro i hi
  simp only [orow, otodo, Finset.mem_filter, Finset.mem_univ, true_and] at hi ⊢
  omega
theorem todo_diff (b n : ℕ) : otodo b n \ orow b n = otodo b (n + 1) := by
  ext i
  simp only [orow, otodo, Finset.mem_sdiff, Finset.mem_filter, Finset.mem_univ, true_and]
  omega
theorem orow_done {b n : ℕ} (h : ¬ n < 2) : orow b (n - 2) ⊆ odone b (n + 1) := by
  intro i hi
  simp only [orow, odone, Finset.mem_filter, Finset.mem_univ, true_and] at hi ⊢
  omega
theorem done_diff {b n : ℕ} (h : ¬ n < 2) : odone b (n + 1) \ orow b (n - 2) = odone b n := by
  ext i
  simp only [orow, odone, Finset.mem_sdiff, Finset.mem_filter, Finset.mem_univ, true_and]
  omega
theorem done_early {b n : ℕ} (h : n < 2) : odone b n = odone b (n + 1) := by
  ext i
  simp only [odone, Finset.mem_filter, Finset.mem_univ, true_and]
  omega
theorem todo_zero (b : ℕ) : otodo b 0 = ohalf b := by
  ext i
  simp only [otodo, ohalf, Finset.mem_filter, Finset.mem_univ, true_and]
  omega
theorem done_zero (b : ℕ) : odone b 0 = ∅ := by
  ext i
  simp only [odone, Finset.mem_filter, Finset.mem_univ, true_and, Finset.notMem_empty, Nat.not_lt_zero, and_false]
theorem done_all (b : ℕ) : odone b 393 = ohalf b := by
  ext i
  have h1 : (i 1).val < 200192 := (i 1).isLt
  simp only [odone, ohalf, Finset.mem_filter, Finset.mem_univ, true_and]
  omega

variable (c : Dev nD) (x : S782x27648.Idx → BitVec 32) (a : S100016x1x128.Idx → F .f32) (wf : S3456x32.Idx → F .f32)

/-- A tile's row joins those done. -/
theorem done_join (b n : ℕ) :
    iprop(doneRow x a wf c b n ∗ pOut c (odone b n) (Ofun x a wf)) ⊢ (pOut c (odone b (n + 1)) (Ofun x a wf) : sProp 𝕄) := by
  unfold doneRow
  by_cases h : n < 2
  · rw [if_pos h, done_early h]
    iintro ⟨-, H⟩
    iexact H
  · rw [if_neg h, ← done_diff (b := b) h]
    exact (pointsTo_split_subset (orow_done h)).2

/-- Before tile `n` of half `b`. -/
def outerInv (b : ℕ) (o0 : S2x200192x32.Idx → F .f32) (n : ℕ) : sProp 𝕄 :=
  iprop(words x c b n ∗ wordsIdle c (n + 1) ∗ bodyRes a wf c b ∗ outS x a wf c b n ∗ outS x a wf c b (n + 1)
    ∗ pOut c (odone b n) (Ofun x a wf) ∗ pOut c (otodo b n) o0
    ∗ (∃ s : S8x32.Idx → F .f32, (mSum.view.loc (c : Thread nD τ) ↦{fullShare} s) ∗ ⌜0 < n → s = sumAt x a wf b n⌝) ∗ ow c)

/-- The words' slot two tiles on is the same. -/
theorem wordsIdle_two (n : ℕ) (wd : S55296.Idx → BitVec 32) :
    iprop(sv c (sI n) ∗ pWord c (wslot (n % 2)) wd) ⊢ (wordsIdle (F := F) c (n + 1 + 1) : sProp 𝕄) := by
  unfold wordsIdle
  have e : (n + 1 + 1) % 2 = n % 2 := by omega
  simp only [sI, e]
  iintro ⟨Hs, Hw⟩
  isplitl [Hs]; · iexact Hs
  iexists wd; iexact Hw

/-- A started copy out is the state of the slot two tiles on. -/
theorem outS_two (b n : ℕ) :
    fl c (sO n) NO iprop(pOut c (orow b n) (Ofun x a wf) ∗ ∃ f, pAcc c (aslot (n % 2)) f) ⊢ (outS x a wf c b (n + 1 + 1) : sProp 𝕄) := by
  unfold outS
  have e : (n + 1 + 1) % 2 = n % 2 := by omega
  have e2 : n + 1 + 1 - 2 = n := by omega
  have e3 : ¬ n + 1 + 1 < 2 := by omega
  simp only [sO, e, e2, if_neg e3]
  iintro H
  iexact H

/-- Within row `t` of half `b` the result is tile `t`. -/
theorem Ofun_row (b t : ℕ) : ∀ j ∈ orow b t, tile x a wf b t (oIx j) = Ofun x a wf j := by
  intro j hj
  simp only [orow, Finset.mem_filter, Finset.mem_univ, true_and] at hj
  unfold Ofun
  rw [hj.1, hj.2]

/-- One tile. -/
theorem outer_step (i : grid0.Coords) (ib : Fin k0_t1_loop.trips → Fin k0_t2_loop.trips → Unit → Pg F Unit)
    (hT : ∀ t : Fin k0_t1_loop.trips, TileSpec c t ib (featHalf a (i 0).val) (rowW x (391 * (i 0).val + t.val)) wf)
    (o0 : S2x200192x32.Idx → F .f32) (t : Fin k0_t1_loop.trips) (u : Unit) :
    outerInv c x a wf (i 0).val o0 t.val ⊢ wpC c (outerBody i ib t u) (fun _ => outerInv c x a wf (i 0).val o0 (t.val + 1)) := by
  unfold outerBody
  unfold outerInv
  iintro ⟨Hwd, Hi, Hb, Ho, Ho', Hdone, Htodo, Hs, Hd⟩
  iapply wpC_bind
  iapply (wp_zero c i t ib x a wf (hT t))
  isplitl [Hs]; · iexact Hs
  isplitl [Hwd]; · iexact Hwd
  isplitl [Hi]; · iexact Hi
  isplitl [Hb]; · iexact Hb
  isplitl [Ho]; · iexact Ho
  isplitl [Hd]; · iexact Hd
  iintro ⟨⟨⟨⟨⟨%f, Hwd, Hfe, Hr⟩, Hw, Ha⟩, Hv, Hrow, Hd⟩, Hnext, Hsi⟩, Hs⟩
  ihave ⟨Hrow', Htodo⟩ := (pointsTo_split_subset (orow_todo (i 0).val t.val)).1 $$ Htodo
  iapply (wp_sum c i t _ (tile x a wf (i 0).val t.val) rfl _ (Ofun x a wf) (Ofun_row x a wf (i 0).val t.val) o0)
  isplitl [Hs]; · iexact Hs
  isplitl [Ha]; · iexact Ha
  isplitl [Hrow']; · iexact Hrow'
  isplitl [Hv]; · iexact Hv
  iintro ⟨Hs, Hf⟩
  isplitl [Hnext]; · iexact Hnext
  isplitl [Hsi Hwd]
  · iapply (wordsIdle_two c t.val (wbuf (rowW x (391 * (i 0).val + t.val))))
    isplitl [Hsi] <;> iassumption
  isplitl [Hr Hfe Hw]
  · unfold bodyRes
    isplitl [Hr]; · iexists f; iexact Hr
    isplitl [Hfe] <;> iassumption
  isplitl [Ho']; · iexact Ho'
  isplitl [Hf]; · iapply (outS_two c x a wf (i 0).val t.val); iexact Hf
  isplitl [Hrow Hdone]
  · iapply (done_join c x a wf (i 0).val t.val)
    isplitl [Hrow] <;> iassumption
  isplitl [Htodo]; · rw [todo_diff]; iexact Htodo
  isplitl [Hs]
  · iexists (sumAt x a wf (i 0).val (t.val + 1))
    isplitl [Hs]; · iexact Hs
    ipureintro; intro _; rfl
  iexact Hd

/-- The tiles of half `b`. -/
theorem outer_loop (i : grid0.Coords) (ib : Fin k0_t1_loop.trips → Fin k0_t2_loop.trips → Unit → Pg F Unit)
    (hT : ∀ t : Fin k0_t1_loop.trips, TileSpec c t ib (featHalf a (i 0).val) (rowW x (391 * (i 0).val + t.val)) wf)
    (o0 : S2x200192x32.Idx → F .f32) (Q : Unit → sProp 𝕄) :
    iprop(outerInv c x a wf (i 0).val o0 0 ∗ (∀ u, outerInv c x a wf (i 0).val o0 (Scf.trips 0#32 (Scalar.addi 0#32 391#32) 1#32) -∗ Q u))
    ⊢ wpC c (Scf.Loop.for k0_t1_loop k0_t1_ok ⟨⟩ (outerBody i ib)) Q := by
  unfold Scf.Loop.for
  refine Scf.wp_for _ _ _ _ _ _ _ _ _ (fun k (_ : Unit) => outerInv c x a wf (i 0).val o0 k) ?_
  intro k u
  exact outer_step c x a wf i ib hT o0 k u

/-- There are 391 tiles. -/
theorem trips_outer : Scf.trips (0#32) (Scalar.addi 0#32 391#32 : BitVec 32) (1#32) = 391 := by decide +kernel

/-- The two slots of the words, and of the accumulator. -/
theorem word_split (f : S55296.Idx → BitVec 32) :
    (mWord.view.loc (c : Thread nD τ) ↦{fullShare} f : sProp 𝕄) ⊣⊢ iprop(pWord c (wslot 0) f ∗ pWord c (wslot 1) f) := by
  have e : (Finset.univ : Finset S55296.Idx) \ wslot 0 = wslot 1 := by
    ext i
    have h : (i 0).val < 55296 := (i 0).isLt
    simp only [wslot, Finset.mem_sdiff, Finset.mem_filter, Finset.mem_univ, true_and]
    omega
  have h : (mWord.view.loc (c : Thread nD τ) ↦{fullShare} f : sProp 𝕄) ⊣⊢ iprop(pWord c (wslot 0) f ∗ pWord c (Finset.univ \ wslot 0) f) :=
    pointsTo_split_subset (Finset.subset_univ (wslot 0))
  rw [e] at h
  exact h
theorem acc_split (f : S2x512x32.Idx → F .f32) :
    (mAcc.view.loc (c : Thread nD τ) ↦{fullShare} f : sProp 𝕄) ⊣⊢ iprop(pAcc c (aslot 0) f ∗ pAcc c (aslot 1) f) := by
  have e : (Finset.univ : Finset S2x512x32.Idx) \ aslot 0 = aslot 1 := by
    ext i
    have h : (i 0).val < 2 := (i 0).isLt
    simp only [aslot, Finset.mem_sdiff, Finset.mem_filter, Finset.mem_univ, true_and]
    omega
  have h : (mAcc.view.loc (c : Thread nD τ) ↦{fullShare} f : sProp 𝕄) ⊣⊢ iprop(pAcc c (aslot 0) f ∗ pAcc c (Finset.univ \ aslot 0) f) :=
    pointsTo_split_subset (Finset.subset_univ (aslot 0))
  rw [e] at h
  exact h
theorem word_join (f g : S55296.Idx → BitVec 32) :
    iprop(pWord c (wslot 0) f ∗ pWord c (wslot 1) g) ⊢ (iprop(∃ f, mWord.view.loc (c : Thread nD τ) ↦{fullShare} f) : sProp 𝕄) := by
  have e1 : pWord (F := F) c (wslot 0) f = pWord c (wslot 0) ((wslot 1).piecewise g f) := pointsTo_congr fun j hj => by
    refine (Finset.piecewise_eq_of_notMem _ _ _ ?_).symm
    simp only [wslot, Finset.mem_filter, Finset.mem_univ, true_and] at hj ⊢
    omega
  have e2 : pWord (F := F) c (wslot 1) g = pWord c (wslot 1) ((wslot 1).piecewise g f) := pointsTo_congr fun j hj =>
    (Finset.piecewise_eq_of_mem _ _ _ hj).symm
  rw [e1, e2]
  iintro H
  iexists _
  iapply (word_split c _).2
  iexact H
theorem acc_join (f g : S2x512x32.Idx → F .f32) :
    iprop(pAcc c (aslot 0) f ∗ pAcc c (aslot 1) g) ⊢ (iprop(∃ f, mAcc.view.loc (c : Thread nD τ) ↦{fullShare} f) : sProp 𝕄) := by
  have e1 : pAcc (F := F) c (aslot 0) f = pAcc c (aslot 0) ((aslot 1).piecewise g f) := pointsTo_congr fun j hj => by
    refine (Finset.piecewise_eq_of_notMem _ _ _ ?_).symm
    simp only [aslot, Finset.mem_filter, Finset.mem_univ, true_and] at hj ⊢
    omega
  have e2 : pAcc (F := F) c (aslot 1) g = pAcc c (aslot 1) ((aslot 1).piecewise g f) := pointsTo_congr fun j hj =>
    (Finset.piecewise_eq_of_mem _ _ _ hj).symm
  rw [e1, e2]
  iintro H
  iexists _
  iapply (acc_split c _).2
  iexact H

end Cert.Proof.KernelIdeal
-- ==== Proof.ConvSpec.lean ====
module
public import proofs.«01_k».proof.Proof.OuterLoop
@[expose] public section
noncomputable section
namespace Cert.Proof.KernelIdeal
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F]

local notation "𝕄" => MT nD τ sig Unit (Elt F) ℕ (Pipeline.UD sig nD τ) ℕ

variable (c : Dev nD) (x : S782x27648.Idx → BitVec 32) (a : S100016x1x128.Idx → F .f32) (wf : S3456x32.Idx → F .f32)

/-- What the kernel holds besides its results: its arguments, its scratch buffers, its semaphores. -/
def convHeld : sProp 𝕄 :=
  iprop(pArr c Finset.univ a ∗ pIlx c Finset.univ x ∗ (mW.view.loc (c : Thread nD τ) ↦{fullShare} wf)
    ∗ (∃ f : S50008x1x128.Idx → F .f32, mFeat.view.loc (c : Thread nD τ) ↦{fullShare} f)
    ∗ (∃ f : S512x128.Idx → F .f32, mRows.view.loc (c : Thread nD τ) ↦{fullShare} f)
    ∗ (∃ f : S2x512x32.Idx → F .f32, mAcc.view.loc (c : Thread nD τ) ↦{fullShare} f)
    ∗ (∃ f : S8x32.Idx → F .f32, mSum.view.loc (c : Thread nD τ) ↦{fullShare} f)
    ∗ (∃ f : S55296.Idx → BitVec 32, mWord.view.loc (c : Thread nD τ) ↦{fullShare} f)
    ∗ sv c sF ∗ sv c (sI 0) ∗ sv c (sI 1) ∗ sv c (sO 0) ∗ sv c (sO 1) ∗ sv c sP ∗ ow c)

/-- After the last tile the words' slots are at rest. -/
theorem words_end (b : ℕ) : words x c b 391 ⊢ (iprop(pIlx c Finset.univ x ∗ sv c (sI 1) ∗ ∃ f, pWord c (wslot 1) f) : sProp 𝕄) := by
  unfold words
  rw [if_neg (by decide)]
  unfold wordsIdle
  exact .rfl
theorem idle_end : (wordsIdle c 392 : sProp 𝕄) ⊢ (iprop(sv c (sI 0) ∗ ∃ f, pWord c (wslot 0) f) : sProp 𝕄) := by
  unfold wordsIdle
  exact .rfl
/-- After the last tile the last two copies out are on their way. -/
theorem outS_end0 (b : ℕ) : outS x a wf c b 392 ⊢ (fl c (sO 0) NO iprop(pOut c (orow b 390) (Ofun x a wf) ∗ ∃ f, pAcc c (aslot 0) f) : sProp 𝕄) := by
  unfold outS
  rw [if_neg (by decide)]
theorem outS_end1 (b : ℕ) : outS x a wf c b 391 ⊢ (fl c (sO 1) NO iprop(pOut c (orow b 389) (Ofun x a wf) ∗ ∃ f, pAcc c (aslot 1) f) : sProp 𝕄) := by
  unfold outS
  rw [if_neg (by decide)]
/-- The last two tiles join those done. -/
theorem done_end (b : ℕ) : iprop(pOut c (orow b 390) (Ofun x a wf) ∗ pOut c (orow b 389) (Ofun x a wf) ∗ pOut c (odone b 391) (Ofun x a wf))
    ⊢ (pOut c (ohalf b) (Ofun x a wf) : sProp 𝕄) := by
  have h1 : iprop(pOut c (orow b 389) (Ofun x a wf) ∗ pOut c (odone b 391) (Ofun x a wf)) ⊢ (pOut c (odone b 392) (Ofun x a wf) : sProp 𝕄) := by
    have h := done_join c x a wf b 391
    unfold doneRow at h
    rw [if_neg (by decide)] at h
    exact h
  have h2 : iprop(pOut c (orow b 390) (Ofun x a wf) ∗ pOut c (odone b 392) (Ofun x a wf)) ⊢ (pOut c (ohalf b) (Ofun x a wf) : sProp 𝕄) := by
    have h := done_join c x a wf b 392
    unfold doneRow at h
    rw [if_neg (by decide), done_all] at h
    exact h
  iintro ⟨H0, H1, H⟩
  iapply h2
  isplitl [H0]; · iexact H0
  iapply h1
  isplitl [H1] <;> iassumption

/-- The state before the first tile. -/
theorem outer_start (b : ℕ) (o0 : S2x200192x32.Idx → F .f32) :
    iprop(fl c (sI 0) NI iprop(pWord c (wslot 0) (wbuf (rowW x (391 * b))) ∗ pIlx c (irow (391 * b)) x) ∗ pIlx c (Finset.univ \ irow (391 * b)) x
      ∗ (sv c (sI 1) ∗ ∃ f, pWord c (wslot 1) f) ∗ bodyRes a wf c b ∗ (sv c (sO 0) ∗ ∃ f, pAcc c (aslot 0) f) ∗ (sv c (sO 1) ∗ ∃ f, pAcc c (aslot 1) f)
      ∗ pOut c (ohalf b) o0 ∗ (∃ f : S8x32.Idx → F .f32, mSum.view.loc (c : Thread nD τ) ↦{fullShare} f) ∗ ow c)
    ⊢ (outerInv c x a wf b o0 0 : sProp 𝕄) := by
  unfold outerInv
  rw [done_zero, todo_zero]
  iintro ⟨Hf, Hx, Hi, Hb, Ho, Ho', Hout, ⟨%s, Hs⟩, Hd⟩
  isplitl [Hf Hx]
  · unfold words
    rw [if_pos (by decide)]
    isplitl [Hf] <;> iassumption
  isplitl [Hi]; · unfold wordsIdle; iexact Hi
  isplitl [Hb]; · iexact Hb
  isplitl [Ho]; · unfold outS; rw [if_pos (by decide)]; iexact Ho
  isplitl [Ho']; · unfold outS; rw [if_pos (by decide)]; iexact Ho'
  isplitr; · iapply (Entails.of_eq pointsTo_empty.symm); iempintro
  isplitl [Hout]; · iexact Hout
  isplitl [Hs]
  · iexists s
    isplitl [Hs]; · iexact Hs
    ipureintro; intro h; exact absurd h (by decide)
  iexact Hd

/-- Half `b` of the sums. -/
theorem Pfun_row (b : ℕ) : ∀ j ∈ prow b, sumAt x a wf b 391 (pIx j) = Pfun x a wf j := by
  intro j hj
  simp only [prow, Finset.mem_filter, Finset.mem_univ, true_and] at hj
  unfold Pfun
  rw [hj]

/-- One half: its tiles and its sums are the results'. -/
theorem wp_conv (i : grid0.Coords) (ib : Fin k0_t1_loop.trips → Fin k0_t2_loop.trips → Unit → Pg F Unit)
    (hT : ∀ t : Fin k0_t1_loop.trips, TileSpec c t ib (featHalf a (i 0).val) (rowW x (391 * (i 0).val + t.val)) wf)
    (o0 : S2x200192x32.Idx → F .f32) (p0 : S2x8x32.Idx → F .f32) (Q : PUnit → sProp 𝕄) :
    iprop(convHeld c x a wf ∗ pOut c (ohalf (i 0).val) o0 ∗ pPart c (prow (i 0).val) p0
      ∗ (iprop(convHeld c x a wf ∗ pOut c (ohalf (i 0).val) (Ofun x a wf) ∗ pPart c (prow (i 0).val) (Pfun x a wf)) -∗ Q ⟨⟩))
    ⊢ wpC c (convProg i ib) Q := by
  have hi : (i 0).val < 2 := (i 0).isLt
  unfold convProg halfProg convHeld
  iintro ⟨⟨Harr, Hx, Hw, Hfe, Hr, ⟨%fa, Ha⟩, Hs, ⟨%fw, Hwd⟩, HsF, HsI0, HsI1, HsO0, HsO1, HsP, Hd⟩, Hout, Hpart, Hk⟩
  ihave ⟨Ha0, Ha1⟩ := (acc_split c fa).1 $$ Ha
  ihave ⟨Hw0, Hw1⟩ := (word_split c fw).1 $$ Hwd
  ihave ⟨Hx1, Hx2⟩ := (pointsTo_split_subset (Finset.subset_univ (irow (391 * (i 0).val)))).1 $$ Hx
  iapply wpC_bind
  iapply (dma_feat c hi (k0_off1_eq i) rfl a) $$ [Harr Hfe HsF]
  · isplitl [Harr]; · iexact Harr
    isplitl [Hfe] <;> iassumption
  iintro ⟨HfF, Harr⟩
  iapply (dma_idx c (p := 0) (n := 391 * (i 0).val) (by omega) (k0_off2_eq i) rfl (semI_eq _ (by decide) rfl) x) $$ [Hx1 Hw0 HsI0]
  · isplitl [Hx1]; · iexact Hx1
    isplitl [Hw0]; · iexists fw; iexact Hw0
    iexact HsI0
  iintro HfI
  iapply (wait_feat c rfl) $$ [HfF Hd]
  · isplitl [HfF] <;> iassumption
  iintro ⟨⟨Hfe, Harr'⟩, HsF, Hd⟩
  ihave Harr : pArr c Finset.univ a $$ [Harr Harr']
  · iapply (pointsTo_split_subset (Finset.subset_univ _)).2
    isplitl [Harr'] <;> iassumption
  iapply wpC_bind
  iapply (outer_loop c x a wf i ib hT o0)
  isplitl [HfI Hx2 HsI1 Hw1 Hr Hfe Hw HsO0 Ha0 HsO1 Ha1 Hout Hs Hd]
  · iapply (outer_start c x a wf (i 0).val o0)
    isplitl [HfI]; · iexact HfI
    isplitl [Hx2]; · iexact Hx2
    isplitl [HsI1 Hw1]
    · isplitl [HsI1]; · iexact HsI1
      iexists fw; iexact Hw1
    isplitl [Hr Hfe Hw]
    · unfold bodyRes
      isplitl [Hr]; · iexact Hr
      isplitl [Hfe] <;> iassumption
    isplitl [HsO0 Ha0]
    · isplitl [HsO0]; · iexact HsO0
      iexists fa; iexact Ha0
    isplitl [HsO1 Ha1]
    · isplitl [HsO1]; · iexact HsO1
      iexists fa; iexact Ha1
    isplitl [Hout]; · iexact Hout
    isplitl [Hs] <;> iassumption
  iintro %u H
  ihave H : outerInv c x a wf (i 0).val o0 391 $$ [H]
  · iapply (Entails.of_eq (congrArg (outerInv c x a wf (i 0).val o0) trips_outer)); iexact H
  unfold outerInv bodyRes
  icases H with ⟨Hwd, Hi, ⟨Hr, Hfe, Hw⟩, Ho1, Ho0, Hdone, -, ⟨%s, Hs, %hs⟩, Hd⟩
  ihave Ho0 := (outS_end0 c x a wf (i 0).val) $$ Ho0
  ihave Ho1 := (outS_end1 c x a wf (i 0).val) $$ Ho1
  ihave ⟨Hx, HsI1, %f1, Hw1⟩ := (words_end c x (i 0).val) $$ Hwd
  ihave ⟨HsI0, %f0, Hw0⟩ := (idle_end c) $$ Hi
  rw [hs (by decide)]
  iapply (wait_out c (p := 0) (semO_eq _ (by decide) rfl)) $$ [Ho0 Hd]
  · isplitl [Ho0] <;> iassumption
  iintro ⟨⟨Hr0, %g0, Ha0⟩, HsO0, Hd⟩
  iapply (wait_out c (p := 1) (semO_eq _ (by decide) rfl)) $$ [Ho1 Hd]
  · isplitl [Ho1] <;> iassumption
  iintro ⟨⟨Hr1, %g1, Ha1⟩, HsO1, Hd⟩
  iapply (dma_part c (b := (i 0).val) (k0_off1554_eq i) rfl (sumAt x a wf (i 0).val 391) (Pfun x a wf) (Pfun_row x a wf (i 0).val) p0) $$ [Hs Hpart HsP]
  · isplitl [Hs]; · iexact Hs
    isplitl [Hpart] <;> iassumption
  iintro HfP
  iapply wpC_ret
  iapply (wait_part c rfl) $$ [HfP Hd]
  · isplitl [HfP] <;> iassumption
  iintro ⟨⟨Hpart, Hs⟩, HsP, Hd⟩
  iapply wpC_ret
  iapply Hk
  isplitr [Hr0 Hr1 Hdone Hpart]
  · isplitl [Harr]; · iexact Harr
    isplitl [Hx]; · iexact Hx
    isplitl [Hw]; · iexact Hw
    isplitl [Hfe]; · iexists _; iexact Hfe
    isplitl [Hr]; · iexact Hr
    isplitl [Ha0 Ha1]
    · iapply (acc_join c g0 g1)
      isplitl [Ha0] <;> iassumption
    isplitl [Hs]; · iexact Hs
    isplitl [Hw0 Hw1]
    · iapply (word_join c f0 f1)
      isplitl [Hw0] <;> iassumption
    isplitl [HsF]; · iexact HsF
    isplitl [HsI0]; · iexact HsI0
    isplitl [HsI1]; · iexact HsI1
    isplitl [HsO0]; · iexact HsO0
    isplitl [HsO1]; · iexact HsO1
    isplitl [HsP] <;> iassumption
  isplitl [Hr0 Hr1 Hdone]
  · iapply (done_end c x a wf (i 0).val)
    isplitl [Hr0]; · iexact Hr0
    isplitl [Hr1] <;> iassumption
  iexact Hpart

/-- The kernel's own body on half `i`. -/
theorem wp_kernel (i : grid0.Coords) (hx : ∀ n q, q < 13824 → (rowW x n q).toNat < 50008) (o0 : S2x200192x32.Idx → F .f32) (p0 : S2x8x32.Idx → F .f32)
    (Q : PUnit → sProp 𝕄) :
    iprop(convHeld c x a wf ∗ pOut c (ohalf (i 0).val) o0 ∗ pPart c (prow (i 0).val) p0
      ∗ (iprop(convHeld c x a wf ∗ pOut c (ohalf (i 0).val) (Ofun x a wf) ∗ pPart c (prow (i 0).val) (Pfun x a wf)) -∗ Q ⟨⟩))
    ⊢ wpC c (convProg i (innerOf (F := F) i)) Q := by
  have hT : ∀ t : Fin k0_t1_loop.trips, TileSpec c t (innerOf (F := F) i) (featHalf a (i 0).val) (rowW x (391 * (i 0).val + t.val)) wf :=
    fun t f Q => wp_tile c i t _ _ (hx _) wf f Q
  generalize innerOf (F := F) i = ib at hT ⊢
  exact wp_conv c x a wf i ib hT o0 p0 Q

end Cert.Proof.KernelIdeal
-- ==== Proof.Region0.lean ====
module
public import proofs.«01_k».proof.Proof.ConvSpec
public import proofs.«01_k».proof.Proof.Gen.KernelIdeal.Regions
public import proofs.«01_k».proof.Proof.Gen.KernelIdeal.Points
public import proofs.«01_k».proof.Proof.Gen.KernelIdeal.Launch
public import Idealize.ShloMosaic.Lib.Pipeline.RegionsLoop
@[expose] public section
noncomputable section
namespace Cert.Proof.KernelIdeal
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
variable {F : FTy → Type} [FloatOps F]

local notation "𝕄" => MT nD τ sig Unit (Elt F) ℕ (Pipeline.UD sig nD τ) ℕ

/-- What the kernel holds besides its results, the staged weights and what it owes. -/
def convRest (c : Dev nD) (x : S782x27648.Idx → BitVec 32) (a : S100016x1x128.Idx → F .f32) : sProp 𝕄 :=
  iprop((pArr c Finset.univ a ∗ pIlx c Finset.univ x)
    ∗ ((∃ f : S50008x1x128.Idx → F .f32, mFeat.view.loc (c : Thread nD τ) ↦{fullShare} f)
    ∗ (∃ f : S512x128.Idx → F .f32, mRows.view.loc (c : Thread nD τ) ↦{fullShare} f)
    ∗ (∃ f : S2x512x32.Idx → F .f32, mAcc.view.loc (c : Thread nD τ) ↦{fullShare} f)
    ∗ (∃ f : S8x32.Idx → F .f32, mSum.view.loc (c : Thread nD τ) ↦{fullShare} f)
    ∗ (∃ f : S55296.Idx → BitVec 32, mWord.view.loc (c : Thread nD τ) ↦{fullShare} f))
    ∗ (sv c sF ∗ sv c (sI 0) ∗ sv c (sI 1) ∗ sv c (sO 0) ∗ sv c (sO 1) ∗ sv c sP))

theorem convHeld_rest (c : Dev nD) (x : S782x27648.Idx → BitVec 32) (a : S100016x1x128.Idx → F .f32) (wf : S3456x32.Idx → F .f32) :
    (convHeld c x a wf : sProp 𝕄) ⊣⊢ iprop(convRest c x a ∗ (mW.view.loc (c : Thread nD τ) ↦{fullShare} wf) ∗ ow c) := by
  unfold convHeld convRest
  constructor
  · iintro ⟨H1, H2, Hw, H3, H4, H5, H6, H7, H8, H9, H10, H11, H12, H13, Hd⟩
    isplitr [Hw Hd]
    · isplitl [H1 H2]; · isplitl [H1] <;> iassumption
      isplitl [H3 H4 H5 H6 H7]
      · isplitl [H3]; · iexact H3
        isplitl [H4]; · iexact H4
        isplitl [H5]; · iexact H5
        isplitl [H6] <;> iassumption
      isplitl [H8]; · iexact H8
      isplitl [H9]; · iexact H9
      isplitl [H10]; · iexact H10
      isplitl [H11]; · iexact H11
      isplitl [H12] <;> iassumption
    isplitl [Hw] <;> iassumption
  · iintro ⟨⟨⟨H1, H2⟩, ⟨H3, H4, H5, H6, H7⟩, H8, H9, H10, H11, H12, H13⟩, Hw, Hd⟩
    isplitl [H1]; · iexact H1
    isplitl [H2]; · iexact H2
    isplitl [Hw]; · iexact Hw
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13] <;> iassumption

/-- The other call's staging buffers. -/
def others (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg4_1), ((c : Thread nD τ).loc cc1_stg4_1) ↦{fullShare} f))

variable (V : Dev nD → Valuation τ sig (Elt F))

/-- The words, the packed features and the staged weights at the region's entry. -/
abbrev ix0 (c : Dev nD) : S782x27648.Idx → BitVec 32 := V c main_v28
abbrev fe0 (c : Dev nD) : S100016x1x128.Idx → F .f32 := V c main_v2
abbrev wt0 (c : Dev nD) : S3456x32.Idx → F .f32 := ((cfg0.win 0).blk t0_0).view.read (Elt F) (V c main_v32)

/-- The results once the first `n` halves are done. -/
def outAt (c : Dev nD) (n : ℕ) : S2x200192x32.Idx → F .f32 :=
  fun j => if (j 0).val < n then Ofun (ix0 V c) (fe0 V c) (wt0 V c) j else V c main_v33_0 j
def partAt (c : Dev nD) (n : ℕ) : S2x8x32.Idx → F .f32 :=
  fun j => if (j 0).val < n then Pfun (ix0 V c) (fe0 V c) (wt0 V c) j else V c main_v33_1 j

/-- Between points. -/
def Phi0 (c : Dev nD) (n : ℕ) : sProp 𝕄 :=
  iprop(others c ∗ convRest c (ix0 V c) (fe0 V c) ∗ pOut c Finset.univ (outAt V c n) ∗ pPart c Finset.univ (partAt V c n))

/-- The region's proof data. -/
def dat0 (c : Dev nD) : Dat τ (Elt F) Unit ℕ (Pipeline.UD sig nD τ) ℕ cfg0 c where
  A w := V c (Pipeline.arrRef spec0 w)
  after w _ := match w with
    | ⟨0, _⟩ => wt0 V c
  Φ t := Phi0 V c t.val
  q _ := fullShare
  owed _ := 0

theorem before0 (c : Dev nD) (t : Fin cfg0.N) (d : (cfg0.win 0).block.Idx → Elt F (cfg0.win 0).elt) : (dat0 V c).before 0 t d = wt0 V c := by
  rcases fin_N0 t with rfl | rfl
  · unfold Dat.before; rw [if_pos (by decide)]; rfl
  · unfold Dat.before
    rw [if_neg (by decide), if_neg (by decide)]
    dsimp only
    rw [if_neg (by decide)]
    rfl

/-- The body at a point is the program. -/
theorem bodyAt0_eq (t : Fin cfg0.N) : bodyAt0 (F := F) t = convProg (grid0.coords t) (innerOf (F := F) (grid0.coords t)) := by
  rw [← convProg_eq]
  rcases fin_N0 t with rfl | rfl <;> rfl

theorem coord0 (t : Fin cfg0.N) : (grid0.coords t 0).val = t.val := by
  rcases fin_N0 t with rfl | rfl <;> decide

/-- One half of the results put in. -/
theorem out_split (c : Dev nD) (n : ℕ) (hn : n < 2) :
    (pOut c Finset.univ (outAt V c n) : sProp 𝕄) ⊢ iprop(pOut c (ohalf n) (outAt V c n)
      ∗ (pOut c (ohalf n) (Ofun (ix0 V c) (fe0 V c) (wt0 V c)) -∗ pOut c Finset.univ (outAt V c (n + 1)))) := by
  have e1 : pOut (F := F) c (ohalf n) (Ofun (ix0 V c) (fe0 V c) (wt0 V c)) = pOut c (ohalf n) (outAt V c (n + 1)) := pointsTo_congr fun j hj => by
    simp only [ohalf, Finset.mem_filter, Finset.mem_univ, true_and] at hj
    exact (if_pos (show (j 0).val < n + 1 by omega)).symm
  have e2 : pOut (F := F) c (Finset.univ \ ohalf n) (outAt V c n) = pOut c (Finset.univ \ ohalf n) (outAt V c (n + 1)) := pointsTo_congr fun j hj => by
    simp only [ohalf, Finset.mem_sdiff, Finset.mem_filter, Finset.mem_univ, true_and] at hj
    unfold outAt
    by_cases h : (j 0).val < n
    · rw [if_pos h, if_pos (by omega)]
    · rw [if_neg h, if_neg (by omega)]
  have hs : (pOut c Finset.univ (outAt V c n) : sProp 𝕄) ⊢ iprop(pOut c (ohalf n) (outAt V c n) ∗ pOut c (Finset.univ \ ohalf n) (outAt V c n)) :=
    (pointsTo_split_subset (Finset.subset_univ (ohalf n))).1
  rw [e2] at hs
  have hj : iprop(pOut c (ohalf n) (outAt V c (n + 1)) ∗ pOut c (Finset.univ \ ohalf n) (outAt V c (n + 1))) ⊢ (pOut c Finset.univ (outAt V c (n + 1)) : sProp 𝕄) :=
    (pointsTo_split_subset (Finset.subset_univ (ohalf n))).2
  rw [← e1] at hj
  iintro H
  ihave ⟨H1, H2⟩ := hs $$ H
  isplitl [H1]; · iexact H1
  iintro H1
  iapply hj
  isplitl [H1] <;> iassumption
theorem part_split (c : Dev nD) (n : ℕ) (hn : n < 2) :
    (pPart c Finset.univ (partAt V c n) : sProp 𝕄) ⊢ iprop(pPart c (prow n) (partAt V c n)
      ∗ (pPart c (prow n) (Pfun (ix0 V c) (fe0 V c) (wt0 V c)) -∗ pPart c Finset.univ (partAt V c (n + 1)))) := by
  have e1 : pPart (F := F) c (prow n) (Pfun (ix0 V c) (fe0 V c) (wt0 V c)) = pPart c (prow n) (partAt V c (n + 1)) := pointsTo_congr fun j hj => by
    simp only [prow, Finset.mem_filter, Finset.mem_univ, true_and] at hj
    exact (if_pos (show (j 0).val < n + 1 by omega)).symm
  have e2 : pPart (F := F) c (Finset.univ \ prow n) (partAt V c n) = pPart c (Finset.univ \ prow n) (partAt V c (n + 1)) := pointsTo_congr fun j hj => by
    simp only [prow, Finset.mem_sdiff, Finset.mem_filter, Finset.mem_univ, true_and] at hj
    unfold partAt
    by_cases h : (j 0).val < n
    · rw [if_pos h, if_pos (by omega)]
    · rw [if_neg h, if_neg (by omega)]
  have hs : (pPart c Finset.univ (partAt V c n) : sProp 𝕄) ⊢ iprop(pPart c (prow n) (partAt V c n) ∗ pPart c (Finset.univ \ prow n) (partAt V c n)) :=
    (pointsTo_split_subset (Finset.subset_univ (prow n))).1
  rw [e2] at hs
  have hj : iprop(pPart c (prow n) (partAt V c (n + 1)) ∗ pPart c (Finset.univ \ prow n) (partAt V c (n + 1))) ⊢ (pPart c Finset.univ (partAt V c (n + 1)) : sProp 𝕄) :=
    (pointsTo_split_subset (Finset.subset_univ (prow n))).2
  rw [← e1] at hj
  iintro H
  ihave ⟨H1, H2⟩ := hs $$ H
  isplitl [H1]; · iexact H1
  iintro H1
  iapply hj
  isplitl [H1] <;> iassumption

/-- One point: half `t` is put into the results. -/
theorem wp_point (c : Dev nD) (t : Fin cfg0.N) (hx : ∀ n q, q < 13824 → (rowW (ix0 V c) n q).toNat < 50008) (Q : PUnit → sProp 𝕄) :
    iprop(Phi0 V c t.val ∗ (mW.view.loc (c : Thread nD τ) ↦{fullShare} wt0 V c) ∗ ow c
      ∗ (iprop(Phi0 V c (t.val + 1) ∗ (mW.view.loc (c : Thread nD τ) ↦{fullShare} wt0 V c) ∗ ow c) -∗ Q ⟨⟩))
    ⊢ wpC c (convProg (grid0.coords t) (innerOf (F := F) (grid0.coords t))) Q := by
  have ht : t.val < 2 := t.isLt
  have hw := wp_kernel c (ix0 V c) (fe0 V c) (wt0 V c) (grid0.coords t) hx (outAt V c t.val) (partAt V c t.val) Q
  rw [coord0] at hw
  refine BI.BIBase.Entails.trans ?_ hw
  unfold Phi0
  iintro ⟨⟨Hot, Hr, Ho, Hp⟩, Hw, Hd, Hk⟩
  ihave ⟨Ho1, Ho2⟩ := (out_split V c t.val ht) $$ Ho
  ihave ⟨Hp1, Hp2⟩ := (part_split V c t.val ht) $$ Hp
  isplitl [Hr Hw Hd]
  · iapply (convHeld_rest c (ix0 V c) (fe0 V c) (wt0 V c)).2
    isplitl [Hr]; · iexact Hr
    isplitl [Hw] <;> iassumption
  isplitl [Ho1]; · iexact Ho1
  isplitl [Hp1]; · iexact Hp1
  iintro ⟨Hh, Ho1, Hp1⟩
  ihave ⟨Hr, Hw, Hd⟩ := (convHeld_rest c (ix0 V c) (fe0 V c) (wt0 V c)).1 $$ Hh
  iapply Hk
  isplitr [Hw Hd]
  · isplitl [Hot]; · iexact Hot
    isplitl [Hr]; · iexact Hr
    isplitl [Ho1 Ho2]; · iapply Ho2; iexact Ho1
    iapply Hp2; iexact Hp1
  isplitl [Hw] <;> iassumption

/-- The library's body obligation. -/
theorem body_obligation0 (c : Dev nD) (hx : ∀ n q, q < 13824 → (rowW (ix0 V c) n q).toNat < 50008) :
    BodyObligation (dat0 V c) (defs₀ (F := F)) Variants.none () Set.univ := fun t => by
  rw [bigSep_W0, bigSep_W0]
  have hs : stage0_0 (cfg0.slots t 0) = Memref.whole cc0_stg0_0 := by rcases fin_N0 t with rfl | rfl <;> rfl
  rw [show (cfg0.win 0).stage (cfg0.slots t 0) = Memref.whole cc0_stg0_0 from hs]
  simp only [owns_whole_eq]
  rw [show (dat0 V c).Φ t.castSucc = Phi0 V c t.val from rfl, show (dat0 V c).Φ t.succ = Phi0 V c (t.val + 1) from rfl,
    show (dat0 V c).owesAt () t.succ = (dat0 V c).owesAt () t.castSucc from rfl]
  have hb : defs₀ (F := F) .tc cfg0.body (cfg0.bodyArgs t (cfg0.slots t)) = convProg (grid0.coords t) (innerOf (F := F) (grid0.coords t)) := bodyAt0_eq t
  rw [hb]
  iintro ⟨HΦ, Howes, ⟨%d0, %f0, %hf0, H0⟩⟩
  rw [before0] at hf0
  subst hf0
  unfold Pipeline.Dat.owesAt Pipeline.owesWithin
  icases Howes with ⟨%W, -, HO⟩
  iapply (wp_point V c t hx _)
  isplitl [HΦ]; · iexact HΦ
  isplitl [H0]; · iexact H0
  isplitl [HO]; · iexists W; iexact HO
  iintro ⟨HΦ, H0, HO⟩
  isplitl [HΦ]; · iexact HΦ
  isplitl [HO]
  · icases HO with ⟨%W, HO⟩
    iexists W; isplitr; · ipureintro; exact fun _ _ => Or.inl trivial
    iexact HO
  iexists _; isplitr; swap; (· iexact H0); ipureintro; rfl

end Cert.Proof.KernelIdeal
-- ==== Proof.Region1.lean ====
module
public import proofs.«01_k».proof.Proof.ConvSpec
public import proofs.«01_k».proof.Proof.Gen.KernelIdeal.Regions
public import proofs.«01_k».proof.Proof.Gen.KernelIdeal.Points
public import proofs.«01_k».proof.Proof.Gen.KernelIdeal.Launch
public import Idealize.ShloMosaic.Lib.Pipeline.RegionsLoop
public import Idealize.ShloMosaic.Lib.VecWindow
public import Idealize.ShloMosaic.Lib.Exec.Geometry
public import Idealize.ShloMosaic.Lib.Pipeline.FrameBody
@[expose] public section
noncomputable section
namespace Cert.Proof.KernelIdeal
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
variable {F : FTy → Type} [FloatOps F]

local notation "𝕄" => MT nD τ sig Unit (Elt F) ℕ (Pipeline.UD sig nD τ) ℕ

/-- A load of a whole memref reads its contents. -/
theorem wp_load_owns (c : Dev nD) {s : Shape} {e : EltTy} {m : Memref sig .tc .vmem s e} {off : Fin s.rank → ℕ} {inb : ∀ a, off a + s.size a ≤ s.size a}
    {hl : m.view.LoadsAt (Rect.unit off s.size inb).toLoadRect} {k : (s.Idx → Elt F e) → Prog (TpuEff nD τ sig (Elt F) Λ₀ .tc) PUnit} (X : s.Idx → Elt F e) (Q : PUnit → sProp 𝕄) :
    (owns (c : Thread nD τ) m fullShare X : sProp 𝕄)
      ⊢ iprop((owns (c : Thread nD τ) m fullShare X -∗ wpC c (k X) Q) -∗ wpC c (.op (.load m (Rect.unit off s.size inb).toLoadRect hl) k) Q) := by
  unfold owns
  iintro ⟨%f, %hf, H⟩ Hk
  iapply (wp_load (Val := Elt F) Variants.none (c : Thread nD τ) none Set.univ (m := m) (m.view.setOn_subset_set _)) $$ H
  iintro H
  have e : m.view.readAt (Elt F) (Rect.unit off s.size inb).toLoadRect f = X := (View.readAt_full m.view f inb).trans hf
  rw [e]
  iapply Hk
  iexists f
  isplitr; · ipureintro; exact hf
  iexact H

/-- A store of a whole memref leaves the payload. -/
theorem wp_store_owns (c : Dev nD) {s : Shape} {e : EltTy} {m : Memref sig .tc .vmem s e} {off : Fin s.rank → ℕ} {inb : ∀ a, off a + s.size a ≤ s.size a}
    {w : s.Idx → Elt F e} {hx : (m.access (Rect.unit off s.size inb)).Stores Finset.univ} {hm}
    {k : PUnit → Prog (TpuEff nD τ sig (Elt F) Λ₀ .tc) PUnit} (X : s.Idx → Elt F e) (Q : PUnit → sProp 𝕄) :
    (owns (c : Thread nD τ) m fullShare X : sProp 𝕄)
      ⊢ iprop((owns (c : Thread nD τ) m fullShare w -∗ wpC c (k ⟨⟩) Q) -∗ wpC c (.op (.store m (Rect.unit off s.size inb) w Finset.univ hx hm) k) Q) := by
  unfold owns
  iintro ⟨%f, %hf, H⟩ Hk
  iapply (wp_store (Val := Elt F) Variants.none (c : Thread nD τ) none Set.univ (m := m)
    (r := Rect.unit off s.size inb) (View.setOn_slice_subset_set _ _ _)) $$ H
  iintro H
  iapply Hk
  iexists _
  isplitr; swap; · iexact H
  ipureintro
  exact View.read_writes_full m.view f inb w []

/-- The normalising body over whole memrefs: the result's block is the payload of the others'. -/
theorem wp_bn (c : Dev nD) (i : grid1.Coords) (m0 : Memref sig .tc .vmem S1x2000x32 .f32) (h0 : m0.IsWhole) (m1 : Memref sig .tc .vmem S2x8x32 .f32) (h1 : m1.IsWhole)
    (m2 : Memref sig .tc .vmem S1x32 .f32) (h2 : m2.IsWhole) (m3 : Memref sig .tc .vmem S1x32 .f32) (h3 : m3.IsWhole) (m4 : Memref sig .tc .vmem S1x2000x32 .f32) (h4 : m4.IsWhole)
    (X0 : S1x2000x32.Idx → F .f32) (X1 : S2x8x32.Idx → F .f32) (X2 X3 : S1x32.Idx → F .f32) (X4 : S1x2000x32.Idx → F .f32) (Q : PUnit → sProp 𝕄) :
    iprop(owns (c : Thread nD τ) m0 fullShare X0 ∗ owns (c : Thread nD τ) m1 fullShare X1 ∗ owns (c : Thread nD τ) m2 fullShare X2 ∗ owns (c : Thread nD τ) m3 fullShare X3
      ∗ owns (c : Thread nD τ) m4 fullShare X4
      ∗ (iprop(owns (c : Thread nD τ) m0 fullShare X0 ∗ owns (c : Thread nD τ) m1 fullShare X1 ∗ owns (c : Thread nD τ) m2 fullShare X2 ∗ owns (c : Thread nD τ) m3 fullShare X3
        ∗ owns (c : Thread nD τ) m4 fullShare (k1_pay1 X1 X2 X3 X0)) -∗ Q ⟨⟩))
    ⊢ wpC c (cc1__bn_kernel (F := F) i m0 h0 m1 h1 m2 h2 m3 h3 m4 h4) Q := by
  rw [cc1__bn_kernel_eq_skeleton]
  unfold cc1__bn_kernel_skel
  iintro ⟨H0, H1, H2, H3, H4, Hk⟩
  iapply (wp_load_owns c X1 Q) $$ H1
  iintro H1
  iapply (wp_load_owns c X2 Q) $$ H2
  iintro H2
  iapply (wp_load_owns c X3 Q) $$ H3
  iintro H3
  iapply (wp_load_owns c X0 Q) $$ H0
  iintro H0
  iapply (wp_load_owns c X4 Q) $$ H4
  iintro H4
  iapply (wp_store_owns c X4 Q) $$ H4
  iintro H4
  iapply wpC_ret
  iapply Hk
  isplitl [H0]; · iexact H0
  isplitl [H1]; · iexact H1
  isplitl [H2]; · iexact H2
  isplitl [H3]; · iexact H3
  iexact H4

variable (V : Dev nD → Valuation τ sig (Elt F))

/-- An operand's block at a point. -/
abbrev blk1 (c : Dev nD) (w : Fin cfg1.W) (t : Fin cfg1.N) := ((cfg1.win w).blk t).view.read (Elt F) (V c (Pipeline.arrRef spec1 w))

theorem ix1_0 (i : grid1.Coords) : cc1_transform_0 i = ![(i 0).val, (i 1).val, 0] := by
  have h0 : (i 0).val < 2 := (i 0).isLt
  have h1 : (i 1).val < 100 := (i 1).isLt
  unfold cc1_transform_0
  simp only [BitVec.toNat_ofNat]
  rw [Nat.mod_eq_of_lt (show (i 0).val < 2 ^ 32 by omega), Nat.mod_eq_of_lt (show (i 1).val < 2 ^ 32 by omega)]

/-- No block of the conv's result overhangs it. -/
theorem clip1_0 (i : grid1.Coords) (a : Fin 3) : win1_0.clip i a = none := by
  have h0 : (i 0).val < 2 := (i 0).isLt
  have h1 : (i 1).val < 100 := (i 1).isLt
  show Pipeline.Clip.of (cc1_transform_0 i a) (S1x2000x32.size a) (S2x200192x32.size a) = none
  rw [ix1_0]
  unfold Pipeline.Clip.of
  rw [if_pos]
  fin_cases a
  · show ((i 0).val + 1) * 1 ≤ 2; omega
  · show ((i 1).val + 1) * 2000 ≤ 200192; omega
  · show (0 + 1) * 32 ≤ 32; omega

/-- The conv result's block at a point. -/
def xb (c : Dev nD) (t : Fin cfg1.N) : S1x2000x32.Idx → F .f32 := fun j =>
  V c main_v33_0 (ix3 ⟨(grid1.coords t 0).val, (grid1.coords t 0).isLt⟩
    ⟨(grid1.coords t 1).val * 2000 + (j 1).val, by have h1 : (grid1.coords t 1).val < 100 := (grid1.coords t 1).isLt; have h2 : (j 1).val < 2000 := (j 1).isLt; show _ < 200192; omega⟩ ⟨(j 2).val, (j 2).isLt⟩ : S2x200192x32.Idx)

theorem xb_read (c : Dev nD) (t : Fin cfg1.N) (j : ((cfg1.win 0).xblock (grid1.coords t)).Idx) :
    xb V c t ((cfg1.win 0).xinj (grid1.coords t) j) = blk1 V c 0 t j := by
  show V c main_v33_0 _ = V c main_v33_0 _
  congr 1
  funext a
  apply Fin.ext
  have h := ValueKit.view_emb_slice_whole_unit_val main_v33_0 _ _ (fun a => Pipeline.Clip.OkAt.inb (win1_0.hclip (grid1.coords t) a)) j a
  have e := congrFun (ix1_0 (grid1.coords t)) a
  have h0 : (j 0).val < 1 := lt_of_lt_of_le (j 0).isLt (win1_0.xsize_le (grid1.coords t) 0)
  refine Eq.trans ?_ h.symm
  show _ = cc1_transform_0 (grid1.coords t) a * S1x2000x32.size a + _
  rw [e]
  fin_cases a
  · show (grid1.coords t 0).val = (grid1.coords t 0).val * 1 + (j 0).val; omega
  · rfl
  · show (j 2).val = 0 * 32 + (j 2).val; omega

theorem before1_0' (c : Dev nD) (t : Fin cfg1.N) (d : S1x2000x32.Idx → F .f32) :
    win1_0.fill (grid1.coords t) d (blk1 V c 0 t) = xb V c t := by
  funext j
  unfold Pipeline.Window.fill
  have hm : win1_0.moved (grid1.coords t) j = true := by
    rw [win1_0.moved_iff]
    intro a
    show (j a).val < (win1_0.clip (grid1.coords t) a).extent (S1x2000x32.size a)
    rw [clip1_0]
    exact (j a).isLt
  rw [dif_pos hm]
  exact (xb_read V c t _).symm

/-- The region's proof data. -/
def dat1 (c : Dev nD) : Dat τ (Elt F) Unit ℕ (Pipeline.UD sig nD τ) ℕ cfg1 c where
  A w := V c (Pipeline.arrRef spec1 w)
  after w t := match w with
    | ⟨0, _⟩ => xb V c t
    | ⟨1, _⟩ => blk1 V c 1 t
    | ⟨2, _⟩ => blk1 V c 2 t
    | ⟨3, _⟩ => blk1 V c 3 t
    | ⟨4, _⟩ => k1_pay1 (blk1 V c 1 t) (blk1 V c 2 t) (blk1 V c 3 t) (xb V c t)
  Φ _ := iprop(Pipeline.scopedRest (Ix := Unit) (Name := ℕ) (U := Pipeline.UD sig nD τ) (Lvl := ℕ) (Val := Elt F) spec1 c)
  q _ := fullShare
  owed _ := 0

theorem before1_0 (c : Dev nD) (t : Fin cfg1.N) (d : (cfg1.win 0).block.Idx → Elt F (cfg1.win 0).elt) : (dat1 V c).before 0 t d = xb V c t :=
  ((dat1 V c).before_fetched 0 t (fetch1_0 t) d).trans (before1_0' V c t d)
theorem before1_1 (c : Dev nD) (t : Fin cfg1.N) (d : (cfg1.win 1).block.Idx → Elt F (cfg1.win 1).elt) : (dat1 V c).before 1 t d = blk1 V c 1 t :=
  ((dat1 V c).before_in_eq_fetched 1 rfl (fun _ => rfl) (fun _ _ _ => rfl) (fun _ => rfl) t d).trans rfl
theorem before1_2 (c : Dev nD) (t : Fin cfg1.N) (d : (cfg1.win 2).block.Idx → Elt F (cfg1.win 2).elt) : (dat1 V c).before 2 t d = blk1 V c 2 t :=
  ((dat1 V c).before_in_eq_fetched 2 rfl (fun _ => rfl) (fun _ _ _ => rfl) (fun _ => rfl) t d).trans rfl
theorem before1_3 (c : Dev nD) (t : Fin cfg1.N) (d : (cfg1.win 3).block.Idx → Elt F (cfg1.win 3).elt) : (dat1 V c).before 3 t d = blk1 V c 3 t :=
  ((dat1 V c).before_in_eq_fetched 3 rfl (fun _ => rfl) (fun _ _ _ => rfl) (fun _ => rfl) t d).trans rfl

/-- The library's body obligation. -/
theorem body_obligation1 (c : Dev nD) : BodyObligation (dat1 V c) (defs₀ (F := F)) Variants.none () Set.univ := fun t => by
  rw [bigSep_W1, bigSep_W1]
  rw [show (dat1 V c).Φ t.castSucc = (dat1 V c).Φ t.succ from rfl,
    show (dat1 V c).owesAt () t.succ = (dat1 V c).owesAt () t.castSucc from rfl]
  have hb : defs₀ (F := F) .tc cfg1.body (cfg1.bodyArgs t (cfg1.slots t)) = bodyAt1 t := rfl
  rw [hb]
  iintro ⟨HΦ, Howes, ⟨%d0, H0⟩, ⟨%d1, H1⟩, ⟨%d2, H2⟩, ⟨%d3, H3⟩, ⟨%d4, H4⟩⟩
  rw [before1_0, before1_1, before1_2, before1_3]
  iapply (wp_bn c (grid1.coords t) _ _ _ _ _ _ _ _ _ _ (xb V c t) (blk1 V c 1 t) (blk1 V c 2 t) (blk1 V c 3 t) _ _)
  isplitl [H0]; · iexact H0
  isplitl [H1]; · iexact H1
  isplitl [H2]; · iexact H2
  isplitl [H3]; · iexact H3
  isplitl [H4]; · iexact H4
  iintro ⟨H0, H1, H2, H3, H4⟩
  isplitl [HΦ]; · iexact HΦ
  isplitl [Howes]; · iexact Howes
  isplitl [H0]; · iexact H0
  isplitl [H1]; · iexact H1
  isplitl [H2]; · iexact H2
  isplitl [H3]; · iexact H3
  iexact H4

end Cert.Proof.KernelIdeal
-- ==== Proof.Segs.lean ====
module
public import proofs.«01_k».proof.Proof.Region0
public import proofs.«01_k».proof.Proof.Region1
public import proofs.«01_k».proof.Proof.Gen.KernelIdeal.Regions
public import proofs.«01_k».proof.Proof.Gen.KernelIdeal.Points
public import proofs.«01_k».proof.Proof.Gen.KernelIdeal.Launch
public import Idealize.ShloMosaic.Lib.Pipeline.RegionsLoop
public import Idealize.ShloMosaic.Lib.VecWindow
public import Idealize.ShloMosaic.Lib.Exec.Geometry
public import Idealize.ShloMosaic.Lib.Pipeline.FrameBody
@[expose] public section
noncomputable section
namespace Cert.Proof.KernelIdeal
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
variable {F : FTy → Type} [FloatOps F]

local notation "𝕄" => MT nD τ sig Unit (Elt F) ℕ (Pipeline.UD sig nD τ) ℕ

variable (V W : Dev nD → Valuation τ sig (Elt F))

/-- The proof data of the two regions, at their entry valuations. -/
def pdats : (p : Fin 2) → (c : Dev nD) → Dat τ (Elt F) Unit ℕ (Pipeline.UD sig nD τ) ℕ (cfgs p) c
  | ⟨0, _⟩ => fun c => dat0 V c
  | ⟨1, _⟩ => fun c => dat1 W c

/-- No level is assigned. -/
abbrev L0 : GSem nD τ sig → Finset Unit := fun _ => ∅
abbrev lv0 : GSem nD τ sig → Unit → ℕ := fun _ _ => 0

/-- The first call's own semaphores, and the arrays it addresses itself. -/
def osem0 : Fin 6 → SemLoc sig := ![.dma sF, .dma (sI 0), .dma (sI 1), .dma (sO 0), .dma (sO 1), .dma sP]
def H0 : Finset (Ref sig .tc) := {main_v28, main_v2, main_v33_0, main_v33_1}

theorem H0_rest : H0 ⊆ Pipeline.restRefs sig spec0 := by decide

/-- Those arrays at a valuation. -/
theorem H0_eq (c : Dev nD) (U : Valuation τ sig (Elt F)) :
    (bigSep H0 fun b => ((c.tc : Thread nD τ).loc b) ↦{fullShare} U b : sProp 𝕄)
      = iprop(pIlx c Finset.univ (U main_v28) ∗ pArr c Finset.univ (U main_v2) ∗ pOut c Finset.univ (U main_v33_0) ∗ pPart c Finset.univ (U main_v33_1)) :=
  BI.bigSep_eq_bigSepL_of_eq [main_v28, main_v2, main_v33_0, main_v33_1] (by decide) (by decide) _

theorem osem0_eq (c : Dev nD) :
    (Pipeline.ownSems0 (Ix := Unit) (Name := ℕ) (U := Pipeline.UD sig nD τ) (Lvl := ℕ) (Val := Elt F) (τ := τ) osem0 c : sProp 𝕄)
      = iprop(sv c sF ∗ sv c (sI 0) ∗ sv c (sI 1) ∗ sv c (sO 0) ∗ sv c (sO 1) ∗ sv c sP) :=
  (Pipeline.ownSems0_eq_of_list c osem0 [0, 1, 2, 3, 4, 5] (by decide) (by decide)).trans rfl

theorem osem0_facts : Pipeline.OwnSemFacts spec0 osem0 := by decide

theorem outAt_zero (c : Dev nD) : outAt V c 0 = V c main_v33_0 := by funext j; exact if_neg (Nat.not_lt_zero _)
theorem partAt_zero (c : Dev nD) : partAt V c 0 = V c main_v33_1 := by funext j; exact if_neg (Nat.not_lt_zero _)

/-- The invariant before the first point. -/
theorem phi0_in (c : Dev nD) :
    iprop((Pipeline.ownSems0 (Ix := Unit) (Name := ℕ) (U := Pipeline.UD sig nD τ) (Lvl := ℕ) (Val := Elt F) (τ := τ) osem0 c
        ∗ bigSep H0 fun b => ((c.tc : Thread nD τ).loc b) ↦{fullShare} V c b)
      ∗ Pipeline.scopedRest (Ix := Unit) (Name := ℕ) (U := Pipeline.UD sig nD τ) (Lvl := ℕ) (Val := Elt F) spec0 c) ⊢ (Phi0 V c 0 : sProp 𝕄) := by
  rw [H0_eq, osem0_eq, scopedRest0_eq]
  unfold Phi0 convRest others
  rw [outAt_zero, partAt_zero]
  iintro ⟨⟨Hs, Hi, Ha, Ho, Hp⟩, S0, S1, S2, S3, T0, T1, T2, T3, T4, T5, T6, S4⟩
  isplitl [T0 T1 T2 T3 T4 T5 T6]
  · isplitl [T0]; · iexact T0
    isplitl [T1]; · iexact T1
    isplitl [T2]; · iexact T2
    isplitl [T3]; · iexact T3
    isplitl [T4]; · iexact T4
    isplitl [T5]; · iexact T5
    iexact T6
  isplitr [Ho Hp]
  · isplitl [Hi Ha]
    · isplitl [Ha]; · iexact Ha
      iexact Hi
    isplitr [Hs]
    · isplitl [S0]; · iexact S0
      isplitl [S1]; · iexact S1
      isplitl [S2]; · iexact S2
      isplitl [S3]; · iexact S3
      iexact S4
    iexact Hs
  isplitl [Ho]; · iexact Ho
  iexact Hp

variable (Vp : Dev nD → Valuation τ sig (Elt F))

/-- The invariant after the last point. -/
theorem phi0_out (c : Dev nD) (hi : Vp c main_v28 = V c main_v28) (ha : Vp c main_v2 = V c main_v2) (ho : Vp c main_v33_0 = outAt V c 2) (hp : Vp c main_v33_1 = partAt V c 2) :
    (Phi0 V c 2 : sProp 𝕄) ⊢ iprop((bigSep H0 fun b => ((c.tc : Thread nD τ).loc b) ↦{fullShare} Vp c b)
      ∗ Pipeline.ownSems0 (Ix := Unit) (Name := ℕ) (U := Pipeline.UD sig nD τ) (Lvl := ℕ) (Val := Elt F) (τ := τ) osem0 c
      ∗ Pipeline.scopedRest (Ix := Unit) (Name := ℕ) (U := Pipeline.UD sig nD τ) (Lvl := ℕ) (Val := Elt F) spec0 c) := by
  rw [H0_eq, osem0_eq, scopedRest0_eq, hi, ha, ho, hp]
  unfold Phi0 convRest others
  iintro ⟨⟨T0, T1, T2, T3, T4, T5, T6⟩, ⟨⟨Ha, Hi⟩, ⟨S0, S1, S2, S3, S4⟩, Hs⟩, Ho, Hp⟩
  isplitl [Hi Ha Ho Hp]
  · isplitl [Hi]; · iexact Hi
    isplitl [Ha]; · iexact Ha
    isplitl [Ho]; · iexact Ho
    iexact Hp
  isplitl [Hs]; · iexact Hs
  isplitl [S0]; · iexact S0
  isplitl [S1]; · iexact S1
  isplitl [S2]; · iexact S2
  isplitl [S3]; · iexact S3
  isplitl [T0]; · iexact T0
  isplitl [T1]; · iexact T1
  isplitl [T2]; · iexact T2
  isplitl [T3]; · iexact T3
  isplitl [T4]; · iexact T4
  isplitl [T5]; · iexact T5
  isplitl [T6]; · iexact T6
  iexact S4

set_option backward.isDefEq.respectTransparency.types false in
/-- The first region: entered at `V`, left at `Vp`. -/
def reg0 (hx : ∀ c n q, q < 13824 → (rowW (ix0 V c) n q).toNat < 50008)
    (ho : ∀ c, Vp c main_v33_0 = outAt V c 2) (hp : ∀ c, Vp c main_v33_1 = partAt V c 2)
    (hne : ∀ c (b : Ref sig .tc), b ≠ main_v33_0 → b ≠ main_v33_1 → Vp c b = V c b) :
    Pipeline.RegionSeg (pcfgs (F := F)) adm (pdats V W) () defs₀ Variants.none L0 lv0 0 where
  win := launch0.win.to₀
  block_pos := launch0.block_pos
  stage_whole := launch0.stage_whole
  K := Fin 6
  osem := osem0
  ho := osem0_facts
  hbody c := (body_obligation0 V c (hx c)).loose
  hwaits := Pipeline.hwaits_of_owed_zero _ _ _ _ L0 lv0 0 fun _ _ => rfl
  pre c := iprop(StableHlo.held (c : Thread nD τ) (Pipeline.ucRefs τ sig) (V c) ∗ ow c)
  post c := iprop(StableHlo.held (c : Thread nD τ) (Pipeline.ucRefs τ sig) (Vp c) ∗ ow c)
  X c := iprop(Pipeline.ownSems0 (Ix := Unit) (Name := ℕ) (U := Pipeline.UD sig nD τ) (Lvl := ℕ) (Val := Elt F) (τ := τ) osem0 c
    ∗ bigSep H0 fun b => ((c.tc : Thread nD τ).loc b) ↦{fullShare} V c b)
  Y c := bigSep H0 fun b => ((c.tc : Thread nD τ).loc b) ↦{fullShare} Vp c b
  Z c := bigSep (Pipeline.restRefs sig spec0 \ H0) fun b => ((c.tc : Thread nD τ).loc b) ↦{fullShare} V c b
  hentry c := by
    have hsplit := Pipeline.arrays_of_unscopedBufs (p := 0) (pcfgs (F := F)) adm (pdats V W) launch0.win launch0.arr_whole c
      ((pdats V W 0 c).share_full fun _ => rfl) (fun b => V c b) fun _ => rfl
    rw [← Pipeline.unscopedBufs_held]
    iintro ⟨⟨Hub, HO⟩, Hs, -⟩
    ihave H := hsplit $$ Hub
    icases H with ⟨Ha, Hrest⟩
    ihave H := (Entails.of_eq (Pipeline.unscopedRest_sdiff spec0 H0 H0_rest c (fun b => V c b))) $$ Hrest
    icases H with ⟨Hh, Hz⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hs Hh]
    · isplitl [Hs]; · iexact Hs
      iexact Hh
    iexact Hz
  hin c := by
    rw [show (pdats V W 0 c).Φ 0 = Phi0 V c 0 from rfl]
    refine BI.BIBase.Entails.trans ?_ (phi0_in V c)
    iintro ⟨HX, -, Hr⟩
    isplitl [HX]; · iexact HX
    iexact Hr
  hout c := by
    rw [show (pdats V W 0 c).Φ (Fin.last _) = Phi0 V c 2 from rfl]
    exact phi0_out V Vp c (hne c _ (by decide) (by decide)) (hne c _ (by decide) (by decide)) (ho c) (hp c)
  hexit c := by
    have hjoin := Pipeline.unscopedBufs_of_arrays (p := 0) (pcfgs (F := F)) adm (Ix := Unit) (Name := ℕ) (U := Pipeline.UD sig nD τ) (Lvl := ℕ) launch0.win launch0.arr_whole c
      (pdats V W) ((pdats V W 0 c).share_full fun _ => rfl) (fun b => Vp c b) (fun b => Vp c b) ((pdats V W 0 c).arrAt · cfg0.N)
      (fun w => by
        fin_cases w
        exact ((pdats V W 0 c).arrAt_in 0 rfl _).trans (hne c main_v32 (by decide) (by decide)).symm)
      (fun b hb => rfl)
    have hz : (bigSep (Pipeline.restRefs sig spec0 \ H0) fun b => ((c.tc : Thread nD τ).loc b) ↦{fullShare} V c b : sProp 𝕄)
        = bigSep (Pipeline.restRefs sig spec0 \ H0) fun b => ((c.tc : Thread nD τ).loc b) ↦{fullShare} Vp c b :=
      bigSep_congr fun b hb => by
        have hb' := (Finset.mem_sdiff.1 hb).2
        rw [hne c b (fun e => hb' (by rw [e]; decide)) (fun e => hb' (by rw [e]; decide))]
    rw [hz, ← Pipeline.unscopedBufs_held]
    iintro ⟨Ha, HO, HY, HZ⟩
    imodintro
    isplitr [HO]
    · iapply hjoin
      isplitl [Ha]; · iexact Ha
      iapply (Entails.of_eq (Pipeline.unscopedRest_sdiff spec0 H0 H0_rest c (fun b => Vp c b)).symm)
      isplitl [HY]; · iexact HY
      iexact HZ
    unfold Pipeline.Dat.owesAt Pipeline.owesWithin
    icases HO with ⟨%W, -, HO⟩; iexists W; iexact HO

set_option backward.isDefEq.respectTransparency.types false in
/-- The second region: entered at `W`, left at `Vp`. -/
def reg1 (ho : ∀ c, Vp c main_v36 = (dat1 W c).arrAt 4 cfg1.N)
    (hne : ∀ c (b : Ref sig .tc), b ≠ main_v36 → Vp c b = W c b) :
    Pipeline.RegionSeg (pcfgs (F := F)) adm (pdats V W) () defs₀ Variants.none L0 lv0 1 where
  win := launch1.win.to₀
  block_pos := launch1.block_pos
  stage_whole := launch1.stage_whole
  K := PEmpty
  osem k := k.elim
  ho := Pipeline.OwnSemFacts.none _
  hbody c := (body_obligation1 W c).loose
  hwaits := Pipeline.hwaits_of_owed_zero _ _ _ _ L0 lv0 1 fun _ _ => rfl
  pre c := iprop(StableHlo.held (c : Thread nD τ) (Pipeline.ucRefs τ sig) (W c) ∗ ow c)
  post c := iprop(StableHlo.held (c : Thread nD τ) (Pipeline.ucRefs τ sig) (Vp c) ∗ ow c)
  X _ := BI.emp
  Y _ := BI.emp
  Z c := Pipeline.unscopedRest (Ix := Unit) (Name := ℕ) (U := Pipeline.UD sig nD τ) (Lvl := ℕ) spec1 c (fun b => W c b)
  hentry c := by
    have hsplit := Pipeline.arrays_of_unscopedBufs (p := 1) (pcfgs (F := F)) adm (pdats V W) launch1.win launch1.arr_whole c
      ((pdats V W 1 c).share_full fun _ => rfl) (fun b => W c b) fun _ => rfl
    rw [Pipeline.ownSems0_none, ← Pipeline.unscopedBufs_held]
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats V W 1 c).Φ 0 = iprop(Pipeline.scopedRest (Ix := Unit) (Name := ℕ) (U := Pipeline.UD sig nD τ) (Lvl := ℕ) (Val := Elt F) spec1 c) from rfl]
    iintro ⟨-, -, Hr⟩; iexact Hr
  hout c := by
    rw [Pipeline.ownSems0_none, show (pdats V W 1 c).Φ (Fin.last _) = iprop(Pipeline.scopedRest (Ix := Unit) (Name := ℕ) (U := Pipeline.UD sig nD τ) (Lvl := ℕ) (Val := Elt F) spec1 c) from rfl]
    iintro Hr
    isplitr; · iempintro
    isplitr; · iempintro
    iexact Hr
  hexit c := by
    have hjoin := Pipeline.unscopedBufs_of_arrays (p := 1) (pcfgs (F := F)) adm (Ix := Unit) (Name := ℕ) (U := Pipeline.UD sig nD τ) (Lvl := ℕ) launch1.win launch1.arr_whole c
      (pdats V W) ((pdats V W 1 c).share_full fun _ => rfl) (fun b => W c b) (fun b => Vp c b) ((pdats V W 1 c).arrAt · cfg1.N)
      (fun w => by
        fin_cases w
        · exact ((pdats V W 1 c).arrAt_in 0 rfl _).trans (hne c main_v33_0 (by decide)).symm
        · exact ((pdats V W 1 c).arrAt_in 1 rfl _).trans (hne c main_v33_1 (by decide)).symm
        · exact ((pdats V W 1 c).arrAt_in 2 rfl _).trans (hne c main_v34 (by decide)).symm
        · exact ((pdats V W 1 c).arrAt_in 3 rfl _).trans (hne c main_v35 (by decide)).symm
        · exact (ho c).symm)
      (fun b hb => hne c b fun h => hb (h ▸ Finset.mem_image.mpr ⟨4, Finset.mem_univ _, rfl⟩))
    rw [← Pipeline.unscopedBufs_held]
    iintro ⟨Ha, HO, -, HZ⟩
    imodintro
    isplitr [HO]
    · iapply hjoin
      isplitl [Ha] <;> iassumption
    unfold Pipeline.Dat.owesAt Pipeline.owesWithin
    icases HO with ⟨%W, -, HO⟩; iexists W; iexact HO

end Cert.Proof.KernelIdeal
-- ==== Proof.Run.lean ====
module
public import proofs.«01_k».proof.Proof.Segs
public import proofs.«01_k».proof.Proof.Gen.KernelIdeal.Regions
public import proofs.«01_k».proof.Proof.Gen.KernelIdeal.Points
public import proofs.«01_k».proof.Proof.Gen.KernelIdeal.Launch
public import Idealize.ShloMosaic.Lib.Pipeline.RegionsLoop
public import Idealize.ShloMosaic.Lib.Pipeline.Frame
public import Idealize.ShloMosaic.Lib.Pipeline.Regions
public import Idealize.ShloMosaic.Lib.VecWindow
public import Idealize.ShloMosaic.Lib.Exec.Geometry
public import Idealize.ShloMosaic.Lib.Pipeline.FrameBody
@[expose] public section
noncomputable section
namespace Cert.Proof.KernelIdeal
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
variable {F : FTy → Type} [FloatOps F]

local notation "𝕄" => MT nD τ sig Unit (Elt F) ℕ (Pipeline.UD sig nD τ) ℕ

variable (m : (ℓ : Loc nD τ sig) → Buf (Elt F) ℓ)

/-- What the first region leaves. -/
def outs0 : Outs (F := F) := fun _ r c =>
  Function.update (Function.update (V9 m c) main_v33_0 (outAt (V9 m) c 2)) main_v33_1 (partAt (V9 m) c 2) r

/-- The second region's entry. -/
abbrev U11 (c : Dev nD) : Valuation τ sig (Elt F) := V11 m (outs0 m) c

/-- What the regions leave. -/
def outsOf : Outs (F := F) := fun J r c =>
  match J with
  | 10 => outs0 m 10 r c
  | _ => Function.update (U11 m c) main_v36 ((dat1 (U11 m) c).arrAt 4 cfg1.N) r

theorem devRef_ne {b b' : Ref sig .tc} (h : b ≠ b') : (Proc.devRef .tc b : DevRef τ sig) ≠ Proc.devRef .tc b' := fun e => h (Proc.devRef_injective .tc e)

theorem V10_out (c : Dev nD) : V10 m (outsOf m) c main_v33_0 = outAt (V9 m) c 2 := by
  have h : outsOf m 10 main_v33_0 c = outAt (V9 m) c 2 := by
    show Function.update (Function.update (V9 m c) main_v33_0 (outAt (V9 m) c 2)) main_v33_1 (partAt (V9 m) c 2) main_v33_0 = _
    rw [Function.update_of_ne (devRef_ne (b := main_v33_0) (b' := main_v33_1) (by decide)), Function.update_self]
  exact (Function.update_of_ne (devRef_ne (b := main_v33_0) (b' := main_v33_1) (by decide)) _ _).trans ((Function.update_self _ _ _).trans h)
theorem V10_part (c : Dev nD) : V10 m (outsOf m) c main_v33_1 = partAt (V9 m) c 2 := by
  have h : outsOf m 10 main_v33_1 c = partAt (V9 m) c 2 := by
    show Function.update (Function.update (V9 m c) main_v33_0 (outAt (V9 m) c 2)) main_v33_1 (partAt (V9 m) c 2) main_v33_1 = _
    rw [Function.update_self]
  exact (Function.update_self _ _ _).trans h

theorem V10_ne (c : Dev nD) (b : Ref sig .tc) (h0 : b ≠ main_v33_0) (h1 : b ≠ main_v33_1) : V10 m (outsOf m) c b = V9 m c b := by
  have ho : ∀ r : Ref sig .tc, r ≠ main_v33_0 → r ≠ main_v33_1 → outsOf m 10 r c = V9 m c r := fun r a0 a1 =>
    (Function.update_of_ne (devRef_ne a1) _ _).trans (Function.update_of_ne (devRef_ne a0) _ _)
  rw [V10, Function.update_of_ne (devRef_ne h1), Function.update_of_ne (devRef_ne h0)]
  by_cases h2 : b = main_v2
  · subst h2; rw [Function.update_self]; exact ho _ h0 h1
  rw [Function.update_of_ne (devRef_ne h2)]
  by_cases h3 : b = main_v28
  · subst h3; rw [Function.update_self]; exact ho _ h0 h1
  rw [Function.update_of_ne (devRef_ne h3)]

theorem V12_out (c : Dev nD) : V12 m (outsOf m) c main_v36 = (dat1 (U11 m) c).arrAt 4 cfg1.N :=
  (Function.update_self _ _ _).trans (show Function.update (U11 m c) main_v36 ((dat1 (U11 m) c).arrAt 4 cfg1.N) main_v36 = _ from Function.update_self _ _ _)
theorem V12_ne (c : Dev nD) (b : Ref sig .tc) (h : b ≠ main_v36) : V12 m (outsOf m) c b = U11 m c b :=
  Function.update_of_ne (devRef_ne h) _ _

set_option backward.isDefEq.respectTransparency.types false in
/-- @main from any memory whose words are rows of the packed features: it ends, the result is what the host leaves of the
    second region's result, the arguments and the counters are as at the start. -/
theorem run (ρ : Dev nD → PrngReg) (hx : ∀ c n q, q < 13824 → (rowW (ix0 (V9 m) c) n q).toNat < 50008) :
    θ_run defs (onTc (τ := τ) (main (F := F))) ⟨m, fun _ => 0, ρ⟩ (fun r => (∀ c : Dev nD,
      r.2.mem ((c.tc : Thread nD τ).loc main_v37) = V13 m (outsOf m) c main_v37
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  generalize hR0 : reg0 (V9 m) (U11 m) (V10 m (outsOf m)) hx (V10_out m) (V10_part m) (V10_ne m) = R0
  generalize hR1 : reg1 (V9 m) (U11 m) (V12 m (outsOf m)) (V12_out m) (V12_ne m) = R1
  have hpre0 : ∀ c : Dev nD, iprop(StableHlo.held (c : Thread nD τ) (Pipeline.ucRefs τ sig) (V9 m c) ∗ ow c) ⊢ R0.pre c := fun c => by rw [← hR0]; exact .rfl
  have hpost0 : ∀ c : Dev nD, R0.post c ⊢ iprop(StableHlo.held (c : Thread nD τ) (Pipeline.ucRefs τ sig) (V10 m (outsOf m) c) ∗ ow c) := fun c => by rw [← hR0]; exact .rfl
  have hpre1 : ∀ c : Dev nD, iprop(StableHlo.held (c : Thread nD τ) (Pipeline.ucRefs τ sig) (V11 m (outsOf m) c) ∗ ow c) ⊢ R1.pre c := fun c => by rw [← hR1]; exact .rfl
  have hpost1 : ∀ c : Dev nD, R1.post c ⊢ iprop(StableHlo.held (c : Thread nD τ) (Pipeline.ucRefs τ sig) (V12 m (outsOf m) c) ∗ ow c) := fun c => by rw [← hR1]; exact .rfl
  have hu : (ownU (initOf (Pipeline.cells cfgs cellOf_inj) (Pipeline.launchToks cfgs cellOf_inj), 1) : sProp 𝕄) ⊢ |={Set.univ}=>
      iprop(BI.own (embL (initOf (Pipeline.cells cfgs cellOf_inj) (Pipeline.launchToks cfgs cellOf_inj))) ∗ bigSep Finset.univ fun _ : Dev nD => (BI.emp : sProp 𝕄)) := by
    iintro Hu
    ihave H' := (ownU_pair _ _) $$ Hu
    icases H' with ⟨HP, -⟩
    imodintro
    isplitl [HP]; · iexact HP
    iapply (show (BI.emp : sProp 𝕄) ⊢ bigSep Finset.univ (fun _ : Dev nD => (BI.emp : sProp 𝕄)) from by rw [BI.bigSep_emp_const])
    iempintro
  have hE0 : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts L0 lv0)
      ⊢ (|={Set.univ}=> bigSep Finset.univ (fun c => ow c) : sProp 𝕄) := by
    have hone : ∀ c : Dev nD, iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))
        ⊢ (ow c : sProp 𝕄) := fun c => by
      iintro ⟨-, HO, -⟩
      iexists _
      iexact HO
    have hm : (bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)))
        ⊢ (bigSep Finset.univ (fun c => ow c) : sProp 𝕄) := bigSep_mono fun c _ => hone c
    iintro ⟨H, -⟩
    imodintro
    iapply hm
    iexact H
  refine Pipeline.θ_run_regions_kit_dev_sems (pcfgs (F := F)) adm (pdats (V9 m) (U11 m)) () cellOf_inj embL defs₀ Variants.none L0 lv0 m ρ main
    (segs m (outsOf m) Variants.none L0 lv0 (fun _ c => ow c) () (pdats (V9 m) (U11 m)) R0 R1)
    (fun c Q => by
      rewrite [main_chain c, Seg.run_eq_chain,
        show (segs m (outsOf m) Variants.none L0 lv0 (fun _ c => ow c) () (pdats (V9 m) (U11 m)) R0 R1 c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) 0 (fun _ _ => rfl) (fun _ => iprop(emp)) ((initOf (Pipeline.cells cfgs cellOf_inj) (Pipeline.launchToks cfgs cellOf_inj), 1)) (hu)
    (T₀ := fun c => iprop(StableHlo.held (c : Thread nD τ) (Pipeline.ucRefs τ sig) (V0 m c) ∗ ow c))
    (Tₙ := fun c => StableHlo.held (c : Thread nD τ) (Pipeline.ucRefs τ sig) (V13 m (outsOf m) c))
    (hch := fun c => ⟨.rfl, .rfl, .rfl, .rfl, .rfl, .rfl, .rfl, .rfl, .rfl, hpre0 c, hpost0 c, hpre1 c, hpost1 c, .rfl⟩)
    (hinit := ?_) (QY := fun c s => s.mem ((c.tc : Thread nD τ).loc main_v37) = V13 m (outsOf m) c main_v37 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5))
    (hfin := fun c s' => ?_) (hQ := fun _ h hz => ⟨h, funext fun g => hz g (.inr (regions_no_unscoped g.2))⟩)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ iprop(emp)))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ iprop(emp)))
            : sProp (MT nD τ sig Unit (Elt F) ℕ (Pipeline.UD sig nD τ) ℕ)) := by
      rw [← bigSep_sep']
      exact bigSep_mono fun c _ => by rw [← Pipeline.unscopedBufs_held (Ix := Unit) (Name := ℕ) (U := Pipeline.UD sig nD τ) (Lvl := ℕ) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V13 m (outsOf m) c) s') $$ [Hh HSI]
    · isplitl [Hh] <;> iassumption
    icases Hr with ⟨%h, HSI⟩
    imodintro
    isplitr
    · ipureintro
      exact ⟨h (Proc.devRef .tc main_v37) (Finset.mem_filter.mpr ⟨StableHlo.devRef_mem_tcRefs main_v37, by decide⟩),
        (h (Proc.devRef .tc main_arg0) (Finset.mem_filter.mpr ⟨StableHlo.devRef_mem_tcRefs main_arg0, by decide⟩)).trans (V13_main_arg0 m (outsOf m) c),
        (h (Proc.devRef .tc main_arg1) (Finset.mem_filter.mpr ⟨StableHlo.devRef_mem_tcRefs main_arg1, by decide⟩)).trans (V13_main_arg1 m (outsOf m) c),
        (h (Proc.devRef .tc main_arg2) (Finset.mem_filter.mpr ⟨StableHlo.devRef_mem_tcRefs main_arg2, by decide⟩)).trans (V13_main_arg2 m (outsOf m) c),
        (h (Proc.devRef .tc main_arg3) (Finset.mem_filter.mpr ⟨StableHlo.devRef_mem_tcRefs main_arg3, by decide⟩)).trans (V13_main_arg3 m (outsOf m) c),
        (h (Proc.devRef .tc main_arg4) (Finset.mem_filter.mpr ⟨StableHlo.devRef_mem_tcRefs main_arg4, by decide⟩)).trans (V13_main_arg4 m (outsOf m) c),
        (h (Proc.devRef .tc main_arg5) (Finset.mem_filter.mpr ⟨StableHlo.devRef_mem_tcRefs main_arg5, by decide⟩)).trans (V13_main_arg5 m (outsOf m) c)⟩
    · iexact HSI

end Cert.Proof.KernelIdeal
-- ==== Proof.Words.lean ====
module
public import proofs.«01_k».proof.Proof.ConvDma
public import proofs.«01_k».proof.Proof.Gen.KernelIdeal.Regions
public import proofs.«01_k».proof.Pre_in_domain
public import Idealize.ShloMosaic.Lib.StableHlo.RunRead
public import Idealize.ShloMosaic.Lib.KernelVsHost
public import Idealize.ShloMosaic.Lib.Pipeline.Value
@[expose] public section
noncomputable section
namespace Cert.Proof.KernelIdeal
open Cert.KernelIdeal Cert.KernelIdeal.Gen
open Idealize.ShloMosaic Idealize.ShloMosaic.TcCoe Idealize.ShloMosaic.Tactic
open Idealize.SL.Sem
variable {F : FTy → Type} [FloatOps F]

/-- The first row of the half of the points that a point belongs to. -/
def halfOff : IVec S400000 32 :=
  muli ((extui 32 · natLt_1_32) (cmpi .sge (iotaInDim S400000 32 0) (broadcastInDim S400000 ![] bcast_S_S400000 (constantI S_ 32 200000#32))))
    (broadcastInDim S400000 ![] bcast_S_S400000 (constantI S_ 32 200000#32))
/-- The neighbour's row within its half, and 200000, the row of zeros, where there is none. -/
def lidx (idx : IVec S27x400000 32) (mask : IVec S27x400000 1) : IVec S27x400000 32 :=
  select mask (subi idx (broadcastInDim S27x400000 ![0, 1] bcast_S1x400000_S27x400000_0_1 (id (broadcastInDim S1x400000 ![1] bcast_S400000_S1x400000_1 halfOff))))
    (broadcastInDim S27x400000 ![] bcast_S_S27x400000 (id (constantI S_ 32 200000#32)))
/-- A table over the points, padded with a word and laid out by tiles of 512 points. -/
def tiled (v : IVec S27x400000 32) (w : BitVec 32) : IVec S782x13824 32 :=
  shapeCast S782x13824 (transpose S2x391x27x512 [1, 2, 0, 3]
    (shapeCast S27x2x391x512 (pad S27x2x200192 ![0, 0, 0] ![0, 0, 192] ![0, 0, 0] (shapeCast S27x2x200000 v shapeCasts_S27x400000_S27x2x200000)
      (id (constantI S_ 32 w)) pads_S27x2x200000_S27x2x200192_000_000_01920 h_S_) shapeCasts_S27x2x200192_S27x2x391x512)
    transposes_S27x2x391x512_S2x391x27x512_1_2_0_3) shapeCasts_S2x391x27x512_S782x13824
/-- The words of every tile: the packed rows, then the places in them. -/
def hostWords (idx : IVec S27x400000 32) (mask : IVec S27x400000 1) : IVec S782x27648 32 :=
  concatenate S782x27648 1
    [⟨S782x13824, tiled (Host.shrsi (lidx idx mask) (broadcastInDim S27x400000 ![] bcast_S_S27x400000 (constantI S_ 32 2#32))) 50000#32⟩,
     ⟨S782x13824, tiled (andi (lidx idx mask) (broadcastInDim S27x400000 ![] bcast_S_S27x400000 (constantI S_ 32 3#32))) 0#32⟩]
    concatenates_S782x13824_S782x13824_S782x27648_d1

/-- The place of a point in a tiled table. -/
theorem tiled_apply (v : IVec S27x400000 32) (w : BitVec 32) (b t k i : ℕ) (hb : b < 2) (ht : t < 391) (hk : k < 27) (hi : i < 512) :
    tiled v w (ix2 (⟨391 * b + t, by omega⟩ : Fin 782) (⟨512 * k + i, by omega⟩ : Fin 13824)) =
      if h : 512 * t + i < 200000 then v (ix2 (⟨k, hk⟩ : Fin 27) (⟨200000 * b + (512 * t + i), by omega⟩ : Fin 400000)) else w := by
  unfold tiled
  rw [shapeCast_apply (k := (ix4 (⟨b, hb⟩ : Fin 2) (⟨t, ht⟩ : Fin 391) (⟨k, hk⟩ : Fin 27) (⟨i, hi⟩ : Fin 512) : S2x391x27x512.Idx)),
    transpose_apply (k := (ix4 (⟨k, hk⟩ : Fin 27) (⟨b, hb⟩ : Fin 2) (⟨t, ht⟩ : Fin 391) (⟨i, hi⟩ : Fin 512) : S27x2x391x512.Idx)),
    shapeCast_apply (k := (ix3 (⟨k, hk⟩ : Fin 27) (⟨b, hb⟩ : Fin 2) (⟨512 * t + i, by omega⟩ : Fin 200192) : S27x2x200192.Idx))]
  · by_cases h : 512 * t + i < 200000
    · rw [dif_pos h, pad_apply_of_inside (k := (ix3 (⟨k, hk⟩ : Fin 27) (⟨b, hb⟩ : Fin 2) (⟨512 * t + i, h⟩ : Fin 200000) : S27x2x200000.Idx)),
        shapeCast_apply]
      · rw [Shape.rowMajor_val_two, Shape.rowMajor_val_three]
        show k * 400000 + (200000 * b + (512 * t + i)) = (k * 2 + b) * 200000 + (512 * t + i)
        omega
      · intro a; fin_cases a
        · show k = 0 + k * 1; omega
        · show b = 0 + b * 1; omega
        · show 512 * t + i = 0 + (512 * t + i) * 1; omega
    · rw [dif_neg h, pad_apply_of_not_inside (a := 2)]
      · rfl
      · show ¬(0 ≤ 512 * t + i ∧ (512 * t + i - 0) % 1 = 0 ∧ (512 * t + i - 0) / 1 < 200000)
        omega
  · rw [Shape.rowMajor_val_three, Shape.rowMajor_val_four]
    show (k * 2 + b) * 200192 + (512 * t + i) = ((k * 2 + b) * 391 + t) * 512 + i
    omega
  · intro a; fin_cases a <;> rfl
  · rw [Shape.rowMajor_val_two, Shape.rowMajor_val_four]
    show ((b * 391 + t) * 27 + k) * 512 + i = (391 * b + t) * 13824 + (512 * k + i)
    omega

/-- A word of a tile, among the packed rows. -/
theorem hostWords_lo (idx : IVec S27x400000 32) (mask : IVec S27x400000 1) (n q : ℕ) (hn : n < 782) (hq : q < 13824) :
    hostWords idx mask (ix2 (⟨n, hn⟩ : Fin 782) (⟨q, by omega⟩ : Fin 27648)) =
      tiled (Host.shrsi (lidx idx mask) (broadcastInDim S27x400000 ![] bcast_S_S27x400000 (constantI S_ 32 2#32))) 50000#32 (ix2 (⟨n, hn⟩ : Fin 782) (⟨q, hq⟩ : Fin 13824)) := by
  unfold hostWords
  refine concatenate_pair_apply_left (t := S782x27648) (s₁ := S782x13824) (s₂ := S782x13824) (1 : Fin 2) _ _ _ _ rfl _ ?_
  intro b; fin_cases b <;> rfl
/-- A word of a tile, among the places. -/
theorem hostWords_hi (idx : IVec S27x400000 32) (mask : IVec S27x400000 1) (n q : ℕ) (hn : n < 782) (hq : q < 13824) :
    hostWords idx mask (ix2 (⟨n, hn⟩ : Fin 782) (⟨13824 + q, by omega⟩ : Fin 27648)) =
      tiled (andi (lidx idx mask) (broadcastInDim S27x400000 ![] bcast_S_S27x400000 (constantI S_ 32 3#32))) 0#32 (ix2 (⟨n, hn⟩ : Fin 782) (⟨q, hq⟩ : Fin 13824)) := by
  unfold hostWords
  refine concatenate_pair_apply_right (t := S782x27648) (s₁ := S782x13824) (s₂ := S782x13824) (1 : Fin 2) _ _ _ _ rfl rfl _ ?_ ?_
  · intro b hb; fin_cases b
    · rfl
    · exact absurd rfl hb
  · show q + 13824 = 13824 + q; omega
end Cert.Proof.KernelIdeal
end
-- ==== Proof.HostWords.lean ====
module
public import proofs.«01_k».proof.Proof.Words
public import proofs.«01_k».proof.Proof.Gen.KernelIdeal.Regions
public import Idealize.ShloMosaic.Lib.StableHlo.RunRead
@[expose] public section
noncomputable section
namespace Cert.Proof.KernelIdeal
open Cert.KernelIdeal Cert.KernelIdeal.Gen
open Idealize.ShloMosaic Idealize.ShloMosaic.TcCoe Idealize.ShloMosaic.Tactic
open Idealize.SL.Sem
variable {F : FTy → Type} [FloatOps F]

section
variable (V : Valuation τ sig (Elt F))

theorem ops2_v12 : StableHlo.after (hostOps0_2 (F := F)) V main_v12 =
    subi (V main_arg4) (broadcastInDim S27x400000 ![0, 1] bcast_S1x400000_S27x400000_0_1 (id (broadcastInDim S1x400000 ![1] bcast_S400000_S1x400000_1 halfOff))) := by
  after_reads_simp
  unfold halfOff
  rfl
theorem ops2_c2 : StableHlo.after (hostOps0_2 (F := F)) V main_c_2 = constantI S_ 32 200000#32 := by
  after_reads_simp
theorem ops3_v13 : StableHlo.after (hostOps0_3 (F := F)) V main_v13 =
    select (V main_arg5) (V main_v12) (broadcastInDim S27x400000 ![] bcast_S_S27x400000 (id (V main_c_2))) := by
  after_reads_simp
  rfl
theorem ops4_v16 : StableHlo.after (hostOps0_4 (F := F)) V main_v16 =
    shapeCast S27x2x200000 (Host.shrsi (V main_v13) (broadcastInDim S27x400000 ![] bcast_S_S27x400000 (constantI S_ 32 2#32))) shapeCasts_S27x400000_S27x2x200000 := by
  after_reads_simp
  rfl
theorem ops4_c4 : StableHlo.after (hostOps0_4 (F := F)) V main_c_4 = constantI S_ 32 50000#32 := by
  after_reads_simp
theorem ops5_v17 : StableHlo.after (hostOps0_5 (F := F)) V main_v17 =
    pad S27x2x200192 ![0, 0, 0] ![0, 0, 192] ![0, 0, 0] (V main_v16) (id (V main_c_4)) pads_S27x2x200000_S27x2x200192_000_000_01920 h_S_ := by
  after_reads_simp
  rfl
theorem ops6_v20 : StableHlo.after (hostOps0_6 (F := F)) V main_v20 =
    shapeCast S27x2x200000 (andi (V main_v13) (broadcastInDim S27x400000 ![] bcast_S_S27x400000 (constantI S_ 32 3#32))) shapeCasts_S27x400000_S27x2x200000 := by
  after_reads_simp
  rfl
theorem ops6_c6 : StableHlo.after (hostOps0_6 (F := F)) V main_c_6 = constantI S_ 32 0#32 := by
  after_reads_simp
theorem ops7_v21 : StableHlo.after (hostOps0_7 (F := F)) V main_v21 =
    pad S27x2x200192 ![0, 0, 0] ![0, 0, 192] ![0, 0, 0] (V main_v20) (id (V main_c_6)) pads_S27x2x200000_S27x2x200192_000_000_01920 h_S_ := by
  after_reads_simp
  rfl
/-- A padded table laid out by tiles. -/
def byTile (v : IVec S27x2x200192 32) : IVec S782x13824 32 :=
  shapeCast S782x13824 (transpose S2x391x27x512 [1, 2, 0, 3] (shapeCast S27x2x391x512 v shapeCasts_S27x2x200192_S27x2x391x512)
    transposes_S27x2x391x512_S2x391x27x512_1_2_0_3) shapeCasts_S2x391x27x512_S782x13824
theorem ops8_v28 : StableHlo.after (hostOps0_8 (F := F)) V main_v28 =
    concatenate S782x27648 1 [⟨S782x13824, byTile (V main_v17)⟩, ⟨S782x13824, byTile (V main_v21)⟩] concatenates_S782x13824_S782x13824_S782x27648_d1 := by
  after_reads_simp
  rfl
end

variable (m : (ℓ : Loc nD τ sig) → Buf (Elt F) ℓ) (c : Dev nD)

theorem V4_v13 : V4 m c main_v13 = lidx (m ((c.tc : Thread nD τ).loc main_arg4)) (m ((c.tc : Thread nD τ).loc main_arg5)) := by
  refine (ops3_v13 (V3 m c)).trans ?_
  rw [show V3 m c main_v12 = _ from ops2_v12 (V2 m c), show V3 m c main_c_2 = _ from ops2_c2 (V2 m c),
    V3_of m c main_arg5 (by decide), V2_of m c main_arg5 (by decide), V1_of m c main_arg5 (by decide),
    V2_of m c main_arg4 (by decide), V1_of m c main_arg4 (by decide)]
  rfl

/-- What the host leaves as the kernel's words. -/
theorem V9_words : V9 m c main_v28 = hostWords (m ((c.tc : Thread nD τ).loc main_arg4)) (m ((c.tc : Thread nD τ).loc main_arg5)) := by
  refine (ops8_v28 (V8 m c)).trans ?_
  rw [V8_of m c main_v17 (by decide), V7_of m c main_v17 (by decide),
    show V6 m c main_v17 = _ from ops5_v17 (V5 m c), show V5 m c main_v16 = _ from ops4_v16 (V4 m c), show V5 m c main_c_4 = _ from ops4_c4 (V4 m c),
    show V8 m c main_v21 = _ from ops7_v21 (V7 m c), show V7 m c main_v20 = _ from ops6_v20 (V6 m c), show V7 m c main_c_6 = _ from ops6_c6 (V6 m c),
    V6_of m c main_v13 (by decide), V5_of m c main_v13 (by decide), V4_v13 m c]
  rfl

end Cert.Proof.KernelIdeal
end
-- ==== Proof.HostBound.lean ====
module
public import proofs.«01_k».proof.Proof.Words
public import Idealize.ShloMosaic.Lib.Tactic.WordOmega
@[expose] public section
noncomputable section
namespace Cert.Proof.KernelIdeal
open Cert.KernelIdeal Cert.KernelIdeal.Gen
open Idealize.ShloMosaic Idealize.ShloMosaic.TcCoe Idealize.ShloMosaic.Tactic
open Idealize.SL.Sem
variable {F : FTy → Type} [FloatOps F]

/-- Where there is a neighbour, it lies in the point's own half. -/
def InHalf (idx : IVec S27x400000 32) (mask : IVec S27x400000 1) : Prop :=
  ∀ j, mask j = 1#1 → ∃ r : ℕ, r < 200000 ∧ (lidx idx mask j).toNat = r ∧ (idx j).toNat = r + 200000 * ((j 1).val / 200000)

/-- The neighbour's row within its half, at a point. -/
theorem lidx_apply (idx : IVec S27x400000 32) (mask : IVec S27x400000 1) (j : S27x400000.Idx) :
    lidx idx mask j = if mask j = 1#1 then idx j - (if 200000 ≤ (j 1).val then 200000#32 else 0#32) else 200000#32 := by
  have e : lidx idx mask j = if mask j = 1#1 then idx j - halfOff (ix1 (j 1)) else 200000#32 := by
    unfold lidx
    show (if mask j = 1#1 then idx j - _ else _) = _
    rfl
  rw [e]
  have h : halfOff (ix1 (j 1)) = if 200000 ≤ (j 1).val then 200000#32 else 0#32 := by
    show (BitVec.ofBool ((200000#32).sle (BitVec.ofNat 32 (j 1).val))).zeroExtend 32 * 200000#32 = _
    have hj : (j 1).val < 400000 := (j 1).isLt
    have hs : (200000#32).sle (BitVec.ofNat 32 (j 1).val) = decide (200000 ≤ (j 1).val) := by
      simp only [BitVec.sle, BitVec.toInt, BitVec.toNat_ofNat]
      rw [Bool.eq_iff_iff]; simp only [decide_eq_true_eq]; omega
    rw [hs]
    by_cases h : 200000 ≤ (j 1).val
    · rw [decide_eq_true h, if_pos h]; decide
    · rw [decide_eq_false h, if_neg h]; decide
  rw [h]

/-- The precondition's statement about one neighbour puts it in its point's half. -/
theorem inHalf_of_bits (idx : IVec S27x400000 32) (mask : IVec S27x400000 1)
    (h : ∀ j, IntOp.ori (~~~ (mask j)) (IntOp.andi (IntOp.cmpi .sge (idx j - halfOff (ix1 (j 1))) 0#32) (IntOp.cmpi .slt (idx j - halfOff (ix1 (j 1))) 200000#32)) = 1#1) :
    InHalf idx mask := by
  intro j hm
  have e' := h j
  have hl : lidx idx mask j = idx j - halfOff (ix1 (j 1)) := by
    show (if mask j = 1#1 then idx j - halfOff (ix1 (j 1)) else 200000#32) = _
    rw [if_pos hm]
  have hl2 := lidx_apply idx mask j
  rw [if_pos hm] at hl2
  rw [← hl, hm] at e'
  generalize lidx idx mask j = l at *
  have hb : (BitVec.ofBool ((0#32).sle l) &&& BitVec.ofBool (l.slt 200000#32)) = 1#1 := by
    have : IntOp.ori (~~~ 1#1) (BitVec.ofBool ((0#32).sle l) &&& BitVec.ofBool (l.slt 200000#32)) = 1#1 := e'
    revert this
    generalize (BitVec.ofBool ((0#32).sle l) &&& BitVec.ofBool (l.slt 200000#32)) = w
    revert w; decide
  have h1 : (0#32).sle l = true ∧ l.slt 200000#32 = true := by
    revert hb
    cases (0#32).sle l <;> cases l.slt 200000#32 <;> decide
  obtain ⟨hge, hlt⟩ := h1
  simp only [BitVec.sle, BitVec.slt, decide_eq_true_eq, BitVec.toInt, BitVec.toNat_ofNat] at hge hlt
  have hj : (j 1).val < 400000 := (j 1).isLt
  refine ⟨l.toNat, by omega, rfl, ?_⟩
  by_cases h : 200000 ≤ (j 1).val
  · rw [if_pos h] at hl2
    have := congrArg BitVec.toNat hl2
    rw [BitVec.toNat_sub] at this
    simp only [BitVec.toNat_ofNat] at this
    omega
  · rw [if_neg h] at hl2
    have : l = idx j := by rw [hl2]; exact BitVec.sub_zero _
    rw [this]; omega

/-- The precondition says that the neighbours lie in their halves. -/
theorem inHalf_of_pre [Cert.Pre_in_domain.Facts] (a0 : FVec F S400000x32 .f32) (a1 : FVec F S27x32x32 .f32) (a2 a3 : FVec F S32 .f32) (idx : IVec S27x400000 32) (mask : IVec S27x400000 1)
    (h : Cert.Pre_in_domain.fn (F := F) a0 a1 a2 a3 idx mask = fun _ => 1#1) : InHalf idx mask :=
  inHalf_of_bits idx mask fun j => congrFun h j

/-- Half a neighbour's row within its half divided by four. -/
theorem shr_two (l : BitVec 32) (h : l.toNat ≤ 200000) : (IntOp.shrsi .host l 2#32).toNat = l.toNat / 4 := by
  have hm : l.msb = false := by rw [BitVec.msb_eq_false_iff_two_mul_lt]; omega
  have e : IntOp.shrsi .host l 2#32 = l.sshiftRight 2 := if_pos (by decide)
  rw [e]
  rw [BitVec.sshiftRight_eq_of_msb_false hm, BitVec.toNat_ushiftRight, Nat.shiftRight_eq_div_pow]

theorem lidx_le {idx : IVec S27x400000 32} {mask : IVec S27x400000 1} (h : InHalf idx mask) (j : S27x400000.Idx) : (lidx idx mask j).toNat ≤ 200000 := by
  by_cases hm : mask j = 1#1
  · obtain ⟨r, hr, e, _⟩ := h j hm; omega
  · rw [lidx_apply, if_neg hm]; decide

/-- Every packed row lies among the packed rows. -/
theorem hostWords_lt {idx : IVec S27x400000 32} {mask : IVec S27x400000 1} (h : InHalf idx mask) (n q : ℕ) (hq : q < 13824) :
    (rowW (hostWords idx mask) n q).toNat < 50008 := by
  unfold rowW
  split
  · rename_i hh
    rw [hostWords_lo idx mask n q hh.1 hq]
    have e := tiled_apply (Host.shrsi (lidx idx mask) (broadcastInDim S27x400000 ![] bcast_S_S27x400000 (constantI S_ 32 2#32))) 50000#32
      (n / 391) (n % 391) (q / 512) (q % 512) (by omega) (by omega) (by omega) (by omega)
    have e1 : (⟨391 * (n / 391) + n % 391, by omega⟩ : Fin 782) = ⟨n, hh.1⟩ := Fin.ext (Nat.div_add_mod n 391)
    have e2 : (⟨512 * (q / 512) + q % 512, by omega⟩ : Fin 13824) = ⟨q, hq⟩ := Fin.ext (Nat.div_add_mod q 512)
    rw [e1, e2] at e
    rw [e]
    split
    · show (IntOp.shrsi .host (lidx idx mask _) 2#32).toNat < 50008
      rw [shr_two _ (lidx_le h _)]
      have := lidx_le h (ix2 (⟨q / 512, by omega⟩ : Fin 27) (⟨200000 * (n / 391) + (512 * (n % 391) + q % 512), by omega⟩ : Fin 400000))
      omega
    · decide
  · decide
end Cert.Proof.KernelIdeal
end
-- ==== Proof.KernelRows.lean ====
module
public import proofs.«01_k».proof.Proof.InnerBody
public import proofs.«01_k».proof.Proof.Gen.Kernel.Skeleton
@[expose] public section
noncomputable section
namespace Cert.Proof.Kernel
open Cert.Kernel Cert.Kernel.Gen
open Idealize.ShloMosaic Idealize.ShloMosaic.TcCoe Idealize.SL.Sem

variable {F : FTy → Type} [FloatOps F]

/-- A word position below 512 lies in the band of 512 words. -/
theorem inbWord {e : ℕ} (h : e < 512) : ∀ a : Fin 1, (![e] : Fin 1 → ℕ) a + S1.size a ≤ S512.size a := by
  intro a; fin_cases a; show e + 1 ≤ 512; omega

/-- A row below 512 lies in the gathered block. -/
theorem inbRow {e : ℕ} (h : e < 512) : ∀ a : Fin 2, (![e, 0] : Fin 2 → ℕ) a + S1x128.size a ≤ S512x128.size a := by
  intro a; fin_cases a
  · show e + 1 ≤ 512; omega
  · show 0 + 128 ≤ 128; omega

/-- One gathered row: read its index and its slot, check the index, read the packed row, keep the
   slot's lanes, write row `e` of the block. -/
def rowProg (arg6 : Memref sig .tc .vmem S50008x1x128 .f32) (arg7 : Memref sig .tc .vmem S512x128 .f32)
    (arg10 : Memref sig .tc .smem S55296 .i32) (k0_t1 : Fin k0_t1_loop.trips) (k0_t2 : Fin k0_t2_loop.trips)
    (v53 : IVec S1x128 32) (e : ℕ) (h : e < 512) : Prog (TpuEff nD τ sig (Elt F) Λ₀ .tc) PUnit := do
  let r : Elt F .i32 ← smemLoad (arg10.slice (Rect.unit (s := S55296) (k0_off14 k0_t1 k0_t2) S512.size (k0_off14_inb k0_t1 k0_t2)) (fun _ => rfl)) (Rect.unit (s := S512) ![e] S1.size (inbWord h)) numel1_S1 rfl
  have hw : k0_chk1 r := (← Prog.lift (TpuEff.assume (k0_chk1 r) (k0_chk1.dec r))).down
  let j : Elt F .i32 ← smemLoad (arg10.slice (Rect.unit (s := S55296) (k0_off15 k0_t1 k0_t2) S512.size (k0_off15_inb k0_t1 k0_t2)) (fun _ => rfl)) (Rect.unit (s := S512) ![e] S1.size (inbWord h)) numel1_S1 rfl
  let x : Vec F S1x1x128 .f32 ← Prog.lift (.load arg6 (Rect.unit (s := S50008x1x128) (k0_off16 r) S1x1x128.size (k0_off16_inb r hw)).toLoadRect (View.loadsAt_vmem h_S1x1x128))
  let _ : Vec F S1x128 .f32 ← Prog.lift (.load arg7 (Rect.unit (s := S512x128) ![e, 0] S1x128.size (inbRow h)).toLoadRect (View.loadsAt_vmem h_S1x128))
  Prog.lift (.store arg7 (Rect.unit (s := S512x128) ![e, 0] S1x128.size (inbRow h))
    (shapeCast S1x128 (select (cmpi .eq v53 (broadcast S1x128 j)) (shapeCast S1x128 x shapeCasts_S1x1x128_S1x128) (broadcast S1x128 (Scalar.ofBits .f32 0x00000000#32))) shapeCasts_S1x128_S1x128)
    Finset.univ (View.stores_vmem_bits_univ h_S1x128 rfl) (.inl rfl))

/-- The last `n` rows of the block, in order, then `K`. -/
def rows {β : Type} (arg6 : Memref sig .tc .vmem S50008x1x128 .f32) (arg7 : Memref sig .tc .vmem S512x128 .f32)
    (arg10 : Memref sig .tc .smem S55296 .i32) (k0_t1 : Fin k0_t1_loop.trips) (k0_t2 : Fin k0_t2_loop.trips)
    (v53 : IVec S1x128 32) (K : Prog (TpuEff nD τ sig (Elt F) Λ₀ .tc) β) (n : ℕ) : Prog (TpuEff nD τ sig (Elt F) Λ₀ .tc) β :=
  Nat.rec K (fun n ih => Prog.bind (rowProg arg6 arg7 arg10 k0_t1 k0_t2 v53 (511 - n) (by omega)) fun _ => ih) n

/-- The buffers of the gather kernel, each named by its whole memref. -/
abbrev mFeat : Memref sig .tc .vmem S50008x1x128 .f32 := Memref.whole cc0_scratch0
abbrev mRows : Memref sig .tc .vmem S512x128 .f32 := Memref.whole cc0_scratch1
abbrev mAcc : Memref sig .tc .vmem S2x512x32 .f32 := Memref.whole cc0_scratch2
abbrev mSum : Memref sig .tc .vmem S8x32 .f32 := Memref.whole cc0_scratch3
abbrev mWord : Memref sig .tc .smem S55296 .i32 := Memref.whole cc0_scratch4
abbrev mIlx : Memref sig .tc .hbm S782x27648 .i32 := Memref.whole main_v28
abbrev mArr : Memref sig .tc .hbm S100016x1x128 .f32 := Memref.whole main_v2
abbrev mW : Memref sig .tc .vmem S3456x32 .f32 := Memref.whole cc0_stg0_0
abbrev mOut : Memref sig .tc .hbm S2x200192x32 .f32 := Memref.whole main_v33_0
abbrev mPart : Memref sig .tc .hbm S2x8x32 .f32 := Memref.whole main_v33_1

/-- After the rows of one offset: the accumulator's slot plus the product of the gathered block and the offset's weights. -/
def accTail (t : Fin k0_t1_loop.trips) (w : Vec F S128x32 .f32) : Prog (TpuEff nD τ sig (Elt F) Λ₀ .tc) Unit :=
  .op (.load mAcc (Rect.unit (s := S2x512x32) (k0_off1550 t) S1x512x32.size (k0_off1550_inb t)).toLoadRect (View.loadsAt_vmem h_S1x512x32)) fun (a : Vec F S1x512x32 .f32) =>
  .op (.load mRows (Rect.unit (s := S512x128) ![0, 0] S512x128.size inb_S512x128_S512x128_0_0).toLoadRect (View.loadsAt_vmem h_S512x128)) fun (x : Vec F S512x128 .f32) =>
  .op (.load mAcc (Rect.unit (s := S2x512x32) (k0_off1550 t) S1x512x32.size (k0_off1550_inb t)).toLoadRect (View.loadsAt_vmem h_S1x512x32)) fun (_ : Vec F S1x512x32 .f32) =>
  .op (.store mAcc (Rect.unit (s := S2x512x32) (k0_off1550 t) S1x512x32.size (k0_off1550_inb t)) (k0_pay646 (k0_pay642 (shapeCast S128x32 w shapeCasts_S128x32_S128x32) a x)) Finset.univ
    (View.stores_vmem_bits_univ h_S1x512x32 rfl) (.inl rfl)) fun _ => .ret ⟨⟩

/-- The inner loop's body at the launch's buffers. -/
abbrev innerBody (i : grid0.Coords) (arg0 c0 c1 : BitVec 32) (t : Fin k0_t1_loop.trips) (v26 : BitVec 32) :=
  k0_t2_body (F := F) i mIlx (Memref.isWhole_whole _) mArr (Memref.isWhole_whole _) mW (Memref.isWhole_whole _) mOut (Memref.isWhole_whole _)
    mPart (Memref.isWhole_whole _) mFeat (Memref.isWhole_whole _) mRows (Memref.isWhole_whole _) mAcc (Memref.isWhole_whole _) mSum (Memref.isWhole_whole _)
    mWord (Memref.isWhole_whole _) cc0_scratch5 cc0_scratch6 cc0_scratch7 cc0_scratch8 arg0 c0 c1 t v26

set_option maxRecDepth 10000000 in
set_option maxHeartbeats 0 in
/-- The printed program's inner loop, before idealization, is the same row step 512 times and the product. -/
theorem innerBody_eq (i : grid0.Coords) (arg0 c0 c1 : BitVec 32) (t : Fin k0_t1_loop.trips) (v26 : BitVec 32) (k : Fin k0_t2_loop.trips) (u : Unit) :
    innerBody (F := F) i arg0 c0 c1 t v26 k u =
      .op (.load mW (Rect.unit (s := S3456x32) (k0_off13 k) S128x32.size (k0_off13_inb k)).toLoadRect (View.loadsAt_vmem h_S128x32)) fun (w : Vec F S128x32 .f32) =>
        rows mFeat mRows mWord t k k0_pay645 (accTail t w) 512 := rfl

end Cert.Proof.Kernel
-- ==== Proof.Transfer.lean ====
module
public import proofs.«01_k».proof.Proof.KernelRows
public import proofs.«01_k».proof.Proof.OuterProg
@[expose] public section
noncomputable section
namespace Cert.Proof.Kernel
open Cert.Kernel Cert.Kernel.Gen
open Idealize.ShloMosaic Idealize.ShloMosaic.TcCoe Idealize.SL.Sem
variable {F : FTy → Type} [FloatOps F]

/-- The printed program before idealization has the same signature. -/
theorem sig_eq : Cert.Kernel.sig = Cert.KernelIdeal.sig := rfl

/-- One row step is the idealized program's. -/
theorem rowProg_eq (t : Fin k0_t1_loop.trips) (k : Fin k0_t2_loop.trips) (e : ℕ) (h : e < 512) :
    rowProg (F := F) mFeat mRows mWord t k k0_pay645 e h =
      Cert.Proof.KernelIdeal.rowProg (F := F) Cert.Proof.KernelIdeal.mFeat Cert.Proof.KernelIdeal.mRows Cert.Proof.KernelIdeal.mWord t k Cert.KernelIdeal.Gen.k0_pay645 e h := rfl

/-- The rows of a block are the idealized program's. -/
theorem rows_eq (t : Fin k0_t1_loop.trips) (k : Fin k0_t2_loop.trips) (K : Prog (TpuEff nD τ sig (Elt F) Λ₀ .tc) Unit) (n : ℕ) :
    rows (F := F) mFeat mRows mWord t k k0_pay645 K n =
      Cert.Proof.KernelIdeal.rows (F := F) Cert.Proof.KernelIdeal.mFeat Cert.Proof.KernelIdeal.mRows Cert.Proof.KernelIdeal.mWord t k Cert.KernelIdeal.Gen.k0_pay645 K n := by
  induction n with
  | zero => rfl
  | succ n ih =>
    show Prog.bind (rowProg (F := F) mFeat mRows mWord t k k0_pay645 (511 - n) (by omega)) (fun _ => rows (F := F) mFeat mRows mWord t k k0_pay645 K n) = _
    rw [ih, rowProg_eq]
    rfl

/-- The inner loop's body is the idealized program's. -/
theorem inner_eq (i : grid0.Coords) (t : Fin k0_t1_loop.trips) :
    innerBody (F := F) i (BitVec.ofNat 32 (i 0).val) 0#32 1#32 t (Scalar.remsi (Scf.iv 0#32 1#32 t) 2#32) = Cert.Proof.KernelIdeal.innerOf (F := F) i t := by
  funext k u
  refine (innerBody_eq i _ _ _ t _ k u).trans (Eq.trans ?_ (Cert.Proof.KernelIdeal.innerBody_eq i _ _ _ t _ k u).symm)
  refine congrArg (Prog.op _) (funext fun w => ?_)
  exact rows_eq t k (accTail t w) 512

variable (i : grid0.Coords)

set_option maxRecDepth 100000 in
theorem zeroProg_eq (t : Fin k0_t1_loop.trips) : k0_part201 (F := F) i mIlx (Memref.isWhole_whole _) mArr (Memref.isWhole_whole _) mW (Memref.isWhole_whole _) mOut (Memref.isWhole_whole _)
    mPart (Memref.isWhole_whole _) mFeat (Memref.isWhole_whole _) mRows (Memref.isWhole_whole _) mAcc (Memref.isWhole_whole _) mSum (Memref.isWhole_whole _)
    mWord (Memref.isWhole_whole _) cc0_scratch5 cc0_scratch6 cc0_scratch7 cc0_scratch8 (BitVec.ofNat 32 (i 0).val) 0#32 1#32 t
    = Cert.Proof.KernelIdeal.zeroProg (F := F) i (Cert.Proof.KernelIdeal.innerOf i) t := by
  have h := inner_eq (F := F) i t
  unfold innerBody at h
  rw [k0_part201_eq_skeleton]
  unfold k0_part201_skel
  dsimp only
  rw [h]
  generalize Cert.Proof.KernelIdeal.innerOf (F := F) i = ib
  unfold Cert.Proof.KernelIdeal.zeroProg
  rfl

theorem outerBody_eq : k0_t1_body (F := F) i mIlx (Memref.isWhole_whole _) mArr (Memref.isWhole_whole _) mW (Memref.isWhole_whole _) mOut (Memref.isWhole_whole _)
    mPart (Memref.isWhole_whole _) mFeat (Memref.isWhole_whole _) mRows (Memref.isWhole_whole _) mAcc (Memref.isWhole_whole _) mSum (Memref.isWhole_whole _)
    mWord (Memref.isWhole_whole _) cc0_scratch5 cc0_scratch6 cc0_scratch7 cc0_scratch8 (BitVec.ofNat 32 (i 0).val)
    = Cert.Proof.KernelIdeal.outerBody (F := F) i (Cert.Proof.KernelIdeal.innerOf i) := by
  funext t u
  unfold k0_t1_body
  rw [zeroProg_eq]
  unfold Cert.Proof.KernelIdeal.outerBody
  generalize Cert.Proof.KernelIdeal.zeroProg (F := F) i (Cert.Proof.KernelIdeal.innerOf i) t = z
  rfl

set_option maxRecDepth 100000 in
theorem convProg_eq : cc0__conv_kernel (F := F) i mIlx (Memref.isWhole_whole _) mArr (Memref.isWhole_whole _) mW (Memref.isWhole_whole _) mOut (Memref.isWhole_whole _)
    mPart (Memref.isWhole_whole _) mFeat (Memref.isWhole_whole _) mRows (Memref.isWhole_whole _) mAcc (Memref.isWhole_whole _) mSum (Memref.isWhole_whole _)
    mWord (Memref.isWhole_whole _) cc0_scratch5 cc0_scratch6 cc0_scratch7 cc0_scratch8 = Cert.Proof.KernelIdeal.convProg (F := F) i (Cert.Proof.KernelIdeal.innerOf i) := by
  have h := outerBody_eq (F := F) i
  rw [cc0__conv_kernel_eq_skeleton]
  unfold cc0__conv_kernel_skel
  rw [k0_part202_eq_skeleton]
  unfold k0_part202_skel
  dsimp only
  rw [h]
  unfold Cert.Proof.KernelIdeal.convProg Cert.Proof.KernelIdeal.halfProg
  generalize Cert.Proof.KernelIdeal.outerBody (F := F) i (Cert.Proof.KernelIdeal.innerOf i) = z
  rfl

/-- The gather kernel is the idealized program's. -/
theorem conv_eq : cc0__conv_kernel (F := F) i mIlx (Memref.isWhole_whole _) mArr (Memref.isWhole_whole _) mW (Memref.isWhole_whole _) mOut (Memref.isWhole_whole _)
    mPart (Memref.isWhole_whole _) mFeat (Memref.isWhole_whole _) mRows (Memref.isWhole_whole _) mAcc (Memref.isWhole_whole _) mSum (Memref.isWhole_whole _)
    mWord (Memref.isWhole_whole _) cc0_scratch5 cc0_scratch6 cc0_scratch7 cc0_scratch8
    = Cert.KernelIdeal.cc0__conv_kernel (F := F) i Cert.Proof.KernelIdeal.mIlx (Memref.isWhole_whole _) Cert.Proof.KernelIdeal.mArr (Memref.isWhole_whole _) Cert.Proof.KernelIdeal.mW (Memref.isWhole_whole _)
      Cert.Proof.KernelIdeal.mOut (Memref.isWhole_whole _) Cert.Proof.KernelIdeal.mPart (Memref.isWhole_whole _) Cert.Proof.KernelIdeal.mFeat (Memref.isWhole_whole _) Cert.Proof.KernelIdeal.mRows (Memref.isWhole_whole _)
      Cert.Proof.KernelIdeal.mAcc (Memref.isWhole_whole _) Cert.Proof.KernelIdeal.mSum (Memref.isWhole_whole _) Cert.Proof.KernelIdeal.mWord (Memref.isWhole_whole _)
      Cert.KernelIdeal.cc0_scratch5 Cert.KernelIdeal.cc0_scratch6 Cert.KernelIdeal.cc0_scratch7 Cert.KernelIdeal.cc0_scratch8 :=
  (convProg_eq i).trans (Cert.Proof.KernelIdeal.convProg_eq i).symm

/-- The batch-norm kernel is the idealized program's. -/
theorem bn_eq : @cc1__bn_kernel F _ _ = @Cert.KernelIdeal.cc1__bn_kernel F _ _ := rfl

theorem defs₀_eq : defs₀ (F := F) = Cert.KernelIdeal.defs₀ (F := F) := by
  unfold defs₀ Cert.KernelIdeal.defs₀
  refine congrArg Defs.onTc ?_
  funext l a
  match l, a with
  | ⟨0, _⟩, (t, s) =>
    have hs : s = fun w => ⟨0, lt_of_le_of_lt (Nat.zero_le _) (s w).isLt⟩ := by
      funext w
      apply Fin.ext
      have h1 := (s w).isLt
      have h2 : w = 0 := Subsingleton.elim (α := Fin 1) _ _
      subst h2
      change (s 0).val < 1 at h1
      show (s 0).val = 0
      omega
    rw [hs]
    exact conv_eq (F := F) (grid0.coords t)
  | ⟨1, _⟩, (t, s) =>
    show cc1__bn_kernel (F := F) _ _ _ _ _ _ _ _ _ _ _ = _
    rw [bn_eq]
    rfl
  | ⟨_ + 2, h⟩, _ => exact absurd h (Nat.not_lt.2 (Nat.le_add_left _ _))

set_option maxHeartbeats 4000000 in
/-- The body tables are the same. -/
theorem defs_eq : defs (F := F) = Cert.KernelIdeal.defs (F := F) := by
  have h := defs₀_eq (F := F)
  unfold defs Cert.KernelIdeal.defs
  rw [h]
  rfl

set_option maxRecDepth 100000 in
set_option maxHeartbeats 0 in
/-- The host programs are the same. -/
theorem main_eq : main (F := F) = Cert.KernelIdeal.main (F := F) := rfl
end Cert.Proof.Kernel
end
-- ==== Proof.Frames.lean ====
module
public import proofs.«01_k».proof.Proof.Run
public import proofs.«01_k».proof.Proof.HostWords
public import proofs.«01_k».proof.Proof.HostBound
public import proofs.«01_k».proof.Proof.Transfer
@[expose] public section
noncomputable section
namespace Cert.Proof.KernelIdeal
open Cert.KernelIdeal Cert.KernelIdeal.Gen
open Idealize.ShloMosaic Idealize.ShloMosaic.TcCoe
open Idealize.SL.Sem
variable {F : FTy → Type} [FloatOps F]

/-- The words the kernel reads are rows of the packed features when every neighbour is in its point's half. -/
theorem words_bound (m : (ℓ : Loc nD τ sig) → Buf (Elt F) ℓ)
    (h : ∀ c : Dev nD, InHalf (m ((c.tc : Thread nD τ).loc main_arg4)) (m ((c.tc : Thread nD τ).loc main_arg5))) :
    ∀ c n q, q < 13824 → (rowW (ix0 (V9 m) c) n q).toNat < 50008 := by
  intro c n q hq
  have e : ix0 (V9 m) c = hostWords (m ((c.tc : Thread nD τ).loc main_arg4)) (m ((c.tc : Thread nD τ).loc main_arg5)) := V9_words m c
  rw [e]
  exact hostWords_lt (h c) n q hq

/-- The program ends with its arguments and the counters as at the start. -/
theorem frame (m : (ℓ : Loc nD τ sig) → Buf (Elt F) ℓ) (g : Dev nD → PrngReg)
    (h : ∀ c : Dev nD, InHalf (m ((c.tc : Thread nD τ).loc main_arg4)) (m ((c.tc : Thread nD τ).loc main_arg5))) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_mono (run m g (words_bound m h)) fun _ hr => ⟨fun c => (hr.1 c).2, hr.2⟩

end Cert.Proof.KernelIdeal
namespace Cert.Proof.Kernel
open Cert.Kernel
open Idealize.ShloMosaic Idealize.ShloMosaic.TcCoe
open Idealize.SL.Sem
variable {F : FTy → Type} [FloatOps F]

/-- The printed program before idealization likewise. -/
theorem frame (m : (ℓ : Loc nD τ sig) → Buf (Elt F) ℓ) (g : Dev nD → PrngReg)
    (h : ∀ c : Dev nD, Cert.Proof.KernelIdeal.InHalf (m ((c.tc : Thread nD τ).loc main_arg4)) (m ((c.tc : Thread nD τ).loc main_arg5))) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  rw [defs_eq, main_eq]
  exact Cert.Proof.KernelIdeal.frame (F := F) m g h

end Cert.Proof.Kernel
end
-- ==== Proof.BnMath.lean ====
module
public import proofs.«01_k».proof.Proof.Run
public import Idealize.ShloMosaic.Lib.Pointwise
public import Idealize.ShloMosaic.Lib.Pipeline.Covers
@[expose] public section
noncomputable section
namespace Cert.Proof.KernelIdeal
open Cert.KernelIdeal Cert.KernelIdeal.Gen
open Idealize.ShloMosaic Idealize.ShloMosaic.TcCoe Idealize.ShloMosaic.Tactic
open Idealize.SL.Sem
open Idealize.ShloMosaic.Pipeline (Dat Cfg Window)
open scoped BigOperators

/-- Scaling and shifting an element by its channel's mean and variance, then the rectification. -/
def bnVal (p : S2x8x32.Idx → Ideal .f32) (g bt x : EReal) (o : Fin 32) : EReal :=
  max (x * (g * Ideal.rsqrt (Ideal.div ((p (ix3 0 1 o) : EReal) + p (ix3 1 1 o)) (Ideal.ofBits .f32 0x48C35000#32)
      - Ideal.div ((p (ix3 0 0 o) : EReal) + p (ix3 1 0 o)) (Ideal.ofBits .f32 0x48C35000#32) * Ideal.div ((p (ix3 0 0 o) : EReal) + p (ix3 1 0 o)) (Ideal.ofBits .f32 0x48C35000#32)
      + Ideal.ofBits .f32 0x3727C5AC#32))
    + (bt - Ideal.div ((p (ix3 0 0 o) : EReal) + p (ix3 1 0 o)) (Ideal.ofBits .f32 0x48C35000#32)
      * (g * Ideal.rsqrt (Ideal.div ((p (ix3 0 1 o) : EReal) + p (ix3 1 1 o)) (Ideal.ofBits .f32 0x48C35000#32)
      - Ideal.div ((p (ix3 0 0 o) : EReal) + p (ix3 1 0 o)) (Ideal.ofBits .f32 0x48C35000#32) * Ideal.div ((p (ix3 0 0 o) : EReal) + p (ix3 1 0 o)) (Ideal.ofBits .f32 0x48C35000#32)
      + Ideal.ofBits .f32 0x3727C5AC#32)))) 0

/-- The normalizing payload at an element. -/
theorem pay_bn (p : S2x8x32.Idx → Ideal .f32) (g bt : S1x32.Idx → Ideal .f32) (x : S1x2000x32.Idx → Ideal .f32) (i : Fin 2000) (o : Fin 32) :
    (k1_pay1 (F := Ideal) p g bt x (ix3 0 i o) : EReal) = bnVal p (g (ix2 0 o)) (bt (ix2 0 o)) (x (ix3 0 i o)) o := by
  unfold bnVal
  pointwise [k1_pay1]

variable (V : Dev nD → Valuation τ sig (Elt Ideal))

/-- The blocks of the sums, of the scales and of the shifts are the arrays. -/
theorem blk_part (c : Dev nD) (t : Fin cfg1.N) : (blk1 V c 1 t : S2x8x32.Idx → Ideal .f32) = V c main_v33_1 := by
  funext j
  refine congrArg (V c main_v33_1) (funext fun a => Fin.ext ?_)
  refine (ValueKit.view_emb_slice_whole_unit_val main_v33_1 _ _ (fun a => Pipeline.Clip.OkAt.inb (win1_1.hclip (grid1.coords t) a)) j a).trans ?_
  fin_cases a
  · show 0 * 2 + (j 0).val = (j 0).val; omega
  · show 0 * 8 + (j 1).val = (j 1).val; omega
  · show 0 * 32 + (j 2).val = (j 2).val; omega
theorem blk_scale (c : Dev nD) (t : Fin cfg1.N) : (blk1 V c 2 t : S1x32.Idx → Ideal .f32) = V c main_v34 := by
  funext j
  refine congrArg (V c main_v34) (funext fun a => Fin.ext ?_)
  refine (ValueKit.view_emb_slice_whole_unit_val main_v34 _ _ (fun a => Pipeline.Clip.OkAt.inb (win1_2.hclip (grid1.coords t) a)) j a).trans ?_
  fin_cases a
  · show 0 * 1 + (j 0).val = (j 0).val; omega
  · show 0 * 32 + (j 1).val = (j 1).val; omega
theorem blk_shift (c : Dev nD) (t : Fin cfg1.N) : (blk1 V c 3 t : S1x32.Idx → Ideal .f32) = V c main_v35 := by
  funext j
  refine congrArg (V c main_v35) (funext fun a => Fin.ext ?_)
  refine (ValueKit.view_emb_slice_whole_unit_val main_v35 _ _ (fun a => Pipeline.Clip.OkAt.inb (win1_3.hclip (grid1.coords t) a)) j a).trans ?_
  fin_cases a
  · show 0 * 1 + (j 0).val = (j 0).val; omega
  · show 0 * 32 + (j 1).val = (j 1).val; omega

theorem ix1_4 (i : grid1.Coords) : cc1_transform_4 i = ![(i 0).val, (i 1).val, 0] := by
  have h0 : (i 0).val < 2 := (i 0).isLt
  have h1 : (i 1).val < 100 := (i 1).isLt
  unfold cc1_transform_4
  simp only [BitVec.toNat_ofNat]
  rw [Nat.mod_eq_of_lt (show (i 0).val < 2 ^ 32 by omega), Nat.mod_eq_of_lt (show (i 1).val < 2 ^ 32 by omega)]

/-- What the normalizing region leaves: each element of the convolution's result, scaled and shifted. -/
def bnArr (c : Dev nD) : S2x200000x32.Idx → Ideal .f32 := fun j =>
  bnVal (V c main_v33_1) (V c main_v34 (ix2 (0 : Fin 1) (j 2) : S1x32.Idx)) (V c main_v35 (ix2 (0 : Fin 1) (j 2) : S1x32.Idx))
    (V c main_v33_0 (ix3 (j 0) (⟨(j 1).val, lt_of_lt_of_le (j 1).isLt (by decide)⟩ : Fin 200192) (j 2) : S2x200192x32.Idx)) (j 2)

/-- The payload at an element of a point's block, whatever index names it. -/
theorem pay_at (c : Dev nD) (t : Fin cfg1.N) (y : S1x2000x32.Idx) (z : S2x200000x32.Idx) (h0 : (z 0).val = (grid1.coords t 0).val)
    (h1 : (z 1).val = (grid1.coords t 1).val * 2000 + (y 1).val) (h2 : (z 2).val = (y 2).val) :
    k1_pay1 (blk1 V c 1 t) (blk1 V c 2 t) (blk1 V c 3 t) (xb V c t) y = bnArr V c z := by
  rw [show (blk1 V c 1 t : S2x8x32.Idx → Ideal .f32) = _ from blk_part V c t, show (blk1 V c 2 t : S1x32.Idx → Ideal .f32) = _ from blk_scale V c t,
    show (blk1 V c 3 t : S1x32.Idx → Ideal .f32) = _ from blk_shift V c t]
  have hy : y = ix3 (0 : Fin 1) (⟨(y 1).val, (y 1).isLt⟩ : Fin 2000) (⟨(y 2).val, (y 2).isLt⟩ : Fin 32) := by
    funext a
    apply Fin.ext
    fin_cases a
    · have : (y 0).val < 1 := (y 0).isLt
      show (y 0).val = 0; omega
    · rfl
    · rfl
  rw [hy]
  refine (pay_bn _ _ _ _ _ _).trans ?_
  have e2 : (⟨(y 2).val, (y 2).isLt⟩ : Fin 32) = z 2 := Fin.ext h2.symm
  rw [e2]
  unfold bnArr
  congr 1
  show V c main_v33_0 _ = V c main_v33_0 _
  refine congrArg (V c main_v33_0) (funext fun a => Fin.ext ?_)
  fin_cases a
  · exact h0.symm
  · exact h1.symm
  · rfl

/-- The array the normalizing region leaves. -/
theorem arr_bn (c : Dev nD) : (dat1 V c).arrAt 4 cfg1.N = bnArr V c := by
  refine (dat1 V c).arrAt_eq_of_covers 4 (bnArr V c) ?_ fun t hf y => ?_
  · refine (cfg1.win 4).covers_of_indexMap_surj rfl (by decide) fun β => ?_
    have h0 : (β 0).val < 2 := lt_of_lt_of_le (β 0).isLt (by decide)
    have h1 : (β 1).val < 100 := lt_of_lt_of_le (β 1).isLt (by decide)
    have h2 : (β 2).val < 1 := lt_of_lt_of_le (β 2).isLt (by decide)
    obtain ⟨i, i0, i1⟩ : ∃ i : grid1.Coords, (i 0).val = (β 0).val ∧ (i 1).val = (β 1).val :=
      ⟨fun a => match a with | ⟨0, _⟩ => (⟨(β 0).val, h0⟩ : Fin 2) | ⟨1, _⟩ => (⟨(β 1).val, h1⟩ : Fin 100), rfl, rfl⟩
    refine ⟨i, fun a => ?_⟩
    show cc1_transform_4 i a = (β a).val
    rw [ix1_4]
    match a with
    | ⟨0, _⟩ => exact i0
    | ⟨1, _⟩ => exact i1
    | ⟨2, _⟩ => exact (show 0 = (β 2).val by omega)
  · have e := fun a => ValueKit.view_emb_slice_whole_unit_val main_v36 _ _ (fun a => Pipeline.Clip.OkAt.inb (win1_4.hclip (grid1.coords t) a)) y a
    have ix := ix1_4 (grid1.coords t)
    have hy0 : (y 0).val < 1 := lt_of_lt_of_le (y 0).isLt (win1_4.xsize_le (grid1.coords t) 0)
    refine pay_at V c t ((cfg1.win 4).xinj (cfg1.grid.coords t) y) _ ?_ ?_ ?_
    · refine (e 0).trans ?_
      show cc1_transform_4 (grid1.coords t) 0 * 1 + (y 0).val = _
      rw [ix]
      show (grid1.coords t 0).val * 1 + (y 0).val = (grid1.coords t 0).val
      omega
    · refine (e 1).trans ?_
      show cc1_transform_4 (grid1.coords t) 1 * 2000 + (y 1).val = _
      rw [ix]
      rfl
    · refine (e 2).trans ?_
      show cc1_transform_4 (grid1.coords t) 2 * 32 + (y 2).val = _
      rw [ix]
      show 0 * 32 + (y 2).val = (y 2).val
      omega
end Cert.Proof.KernelIdeal
end
-- ==== Proof.ConvMath.lean ====
module
public import proofs.«01_k».proof.Proof.OuterSpec
public import proofs.«01_k».proof.Proof.HostBound
public import Idealize.ShloMosaic.Lib.Pointwise
@[expose] public section
noncomputable section
namespace Cert.Proof.KernelIdeal
open Cert.KernelIdeal Cert.KernelIdeal.Gen
open Idealize.ShloMosaic Idealize.ShloMosaic.TcCoe Idealize.ShloMosaic.Tactic
open scoped BigOperators

/-- The zero word is zero. -/
theorem Zf_eq : (Zf : Ideal .f32) = (0 : EReal) := Ideal.ofBits_zero_f32

section
variable (fe : S400000x32.Idx → EReal) (w : S27x32x32.Idx → EReal) (idx : IVec S27x400000 32) (mask : IVec S27x400000 1)

/-- Feature `i` of the neighbour of point `n` at offset `k`: zero where there is none. -/
def nbr (k : Fin 27) (n : Fin 400000) (i : Fin 32) : EReal :=
  if mask (ix2 k n) = 1#1 then fe (ix2 ⟨(idx (ix2 k n)).toNat % 400000, Nat.mod_lt _ (by decide)⟩ i) else 0
/-- The convolution: over the offsets, the neighbour's features times the offset's weights. -/
def conv (n : Fin 400000) (o : Fin 32) : EReal := ∑ k : Fin 27, ∑ i : Fin 32, nbr fe idx mask k n i * w (ix3 k i o)
/-- The convolution at a point's number, zero past the points of its half. -/
def convAt (b q : ℕ) (o : Fin 32) : EReal :=
  if h : b < 2 ∧ q < 200000 then conv fe w idx mask ⟨200000 * b + q, by omega⟩ o else 0
end

/-- A sum over 128 lanes, by groups of 32. -/
theorem sum_lanes (F : Fin 128 → EReal) : ∑ l, F l = ∑ j : Fin 4, ∑ i : Fin 32, F ⟨32 * j.val + i.val, by omega⟩ := by
  rw [← Fintype.sum_prod_type']
  refine (Fintype.sum_equiv (finProdFinEquiv (m := 4) (n := 32)) _ _ fun p => ?_).symm
  congr 1
  apply Fin.ext
  show 32 * p.1.val + p.2.val = p.2.val + 32 * p.1.val
  omega

/-- A gathered row against weights repeated in every lane group. -/
theorem gat_sum (fs : S50008x1x128.Idx → Ideal .f32) (r j : BitVec 32) (hj : j.toNat < 4) (g : Fin 32 → EReal) :
    ∑ l : Fin 128, (gat fs r j l.val : EReal) * g ⟨l.val % 32, by omega⟩ = ∑ i : Fin 32, (featAt fs r.toNat (32 * j.toNat + i.val) : EReal) * g i := by
  rw [sum_lanes, Finset.sum_eq_single (⟨j.toNat, hj⟩ : Fin 4)]
  · refine Finset.sum_congr rfl fun i _ => ?_
    have e : (⟨(32 * j.toNat + i.val) % 32, by omega⟩ : Fin 32) = i := Fin.ext (by show (32 * j.toNat + i.val) % 32 = i.val; omega)
    show (gat fs r j (32 * j.toNat + i.val) : EReal) * g ⟨(32 * j.toNat + i.val) % 32, _⟩ = _
    rw [e, gat, if_pos (by omega)]
  · intro j' _ hne
    refine Finset.sum_eq_zero fun i _ => ?_
    show (gat fs r j (32 * j'.val + i.val) : EReal) * _ = 0
    rw [gat, if_neg (fun h => hne (Fin.ext (by show j'.val = j.toNat; omega))), Zf_eq, zero_mul]
  · intro h; exact absurd (Finset.mem_univ _) h

/-- The accumulator after `k` offsets, as a sum. -/
theorem accAt_apply (fs : S50008x1x128.Idx → Ideal .f32) (wd : ℕ → BitVec 32) (wf : S3456x32.Idx → Ideal .f32) (k : ℕ) (i : Fin 512) (o : Fin 32) :
    (accAt fs wd wf k (ix2 i o) : EReal) = ∑ κ ∈ Finset.range k, ∑ l : Fin 128, (Xblk fs wd κ (ix2 i l) : EReal) * (Wblk wf κ (ix2 l o) : EReal) := by
  induction k with
  | zero => exact Zf_eq
  | succ k ih =>
    rw [Finset.sum_range_succ, ← ih]
    show (accAt fs wd wf k (ix2 i o) : EReal) + (FloatOps.matmul dot_S512x128_S128x32_S512x32_1_0_0_1_n_n none (Xblk fs wd k) (Wblk wf k) (constant S512x32 .f32 0x00000000#32) (ix2 i o) : EReal) = _
    congr 1
    generalize Xblk fs wd k = X
    generalize Wblk wf k = W
    pointwise

section
variable {idx : IVec S27x400000 32} {mask : IVec S27x400000 1}

/-- The words of a point at an offset: its neighbour's packed row, and the place in it. -/
theorem words_at (b t k i : ℕ) (hb : b < 2) (ht : t < 391) (hk : k < 27) (hi : i < 512) :
    rowW (hostWords idx mask) (391 * b + t) (512 * k + i) =
      (if h : 512 * t + i < 200000 then IntOp.shrsi .host (lidx idx mask (ix2 (⟨k, hk⟩ : Fin 27) (⟨200000 * b + (512 * t + i), by omega⟩ : Fin 400000))) 2#32 else 50000#32)
    ∧ rowW (hostWords idx mask) (391 * b + t) (13824 + 512 * k + i) =
      (if h : 512 * t + i < 200000 then lidx idx mask (ix2 (⟨k, hk⟩ : Fin 27) (⟨200000 * b + (512 * t + i), by omega⟩ : Fin 400000)) &&& 3#32 else 0#32) := by
  constructor
  · unfold rowW
    rw [dif_pos (by omega)]
    refine (hostWords_lo idx mask (391 * b + t) (512 * k + i) (by omega) (by omega)).trans ?_
    exact tiled_apply _ _ b t k i hb ht hk hi
  · unfold rowW
    rw [dif_pos (by omega)]
    have e : (⟨13824 + 512 * k + i, by omega⟩ : Fin 27648) = ⟨13824 + (512 * k + i), by omega⟩ := Fin.ext (by show 13824 + 512 * k + i = 13824 + (512 * k + i); omega)
    rw [e]
    refine (hostWords_hi idx mask (391 * b + t) (512 * k + i) (by omega) (by omega)).trans ?_
    exact tiled_apply _ _ b t k i hb ht hk hi
end

section
variable (fe : S400000x32.Idx → EReal) (w : S27x32x32.Idx → EReal) {idx : IVec S27x400000 32} {mask : IVec S27x400000 1}
variable (a : S100016x1x128.Idx → Ideal .f32) (wf : S3456x32.Idx → Ideal .f32)

/-- The features packed four rows to a row, each half followed by rows of zeros. -/
def Packed : Prop := ∀ (b n l : ℕ) (hb : b < 2) (hn : n < 50008) (hl : l < 128),
  (a (ix3 (⟨50008 * b + n, by omega⟩ : Fin 100016) (0 : Fin 1) (⟨l, hl⟩ : Fin 128)) : EReal) =
    if h : n < 50000 then fe (ix2 (⟨200000 * b + (4 * n + l / 32), by omega⟩ : Fin 400000) (⟨l % 32, by omega⟩ : Fin 32)) else 0
/-- The weights of each offset, repeated once for each lane group. -/
def Staged : Prop := ∀ (k l : ℕ) (hk : k < 27) (hl : l < 128) (o : Fin 32),
  (wf (ix2 (⟨128 * k + l, by omega⟩ : Fin 3456) o) : EReal) = w (ix3 (⟨k, hk⟩ : Fin 27) (⟨l % 32, by omega⟩ : Fin 32) o)

variable {fe w a wf}

/-- The packed features at a row within a half. -/
theorem featAt_packed (hA : Packed fe a) (b v i : ℕ) (hb : b < 2) (hv : v ≤ 200000) (hi : i < 32) :
    (featAt (featHalf a b) (v / 4) (32 * (v % 4) + i) : EReal) = if h : v < 200000 then fe (ix2 (⟨200000 * b + v, by omega⟩ : Fin 400000) (⟨i, hi⟩ : Fin 32)) else 0 := by
  unfold featAt
  rw [dif_pos (by omega)]
  unfold featHalf
  have hh : 50008 * b + v / 4 < 100016 := by omega
  refine (dif_pos (show 50008 * b + ((ix3 (⟨v / 4, by omega⟩ : Fin 50008) (0 : Fin 1) (⟨32 * (v % 4) + i, by omega⟩ : Fin 128) : S50008x1x128.Idx) 0).val < 100016 from hh)).trans ?_
  refine (hA b (v / 4) (32 * (v % 4) + i) hb (by omega) (by omega)).trans ?_
  by_cases h : v < 200000
  · rw [dif_pos h, dif_pos (by omega)]
    congr 2
    · apply Fin.ext
      show 200000 * b + (4 * (v / 4) + (32 * (v % 4) + i) / 32) = 200000 * b + v
      omega
    · apply Fin.ext
      show (32 * (v % 4) + i) % 32 = i
      omega
  · rw [dif_neg h, dif_neg (by omega)]

/-- The lane group of a neighbour. -/
theorem and_three (l : BitVec 32) : (l &&& 3#32).toNat = l.toNat % 4 := by
  rw [BitVec.toNat_and]
  exact Nat.and_two_pow_sub_one_eq_mod l.toNat 2

/-- The packed features at a point's words are its neighbour's features. -/
theorem feat_words (hA : Packed fe a) (hin : InHalf idx mask) (b q : ℕ) (k : Fin 27) (i : Fin 32) (hb : b < 2) (hq : q < 200000) :
    (featAt (featHalf a b) (IntOp.shrsi .host (lidx idx mask (ix2 k (⟨200000 * b + q, by omega⟩ : Fin 400000))) 2#32).toNat
      (32 * (lidx idx mask (ix2 k (⟨200000 * b + q, by omega⟩ : Fin 400000)) &&& 3#32).toNat + i.val) : EReal) = nbr fe idx mask k ⟨200000 * b + q, by omega⟩ i := by
  have hle := lidx_le hin (ix2 k (⟨200000 * b + q, by omega⟩ : Fin 400000))
  rw [shr_two _ hle, and_three, featAt_packed hA b _ i.val hb hle i.isLt]
  unfold nbr
  by_cases hm : mask (ix2 k (⟨200000 * b + q, by omega⟩ : Fin 400000)) = 1#1
  · obtain ⟨r, hr, e1, e2⟩ := hin _ hm
    have e2' : (idx (ix2 k (⟨200000 * b + q, by omega⟩ : Fin 400000))).toNat = r + 200000 * ((200000 * b + q) / 200000) := e2
    rw [if_pos hm, dif_pos (by omega)]
    congr 2
    apply Fin.ext
    show 200000 * b + (lidx idx mask _).toNat = (idx _).toNat % 400000
    rw [e1, e2']
    omega
  · rw [if_neg hm, dif_neg]
    rw [lidx_apply, if_neg hm]
    decide

/-- A tile of the kernel's result is the convolution at its points. -/
theorem tile_eq (hA : Packed fe a) (hW : Staged w wf) (hin : InHalf idx mask) (b t : ℕ) (hb : b < 2) (ht : t < 391) (i : Fin 512) (o : Fin 32) :
    (tile (hostWords idx mask) a wf b t (ix2 i o) : EReal) = convAt fe w idx mask b (512 * t + i.val) o := by
  unfold tile
  rw [accAt_apply, Finset.sum_range]
  have key : ∀ κ : Fin 27, ∑ l : Fin 128, (Xblk (featHalf a b) (rowW (hostWords idx mask) (391 * b + t)) κ.val (ix2 i l) : EReal) * (Wblk wf κ.val (ix2 l o) : EReal)
      = if h : 512 * t + i.val < 200000 then ∑ j : Fin 32, nbr fe idx mask κ ⟨200000 * b + (512 * t + i.val), by omega⟩ j * w (ix3 κ j o) else 0 := by
    intro κ
    obtain ⟨h1, h2⟩ := words_at (idx := idx) (mask := mask) b t κ.val i.val hb ht κ.isLt i.isLt
    have hx : ∀ l : Fin 128, (Xblk (featHalf a b) (rowW (hostWords idx mask) (391 * b + t)) κ.val (ix2 i l) : EReal) * (Wblk wf κ.val (ix2 l o) : EReal)
        = (gat (featHalf a b) (rowW (hostWords idx mask) (391 * b + t) (512 * κ.val + i.val)) (rowW (hostWords idx mask) (391 * b + t) (13824 + 512 * κ.val + i.val)) l.val : EReal)
          * (fun j : Fin 32 => w (ix3 κ j o)) ⟨l.val % 32, by omega⟩ := by
      intro l
      congr 1
      unfold Wblk
      exact (dif_pos (show 128 * κ.val + l.val < 3456 by omega)).trans (hW κ.val l.val κ.isLt l.isLt o)
    rw [Finset.sum_congr rfl fun l _ => hx l, h1, h2]
    by_cases h : 512 * t + i.val < 200000
    · rw [dif_pos h, dif_pos h, dif_pos h]
      refine (gat_sum _ _ _ (by rw [and_three]; omega) (fun j : Fin 32 => w (ix3 κ j o))).trans ?_
      refine Finset.sum_congr rfl fun j _ => ?_
      rw [feat_words hA hin b (512 * t + i.val) κ j hb h]
    · rw [dif_neg h, dif_neg h, dif_neg h]
      refine (gat_sum _ _ _ (by decide) (fun j : Fin 32 => w (ix3 κ j o))).trans ?_
      refine Finset.sum_eq_zero fun j _ => ?_
      have := featAt_packed hA b 200000 j.val hb le_rfl j.isLt
      rw [dif_neg (by omega)] at this
      rw [show (50000#32).toNat = 200000 / 4 from rfl, show (0#32).toNat = 200000 % 4 from rfl, this, zero_mul]
  rw [Finset.sum_congr rfl fun κ _ => key κ]
  unfold convAt conv
  by_cases h : 512 * t + i.val < 200000
  · rw [dif_pos ⟨hb, h⟩]
    exact Finset.sum_congr rfl fun κ _ => dif_pos h
  · rw [dif_neg (fun hh => h hh.2)]
    exact Finset.sum_eq_zero fun κ _ => dif_neg h

/-- The kernel's result is the convolution at its points. -/
theorem Ofun_eq (hA : Packed fe a) (hW : Staged w wf) (hin : InHalf idx mask) (b : Fin 2) (q : Fin 200192) (o : Fin 32) :
    (Ofun (hostWords idx mask) a wf (ix3 b q o) : EReal) = convAt fe w idx mask b.val q.val o := by
  refine (tile_eq hA hW hin b.val (q.val / 512) b.isLt (by omega) ⟨q.val % 512, by omega⟩ o).trans ?_
  show convAt fe w idx mask b.val (512 * (q.val / 512) + q.val % 512) o = _
  rw [Nat.div_add_mod]

end
end Cert.Proof.KernelIdeal
end
-- ==== Proof.SumMath.lean ====
module
public import proofs.«01_k».proof.Proof.ConvMath
@[expose] public section
noncomputable section
namespace Cert.Proof.KernelIdeal
open Cert.KernelIdeal Cert.KernelIdeal.Gen
open Idealize.ShloMosaic Idealize.ShloMosaic.TcCoe Idealize.ShloMosaic.Tactic
open scoped BigOperators

/-- The sum's payload: the running sum plus the column's sum. -/
theorem pay_sum (A : S1x512x32.Idx → Ideal .f32) (s : S1x32.Idx → Ideal .f32) (o : Fin 32) :
    (k0_pay648 (F := Ideal) A s (ix2 0 o) : EReal) = (s (ix2 0 o) : EReal) + ∑ i : Fin 512, (A (ix3 0 i o) : EReal) := by
  pointwise [k0_pay648, k0_pay647]
/-- The squares' payload: the running sum plus the column's sum of squares. -/
theorem pay_sq (A : S1x512x32.Idx → Ideal .f32) (s : S1x32.Idx → Ideal .f32) (o : Fin 32) :
    (k0_pay649 (F := Ideal) A s (ix2 0 o) : EReal) = (s (ix2 0 o) : EReal) + ∑ i : Fin 512, (A (ix3 0 i o) : EReal) * (A (ix3 0 i o) : EReal) := by
  pointwise [k0_pay649, k0_pay647]

theorem step_sum (A : S512x32.Idx → Ideal .f32) (s : S8x32.Idx → Ideal .f32) (o : Fin 32) :
    (sumStep A s (ix2 0 o) : EReal) = (s (ix2 0 o) : EReal) + ∑ i : Fin 512, (A (ix2 i o) : EReal) := by
  refine Eq.trans ?_ (pay_sum (fun i : S1x512x32.Idx => A (slabIx i)) (sumRow s 0 (by decide)) o)
  rfl
theorem step_sq (A : S512x32.Idx → Ideal .f32) (s : S8x32.Idx → Ideal .f32) (o : Fin 32) :
    (sumStep A s (ix2 1 o) : EReal) = (s (ix2 1 o) : EReal) + ∑ i : Fin 512, (A (ix2 i o) : EReal) * (A (ix2 i o) : EReal) := by
  refine Eq.trans ?_ (pay_sq (fun i : S1x512x32.Idx => A (slabIx i)) (sumRow s 1 (by decide)) o)
  rfl

section
variable (x : S782x27648.Idx → BitVec 32) (a : S100016x1x128.Idx → Ideal .f32) (wf : S3456x32.Idx → Ideal .f32)

/-- The sums after `t` tiles: of the elements, and of their squares. -/
theorem sumAt_sum (b t : ℕ) (o : Fin 32) :
    (sumAt x a wf b t (ix2 0 o) : EReal) = ∑ τ ∈ Finset.range t, ∑ i : Fin 512, (tile x a wf b τ (ix2 i o) : EReal) := by
  induction t with
  | zero => exact Zf_eq
  | succ t ih => rw [Finset.sum_range_succ, ← ih]; exact step_sum _ _ o
theorem sumAt_sq (b t : ℕ) (o : Fin 32) :
    (sumAt x a wf b t (ix2 1 o) : EReal) = ∑ τ ∈ Finset.range t, ∑ i : Fin 512, (tile x a wf b τ (ix2 i o) : EReal) * (tile x a wf b τ (ix2 i o) : EReal) := by
  induction t with
  | zero => exact Zf_eq
  | succ t ih => rw [Finset.sum_range_succ, ← ih]; exact step_sq _ _ o
end

/-- A sum by blocks of 512 is the whole sum. -/
theorem sum_blocks (f : ℕ → EReal) (n : ℕ) : ∑ t ∈ Finset.range n, ∑ i : Fin 512, f (512 * t + i.val) = ∑ q ∈ Finset.range (512 * n), f q := by
  induction n with
  | zero => rfl
  | succ n ih => rw [Finset.sum_range_succ, ih, Nat.mul_succ, Finset.sum_range_add, Finset.sum_range (fun i => f (512 * n + i))]

/-- Terms that vanish past the points of a half do not count. -/
theorem sum_half (f : ℕ → EReal) (hf : ∀ q, 200000 ≤ q → f q = 0) : ∑ q ∈ Finset.range (512 * 391), f q = ∑ q ∈ Finset.range 200000, f q := by
  rw [show 512 * 391 = 200000 + 192 from rfl, Finset.sum_range_add]
  rw [Finset.sum_eq_zero (fun i _ => hf (200000 + i) (by omega)), add_zero]

/-- The two halves are all the points. -/
theorem sum_halves (g : Fin 400000 → EReal) (f : ℕ → ℕ → EReal) (hf : ∀ b q (h : b < 2 ∧ q < 200000), f b q = g ⟨200000 * b + q, by omega⟩) :
    ∑ q ∈ Finset.range 200000, f 0 q + ∑ q ∈ Finset.range 200000, f 1 q = ∑ n, g n := by
  obtain ⟨G, hG⟩ : ∃ G : ℕ → EReal, ∀ n (h : n < 400000), G n = g ⟨n, h⟩ := ⟨fun n => if h : n < 400000 then g ⟨n, h⟩ else 0, fun n h => dif_pos h⟩
  have e : ∑ n, g n = ∑ n ∈ Finset.range (200000 + 200000), G n := by
    rw [Finset.sum_range]
    exact Finset.sum_congr rfl fun n _ => (hG n.val n.isLt).symm
  rw [e, Finset.sum_range_add]
  refine congrArg₂ (fun u v : EReal => u + v) ?_ ?_
  · refine Finset.sum_congr rfl fun q hq => ?_
    have hq := Finset.mem_range.1 hq
    rw [hf 0 q ⟨by omega, hq⟩, hG q (by omega)]
    exact congrArg g (Fin.ext (by show 200000 * 0 + q = q; omega))
  · refine Finset.sum_congr rfl fun q hq => ?_
    have hq := Finset.mem_range.1 hq
    rw [hf 1 q ⟨by omega, hq⟩, hG (200000 + q) (by omega)]

section
variable {fe : S400000x32.Idx → EReal} {w : S27x32x32.Idx → EReal} {idx : IVec S27x400000 32} {mask : IVec S27x400000 1}
variable {a : S100016x1x128.Idx → Ideal .f32} {wf : S3456x32.Idx → Ideal .f32}

theorem convAt_zero (b q : ℕ) (o : Fin 32) (hq : 200000 ≤ q) : convAt fe w idx mask b q o = 0 := dif_neg (by omega)

/-- The kernel's sums of a half. -/
theorem Pfun_sum (hA : Packed fe a) (hW : Staged w wf) (hin : InHalf idx mask) (b : Fin 2) (o : Fin 32) :
    (Pfun (hostWords idx mask) a wf (ix3 b 0 o) : EReal) = ∑ q ∈ Finset.range 200000, convAt fe w idx mask b.val q o := by
  refine (sumAt_sum (hostWords idx mask) a wf b.val 391 o).trans ?_
  rw [← sum_half _ fun q hq => convAt_zero b.val q o hq, ← sum_blocks]
  exact Finset.sum_congr rfl fun t ht => Finset.sum_congr rfl fun i _ => tile_eq hA hW hin b.val t b.isLt (Finset.mem_range.1 ht) i o
/-- The kernel's sums of squares of a half. -/
theorem Pfun_sq (hA : Packed fe a) (hW : Staged w wf) (hin : InHalf idx mask) (b : Fin 2) (o : Fin 32) :
    (Pfun (hostWords idx mask) a wf (ix3 b 1 o) : EReal) = ∑ q ∈ Finset.range 200000, convAt fe w idx mask b.val q o * convAt fe w idx mask b.val q o := by
  refine (sumAt_sq (hostWords idx mask) a wf b.val 391 o).trans ?_
  rw [← sum_half (fun q => convAt fe w idx mask b.val q o * convAt fe w idx mask b.val q o) fun q hq => by show convAt fe w idx mask b.val q o * _ = 0; rw [convAt_zero b.val q o hq, zero_mul],
    ← sum_blocks]
  refine Finset.sum_congr rfl fun t ht => Finset.sum_congr rfl fun i _ => ?_
  rw [tile_eq hA hW hin b.val t b.isLt (Finset.mem_range.1 ht) i o]

/-- Both halves' sums are the sums over all the points. -/
theorem part_sum (hA : Packed fe a) (hW : Staged w wf) (hin : InHalf idx mask) (o : Fin 32) :
    (Pfun (hostWords idx mask) a wf (ix3 0 0 o) : EReal) + (Pfun (hostWords idx mask) a wf (ix3 1 0 o) : EReal) = ∑ n, conv fe w idx mask n o := by
  rw [Pfun_sum hA hW hin 0 o, Pfun_sum hA hW hin 1 o]
  exact sum_halves (fun n => conv fe w idx mask n o) (fun b q => convAt fe w idx mask b q o) fun b q h => dif_pos h
theorem part_sq (hA : Packed fe a) (hW : Staged w wf) (hin : InHalf idx mask) (o : Fin 32) :
    (Pfun (hostWords idx mask) a wf (ix3 0 1 o) : EReal) + (Pfun (hostWords idx mask) a wf (ix3 1 1 o) : EReal) = ∑ n, conv fe w idx mask n o * conv fe w idx mask n o := by
  rw [Pfun_sq hA hW hin 0 o, Pfun_sq hA hW hin 1 o]
  exact sum_halves (fun n => conv fe w idx mask n o * conv fe w idx mask n o) (fun b q => convAt fe w idx mask b q o * convAt fe w idx mask b q o)
    fun b q h => by unfold convAt; rw [dif_pos h]
end
end Cert.Proof.KernelIdeal
end
-- ==== Proof.HostPack.lean ====
module
public import proofs.«01_k».proof.Proof.ConvMath
public import proofs.«01_k».proof.Proof.HostWords
@[expose] public section
noncomputable section
namespace Cert.Proof.KernelIdeal
open Cert.KernelIdeal Cert.KernelIdeal.Gen
open Idealize.ShloMosaic Idealize.ShloMosaic.TcCoe Idealize.ShloMosaic.Tactic
open Idealize.SL.Sem
variable {F : FTy → Type} [FloatOps F]

/-- The features padded by half and packed. -/
def packFeat (fe : S400000x32.Idx → F .f32) (z : S_.Idx → F .f32) : S100016x1x128.Idx → F .f32 :=
  shapeCast S100016x1x128 (pad S2x50008x128 ![0, 0, 0] ![0, 8, 0] ![0, 0, 0] (shapeCast S2x50000x128 fe shapeCasts_S400000x32_S2x50000x128) z
    pads_S2x50000x128_S2x50008x128_000_080_000 h_S_) shapeCasts_S2x50008x128_S100016x1x128
/-- The weights repeated for every lane group. -/
def stageW (w : S27x32x32.Idx → F .f32) : S3456x32.Idx → F .f32 :=
  shapeCast S3456x32 (shapeCast S27x128x32 (broadcastInDim S1x27x4x32x1x32 ![0, 1, 2, 3, 4, 5] bcast_S1x27x1x32x1x32_S1x27x4x32x1x32_0_1_2_3_4_5
    (shapeCast S1x27x1x32x1x32 w shapeCasts_S27x32x32_S1x27x1x32x1x32)) shapeCasts_S1x27x4x32x1x32_S27x128x32) shapeCasts_S27x128x32_S3456x32

section
variable (V : Valuation τ sig (Elt F))
theorem ops0_v0 : StableHlo.after (hostOps0 (F := F)) V main_v0 = shapeCast S2x50000x128 (V main_arg0) shapeCasts_S400000x32_S2x50000x128 := by
  after_reads_simp
  rfl
theorem ops0_c : StableHlo.after (hostOps0 (F := F)) V main_c = constantI S_ 32 0#32 := by
  after_reads_simp
theorem ops1_v1 : StableHlo.after (hostOps0_1 (F := F)) V main_v1 =
    pad S2x50008x128 ![0, 0, 0] ![0, 8, 0] ![0, 0, 0] (V main_v0) (sitofp (F := F) .f32 (V main_c)) pads_S2x50000x128_S2x50008x128_000_080_000 h_S_ := by
  after_reads_simp
  rfl
theorem ops2_v2 : StableHlo.after (hostOps0_2 (F := F)) V main_v2 = shapeCast S100016x1x128 (V main_v1) shapeCasts_S2x50008x128_S100016x1x128 := by
  after_reads_simp
  rfl
theorem ops8_v32 : StableHlo.after (hostOps0_8 (F := F)) V main_v32 = stageW (V main_arg1) := by
  after_reads_simp
  rfl
end

section
variable (m : (ℓ : Loc nD τ sig) → Buf (Elt F) ℓ) (c : Dev nD)

/-- What the host leaves as the packed features. -/
theorem V9_feat : V9 m c main_v2 = packFeat (m ((c.tc : Thread nD τ).loc main_arg0)) (sitofp (F := F) .f32 (constantI S_ 32 0#32)) := by
  rw [V9_of m c main_v2 (by decide), V8_of m c main_v2 (by decide), V7_of m c main_v2 (by decide), V6_of m c main_v2 (by decide), V5_of m c main_v2 (by decide),
    V4_of m c main_v2 (by decide)]
  refine (ops2_v2 (V2 m c)).trans ?_
  rw [show V2 m c main_v1 = _ from ops1_v1 (V1 m c), show V1 m c main_v0 = _ from ops0_v0 (V0 m c), show V1 m c main_c = _ from ops0_c (V0 m c)]
  rfl
/-- What the host leaves as the staged weights. -/
theorem V9_weight : V9 m c main_v32 = stageW (m ((c.tc : Thread nD τ).loc main_arg1)) := by
  refine (ops8_v32 (V8 m c)).trans ?_
  rw [V8_of m c main_arg1 (by decide), V7_of m c main_arg1 (by decide), V6_of m c main_arg1 (by decide), V5_of m c main_arg1 (by decide),
    V4_of m c main_arg1 (by decide), V3_of m c main_arg1 (by decide), V2_of m c main_arg1 (by decide), V1_of m c main_arg1 (by decide)]
end

/-- The packed features are the features. -/
theorem packed (fe : S400000x32.Idx → Ideal .f32) : Packed fe (packFeat (F := Ideal) fe (sitofp (F := Ideal) .f32 (constantI S_ 32 0#32))) := by
  intro b n l hb hn hl
  unfold packFeat
  rw [shapeCast_apply (k := (ix3 (⟨b, hb⟩ : Fin 2) (⟨n, hn⟩ : Fin 50008) (⟨l, hl⟩ : Fin 128) : S2x50008x128.Idx))]
  · by_cases h : n < 50000
    · rw [dif_pos h, pad_apply_of_inside (k := (ix3 (⟨b, hb⟩ : Fin 2) (⟨n, h⟩ : Fin 50000) (⟨l, hl⟩ : Fin 128) : S2x50000x128.Idx)),
        shapeCast_apply]
      · rw [Shape.rowMajor_val_two, Shape.rowMajor_val_three]
        show (200000 * b + (4 * n + l / 32)) * 32 + l % 32 = (b * 50000 + n) * 128 + l
        omega
      · intro a; fin_cases a
        · show b = 0 + b * 1; omega
        · show n = 0 + n * 1; omega
        · show l = 0 + l * 1; omega
    · rw [dif_neg h, pad_apply_of_not_inside (a := 1)]
      · show (((0#32).toInt : ℝ) : EReal) = 0
        simp
      · show ¬(0 ≤ n ∧ (n - 0) % 1 = 0 ∧ (n - 0) / 1 < 50000)
        omega
  · rw [Shape.rowMajor_val_three, Shape.rowMajor_val_three]
    show (b * 50008 + n) * 128 + l = ((50008 * b + n) * 1 + 0) * 128 + l
    omega

/-- The staged weights are the weights. -/
theorem staged (w : S27x32x32.Idx → Ideal .f32) : Staged w (stageW (F := Ideal) w) := by
  intro k l hk hl o
  pointwise [stageW]
  congr 2 <;> apply Fin.ext <;> simp <;> omega
end Cert.Proof.KernelIdeal
end
-- ==== Proof.KernelValue.lean ====
module
public import proofs.«01_k».proof.Proof.BnMath
public import proofs.«01_k».proof.Proof.SumMath
public import proofs.«01_k».proof.Proof.HostPack
@[expose] public section
noncomputable section
namespace Cert.Proof.KernelIdeal
open Cert.KernelIdeal Cert.KernelIdeal.Gen
open Idealize.ShloMosaic Idealize.ShloMosaic.TcCoe Idealize.ShloMosaic.Tactic
open Idealize.SL.Sem
open scoped BigOperators

section
variable {F : FTy → Type} [FloatOps F] (V : Valuation τ sig (Elt F))
theorem ops1_v34 : StableHlo.after (hostOps1 (F := F)) V main_v34 = shapeCast S1x32 (V main_arg2) shapeCasts_S32_S1x32 := by
  after_reads_simp
  rfl
theorem ops1_v35 : StableHlo.after (hostOps1 (F := F)) V main_v35 = shapeCast S1x32 (V main_arg3) shapeCasts_S32_S1x32 := by
  after_reads_simp
  rfl
theorem ops2_v37 : StableHlo.after (hostOps2 (F := F)) V main_v37 = shapeCast S400000x32 (V main_v36) shapeCasts_S2x200000x32_S400000x32 := by
  after_reads_simp
  rfl
end

/-- A row of one, at a column. -/
theorem row_apply (v : S32.Idx → Ideal .f32) (o : Fin 32) : shapeCast S1x32 v shapeCasts_S32_S1x32 (ix2 (0 : Fin 1) o) = v (ix1 o) := by
  rw [shapeCast_apply (k := (ix1 o : S32.Idx))]
  rw [Shape.rowMajor_val_two, Shape.rowMajor_val_one]
  show o.val = 0 * 32 + o.val
  omega

variable (m : (ℓ : Loc nD τ sig) → Buf (Elt Ideal) ℓ) (c : Dev nD)

/-- An argument is unchanged at the regions. -/
theorem V10_arg (b : Ref sig .tc) (h0 : b ≠ main_v33_0) (h1 : b ≠ main_v33_1) : V10 m (outs0 m) c b = V9 m c b := V10_ne m c b h0 h1

/-- The staged weights the region reads are the array. -/
theorem wt_eq : wt0 (V9 m) c = V9 m c main_v32 := by
  funext j
  refine congrArg (V9 m c main_v32) (funext fun a => Fin.ext ?_)
  refine (ValueKit.view_emb_slice_whole_unit_val main_v32 _ _ (fun a => Pipeline.Clip.OkAt.inb (win0_0.hclip (grid0.coords t0_0) a)) j a).trans ?_
  fin_cases a
  · show 0 * 3456 + (j 0).val = (j 0).val; omega
  · show 0 * 32 + (j 1).val = (j 1).val; omega

theorem U11_out : (U11 m c main_v33_0 : S2x200192x32.Idx → Ideal .f32) = Ofun (F := Ideal) (V9 m c main_v28) (V9 m c main_v2) (V9 m c main_v32) := by
  refine (V11_of m (outs0 m) c main_v33_0 (by decide)).trans ((V10_out m c).trans ?_)
  funext j
  rw [← wt_eq]
  exact if_pos (j 0).isLt
theorem U11_part : (U11 m c main_v33_1 : S2x8x32.Idx → Ideal .f32) = Pfun (F := Ideal) (V9 m c main_v28) (V9 m c main_v2) (V9 m c main_v32) := by
  refine (V11_of m (outs0 m) c main_v33_1 (by decide)).trans ((V10_part m c).trans ?_)
  funext j
  rw [← wt_eq]
  exact if_pos (j 0).isLt

theorem V10_arg2 : V10 m (outs0 m) c main_arg2 = m ((c.tc : Thread nD τ).loc main_arg2) := by
  rw [V10_arg m c main_arg2 (by decide) (by decide), V9_of m c main_arg2 (by decide), V8_of m c main_arg2 (by decide), V7_of m c main_arg2 (by decide), V6_of m c main_arg2 (by decide),
    V5_of m c main_arg2 (by decide), V4_of m c main_arg2 (by decide), V3_of m c main_arg2 (by decide), V2_of m c main_arg2 (by decide), V1_of m c main_arg2 (by decide)]
theorem V10_arg3 : V10 m (outs0 m) c main_arg3 = m ((c.tc : Thread nD τ).loc main_arg3) := by
  rw [V10_arg m c main_arg3 (by decide) (by decide), V9_of m c main_arg3 (by decide), V8_of m c main_arg3 (by decide), V7_of m c main_arg3 (by decide), V6_of m c main_arg3 (by decide),
    V5_of m c main_arg3 (by decide), V4_of m c main_arg3 (by decide), V3_of m c main_arg3 (by decide), V2_of m c main_arg3 (by decide), V1_of m c main_arg3 (by decide)]

/-- The kernel's result at a point and a channel: the convolution there, normalized by the channel's sums. -/
theorem value_apply (hin : InHalf (m ((c.tc : Thread nD τ).loc main_arg4)) (m ((c.tc : Thread nD τ).loc main_arg5))) (n : Fin 400000) (o : Fin 32) :
    (V13 m (outsOf m) c main_v37 (ix2 n o : S400000x32.Idx) : EReal) =
      bnVal (Pfun (F := Ideal) (V9 m c main_v28) (V9 m c main_v2) (V9 m c main_v32)) (m ((c.tc : Thread nD τ).loc main_arg2) (ix1 o : S32.Idx)) (m ((c.tc : Thread nD τ).loc main_arg3) (ix1 o : S32.Idx))
        (conv (m ((c.tc : Thread nD τ).loc main_arg0)) (m ((c.tc : Thread nD τ).loc main_arg1)) (m ((c.tc : Thread nD τ).loc main_arg4)) (m ((c.tc : Thread nD τ).loc main_arg5)) n o) o := by
  have e := (ops2_v37 (F := Ideal) (V12 m (outsOf m) c)).trans (by rw [V12_out, arr_bn])
  refine (congrFun e (ix2 n o : S400000x32.Idx)).trans ?_
  have hn : n.val / 200000 < 2 := by omega
  rw [shapeCast_apply (k := (ix3 (⟨n.val / 200000, hn⟩ : Fin 2) (⟨n.val % 200000, by omega⟩ : Fin 200000) o : S2x200000x32.Idx))]
  · unfold bnArr
    have h34 : U11 m c main_v34 = shapeCast S1x32 (m ((c.tc : Thread nD τ).loc main_arg2)) shapeCasts_S32_S1x32 := by
      refine (ops1_v34 (V10 m (outs0 m) c)).trans ?_
      rw [V10_arg2]
    have h35 : U11 m c main_v35 = shapeCast S1x32 (m ((c.tc : Thread nD τ).loc main_arg3)) shapeCasts_S32_S1x32 := by
      refine (ops1_v35 (V10 m (outs0 m) c)).trans ?_
      rw [V10_arg3]
    rw [U11_part, h34, h35, U11_out]
    have ho := Ofun_eq (fe := m ((c.tc : Thread nD τ).loc main_arg0)) (w := m ((c.tc : Thread nD τ).loc main_arg1)) (packed _) (staged _) hin
      (⟨n.val / 200000, hn⟩ : Fin 2) (⟨n.val % 200000, by omega⟩ : Fin 200192) o
    have hc : convAt (m ((c.tc : Thread nD τ).loc main_arg0)) (m ((c.tc : Thread nD τ).loc main_arg1)) (m ((c.tc : Thread nD τ).loc main_arg4)) (m ((c.tc : Thread nD τ).loc main_arg5))
        (n.val / 200000) (n.val % 200000) o = conv (m ((c.tc : Thread nD τ).loc main_arg0)) (m ((c.tc : Thread nD τ).loc main_arg1)) (m ((c.tc : Thread nD τ).loc main_arg4)) (m ((c.tc : Thread nD τ).loc main_arg5)) n o := by
      unfold convAt
      rw [dif_pos ⟨hn, Nat.mod_lt _ (by decide)⟩]
      exact congrArg (fun q => conv _ _ _ _ q o) (Fin.ext (Nat.div_add_mod n.val 200000))
    rw [← hc, ← show _ = convAt _ _ _ _ _ _ _ from ho, ← V9_words, ← V9_feat, ← V9_weight]
    exact congrArg₂ (fun u v => bnVal _ u v _ _) (row_apply _ o) (row_apply _ o)
  · rw [Shape.rowMajor_val_two, Shape.rowMajor_val_three]
    show (n.val / 200000 * 200000 + n.val % 200000) * 32 + o.val = n.val * 32 + o.val
    omega

/-- Both halves' sums, of the result and of its squares, are the sums over all the points. -/
theorem sums_eq (hin : InHalf (m ((c.tc : Thread nD τ).loc main_arg4)) (m ((c.tc : Thread nD τ).loc main_arg5))) (o : Fin 32) :
    let P : S2x8x32.Idx → EReal := Pfun (F := Ideal) (V9 m c main_v28) (V9 m c main_v2) (V9 m c main_v32)
    let y := fun n => conv (m ((c.tc : Thread nD τ).loc main_arg0)) (m ((c.tc : Thread nD τ).loc main_arg1)) (m ((c.tc : Thread nD τ).loc main_arg4)) (m ((c.tc : Thread nD τ).loc main_arg5)) n o
    P (ix3 0 0 o) + P (ix3 1 0 o) = ∑ n, y n ∧ P (ix3 0 1 o) + P (ix3 1 1 o) = ∑ n, y n * y n := by
  intro P y
  have e : P = Pfun (F := Ideal) (hostWords (m ((c.tc : Thread nD τ).loc main_arg4)) (m ((c.tc : Thread nD τ).loc main_arg5)))
      (packFeat (F := Ideal) (m ((c.tc : Thread nD τ).loc main_arg0)) (sitofp (F := Ideal) .f32 (constantI S_ 32 0#32))) (stageW (F := Ideal) (m ((c.tc : Thread nD τ).loc main_arg1))) := by
    show Pfun (F := Ideal) _ _ _ = _
    rw [V9_words, V9_feat, V9_weight]
  rw [e]
  exact ⟨part_sum (packed _) (staged _) hin o, part_sq (packed _) (staged _) hin o⟩
end Cert.Proof.KernelIdeal
end
-- ==== Proof.RefTerms.lean ====
module
public import proofs.«01_k».proof.Proof.ConvMath
public import proofs.«01_k».proof.Proof.Gen.ReferenceIdeal.Run
public import Idealize.ShloMosaic.Lib.Pointwise
@[expose] public section
noncomputable section
namespace Cert.Proof.ReferenceIdeal
open Cert.ReferenceIdeal Cert.ReferenceIdeal.Gen
open Idealize.ShloMosaic Idealize.ShloMosaic.TcCoe Idealize.ShloMosaic.Tactic
open Idealize.SL.Sem
open scoped BigOperators
variable {F : FTy → Type} [FloatOps F]

/-- The reference's convolution: the rows gathered by the wrapped indices, zero where masked out, contracted with the weights. -/
def refConv (fe : S400000x32.Idx → F .f32) (w : S27x32x32.Idx → F .f32) (idx : IVec S27x400000 32) (mask : IVec S27x400000 1) : S400000x32.Idx → F .f32 :=
  Host.dotGeneral dot_S27x400000x32_S27x32x32_S400000x32_20_10_1_2_n_n none
    (select (broadcastInDim S27x400000x32 ![0, 1, 2] bcast_S27x400000x1_S27x400000x32_0_1_2 (broadcastInDim S27x400000x1 ![0, 1] bcast_S27x400000_S27x400000x1_0_1 mask))
      (Host.gather gather_S400000x32_S27x400000x1_S27x400000x32_2_0_n_n_0_2_132 fe
        (broadcastInDim S27x400000x1 ![0, 1] bcast_S27x400000_S27x400000x1_0_1
          (select (cmpi .slt idx (broadcastInDim S27x400000 ![] bcast_S_S27x400000 (constantI S_ 32 0#32))) (addi idx (broadcastInDim S27x400000 ![] bcast_S_S27x400000 (constantI S_ 32 400000#32))) idx)))
      (broadcastInDim S27x400000x32 ![] bcast_S_S27x400000x32 (id (constant (F := F) S_ .f32 0x00000000#32)))) w
/-- The mean over the points. -/
def refMean (y : S400000x32.Idx → F .f32) : S32.Idx → F .f32 :=
  Host.divf (Host.reduceAdd y (constant S_ .f32 0x00000000#32) reducesTo_S400000x32_S32_d0 h_S_) (broadcastInDim S32 ![] bcast_S_S32 (constant S_ .f32 0x48C35000#32))
/-- A row along the points. -/
def alongRows (v : S32.Idx → F .f32) : S400000x32.Idx → F .f32 :=
  broadcastInDim S400000x32 ![0, 1] bcast_S1x32_S400000x32_0_1 (broadcastInDim S1x32 ![1] bcast_S32_S1x32_1 v)
/-- The deviations from the mean. -/
def refDev (y : S400000x32.Idx → F .f32) : S400000x32.Idx → F .f32 := subf y (alongRows (refMean y))
/-- The batch normalization and the rectification of the convolution's result. -/
def refNorm (y : S400000x32.Idx → F .f32) (g bt : S32.Idx → F .f32) : S400000x32.Idx → F .f32 :=
  maximumf (addf (mulf (mulf (alongRows g) (refDev y))
    (alongRows (Host.rsqrt (addf (refMean (mulf (refDev y) (refDev y))) (broadcastInDim S32 ![] bcast_S_S32 (constant S_ .f32 0x3727C5AC#32))))))
    (alongRows bt)) (broadcastInDim S400000x32 ![] bcast_S_S400000x32 (constant S_ .f32 0x00000000#32))

/-- What the reference computes. -/
theorem res_eq (m : (ℓ : Loc nD τ sig) → Buf (Elt F) ℓ) (c : Dev nD) :
    Value.res_out0 m c = refNorm (refConv (m ((c.tc : Thread nD τ).loc main_arg0)) (m ((c.tc : Thread nD τ).loc main_arg1)) (m ((c.tc : Thread nD τ).loc main_arg4)) (m ((c.tc : Thread nD τ).loc main_arg5)))
      (m ((c.tc : Thread nD τ).loc main_arg2)) (m ((c.tc : Thread nD τ).loc main_arg3)) := by
  unfold Value.res_out0 Value.res_main_v32 refNorm refDev refMean alongRows refConv
  rfl

theorem mean_apply (y : S400000x32.Idx → Ideal .f32) (o : Fin 32) :
    (refMean (F := Ideal) y (ix1 o) : EReal) = Ideal.div (∑ n : Fin 400000, (y (ix2 n o) : EReal)) (Ideal.ofBits .f32 0x48C35000#32) := by
  pointwise [refMean]
theorem along_apply (v : S32.Idx → Ideal .f32) (n : Fin 400000) (o : Fin 32) : (alongRows (F := Ideal) v (ix2 n o) : EReal) = v (ix1 o) := by
  pointwise [alongRows]
theorem norm_apply (y : S400000x32.Idx → Ideal .f32) (g bt : S32.Idx → Ideal .f32) (n : Fin 400000) (o : Fin 32) :
    (refNorm (F := Ideal) y g bt (ix2 n o) : EReal) =
      max (((g (ix1 o) : EReal) * ((y (ix2 n o) : EReal) - refMean (F := Ideal) y (ix1 o)))
        * Ideal.rsqrt (Ideal.div (∑ p : Fin 400000, ((y (ix2 p o) : EReal) - refMean (F := Ideal) y (ix1 o)) * ((y (ix2 p o) : EReal) - refMean (F := Ideal) y (ix1 o))) (Ideal.ofBits .f32 0x48C35000#32)
          + Ideal.ofBits .f32 0x3727C5AC#32) + bt (ix1 o)) 0 := by
  have hd : ∀ p : Fin 400000, (refDev (F := Ideal) y (ix2 p o) : EReal) = (y (ix2 p o) : EReal) - refMean (F := Ideal) y (ix1 o) := by
    intro p
    show (y (ix2 p o) : EReal) - alongRows (F := Ideal) (refMean y) (ix2 p o) = _
    rw [along_apply]
  have hv := mean_apply (mulf (F := Ideal) (φ := .f32) (refDev y) (refDev y)) o
  have hv' : (refMean (F := Ideal) (mulf (F := Ideal) (φ := .f32) (refDev y) (refDev y)) (ix1 o) : EReal) =
      Ideal.div (∑ p : Fin 400000, ((y (ix2 p o) : EReal) - refMean (F := Ideal) y (ix1 o)) * ((y (ix2 p o) : EReal) - refMean (F := Ideal) y (ix1 o))) (Ideal.ofBits .f32 0x48C35000#32) := by
    rw [hv]
    refine congrArg (fun s : EReal => Ideal.div s (Ideal.ofBits .f32 0x48C35000#32)) (Finset.sum_congr rfl fun p _ => ?_)
    show (refDev (F := Ideal) y (ix2 p o) : EReal) * refDev (F := Ideal) y (ix2 p o) = _
    rw [hd]
  have hz : (broadcastInDim S400000x32 ![] bcast_S_S400000x32 (constant (F := Ideal) S_ .f32 0x00000000#32) (ix2 n o) : EReal) = 0 := Ideal.ofBits_zero_f32
  show max (((alongRows (F := Ideal) g (ix2 n o) : EReal) * refDev (F := Ideal) y (ix2 n o)) * alongRows (F := Ideal) _ (ix2 n o) + alongRows (F := Ideal) bt (ix2 n o)) _ = _
  rw [hz, along_apply, along_apply, along_apply, hd]
  show max (_ * Ideal.rsqrt ((refMean (F := Ideal) (mulf (F := Ideal) (φ := .f32) (refDev y) (refDev y)) (ix1 o) : EReal) + _) + _) _ = _
  rw [hv']
  rfl
end Cert.Proof.ReferenceIdeal
end
-- ==== Proof.RefConv.lean ====
module
public import proofs.«01_k».proof.Proof.RefTerms
@[expose] public section
noncomputable section
namespace Cert.Proof.ReferenceIdeal
open Cert.ReferenceIdeal Cert.ReferenceIdeal.Gen
open Idealize.ShloMosaic Idealize.ShloMosaic.TcCoe Idealize.ShloMosaic.Tactic
open Cert.Proof.KernelIdeal (InHalf nbr conv)
open scoped BigOperators

/-- The rows gathered, at an index: the row the index names, read signed and kept within the table. -/
theorem gather_apply {α : Type} (x : S400000x32.Idx → α) (idx : IVec S27x400000x1 32) (k : Fin 27) (n : Fin 400000) (i : Fin 32) :
    Host.gather gather_S400000x32_S27x400000x1_S27x400000x32_2_0_n_n_0_2_132 x idx (ix3 k n i) = x (ix2 ⟨min (idx (ix3 k n 0)).toInt.toNat 399999, by omega⟩ i) := by
  unfold Host.gather
  congr 1
  funext a
  refine Fin.ext ?_
  show gather_S400000x32_S27x400000x1_S27x400000x32_2_0_n_n_0_2_132.start (ix3 k n i) idx a + gather_S400000x32_S27x400000x1_S27x400000x32_2_0_n_n_0_2_132.batchCoord (ix3 k n i) a
      + gather_S400000x32_S27x400000x1_S27x400000x32_2_0_n_n_0_2_132.offCoord (ix3 k n i) a = _
  rw [GatherDims.batchCoord_eq_zero _ _ _ List.not_mem_nil, Nat.add_zero]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl)), Nat.add_zero]
    unfold GatherDims.start
    rw [dif_pos (show (0 : Fin 2) ∈ gather_S400000x32_S27x400000x1_S27x400000x32_2_0_n_n_0_2_132.startIndexMap from List.mem_singleton.mpr rfl)]
    have hsi : gather_S400000x32_S27x400000x1_S27x400000x32_2_0_n_n_0_2_132.siIdx (ix3 k n i)
        ⟨List.idxOf (0 : Fin 2) gather_S400000x32_S27x400000x1_S27x400000x32_2_0_n_n_0_2_132.startIndexMap, List.idxOf_lt_length_iff.2 (List.mem_singleton.mpr rfl)⟩ = ix3 k n 0 := by
      funext b; refine Fin.ext ?_
      match b with
      | ⟨0, _⟩ => rfl
      | ⟨1, _⟩ => rfl
      | ⟨2, _⟩ => rfl
    rw [hsi]
    rfl
  · have h0 : gather_S400000x32_S27x400000x1_S27x400000x32_2_0_n_n_0_2_132.start (ix3 k n i) idx 1 = 0 := by
      unfold GatherDims.start
      exact dif_neg (show ¬((1 : Fin 2) ∈ [(0 : Fin 2)]) by decide)
    rw [h0, Nat.zero_add]
    rfl

variable (fe : S400000x32.Idx → Ideal .f32) (w : S27x32x32.Idx → Ideal .f32) {idx : IVec S27x400000 32} {mask : IVec S27x400000 1}

/-- The wrapped index of a neighbour that is there is the index. -/
theorem wrap_eq (v : BitVec 32) (hv : v.toNat < 400000) :
    min (if IntOp.cmpi .slt v 0#32 = 1#1 then v + 400000#32 else v).toInt.toNat 399999 = v.toNat % 400000 := by
  have hlt : v.toInt = v.toNat := BitVec.toInt_eq_toNat_of_lt (by omega)
  have hs : v.slt 0#32 = false := by
    rw [BitVec.slt_eq_decide, hlt]
    exact decide_eq_false (by show ¬((v.toNat : ℤ) < (0#32).toInt); simp)
  have hc : ¬(IntOp.cmpi .slt v 0#32 = 1#1) := by
    show ¬(BitVec.ofBool (v.slt 0#32) = 1#1)
    rw [hs]; decide
  rw [if_neg hc, hlt]
  omega

/-- The reference's convolution is the convolution. -/
theorem refConv_eq (hin : InHalf idx mask) (n : Fin 400000) (o : Fin 32) : (refConv (F := Ideal) fe w idx mask (ix2 n o) : EReal) = conv fe w idx mask n o := by
  have hsel : ∀ (k : Fin 27) (i : Fin 32),
      ((select (broadcastInDim S27x400000x32 ![0, 1, 2] bcast_S27x400000x1_S27x400000x32_0_1_2 (broadcastInDim S27x400000x1 ![0, 1] bcast_S27x400000_S27x400000x1_0_1 mask))
      (Host.gather gather_S400000x32_S27x400000x1_S27x400000x32_2_0_n_n_0_2_132 fe
        (broadcastInDim S27x400000x1 ![0, 1] bcast_S27x400000_S27x400000x1_0_1
          (select (cmpi .slt idx (broadcastInDim S27x400000 ![] bcast_S_S27x400000 (constantI S_ 32 0#32))) (addi idx (broadcastInDim S27x400000 ![] bcast_S_S27x400000 (constantI S_ 32 400000#32))) idx)))
      (broadcastInDim S27x400000x32 ![] bcast_S_S27x400000x32 (id (constant (F := Ideal) S_ .f32 0x00000000#32)))) (ix3 k n i) : EReal) = nbr fe idx mask k n i := by
    intro k i
    have hb : (broadcastInDim S27x400000x32 ![0, 1, 2] bcast_S27x400000x1_S27x400000x32_0_1_2 (broadcastInDim S27x400000x1 ![0, 1] bcast_S27x400000_S27x400000x1_0_1 mask)) (ix3 k n i) = mask (ix2 k n) := by
      pointwise
    have hi : (broadcastInDim S27x400000x1 ![0, 1] bcast_S27x400000_S27x400000x1_0_1
          (select (cmpi .slt idx (broadcastInDim S27x400000 ![] bcast_S_S27x400000 (constantI S_ 32 0#32))) (addi idx (broadcastInDim S27x400000 ![] bcast_S_S27x400000 (constantI S_ 32 400000#32))) idx)) (ix3 k n 0)
        = if IntOp.cmpi .slt (idx (ix2 k n)) 0#32 = 1#1 then idx (ix2 k n) + 400000#32 else idx (ix2 k n) := by
      refine (broadcastInDim_apply _ _ _ (ix3 k n 0) (ix2 k n) ?_).trans rfl
      intro a
      fin_cases a <;> rfl
    show (if (broadcastInDim S27x400000x32 ![0, 1, 2] bcast_S27x400000x1_S27x400000x32_0_1_2 (broadcastInDim S27x400000x1 ![0, 1] bcast_S27x400000_S27x400000x1_0_1 mask)) (ix3 k n i) = 1#1 then _ else _) = _
    rw [hb]
    unfold nbr
    by_cases hm : mask (ix2 k n) = 1#1
    · rw [if_pos hm, if_pos hm, gather_apply]
      obtain ⟨r, hr, _, e⟩ := hin _ hm
      have hn : n.val / 200000 < 2 := by omega
      have e' : (idx (ix2 k n)).toNat = r + 200000 * (n.val / 200000) := e
      refine congrArg (fun r : Fin 400000 => fe (ix2 r i)) (Fin.ext ?_)
      refine (congrArg (fun v : BitVec 32 => min v.toInt.toNat 399999) hi).trans ?_
      exact wrap_eq _ (by omega)
    · rw [if_neg hm, if_neg hm]
      exact Ideal.ofBits_zero_f32
  unfold refConv conv
  rw [Finset.sum_comm]
  generalize (select (broadcastInDim S27x400000x32 ![0, 1, 2] bcast_S27x400000x1_S27x400000x32_0_1_2 (broadcastInDim S27x400000x1 ![0, 1] bcast_S27x400000_S27x400000x1_0_1 mask))
      (Host.gather gather_S400000x32_S27x400000x1_S27x400000x32_2_0_n_n_0_2_132 fe
        (broadcastInDim S27x400000x1 ![0, 1] bcast_S27x400000_S27x400000x1_0_1
          (select (cmpi .slt idx (broadcastInDim S27x400000 ![] bcast_S_S27x400000 (constantI S_ 32 0#32))) (addi idx (broadcastInDim S27x400000 ![] bcast_S_S27x400000 (constantI S_ 32 400000#32))) idx)))
      (broadcastInDim S27x400000x32 ![] bcast_S_S27x400000x32 (id (constant (F := Ideal) S_ .f32 0x00000000#32)))) = G at *
  have hd : (Host.dotGeneral (F := Ideal) dot_S27x400000x32_S27x32x32_S400000x32_20_10_1_2_n_n none G w (ix2 n o) : EReal) = ∑ i : Fin 32, ∑ k : Fin 27, (G (ix3 k n i) : EReal) * w (ix3 k i o) := by
    pointwise
  refine hd.trans ?_
  exact Finset.sum_congr rfl fun i _ => Finset.sum_congr rfl fun k _ => by rw [hsel k i]
end Cert.Proof.ReferenceIdeal
end
-- ==== Proof.RealMath.lean ====
module
public import proofs.«01_k».proof.Proof.SumMath
@[expose] public section
noncomputable section
namespace Cert.Proof.KernelIdeal
open Cert.KernelIdeal Cert.KernelIdeal.Gen
open Idealize.ShloMosaic Idealize.ShloMosaic.TcCoe Idealize.ShloMosaic.Tactic
open scoped BigOperators

/-- The number of points, and the constant added to the variance. -/
theorem count_eq : Ideal.ofBits .f32 0x48C35000#32 = ((400000 : ℝ) : EReal) := by
  simp [Ideal.ofBits, Ideal.ieee, -EReal.coe_mul]; norm_num
theorem eps_pos : ∃ e : ℝ, 0 < e ∧ Ideal.ofBits .f32 0x3727C5AC#32 = (e : EReal) := by
  refine ⟨10995116 * (2 : ℝ) ^ (-40 : ℤ), by positivity, ?_⟩
  simp [Ideal.ofBits, Ideal.ieee, -EReal.coe_mul]

/-- A sum of reals, taken among the extended reals, is the sum. -/
theorem coe_sum {ι : Type} (s : Finset ι) (y : ι → ℝ) : ∑ n ∈ s, ((y n : ℝ) : EReal) = ((∑ n ∈ s, y n : ℝ) : EReal) := by
  classical
  induction s using Finset.induction_on with
  | empty => simp
  | insert a s ha ih => rw [Finset.sum_insert ha, Finset.sum_insert ha, ih, EReal.coe_add]

/-- The mean of the squares less the square of the mean is the mean of the squared deviations. -/
theorem variance_eq (y : Fin 400000 → ℝ) :
    (∑ n, y n * y n) * (1 / 400000) - ((∑ n, y n) * (1 / 400000)) * ((∑ n, y n) * (1 / 400000))
      = (∑ n, (y n - (∑ n, y n) * (1 / 400000)) * (y n - (∑ n, y n) * (1 / 400000))) * (1 / 400000) := by
  have h : ∀ μ : ℝ, ∑ n, (y n - μ) * (y n - μ) = (∑ n, y n * y n) - 2 * μ * (∑ n, y n) + 400000 * (μ * μ) := by
    intro μ
    have e : ∀ n, (y n - μ) * (y n - μ) = y n * y n - 2 * μ * y n + μ * μ := fun n => by ring
    rw [Finset.sum_congr rfl fun n _ => e n, Finset.sum_add_distrib, Finset.sum_sub_distrib, ← Finset.mul_sum, Finset.sum_const, Finset.card_univ, Fintype.card_fin, nsmul_eq_mul]
    norm_num
  rw [h]
  ring

/-- Scaling and shifting a real by the mean, and normalizing its deviation, agree. -/
theorem affine_eq (x μ g r : ℝ) (bt : EReal) :
    (x : EReal) * ((g : EReal) * (r : EReal)) + (bt - (μ : EReal) * ((g : EReal) * (r : EReal))) = ((g : EReal) * ((x : EReal) - (μ : EReal))) * (r : EReal) + bt := by
  induction bt with
  | bot => simp only [← EReal.coe_mul, ← EReal.coe_sub, EReal.bot_sub, EReal.add_bot]
  | top => simp only [← EReal.coe_mul, ← EReal.coe_sub, EReal.top_sub_coe, EReal.coe_add_top]
  | coe b =>
    simp only [← EReal.coe_mul, ← EReal.coe_sub, ← EReal.coe_add]
    congr 1
    ring

/-- The kernel's batch normalization of reals is the reference's. -/
theorem norm_eq (Y : Fin 400000 → EReal) (g bt : EReal) (hY : ∀ n, ∃ y : ℝ, Y n = (y : EReal)) (hg : ∃ r : ℝ, g = (r : EReal)) (n : Fin 400000) (C E : EReal)
    (hC : C = ((400000 : ℝ) : EReal)) (hE : ∃ e : ℝ, 0 < e ∧ E = (e : EReal)) :
    max (Y n * (g * Ideal.rsqrt (Ideal.div (∑ p, Y p * Y p) C - Ideal.div (∑ p, Y p) C * Ideal.div (∑ p, Y p) C + E))
        + (bt - Ideal.div (∑ p, Y p) C * (g * Ideal.rsqrt (Ideal.div (∑ p, Y p * Y p) C - Ideal.div (∑ p, Y p) C * Ideal.div (∑ p, Y p) C + E)))) 0
      = max ((g * (Y n - Ideal.div (∑ p, Y p) C)) * Ideal.rsqrt (Ideal.div (∑ p, (Y p - Ideal.div (∑ p, Y p) C) * (Y p - Ideal.div (∑ p, Y p) C)) C + E) + bt) 0 := by
  choose y hy using hY
  obtain ⟨γ, rfl⟩ := hg
  obtain ⟨e, he, rfl⟩ := hE
  subst hC
  obtain rfl : Y = fun n => ((y n : ℝ) : EReal) := funext hy
  have h0 : (400000 : ℝ) ≠ 0 := by norm_num
  simp only [Ideal.div_coe h0, coe_sum, ← EReal.coe_mul, ← EReal.coe_sub, ← EReal.coe_add]
  rw [variance_eq]
  have hpos : 0 < (∑ n, (y n - (∑ n, y n) * (1 / 400000)) * (y n - (∑ n, y n) * (1 / 400000))) * (1 / 400000) + e := by
    have : 0 ≤ ∑ n, (y n - (∑ n, y n) * (1 / 400000)) * (y n - (∑ n, y n) * (1 / 400000)) := Finset.sum_nonneg fun n _ => mul_self_nonneg _
    exact add_pos_of_nonneg_of_pos (mul_nonneg this (by norm_num)) he
  generalize (∑ n, (y n - (∑ n, y n) * (1 / 400000)) * (y n - (∑ n, y n) * (1 / 400000))) * (1 / 400000) + e = v at *
  rw [Ideal.rsqrt_coe, if_neg (by linarith), if_neg (by linarith)]
  have := affine_eq (y n) ((∑ n, y n) * (1 / 400000)) γ (Real.sqrt v)⁻¹ bt
  simp only [← EReal.coe_mul, ← EReal.coe_sub] at this ⊢
  rw [this]
end Cert.Proof.KernelIdeal
end
-- ==== Proof.Values.lean ====
module
public import proofs.«01_k».proof.Proof.KernelValue
public import proofs.«01_k».proof.Proof.RefConv
public import proofs.«01_k».proof.Proof.RealMath
public import proofs.«01_k».proof.Pre_finite_in_domain
public import Idealize.ShloMosaic.Lib.ReduceAll
@[expose] public section
noncomputable section
namespace Cert.Proof.KernelIdeal
open Cert.KernelIdeal Cert.KernelIdeal.Gen
open Idealize.ShloMosaic Idealize.ShloMosaic.TcCoe Idealize.ShloMosaic.Tactic
open Idealize.SL.Sem
open scoped BigOperators

/-- An extended real that is a real. -/
def IsReal (x : EReal) : Prop := ∃ r : ℝ, x = (r : EReal)

theorem IsReal.mul {x y : EReal} (hx : IsReal x) (hy : IsReal y) : IsReal (x * y) := by
  obtain ⟨a, rfl⟩ := hx
  obtain ⟨b, rfl⟩ := hy
  exact ⟨a * b, (EReal.coe_mul a b).symm⟩
theorem IsReal.sum {ι : Type} (s : Finset ι) (f : ι → EReal) (h : ∀ i, IsReal (f i)) : IsReal (∑ i ∈ s, f i) := by
  choose y hy using h
  rw [Finset.sum_congr rfl fun i _ => hy i, coe_sum]
  exact ⟨_, rfl⟩

/-- A number whose absolute value is below infinity is a real. -/
theorem isReal_of_lt (x : EReal) (h : Ideal.cmp .olt (FloatOps.hostAbsf (F := Ideal) (φ := .f32) x) (Ideal.ofBits .f32 0x7F800000#32) = 1#1) : IsReal x := by
  have ht : Ideal.ofBits .f32 0x7F800000#32 = ⊤ := by simp [Ideal.ofBits, Ideal.ieee]
  rw [ht, show FloatOps.hostAbsf (F := Ideal) (φ := .f32) x = max x (-x) from rfl] at h
  induction x with
  | bot => simp [Ideal.cmp] at h
  | top => simp [Ideal.cmp] at h
  | coe r => exact ⟨r, rfl⟩

/-- The convolution of reals is a real. -/
theorem conv_isReal (fe : S400000x32.Idx → EReal) (w : S27x32x32.Idx → EReal) (idx : IVec S27x400000 32) (mask : IVec S27x400000 1)
    (hf : ∀ i, IsReal (fe i)) (hw : ∀ i, IsReal (w i)) (n : Fin 400000) (o : Fin 32) : IsReal (conv fe w idx mask n o) := by
  unfold conv
  refine IsReal.sum _ _ fun k => IsReal.sum _ _ fun i => IsReal.mul ?_ (hw _)
  unfold nbr
  split
  · exact hf _
  · exact ⟨0, rfl⟩

/-- What the precondition says: the neighbours are in their halves, and the features, weights and scales are reals. -/
theorem pre_parts [Cert.Pre_finite_in_domain.Facts] (a0 : S400000x32.Idx → Ideal .f32) (a1 : S27x32x32.Idx → Ideal .f32) (a2 a3 : S32.Idx → Ideal .f32) (idx : IVec S27x400000 32) (mask : IVec S27x400000 1)
    (h : Cert.Pre_finite_in_domain.fn (F := Ideal) a0 a1 a2 a3 idx mask = fun _ => 1#1) :
    InHalf idx mask ∧ (∀ i, IsReal (a0 i)) ∧ (∀ i, IsReal (a1 i)) ∧ ∀ i, IsReal (a2 i) := by
  have hand : ∀ a b : BitVec 1, IntOp.andi a b = 1#1 → a = 1#1 ∧ b = 1#1 := by decide
  have h0 := congrFun h (fun d => d.elim0)
  obtain ⟨h1, e2⟩ := hand _ _ h0
  obtain ⟨h2, e1⟩ := hand _ _ h1
  obtain ⟨eh, e0⟩ := hand _ _ h2
  exact ⟨inHalf_of_bits idx mask fun j => Host.reduce_andi_all _ _ _ _ _ eh j,
    fun i => isReal_of_lt _ (Host.reduce_andi_all _ _ _ _ _ e0 i),
    fun i => isReal_of_lt _ (Host.reduce_andi_all _ _ _ _ _ e1 i),
    fun i => isReal_of_lt _ (Host.reduce_andi_all _ _ _ _ _ e2 i)⟩

/-- The side conditions of the precondition's operations. -/
theorem finiteFacts : Cert.Pre_finite_in_domain.Facts where
  bcast_S_S400000 := by decide
  natLt_1_32 := by decide
  bcast_S400000_S1x400000_1 := by decide
  bcast_S1x400000_S27x400000_0_1 := by decide
  bcast_S_S27x400000 := by decide
  reducesTo_S27x400000_S_d0_1 := by decide
  h_S_ := by decide
  bcast_S_S400000x32 := by decide
  reducesTo_S400000x32_S_d0_1 := by decide
  bcast_S_S27x32x32 := by decide
  reducesTo_S27x32x32_S_d0_1_2 := by decide
  bcast_S_S32 := by decide
  reducesTo_S32_S_d0 := by decide

/-- The reference's formula of a channel's numbers. -/
theorem ref_form (Y : Cert.ReferenceIdeal.S400000x32.Idx → Ideal .f32) (g bt : Cert.ReferenceIdeal.S32.Idx → Ideal .f32) (n : Fin 400000) (o : Fin 32)
    (y : Fin 400000 → EReal) (hY : ∀ p, (Y (ix2 p o) : EReal) = y p) :
    (ReferenceIdeal.refNorm (F := Ideal) Y g bt (ix2 n o) : EReal) =
      max (((g (ix1 o) : EReal) * (y n - Ideal.div (∑ p, y p) (Ideal.ofBits .f32 0x48C35000#32)))
        * Ideal.rsqrt (Ideal.div (∑ p, (y p - Ideal.div (∑ p, y p) (Ideal.ofBits .f32 0x48C35000#32)) * (y p - Ideal.div (∑ p, y p) (Ideal.ofBits .f32 0x48C35000#32))) (Ideal.ofBits .f32 0x48C35000#32)
          + Ideal.ofBits .f32 0x3727C5AC#32) + bt (ix1 o)) 0 := by
  refine (ReferenceIdeal.norm_apply Y g bt n o).trans ?_
  rw [ReferenceIdeal.mean_apply Y o]
  simp only [hY]

/-- The kernel's formula of a channel's numbers, once its sums are known, is the reference's. -/
theorem bn_form (p : S2x8x32.Idx → Ideal .f32) (g bt : EReal) (n : Fin 400000) (o : Fin 32) (y : Fin 400000 → EReal)
    (s1 : (p (ix3 0 0 o) : EReal) + p (ix3 1 0 o) = ∑ n, y n) (s2 : (p (ix3 0 1 o) : EReal) + p (ix3 1 1 o) = ∑ n, y n * y n)
    (hy : ∀ n, IsReal (y n)) (hg : IsReal g) :
    bnVal p g bt (y n) o =
      max ((g * (y n - Ideal.div (∑ p, y p) (Ideal.ofBits .f32 0x48C35000#32)))
        * Ideal.rsqrt (Ideal.div (∑ p, (y p - Ideal.div (∑ p, y p) (Ideal.ofBits .f32 0x48C35000#32)) * (y p - Ideal.div (∑ p, y p) (Ideal.ofBits .f32 0x48C35000#32))) (Ideal.ofBits .f32 0x48C35000#32)
          + Ideal.ofBits .f32 0x3727C5AC#32) + bt) 0 := by
  unfold bnVal
  rw [s1, s2]
  exact norm_eq y g bt hy hg n _ _ count_eq eps_pos

/-- The kernel's result is the reference's formula of the arguments, when the features, weights and scales are reals. -/
theorem value_eq (m : (ℓ : Loc nD τ sig) → Buf (Elt Ideal) ℓ) (c : Dev nD)
    (hin : InHalf (m ((c.tc : Thread nD τ).loc main_arg4)) (m ((c.tc : Thread nD τ).loc main_arg5)))
    (hf : ∀ i : S400000x32.Idx, IsReal (m ((c.tc : Thread nD τ).loc main_arg0) i))
    (hw : ∀ i : S27x32x32.Idx, IsReal (m ((c.tc : Thread nD τ).loc main_arg1) i))
    (hg : ∀ i : S32.Idx, IsReal (m ((c.tc : Thread nD τ).loc main_arg2) i)) :
    V13 m (outsOf m) c main_v37 = ReferenceIdeal.refNorm (F := Ideal)
      (ReferenceIdeal.refConv (F := Ideal) (m ((c.tc : Thread nD τ).loc main_arg0)) (m ((c.tc : Thread nD τ).loc main_arg1)) (m ((c.tc : Thread nD τ).loc main_arg4)) (m ((c.tc : Thread nD τ).loc main_arg5)))
      (m ((c.tc : Thread nD τ).loc main_arg2)) (m ((c.tc : Thread nD τ).loc main_arg3)) := by
  have key : ∀ (n : Fin 400000) (o : Fin 32), V13 m (outsOf m) c main_v37 (ix2 n o) = ReferenceIdeal.refNorm (F := Ideal)
      (ReferenceIdeal.refConv (F := Ideal) (m ((c.tc : Thread nD τ).loc main_arg0)) (m ((c.tc : Thread nD τ).loc main_arg1)) (m ((c.tc : Thread nD τ).loc main_arg4)) (m ((c.tc : Thread nD τ).loc main_arg5)))
      (m ((c.tc : Thread nD τ).loc main_arg2)) (m ((c.tc : Thread nD τ).loc main_arg3)) (ix2 n o) := by
    intro n o
    obtain ⟨s1, s2⟩ := sums_eq m c hin o
    refine (value_apply m c hin n o).trans ?_
    refine (bn_form _ _ _ n o (fun n => conv (m ((c.tc : Thread nD τ).loc main_arg0)) (m ((c.tc : Thread nD τ).loc main_arg1)) (m ((c.tc : Thread nD τ).loc main_arg4)) (m ((c.tc : Thread nD τ).loc main_arg5)) n o)
      s1 s2 (fun n => conv_isReal _ _ _ _ hf hw n o) (hg _)).trans ?_
    exact (ref_form _ _ _ n o _ fun p => ReferenceIdeal.refConv_eq _ _ hin p o).symm
  funext j
  have hj := eq_ix2 (n0 := 400000) (n1 := 32) j
  exact (congrArg (V13 m (outsOf m) c main_v37) hj).trans ((key (j 0) (j 1)).trans (congrArg _ hj.symm))
end Cert.Proof.KernelIdeal
end
-- ==== Proof.lean ====
module

public import proofs.«01_k».proof.Defs
public import proofs.«01_k».proof.Proof.Frames
public import proofs.«01_k».proof.Proof.Values
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_in_domain
public import Idealize.ShloMosaic.Adequacy
public import Idealize.ShloMosaic.Init

@[expose] public section

noncomputable section

namespace Cert.Proof

open Idealize.ShloMosaic Idealize.SL.Sem

/-- The reference ends with its arguments as at the start, and declares no counter. -/
theorem refFrame (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0) :=
  θ_run_mono (Cert.ReferenceIdeal.Value.run m g) fun r hr => ⟨fun c => (hr c).2, Idealize.ShloMosaic.sem_eq_zero_of_no_sems (by decide) r.2⟩

/-- From a memory within the precondition, and one agreeing with it on the arguments, the kernel and the reference end
    with the same result. -/
theorem same : @Cert.algebraic_KernelIdeal_ReferenceIdeal_pre_finite_in_domain Cert.KernelIdeal.Gen.facts Cert.ReferenceIdeal.Gen.facts KernelIdeal.finiteFacts := by
  intro m g m' g' hp hm
  have hP := fun c => @KernelIdeal.pre_parts KernelIdeal.finiteFacts _ _ _ _ _ _ (hp c)
  refine ⟨fun c => Cert.KernelIdeal.Gen.V13 m (KernelIdeal.outsOf m) c (Proc.tc.devRef Cert.KernelIdeal.main_v37), ?_, ?_⟩
  · exact θ_run_mono (KernelIdeal.run m g (KernelIdeal.words_bound m fun c => (hP c).1)) fun _ hr => hr.1
  · refine θ_run_mono (Cert.ReferenceIdeal.Value.run m' g') fun r hr c => ⟨(hr c).1.trans ?_, (hr c).2⟩
    obtain ⟨e0, e1, e2, e3, e4, e5⟩ := hm c
    refine (ReferenceIdeal.res_eq m' c).trans ?_
    rw [e0, e1, e2, e3, e4, e5]
    exact (KernelIdeal.value_eq m c (hP c).1 (hP c).2.1 (hP c).2.2.1 (hP c).2.2.2).symm

/-- Everything claimed. -/
theorem claim : Cert.Claim := ⟨Cert.Kernel.Gen.facts, Cert.KernelIdeal.Gen.facts, Cert.ReferenceIdeal.Gen.facts, Cert.Pre_in_domain.Gen.facts, KernelIdeal.finiteFacts,
  fun m g hp => Cert.Proof.Kernel.frame m g fun c => Cert.Proof.KernelIdeal.inHalf_of_pre _ _ _ _ _ _ (hp c),
  fun m g hp => Cert.Proof.KernelIdeal.frame m g fun c => Cert.Proof.KernelIdeal.inHalf_of_pre _ _ _ _ _ _ (hp c),
  fun m g hp => Cert.Proof.KernelIdeal.frame m g fun c => (@KernelIdeal.pre_parts KernelIdeal.finiteFacts _ _ _ _ _ _ (hp c)).1,
  fun m g _ => Cert.Proof.refFrame m g,
  fun m g _ => Cert.Proof.refFrame m g,
  trivial,
  same⟩

end Cert.Proof

end
